-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_pool [hPre_finite_pool : Cert.Pre_finite_pool.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_pool [hPre_finite_pool : Cert.Pre_finite_pool.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_expert_range : Cert.Pre_expert_range.Facts] (m : (ℓ : Loc Cert.Kernel6.nD Cert.Kernel6.τ Cert.Kernel6.sig) → Buf (Elt Bits) ℓ) : Prop :=
  ∀ c : Dev Cert.Kernel6.nD,
    (Cert.Pre_expert_range.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_expert_range : Cert.Pre_expert_range.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_expert_range.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_expert_range [hPre_expert_range : Cert.Pre_expert_range.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_expert_range.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite_pool [hKernel3Ideal : Cert.Kernel3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_pool m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite_pool [hReference3Ideal : Cert.Reference3Ideal.Facts] [hPre_finite_pool : Cert.Pre_finite_pool.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_pool m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_expert_range : Cert.Pre_expert_range.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_expert_range : Cert.Pre_expert_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_expert_range [hReference6Ideal : Cert.Reference6Ideal.Facts] [hPre_expert_range : Cert.Pre_expert_range.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_expert_range m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)) (v3 : (c : Dev Cert.Kernel2Ideal.nD) → Buf (Elt Ideal) ((c.tc : Thread Cert.Kernel2Ideal.nD Cert.Kernel2Ideal.τ).loc Cert.Kernel2Ideal.main_v33_3)) (v4 : (c : Dev Cert.Kernel2Ideal.nD) → Buf (Elt Ideal) ((c.tc : Thread Cert.Kernel2Ideal.nD Cert.Kernel2Ideal.τ).loc Cert.Kernel2Ideal.main_v33_4)) (v5 : (c : Dev Cert.Kernel2Ideal.nD) → Buf (Elt Ideal) ((c.tc : Thread Cert.Kernel2Ideal.nD Cert.Kernel2Ideal.τ).loc Cert.Kernel2Ideal.main_v33_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_v33_3) = v3 c
          ∧ r.2.mem ((c.tc : Thread Cert.Kernel2Ideal.nD Cert.Kernel2Ideal.τ).loc Cert.Kernel2Ideal.main_v33_4) = v4 c
          ∧ r.2.mem ((c.tc : Thread Cert.Kernel2Ideal.nD Cert.Kernel2Ideal.τ).loc Cert.Kernel2Ideal.main_v33_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v115) = v2 c
          ∧ r.2.mem ((c.tc : Thread Cert.Reference2Ideal.nD Cert.Reference2Ideal.τ).loc Cert.Reference2Ideal.main_v117) = v3 c
          ∧ r.2.mem ((c.tc : Thread Cert.Reference2Ideal.nD Cert.Reference2Ideal.τ).loc Cert.Reference2Ideal.main_v119) = v4 c
          ∧ r.2.mem ((c.tc : Thread Cert.Reference2Ideal.nD Cert.Reference2Ideal.τ).loc Cert.Reference2Ideal.main_v121) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_pool [hKernel3Ideal : Cert.Kernel3Ideal.Facts] [hReference3Ideal : Cert.Reference3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_pool m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v202) = v0 c
          ∧ r.2.mem ((c.tc : Thread Cert.Reference3Ideal.nD Cert.Reference3Ideal.τ).loc Cert.Reference3Ideal.main_v223) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_expert_range : Cert.Pre_expert_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_pool : Cert.Pre_finite_pool.Facts) (hPre_expert_range : Cert.Pre_expert_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_pool (hKernel3Ideal := hKernel3Ideal) (hPre_finite_pool := hPre_finite_pool)
    ∧ quiescent_Reference3Ideal (hReference3Ideal := hReference3Ideal)
    ∧ quiescent_Reference3Ideal_pre_finite_pool (hReference3Ideal := hReference3Ideal) (hPre_finite_pool := hPre_finite_pool)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_expert_range := hPre_expert_range)
    ∧ quiescent_Kernel6Ideal (hKernel6Ideal := hKernel6Ideal) (hPre_expert_range := hPre_expert_range)
    ∧ quiescent_Reference6Ideal (hReference6Ideal := hReference6Ideal)
    ∧ quiescent_Reference6Ideal_pre_expert_range (hReference6Ideal := hReference6Ideal) (hPre_expert_range := hPre_expert_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_pool (hKernel3Ideal := hKernel3Ideal) (hReference3Ideal := hReference3Ideal) (hPre_finite_pool := hPre_finite_pool)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_expert_range := hPre_expert_range)
-- ==== Pre_expert_range.lean ====
abbrev S65536x128 : Shape := ⟨2, ![65536, 128]⟩
abbrev S32x2048x1024 : Shape := ⟨3, ![32, 2048, 1024]⟩
abbrev S32x1024 : Shape := ⟨2, ![32, 1024]⟩
abbrev S1024 : Shape := ⟨1, ![1024]⟩
abbrev S16384x1024 : Shape := ⟨2, ![16384, 1024]⟩
abbrev S_ : Shape := ⟨0, ![]⟩

class Facts : Prop where
  bcast_S_S65536x128 : S_.BroadcastsInDim S65536x128 (![] : Fin 0 → Fin S65536x128.rank)

variable [Facts]

def fn {F : FTy → Type} [FloatOps F] (main_arg0 : IVec S65536x128 32) (main_arg1 : FVec F S65536x128 .f32) (main_arg2 : FVec F S32x2048x1024 .f32) (main_arg3 : FVec F S32x1024 .f32) (main_arg4 : FVec F S1024 .f32) (main_arg5 : FVec F S16384x1024 .f32) : IVec S65536x128 1 :=
  let main_c : IVec S_ 32 := constantI S_ 32 0#32
  let main_v0 : IVec S65536x128 32 := broadcastInDim S65536x128 ![] bcast_S_S65536x128 main_c
  let main_v1 : IVec S65536x128 1 := cmpi .sge main_arg0 main_v0
  let main_c_0 : IVec S_ 32 := constantI S_ 32 16384#32
  let main_v2 : IVec S65536x128 32 := broadcastInDim S65536x128 ![] bcast_S_S65536x128 main_c_0
  let main_v3 : IVec S65536x128 1 := cmpi .slt main_arg0 main_v2
  let main_v4 : IVec S65536x128 1 := andi main_v1 main_v3
  main_v4
-- ==== Pre_finite_pool.lean ====
abbrev S32x2048x512 : Shape := ⟨3, ![32, 2048, 512]⟩
abbrev S32x2048x1024 : Shape := ⟨3, ![32, 2048, 1024]⟩
abbrev S32x2048x2048 : Shape := ⟨3, ![32, 2048, 2048]⟩
abbrev S32x1024 : Shape := ⟨2, ![32, 1024]⟩
abbrev S4x128x128 : Shape := ⟨3, ![4, 128, 128]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩

class Facts : Prop where
  bcast_S_S32x2048x512 : S_.BroadcastsInDim S32x2048x512 (![] : Fin 0 → Fin S32x2048x512.rank)

variable [Facts]

def fn {F : FTy → Type} [FloatOps F] (main_arg0 : FVec F S32x2048x512 .f32) (main_arg1 : FVec F S32x2048x1024 .f32) (main_arg2 : FVec F S32x2048x1024 .bf16) (main_arg3 : FVec F S32x2048x2048 .bf16) (main_arg4 : FVec F S32x2048x1024 .f32) (main_arg5 : FVec F S32x1024 .f32) (main_arg6 : FVec F S32x1024 .f32) (main_arg7 : FVec F S32x1024 .f32) (main_arg8 : FVec F S4x128x128 .f32) (main_arg9 : FVec F S512 .f32) (main_arg10 : FVec F S512x1024 .f32) (main_arg11 : FVec F S1024 .f32) (main_arg12 : FVec F S1024x1024 .f32) (main_arg13 : FVec F S1024x1024 .f32) (main_arg14 : FVec F S1024 .f32) : IVec S32x2048x512 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  main_v2
-- ==== Kernel.lean ====
abbrev S32x2048x512 : Shape := ⟨3, ![32, 2048, 512]⟩
abbrev S32x2048x1024 : Shape := ⟨3, ![32, 2048, 1024]⟩
abbrev S2x4 : Shape := ⟨2, ![2, 4]⟩
abbrev S32x4x128x256 : Shape := ⟨4, ![32, 4, 128, 256]⟩
abbrev S_ : Shape := ⟨0, ![]⟩
abbrev S1x2048x256 : Shape := ⟨3, ![1, 2048, 256]⟩
abbrev S1x2048x512 : Shape := ⟨3, ![1, 2048, 512]⟩
abbrev S1x2x128x256 : Shape := ⟨4, ![1, 2, 128, 256]⟩
abbrev S2x128x256 : Shape := ⟨3, ![2, 128, 256]⟩
abbrev S2048x512 : Shape := ⟨2, ![2048, 512]⟩
abbrev S128x128 : Shape := ⟨2, ![128, 128]⟩
abbrev S1x1 : Shape := ⟨2, ![1, 1]⟩
abbrev S1x256 : Shape := ⟨2, ![1, 256]⟩
abbrev S1x128x128 : Shape := ⟨3, ![1, 128, 128]⟩
abbrev S1x128x256 : Shape := ⟨3, ![1, 128, 256]⟩
abbrev S128x256 : Shape := ⟨2, ![128, 256]⟩

abbrev nBuf : Space → Nat
  | .hbm => 23
  | .vmem => 15
  | .smem => 1
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x1024, .bf16⟩
  | .hbm, ⟨3, _⟩ => ⟨S2x4, .f32⟩
  | .hbm, ⟨4, _⟩ => ⟨S32x4x128x256, .f32⟩
  | .hbm, ⟨5, _⟩ => ⟨S32x4x128x256, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .i1⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S32x2048x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2x128x256, .f32⟩
  | .local _ .vmem, ⟨7, _⟩ => ⟨S1x2x128x256, .f32⟩
  | .local _ .vmem, ⟨8, _⟩ => ⟨S1x2x128x256, .f32⟩
  | .local _ .vmem, ⟨9, _⟩ => ⟨S1x2x128x256, .f32⟩
  | .local _ .vmem, ⟨10, _⟩ => ⟨S1x2048x512, .f32⟩
  | .local _ .vmem, ⟨11, _⟩ => ⟨S1x2048x512, .f32⟩
  | .local _ .vmem, ⟨12, _⟩ => ⟨S2x128x256, .f32⟩
  | .local _ .vmem, ⟨13, _⟩ => ⟨S2x128x256, .f32⟩
  | .local _ .vmem, ⟨14, _⟩ => ⟨S2048x512, .f32⟩
  | .local _ .smem, ⟨0, _⟩ => ⟨S2x4, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

def k0_off1 (i : grid0.Coords) (c0_i32 : BitVec 32) : Fin 2 → Nat :=
  let c0 : Index := 0#32
  let arg1 : BitVec 32 := BitVec.ofNat 32 (i 1).val
  let c2_i32 : BitVec 32 := 2#32
  let v6 : BitVec 32 := Scalar.muli arg1 c2_i32
  let v7 : BitVec 32 := Scalar.addi v6 c0_i32
  let v8 : Index := Scalar.indexCast v7
  ![0, v8.toNat]
def k0_off2 (i : grid0.Coords) (c0_i32 : BitVec 32) : Fin 2 → Nat :=
  let c1 : Index := 1#32
  let arg1 : BitVec 32 := BitVec.ofNat 32 (i 1).val
  let c2_i32 : BitVec 32 := 2#32
  let v6 : BitVec 32 := Scalar.muli arg1 c2_i32
  let v7 : BitVec 32 := Scalar.addi v6 c0_i32
  let v10 : Index := Scalar.indexCast v7
  ![1, v10.toNat]
@[reducible] def k0_t1_loop : Scf.Loop 32 :=
  let c0_i32_44 : BitVec 32 := 0#32
  let c16_i32 : BitVec 32 := 16#32
  let v124 : BitVec 32 := Scalar.addi c0_i32_44 c16_i32
  let c1_i32_45 : BitVec 32 := 1#32
  ⟨c0_i32_44, v124, c1_i32_45⟩
def k0_mult1 (k0_t1 : Fin k0_t1_loop.trips) : BitVec 32 :=
  let c0_i32_44 : BitVec 32 := 0#32
  let c1_i32_45 : BitVec 32 := 1#32
  let arg12 : BitVec 32 := Scf.iv c0_i32_44 c1_i32_45 k0_t1
  let c128_i32 : BitVec 32 := 128#32
  let v132 : BitVec 32 := Scalar.muli arg12 c128_i32
  v132
def k0_off3 (k0_t1 : Fin k0_t1_loop.trips) : Fin 3 → Nat :=
  let c0_55 : Index := 0#32
  let c0_i32_44 : BitVec 32 := 0#32
  let c1_i32_45 : BitVec 32 := 1#32
  let arg12 : BitVec 32 := Scf.iv c0_i32_44 c1_i32_45 k0_t1
  let c128_i32 : BitVec 32 := 128#32
  let v132 : BitVec 32 := Scalar.muli arg12 c128_i32
  let v133 : BitVec 32 := v132
  let v134 : Index := Scalar.indexCast v133
  let c0_56 : Index := 0#32
  ![0, v134.toNat, 0]
def k0_off4 (k0_t1 : Fin k0_t1_loop.trips) : Fin 3 → Nat :=
  let c0_59 : Index := 0#32
  let c0_i32_44 : BitVec 32 := 0#32
  let c1_i32_45 : BitVec 32 := 1#32
  let arg12 : BitVec 32 := Scf.iv c0_i32_44 c1_i32_45 k0_t1
  let c128_i32 : BitVec 32 := 128#32
  let v132 : BitVec 32 := Scalar.muli arg12 c128_i32
  let v133 : BitVec 32 := v132
  let v140 : Index := Scalar.indexCast v133
  let c0_60 : Index := 0#32
  ![0, v140.toNat, 0]
def k0_mult2 (k0_t1 : Fin k0_t1_loop.trips) : BitVec 32 :=
  let c15_i32 : BitVec 32 := 15#32
  let c0_i32_44 : BitVec 32 := 0#32
  let c1_i32_45 : BitVec 32 := 1#32
  let arg12 : BitVec 32 := Scf.iv c0_i32_44 c1_i32_45 k0_t1
  let v169 : BitVec 32 := Scalar.subi c15_i32 arg12
  let c128_i32_73 : BitVec 32 := 128#32
  let v170 : BitVec 32 := Scalar.muli v169 c128_i32_73
  v170
def k0_off5 (k0_t1 : Fin k0_t1_loop.trips) : Fin 3 → Nat :=
  let c0_74 : Index := 0#32
  let c15_i32 : BitVec 32 := 15#32
  let c0_i32_44 : BitVec 32 := 0#32
  let c1_i32_45 : BitVec 32 := 1#32
  let arg12 : BitVec 32 := Scf.iv c0_i32_44 c1_i32_45 k0_t1
  let v169 : BitVec 32 := Scalar.subi c15_i32 arg12
  let c128_i32_73 : BitVec 32 := 128#32
  let v170 : BitVec 32 := Scalar.muli v169 c128_i32_73
  let v171 : BitVec 32 := v170
  let v172 : Index := Scalar.indexCast v171
  let c0_75 : Index := 0#32
  ![0, v172.toNat, 0]
def k0_off6 (k0_t1 : Fin k0_t1_loop.trips) : Fin 3 → Nat :=
  let c0_78 : Index := 0#32
  let c15_i32 : BitVec 32 := 15#32
  let c0_i32_44 : BitVec 32 := 0#32
  let c1_i32_45 : BitVec 32 := 1#32
  let arg12 : BitVec 32 := Scf.iv c0_i32_44 c1_i32_45 k0_t1
  let v169 : BitVec 32 := Scalar.subi c15_i32 arg12
  let c128_i32_73 : BitVec 32 := 128#32
  let v170 : BitVec 32 := Scalar.muli v169 c128_i32_73
  let v171 : BitVec 32 := v170
  let v178 : Index := Scalar.indexCast v171
  let c0_79 : Index := 0#32
  ![0, v178.toNat, 0]
def k0_off7 (k0_t1 : Fin k0_t1_loop.trips) : Fin 2 → Nat :=
  let c15_i32 : BitVec 32 := 15#32
  let c0_i32_44 : BitVec 32 := 0#32
  let c1_i32_45 : BitVec 32 := 1#32
  let arg12 : BitVec 32 := Scf.iv c0_i32_44 c1_i32_45 k0_t1
  let v169 : BitVec 32 := Scalar.subi c15_i32 arg12
  let c128_i32_73 : BitVec 32 := 128#32
  let v170 : BitVec 32 := Scalar.muli v169 c128_i32_73
  let v171 : BitVec 32 := v170
  let v203 : Index := Scalar.indexCast v171
  let c0_90 : Index := 0#32
  ![v203.toNat, 0]
def k0_mult3 (k0_t1 : Fin k0_t1_loop.trips) : BitVec 32 :=
  let c0_i32_44 : BitVec 32 := 0#32
  let c1_i32_45 : BitVec 32 := 1#32
  let arg12 : BitVec 32 := Scf.iv c0_i32_44 c1_i32_45 k0_t1
  let c128_i32_91 : BitVec 32 := 128#32
  let v207 : BitVec 32 := Scalar.muli arg12 c128_i32_91
  v207
def k0_off8 (k0_t1 : Fin k0_t1_loop.trips) : Fin 3 → Nat :=
  let c0_92 : Index := 0#32
  let c0_i32_44 : BitVec 32 := 0#32
  let c1_i32_45 : BitVec 32 := 1#32
  let arg12 : BitVec 32 := Scf.iv c0_i32_44 c1_i32_45 k0_t1
  let c128_i32_91 : BitVec 32 := 128#32
  let v207 : BitVec 32 := Scalar.muli arg12 c128_i32_91
  let v208 : BitVec 32 := v207
  let v209 : Index := Scalar.indexCast v208
  let c128 : Index := 128#32
  ![0, v209.toNat, 128]
def k0_off9 (k0_t1 : Fin k0_t1_loop.trips) : Fin 3 → Nat :=
  let c0_95 : Index := 0#32
  let c0_i32_44 : BitVec 32 := 0#32
  let c1_i32_45 : BitVec 32 := 1#32
  let arg12 : BitVec 32 := Scf.iv c0_i32_44 c1_i32_45 k0_t1
  let c128_i32_91 : BitVec 32 := 128#32
  let v207 : BitVec 32 := Scalar.muli arg12 c128_i32_91
  let v208 : BitVec 32 := v207
  let v215 : Index := Scalar.indexCast v208
  let c256 : Index := 256#32
  ![0, v215.toNat, 256]
def k0_mult4 (k0_t1 : Fin k0_t1_loop.trips) : BitVec 32 :=
  let c15_i32_108 : BitVec 32 := 15#32
  let c0_i32_44 : BitVec 32 := 0#32
  let c1_i32_45 : BitVec 32 := 1#32
  let arg12 : BitVec 32 := Scf.iv c0_i32_44 c1_i32_45 k0_t1
  let v244 : BitVec 32 := Scalar.subi c15_i32_108 arg12
  let c128_i32_109 : BitVec 32 := 128#32
  let v245 : BitVec 32 := Scalar.muli v244 c128_i32_109
  v245
def k0_off10 (k0_t1 : Fin k0_t1_loop.trips) : Fin 3 → Nat :=
  let c0_110 : Index := 0#32
  let c15_i32_108 : BitVec 32 := 15#32
  let c0_i32_44 : BitVec 32 := 0#32
  let c1_i32_45 : BitVec 32 := 1#32
  let arg12 : BitVec 32 := Scf.iv c0_i32_44 c1_i32_45 k0_t1
  let v244 : BitVec 32 := Scalar.subi c15_i32_108 arg12
  let c128_i32_109 : BitVec 32 := 128#32
  let v245 : BitVec 32 := Scalar.muli v244 c128_i32_109
  let v246 : BitVec 32 := v245
  let v247 : Index := Scalar.indexCast v246
  let c128_111 : Index := 128#32
  ![0, v247.toNat, 128]
def k0_off11 (k0_t1 : Fin k0_t1_loop.trips) : Fin 3 → Nat :=
  let c0_114 : Index := 0#32
  let c15_i32_108 : BitVec 32 := 15#32
  let c0_i32_44 : BitVec 32 := 0#32
  let c1_i32_45 : BitVec 32 := 1#32
  let arg12 : BitVec 32 := Scf.iv c0_i32_44 c1_i32_45 k0_t1
  let v244 : BitVec 32 := Scalar.subi c15_i32_108 arg12
  let c128_i32_109 : BitVec 32 := 128#32
  let v245 : BitVec 32 := Scalar.muli v244 c128_i32_109
  let v246 : BitVec 32 := v245
  let v253 : Index := Scalar.indexCast v246
  let c256_115 : Index := 256#32
  ![0, v253.toNat, 256]
def k0_off12 (k0_t1 : Fin k0_t1_loop.trips) : Fin 2 → Nat :=
  let c15_i32_108 : BitVec 32 := 15#32
  let c0_i32_44 : BitVec 32 := 0#32
  let c1_i32_45 : BitVec 32 := 1#32
  let arg12 : BitVec 32 := Scf.iv c0_i32_44 c1_i32_45 k0_t1
  let v244 : BitVec 32 := Scalar.subi c15_i32_108 arg12
  let c128_i32_109 : BitVec 32 := 128#32
  let v245 : BitVec 32 := Scalar.muli v244 c128_i32_109
  let v246 : BitVec 32 := v245
  let v278 : Index := Scalar.indexCast v246
  let c256_126 : Index := 256#32
  ![v278.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x2048x512 : Shape := ⟨3, ![32, 2048, 512]⟩
abbrev S32x2048x1024 : Shape := ⟨3, ![32, 2048, 1024]⟩
abbrev S2x4 : Shape := ⟨2, ![2, 4]⟩
abbrev S32x4x128x256 : Shape := ⟨4, ![32, 4, 128, 256]⟩
abbrev S_ : Shape := ⟨0, ![]⟩
abbrev S32x2048x4x128 : Shape := ⟨4, ![32, 2048, 4, 128]⟩
abbrev S32x4x2048x128 : Shape := ⟨4, ![32, 4, 2048, 128]⟩
abbrev S32x2048x4x256 : Shape := ⟨4, ![32, 2048, 4, 256]⟩
abbrev S32x4x2048x256 : Shape := ⟨4, ![32, 4, 2048, 256]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S32x4x16x128x128 : Shape := ⟨5, ![32, 4, 16, 128, 128]⟩
abbrev S16x32x4x128x128 : Shape := ⟨5, ![16, 32, 4, 128, 128]⟩
abbrev S32x4x16x128x256 : Shape := ⟨5, ![32, 4, 16, 128, 256]⟩
abbrev S16x32x4x128x256 : Shape := ⟨5, ![16, 32, 4, 128, 256]⟩
abbrev S1x32x4x128x128 : Shape := ⟨5, ![1, 32, 4, 128, 128]⟩
abbrev S32x4x128x128 : Shape := ⟨4, ![32, 4, 128, 128]⟩
abbrev S1x32x4x128x256 : Shape := ⟨5, ![1, 32, 4, 128, 256]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩

abbrev nBuf : Space → Nat
  | .hbm => 268
  | .vmem => 0
  | .smem => 0
  | _ => 0

abbrev hbmTy0_0 (i : Nat) : BufTy := match i % 128 with
  | 0 => ⟨S32x2048x512, .bf16⟩
  | 1 => ⟨S32x2048x512, .bf16⟩
  | 2 => ⟨S32x2048x1024, .bf16⟩
  | 3 => ⟨S2x4, .f32⟩
  | 4 => ⟨S32x4x128x256, .f32⟩
  | 5 => ⟨S32x4x128x256, .f32⟩
  | 6 => ⟨S2x4, .f32⟩
  | 7 => ⟨S_, .f32⟩
  | 8 => ⟨S2x4, .f32⟩
  | 9 => ⟨S2x4, .f32⟩
  | 10 => ⟨S2x4, .f32⟩
  | 11 => ⟨S2x4, .f32⟩
  | 12 => ⟨S2x4, .i1⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S32x2048x512, .f32⟩
  | 23 => ⟨S32x2048x4x128, .f32⟩
  | 24 => ⟨S32x4x2048x128, .f32⟩
  | 25 => ⟨S32x2048x512, .f32⟩
  | 26 => ⟨S32x2048x4x128, .f32⟩
  | 27 => ⟨S32x4x2048x128, .f32⟩
  | 28 => ⟨S32x2048x1024, .f32⟩
  | 29 => ⟨S32x2048x4x256, .f32⟩
  | 30 => ⟨S32x4x2048x256, .f32⟩
  | 31 => ⟨S1x4, .f32⟩
  | 32 => ⟨S4, .f32⟩
  | 33 => ⟨S128, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .i1⟩
  | 42 => ⟨S4x1x1, .f32⟩
  | 43 => ⟨S_, .f32⟩
  | 44 => ⟨S_, .f32⟩
  | 45 => ⟨S128x128, .f32⟩
  | 46 => ⟨S128x128, .f32⟩
  | 47 => ⟨S1x128x128, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S4x1, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S4x128x1, .f32⟩
  | 67 => ⟨S4x1, .f32⟩
  | 68 => ⟨S_, .f32⟩
  | 69 => ⟨S128, .f32⟩
  | 70 => ⟨S128, .f32⟩
  | 71 => ⟨S1x128, .f32⟩
  | 72 => ⟨S4x128, .f32⟩
  | 73 => ⟨S4x128, .f32⟩
  | 74 => ⟨S4x128, .f32⟩
  | 75 => ⟨S4x128, .f32⟩
  | 76 => ⟨S4x128x1, .f32⟩
  | 77 => ⟨S_, .f32⟩
  | 78 => ⟨S4, .f32⟩
  | 79 => ⟨S4, .f32⟩
  | 80 => ⟨S4, .f32⟩
  | 81 => ⟨S4x1x1, .f32⟩
  | 82 => ⟨S1x4, .f32⟩
  | 83 => ⟨S4, .f32⟩
  | 84 => ⟨S128, .f32⟩
  | 85 => ⟨S128x1, .f32⟩
  | 86 => ⟨S1x128, .f32⟩
  | 87 => ⟨S128x128, .f32⟩
  | 88 => ⟨S128x128, .f32⟩
  | 89 => ⟨S128x128, .f32⟩
  | 90 => ⟨S_, .f32⟩
  | 91 => ⟨S128x128, .f32⟩
  | 92 => ⟨S128x128, .i1⟩
  | 93 => ⟨S4x1x1, .f32⟩
  | 94 => ⟨S_, .f32⟩
  | 95 => ⟨S_, .f32⟩
  | 96 => ⟨S128x128, .f32⟩
  | 97 => ⟨S128x128, .f32⟩
  | 98 => ⟨S1x128x128, .f32⟩
  | 99 => ⟨S4x128x128, .f32⟩
  | 100 => ⟨S4x128x128, .f32⟩
  | 101 => ⟨S4x128x128, .f32⟩
  | 102 => ⟨S4x128x128, .f32⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S4x1, .f32⟩
  | 109 => ⟨S_, .f32⟩
  | 110 => ⟨S128, .f32⟩
  | 111 => ⟨S128, .f32⟩
  | 112 => ⟨S1x128, .f32⟩
  | 113 => ⟨S4x128, .f32⟩
  | 114 => ⟨S4x128, .f32⟩
  | 115 => ⟨S4x128, .f32⟩
  | 116 => ⟨S4x128, .f32⟩
  | 117 => ⟨S4x128x1, .f32⟩
  | 118 => ⟨S4x1, .f32⟩
  | 119 => ⟨S_, .f32⟩
  | 120 => ⟨S128, .f32⟩
  | 121 => ⟨S128, .f32⟩
  | 122 => ⟨S1x128, .f32⟩
  | 123 => ⟨S4x128, .f32⟩
  | 124 => ⟨S4x128, .f32⟩
  | 125 => ⟨S4x128, .f32⟩
  | 126 => ⟨S4x128, .f32⟩
  | 127 => ⟨S4x128x1, .f32⟩
  | _ => ⟨S32x2048x512, .bf16⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4x1x1, .f32⟩
  | 5 => ⟨S32x4x16x128x128, .f32⟩
  | 6 => ⟨S16x32x4x128x128, .f32⟩
  | 7 => ⟨S32x4x16x128x128, .f32⟩
  | 8 => ⟨S16x32x4x128x128, .f32⟩
  | 9 => ⟨S32x4x16x128x256, .f32⟩
  | 10 => ⟨S16x32x4x128x256, .f32⟩
  | 11 => ⟨S32x4x2048x128, .f32⟩
  | 12 => ⟨S32x4x16x128x128, .f32⟩
  | 13 => ⟨S16x32x4x128x128, .f32⟩
  | 14 => ⟨S32x4x2048x128, .f32⟩
  | 15 => ⟨S32x4x16x128x128, .f32⟩
  | 16 => ⟨S16x32x4x128x128, .f32⟩
  | 17 => ⟨S32x4x2048x256, .f32⟩
  | 18 => ⟨S32x4x16x128x256, .f32⟩
  | 19 => ⟨S16x32x4x128x256, .f32⟩
  | 20 => ⟨S_, .f32⟩
  | 21 => ⟨S16x32x4x128x256, .f32⟩
  | 22 => ⟨S_, .f32⟩
  | 23 => ⟨S16x32x4x128x256, .f32⟩
  | 24 => ⟨S_, .i32⟩
  | 25 => ⟨S16x32x4x128x128, .f32⟩
  | 26 => ⟨S16x32x4x128x128, .f32⟩
  | 27 => ⟨S16x32x4x128x256, .f32⟩
  | 28 => ⟨S16x32x4x128x128, .f32⟩
  | 29 => ⟨S16x32x4x128x128, .f32⟩
  | 30 => ⟨S16x32x4x128x256, .f32⟩
  | 31 => ⟨S4x128x128, .f32⟩
  | 32 => ⟨S4x128x1, .f32⟩
  | 33 => ⟨S4x1x1, .f32⟩
  | 34 => ⟨S4x128x1, .f32⟩
  | 35 => ⟨S4x128x128, .f32⟩
  | 36 => ⟨S4x128x1, .f32⟩
  | 37 => ⟨S4x1x1, .f32⟩
  | 38 => ⟨S4x128x1, .f32⟩
  | 39 => ⟨S_, .i32⟩
  | 40 => ⟨S32x4x128x256, .f32⟩
  | 41 => ⟨S32x4x128x256, .f32⟩
  | 42 => ⟨S16x32x4x128x256, .f32⟩
  | 43 => ⟨S16x32x4x128x256, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S1x32x4x128x128, .f32⟩
  | 51 => ⟨S32x4x128x128, .f32⟩
  | 52 => ⟨S_, .i32⟩
  | 53 => ⟨S_, .i32⟩
  | 54 => ⟨S_, .i32⟩
  | 55 => ⟨S_, .i32⟩
  | 56 => ⟨S1x32x4x128x128, .f32⟩
  | 57 => ⟨S32x4x128x128, .f32⟩
  | 58 => ⟨S_, .i32⟩
  | 59 => ⟨S_, .i32⟩
  | 60 => ⟨S_, .i32⟩
  | 61 => ⟨S_, .i32⟩
  | 62 => ⟨S1x32x4x128x256, .f32⟩
  | 63 => ⟨S32x4x128x256, .f32⟩
  | 64 => ⟨S_, .i32⟩
  | 65 => ⟨S_, .i32⟩
  | 66 => ⟨S_, .i32⟩
  | 67 => ⟨S_, .i32⟩
  | 68 => ⟨S1x32x4x128x128, .f32⟩
  | 69 => ⟨S32x4x128x128, .f32⟩
  | 70 => ⟨S_, .i32⟩
  | 71 => ⟨S_, .i32⟩
  | 72 => ⟨S_, .i32⟩
  | 73 => ⟨S_, .i32⟩
  | 74 => ⟨S1x32x4x128x128, .f32⟩
  | 75 => ⟨S32x4x128x128, .f32⟩
  | 76 => ⟨S_, .i32⟩
  | 77 => ⟨S_, .i32⟩
  | 78 => ⟨S_, .i32⟩
  | 79 => ⟨S_, .i32⟩
  | 80 => ⟨S1x32x4x128x256, .f32⟩
  | 81 => ⟨S32x4x128x256, .f32⟩
  | 82 => ⟨S32x4x128x128, .f32⟩
  | 83 => ⟨S1x4x128x128, .f32⟩
  | 84 => ⟨S32x4x128x128, .f32⟩
  | 85 => ⟨S32x4x128x128, .f32⟩
  | 86 => ⟨S32x4x128x256, .f32⟩
  | 87 => ⟨S1x4x128x1, .f32⟩
  | 88 => ⟨S32x4x128x128, .f32⟩
  | 89 => ⟨S32x4x128x128, .f32⟩
  | 90 => ⟨S32x4x128x256, .f32⟩
  | 91 => ⟨S32x4x128x256, .f32⟩
  | 92 => ⟨S1x4x1x1, .f32⟩
  | 93 => ⟨S32x4x128x256, .f32⟩
  | 94 => ⟨S32x4x128x256, .f32⟩
  | 95 => ⟨S1x4x128x1, .f32⟩
  | 96 => ⟨S32x4x128x128, .f32⟩
  | 97 => ⟨S32x4x128x128, .f32⟩
  | 98 => ⟨S32x4x128x256, .f32⟩
  | 99 => ⟨S32x4x128x256, .f32⟩
  | 100 => ⟨S32x4x128x128, .f32⟩
  | 101 => ⟨S1x4x128x128, .f32⟩
  | 102 => ⟨S32x4x128x128, .f32⟩
  | 103 => ⟨S32x4x128x128, .f32⟩
  | 104 => ⟨S32x4x128x256, .f32⟩
  | 105 => ⟨S1x4x128x1, .f32⟩
  | 106 => ⟨S32x4x128x128, .f32⟩
  | 107 => ⟨S32x4x128x128, .f32⟩
  | 108 => ⟨S32x4x128x256, .f32⟩
  | 109 => ⟨S32x4x128x256, .f32⟩
  | 110 => ⟨S1x4x1x1, .f32⟩
  | 111 => ⟨S32x4x128x256, .f32⟩
  | 112 => ⟨S32x4x128x256, .f32⟩
  | 113 => ⟨S1x4x128x1, .f32⟩
  | 114 => ⟨S32x4x128x128, .f32⟩
  | 115 => ⟨S32x4x128x128, .f32⟩
  | 116 => ⟨S32x4x128x256, .f32⟩
  | 117 => ⟨S32x4x128x256, .f32⟩
  | 118 => ⟨S1x32x4x128x256, .f32⟩
  | 119 => ⟨S_, .i32⟩
  | 120 => ⟨S_, .i32⟩
  | 121 => ⟨S_, .i32⟩
  | 122 => ⟨S_, .i32⟩
  | 123 => ⟨S16x32x4x128x256, .f32⟩
  | 124 => ⟨S1x32x4x128x256, .f32⟩
  | 125 => ⟨S_, .i32⟩
  | 126 => ⟨S_, .i32⟩
  | 127 => ⟨S_, .i32⟩
  | _ => ⟨S32x2048x512, .bf16⟩

abbrev hbmTy0_2 (i : Nat) : BufTy := match i % 128 with
  | 0 => ⟨S_, .i32⟩
  | 1 => ⟨S16x32x4x128x256, .f32⟩
  | 2 => ⟨S_, .i32⟩
  | 3 => ⟨S_, .i32⟩
  | 4 => ⟨S32x4x16x128x256, .f32⟩
  | 5 => ⟨S32x4x2048x256, .f32⟩
  | 6 => ⟨S32x4x16x128x256, .f32⟩
  | 7 => ⟨S32x4x2048x256, .f32⟩
  | 8 => ⟨S32x4x2048x256, .f32⟩
  | 9 => ⟨S32x4x2048x256, .f32⟩
  | 10 => ⟨S32x2048x4x256, .f32⟩
  | 11 => ⟨S32x2048x1024, .f32⟩
  | _ => ⟨S32x2048x512, .bf16⟩

abbrev hbmTy (i : Nat) : BufTy := match i / 128 with
  | 0 => hbmTy0_0 i
  | 1 => hbmTy0_1 i
  | 2 => hbmTy0_2 i
  | _ => ⟨S32x2048x512, .bf16⟩

abbrev bufTy : (tb : Table) → Fin (tcTables nBuf tb) → BufTy
  | .hbm, ⟨i, _⟩ => hbmTy i
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_6 : Ref sig .tc := ⟨.hbm, 94, rfl⟩
abbrev main_call3_v0 : Ref sig .tc := ⟨.hbm, 95, rfl⟩
abbrev main_call3_v1 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_7 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v69 : Ref sig .tc := ⟨.hbm, 107, rfl⟩
abbrev main_v70 : Ref sig .tc := ⟨.hbm, 108, rfl⟩
abbrev main_cst_8 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_9 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_10 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_11 : Ref sig .tc := ⟨.hbm, 148, rfl⟩
abbrev main_v107 : Ref sig .tc := ⟨.hbm, 149, rfl⟩
abbrev main_cst_12 : Ref sig .tc := ⟨.hbm, 150, rfl⟩
abbrev main_v108 : Ref sig .tc := ⟨.hbm, 151, rfl⟩
abbrev main_c : Ref sig .tc := ⟨.hbm, 152, rfl⟩
abbrev main_v109_0 : Ref sig .tc := ⟨.hbm, 153, rfl⟩
abbrev main_v109_1 : Ref sig .tc := ⟨.hbm, 154, rfl⟩
abbrev main_v109_2 : Ref sig .tc := ⟨.hbm, 155, rfl⟩
abbrev main_v109_3 : Ref sig .tc := ⟨.hbm, 156, rfl⟩
abbrev main_v109_4 : Ref sig .tc := ⟨.hbm, 157, rfl⟩
abbrev main_v109_5 : Ref sig .tc := ⟨.hbm, 158, rfl⟩
abbrev main_v109_6 : Ref sig .tc := ⟨.hbm, 159, rfl⟩
abbrev main_v109_7 : Ref sig .tc := ⟨.hbm, 160, rfl⟩
abbrev main_v109_8 : Ref sig .tc := ⟨.hbm, 161, rfl⟩
abbrev main_v109_9 : Ref sig .tc := ⟨.hbm, 162, rfl⟩
abbrev main_v109_10 : Ref sig .tc := ⟨.hbm, 163, rfl⟩
abbrev main_v109_11 : Ref sig .tc := ⟨.hbm, 164, rfl⟩
abbrev main_v109_12 : Ref sig .tc := ⟨.hbm, 165, rfl⟩
abbrev main_v109_13 : Ref sig .tc := ⟨.hbm, 166, rfl⟩
abbrev main_v109_14 : Ref sig .tc := ⟨.hbm, 167, rfl⟩
abbrev main_v109_15 : Ref sig .tc := ⟨.hbm, 168, rfl⟩
abbrev main_v109_16 : Ref sig .tc := ⟨.hbm, 169, rfl⟩
abbrev main_v109_17 : Ref sig .tc := ⟨.hbm, 170, rfl⟩
abbrev main_v109_18 : Ref sig .tc := ⟨.hbm, 171, rfl⟩
abbrev main_while0c_c_31 : Ref sig .tc := ⟨.hbm, 172, rfl⟩
abbrev main_while0c_v118 : Ref sig .tc := ⟨.hbm, 173, rfl⟩
abbrev main_while0b_call8_c : Ref sig .tc := ⟨.hbm, 174, rfl⟩
abbrev main_while0b_call8_c_0 : Ref sig .tc := ⟨.hbm, 175, rfl⟩
abbrev main_while0b_call8_c_1 : Ref sig .tc := ⟨.hbm, 176, rfl⟩
abbrev main_while0b_call8_c_2 : Ref sig .tc := ⟨.hbm, 177, rfl⟩
abbrev main_while0b_call8_v0 : Ref sig .tc := ⟨.hbm, 178, rfl⟩
abbrev main_while0b_v118 : Ref sig .tc := ⟨.hbm, 179, rfl⟩
abbrev main_while0b_call9_c : Ref sig .tc := ⟨.hbm, 180, rfl⟩
abbrev main_while0b_call9_c_0 : Ref sig .tc := ⟨.hbm, 181, rfl⟩
abbrev main_while0b_call9_c_1 : Ref sig .tc := ⟨.hbm, 182, rfl⟩
abbrev main_while0b_call9_c_2 : Ref sig .tc := ⟨.hbm, 183, rfl⟩
abbrev main_while0b_call9_v0 : Ref sig .tc := ⟨.hbm, 184, rfl⟩
abbrev main_while0b_v119 : Ref sig .tc := ⟨.hbm, 185, rfl⟩
abbrev main_while0b_call10_c : Ref sig .tc := ⟨.hbm, 186, rfl⟩
abbrev main_while0b_call10_c_0 : Ref sig .tc := ⟨.hbm, 187, rfl⟩
abbrev main_while0b_call10_c_1 : Ref sig .tc := ⟨.hbm, 188, rfl⟩
abbrev main_while0b_call10_c_2 : Ref sig .tc := ⟨.hbm, 189, rfl⟩
abbrev main_while0b_call10_v0 : Ref sig .tc := ⟨.hbm, 190, rfl⟩
abbrev main_while0b_v120 : Ref sig .tc := ⟨.hbm, 191, rfl⟩
abbrev main_while0b_call11_c : Ref sig .tc := ⟨.hbm, 192, rfl⟩
abbrev main_while0b_call11_c_0 : Ref sig .tc := ⟨.hbm, 193, rfl⟩
abbrev main_while0b_call11_c_1 : Ref sig .tc := ⟨.hbm, 194, rfl⟩
abbrev main_while0b_call11_c_2 : Ref sig .tc := ⟨.hbm, 195, rfl⟩
abbrev main_while0b_call11_v0 : Ref sig .tc := ⟨.hbm, 196, rfl⟩
abbrev main_while0b_v121 : Ref sig .tc := ⟨.hbm, 197, rfl⟩
abbrev main_while0b_call12_c : Ref sig .tc := ⟨.hbm, 198, rfl⟩
abbrev main_while0b_call12_c_0 : Ref sig .tc := ⟨.hbm, 199, rfl⟩
abbrev main_while0b_call12_c_1 : Ref sig .tc := ⟨.hbm, 200, rfl⟩
abbrev main_while0b_call12_c_2 : Ref sig .tc := ⟨.hbm, 201, rfl⟩
abbrev main_while0b_call12_v0 : Ref sig .tc := ⟨.hbm, 202, rfl⟩
abbrev main_while0b_v122 : Ref sig .tc := ⟨.hbm, 203, rfl⟩
abbrev main_while0b_call13_c : Ref sig .tc := ⟨.hbm, 204, rfl⟩
abbrev main_while0b_call13_c_0 : Ref sig .tc := ⟨.hbm, 205, rfl⟩
abbrev main_while0b_call13_c_1 : Ref sig .tc := ⟨.hbm, 206, rfl⟩
abbrev main_while0b_call13_c_2 : Ref sig .tc := ⟨.hbm, 207, rfl⟩
abbrev main_while0b_call13_v0 : Ref sig .tc := ⟨.hbm, 208, rfl⟩
abbrev main_while0b_v123 : Ref sig .tc := ⟨.hbm, 209, rfl⟩
abbrev main_while0b_v124 : Ref sig .tc := ⟨.hbm, 210, rfl⟩
abbrev main_while0b_v125 : Ref sig .tc := ⟨.hbm, 211, rfl⟩
abbrev main_while0b_v126 : Ref sig .tc := ⟨.hbm, 212, rfl⟩
abbrev main_while0b_v127 : Ref sig .tc := ⟨.hbm, 213, rfl⟩
abbrev main_while0b_v128 : Ref sig .tc := ⟨.hbm, 214, rfl⟩
abbrev main_while0b_v129 : Ref sig .tc := ⟨.hbm, 215, rfl⟩
abbrev main_while0b_v130 : Ref sig .tc := ⟨.hbm, 216, rfl⟩
abbrev main_while0b_v131 : Ref sig .tc := ⟨.hbm, 217, rfl⟩
abbrev main_while0b_v132 : Ref sig .tc := ⟨.hbm, 218, rfl⟩
abbrev main_while0b_v133 : Ref sig .tc := ⟨.hbm, 219, rfl⟩
abbrev main_while0b_v134 : Ref sig .tc := ⟨.hbm, 220, rfl⟩
abbrev main_while0b_v135 : Ref sig .tc := ⟨.hbm, 221, rfl⟩
abbrev main_while0b_v136 : Ref sig .tc := ⟨.hbm, 222, rfl⟩
abbrev main_while0b_v137 : Ref sig .tc := ⟨.hbm, 223, rfl⟩
abbrev main_while0b_v138 : Ref sig .tc := ⟨.hbm, 224, rfl⟩
abbrev main_while0b_v139 : Ref sig .tc := ⟨.hbm, 225, rfl⟩
abbrev main_while0b_v140 : Ref sig .tc := ⟨.hbm, 226, rfl⟩
abbrev main_while0b_v141 : Ref sig .tc := ⟨.hbm, 227, rfl⟩
abbrev main_while0b_v142 : Ref sig .tc := ⟨.hbm, 228, rfl⟩
abbrev main_while0b_v143 : Ref sig .tc := ⟨.hbm, 229, rfl⟩
abbrev main_while0b_v144 : Ref sig .tc := ⟨.hbm, 230, rfl⟩
abbrev main_while0b_v145 : Ref sig .tc := ⟨.hbm, 231, rfl⟩
abbrev main_while0b_v146 : Ref sig .tc := ⟨.hbm, 232, rfl⟩
abbrev main_while0b_v147 : Ref sig .tc := ⟨.hbm, 233, rfl⟩
abbrev main_while0b_v148 : Ref sig .tc := ⟨.hbm, 234, rfl⟩
abbrev main_while0b_v149 : Ref sig .tc := ⟨.hbm, 235, rfl⟩
abbrev main_while0b_v150 : Ref sig .tc := ⟨.hbm, 236, rfl⟩
abbrev main_while0b_v151 : Ref sig .tc := ⟨.hbm, 237, rfl⟩
abbrev main_while0b_v152 : Ref sig .tc := ⟨.hbm, 238, rfl⟩
abbrev main_while0b_v153 : Ref sig .tc := ⟨.hbm, 239, rfl⟩
abbrev main_while0b_v154 : Ref sig .tc := ⟨.hbm, 240, rfl⟩
abbrev main_while0b_v155 : Ref sig .tc := ⟨.hbm, 241, rfl⟩
abbrev main_while0b_v156 : Ref sig .tc := ⟨.hbm, 242, rfl⟩
abbrev main_while0b_v157 : Ref sig .tc := ⟨.hbm, 243, rfl⟩
abbrev main_while0b_v158 : Ref sig .tc := ⟨.hbm, 244, rfl⟩
abbrev main_while0b_v159 : Ref sig .tc := ⟨.hbm, 245, rfl⟩
abbrev main_while0b_call14_v0 : Ref sig .tc := ⟨.hbm, 246, rfl⟩
abbrev main_while0b_call14_c : Ref sig .tc := ⟨.hbm, 247, rfl⟩
abbrev main_while0b_call14_c_0 : Ref sig .tc := ⟨.hbm, 248, rfl⟩
abbrev main_while0b_call14_c_1 : Ref sig .tc := ⟨.hbm, 249, rfl⟩
abbrev main_while0b_call14_c_2 : Ref sig .tc := ⟨.hbm, 250, rfl⟩
abbrev main_while0b_v160 : Ref sig .tc := ⟨.hbm, 251, rfl⟩
abbrev main_while0b_call15_v0 : Ref sig .tc := ⟨.hbm, 252, rfl⟩
abbrev main_while0b_call15_c : Ref sig .tc := ⟨.hbm, 253, rfl⟩
abbrev main_while0b_call15_c_0 : Ref sig .tc := ⟨.hbm, 254, rfl⟩
abbrev main_while0b_call15_c_1 : Ref sig .tc := ⟨.hbm, 255, rfl⟩
abbrev main_while0b_call15_c_2 : Ref sig .tc := ⟨.hbm, 256, rfl⟩
abbrev main_while0b_v161 : Ref sig .tc := ⟨.hbm, 257, rfl⟩
abbrev main_while0b_c_31 : Ref sig .tc := ⟨.hbm, 258, rfl⟩
abbrev main_while0b_v162 : Ref sig .tc := ⟨.hbm, 259, rfl⟩
abbrev main_v110 : Ref sig .tc := ⟨.hbm, 260, rfl⟩
abbrev main_v111 : Ref sig .tc := ⟨.hbm, 261, rfl⟩
abbrev main_v112 : Ref sig .tc := ⟨.hbm, 262, rfl⟩
abbrev main_v113 : Ref sig .tc := ⟨.hbm, 263, rfl⟩
abbrev main_v114 : Ref sig .tc := ⟨.hbm, 264, rfl⟩
abbrev main_v115 : Ref sig .tc := ⟨.hbm, 265, rfl⟩
abbrev main_v116 : Ref sig .tc := ⟨.hbm, 266, rfl⟩
abbrev main_v117 : Ref sig .tc := ⟨.hbm, 267, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S32x2048x1024 : Shape := ⟨3, ![32, 2048, 1024]⟩
abbrev S1024 : Shape := ⟨1, ![1024]⟩
abbrev S32x1024 : Shape := ⟨2, ![32, 1024]⟩
abbrev S1024x5632 : Shape := ⟨2, ![1024, 5632]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S32x1x1024 : Shape := ⟨3, ![32, 1, 1024]⟩
abbrev S1x1024 : Shape := ⟨2, ![1, 1024]⟩
abbrev S32x2048x512 : Shape := ⟨3, ![32, 2048, 512]⟩
abbrev S32x2048x2048 : Shape := ⟨3, ![32, 2048, 2048]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S1024x1024 : Shape := ⟨2, ![1024, 1024]⟩
abbrev S1024x2048 : Shape := ⟨2, ![1024, 2048]⟩
abbrev S512x2048 : Shape := ⟨2, ![512, 2048]⟩

abbrev nBuf : Space → Nat
  | .hbm => 46
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x5632, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S2048x128, .f32⟩
  | .hbm, ⟨34, _⟩ => ⟨S2048x64, .f32⟩
  | .hbm, ⟨35, _⟩ => ⟨S2048x128, .f32⟩
  | .hbm, ⟨36, _⟩ => ⟨S32x1x1024, .f32⟩
  | .hbm, ⟨37, _⟩ => ⟨S32x1x1024, .f32⟩
  | .hbm, ⟨38, _⟩ => ⟨S1024x5632, .bf16⟩
  | .hbm, ⟨39, _⟩ => ⟨S1x1024, .f32⟩
  | .hbm, ⟨40, _⟩ => ⟨S32x2048x512, .f32⟩
  | .hbm, ⟨41, _⟩ => ⟨S32x2048x512, .bf16⟩
  | .hbm, ⟨42, _⟩ => ⟨S32x2048x512, .bf16⟩
  | .hbm, ⟨43, _⟩ => ⟨S32x2048x1024, .bf16⟩
  | .hbm, ⟨44, _⟩ => ⟨S32x2048x1024, .bf16⟩
  | .hbm, ⟨45, _⟩ => ⟨S32x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1024x5632, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x2048, .bf16⟩
  | .local _ .vmem, ⟨23, _⟩ => ⟨S1x512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev main_v33_3 : Ref sig .tc := ⟨.hbm, 43, rfl⟩
abbrev main_v33_4 : Ref sig .tc := ⟨.hbm, 44, rfl⟩
abbrev main_v33_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S32x2048x1024 : Shape := ⟨3, ![32, 2048, 1024]⟩
abbrev S1024 : Shape := ⟨1, ![1024]⟩
abbrev S32x1024 : Shape := ⟨2, ![32, 1024]⟩
abbrev S1024x5632 : Shape := ⟨2, ![1024, 5632]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x5632 : Shape := ⟨3, ![32, 2048, 5632]⟩
abbrev S32x2048x512 : Shape := ⟨3, ![32, 2048, 512]⟩
abbrev S32x2048x4x128 : Shape := ⟨4, ![32, 2048, 4, 128]⟩
abbrev S32x4x2048x128 : Shape := ⟨4, ![32, 4, 2048, 128]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S32x4x2048x64 : Shape := ⟨4, ![32, 4, 2048, 64]⟩
abbrev S1x1x2048x64 : Shape := ⟨4, ![1, 1, 2048, 64]⟩
abbrev S32x2048x2048 : Shape := ⟨3, ![32, 2048, 2048]⟩

abbrev nBuf : Space → Nat
  | .hbm => 136
  | .vmem => 0
  | .smem => 0
  | _ => 0

abbrev hbmTy0_0 (i : Nat) : BufTy := match i % 128 with
  | 0 => ⟨S32x2048x1024, .f32⟩
  | 1 => ⟨S1024, .f32⟩
  | 2 => ⟨S32x1024, .f32⟩
  | 3 => ⟨S32x1024, .f32⟩
  | 4 => ⟨S1024x5632, .f32⟩
  | 5 => ⟨S32, .f32⟩
  | 6 => ⟨S32x64, .f32⟩
  | 7 => ⟨S2048, .f32⟩
  | 8 => ⟨S64, .f32⟩
  | 9 => ⟨S1x64, .f32⟩
  | 10 => ⟨S32x64, .f32⟩
  | 11 => ⟨S2048, .f32⟩
  | 12 => ⟨S32x2048x1024, .f32⟩
  | 13 => ⟨S_, .f32⟩
  | 14 => ⟨S32x2048, .f32⟩
  | 15 => ⟨S32x2048x1, .f32⟩
  | 16 => ⟨S_, .f32⟩
  | 17 => ⟨S32x2048x1, .f32⟩
  | 18 => ⟨S32x2048x1, .f32⟩
  | 19 => ⟨S_, .f32⟩
  | 20 => ⟨S32x2048x1, .f32⟩
  | 21 => ⟨S32x2048x1, .f32⟩
  | 22 => ⟨S32x2048x1, .f32⟩
  | 23 => ⟨S32x2048x1024, .f32⟩
  | 24 => ⟨S32x2048x1024, .f32⟩
  | 25 => ⟨S1x1x1024, .f32⟩
  | 26 => ⟨S32x2048x1024, .f32⟩
  | 27 => ⟨S32x2048x1024, .f32⟩
  | 28 => ⟨S32x1x1024, .f32⟩
  | 29 => ⟨S32x1x1024, .f32⟩
  | 30 => ⟨S_, .f32⟩
  | 31 => ⟨S32x1x1024, .f32⟩
  | 32 => ⟨S32x1x1024, .f32⟩
  | 33 => ⟨S32x2048x1024, .f32⟩
  | 34 => ⟨S32x2048x1024, .f32⟩
  | 35 => ⟨S32x2048x1024, .f32⟩
  | 36 => ⟨S32x2048x1024, .f32⟩
  | 37 => ⟨S32x2048x5632, .f32⟩
  | 38 => ⟨S32x2048x512, .f32⟩
  | 39 => ⟨S32x2048x4x128, .f32⟩
  | 40 => ⟨S32x4x2048x128, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048x1, .f32⟩
  | 50 => ⟨S1x32, .f32⟩
  | 51 => ⟨S2048x32, .f32⟩
  | 52 => ⟨S2048x32, .f32⟩
  | 53 => ⟨S2048x32, .f32⟩
  | 54 => ⟨S2048x1, .f32⟩
  | 55 => ⟨S1x32, .f32⟩
  | 56 => ⟨S2048x32, .f32⟩
  | 57 => ⟨S2048x32, .f32⟩
  | 58 => ⟨S2048x32, .f32⟩
  | 59 => ⟨S2048x64, .f32⟩
  | 60 => ⟨S2048x64, .f32⟩
  | 61 => ⟨S2048x64, .f32⟩
  | 62 => ⟨S32x4x2048x64, .f32⟩
  | 63 => ⟨S32x4x2048x64, .f32⟩
  | 64 => ⟨S1x1x2048x64, .f32⟩
  | 65 => ⟨S32x4x2048x64, .f32⟩
  | 66 => ⟨S32x4x2048x64, .f32⟩
  | 67 => ⟨S1x1x2048x64, .f32⟩
  | 68 => ⟨S32x4x2048x64, .f32⟩
  | 69 => ⟨S32x4x2048x64, .f32⟩
  | 70 => ⟨S32x4x2048x64, .f32⟩
  | 71 => ⟨S1x1x2048x64, .f32⟩
  | 72 => ⟨S32x4x2048x64, .f32⟩
  | 73 => ⟨S32x4x2048x64, .f32⟩
  | 74 => ⟨S1x1x2048x64, .f32⟩
  | 75 => ⟨S32x4x2048x64, .f32⟩
  | 76 => ⟨S32x4x2048x64, .f32⟩
  | 77 => ⟨S32x4x2048x64, .f32⟩
  | 78 => ⟨S32x4x2048x128, .f32⟩
  | 79 => ⟨S32x2048x512, .f32⟩
  | 80 => ⟨S32x2048x4x128, .f32⟩
  | 81 => ⟨S32x4x2048x128, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S2048x1, .f32⟩
  | 91 => ⟨S1x32, .f32⟩
  | 92 => ⟨S2048x32, .f32⟩
  | 93 => ⟨S2048x32, .f32⟩
  | 94 => ⟨S2048x32, .f32⟩
  | 95 => ⟨S2048x1, .f32⟩
  | 96 => ⟨S1x32, .f32⟩
  | 97 => ⟨S2048x32, .f32⟩
  | 98 => ⟨S2048x32, .f32⟩
  | 99 => ⟨S2048x32, .f32⟩
  | 100 => ⟨S2048x64, .f32⟩
  | 101 => ⟨S2048x64, .f32⟩
  | 102 => ⟨S2048x64, .f32⟩
  | 103 => ⟨S32x4x2048x64, .f32⟩
  | 104 => ⟨S32x4x2048x64, .f32⟩
  | 105 => ⟨S1x1x2048x64, .f32⟩
  | 106 => ⟨S32x4x2048x64, .f32⟩
  | 107 => ⟨S32x4x2048x64, .f32⟩
  | 108 => ⟨S1x1x2048x64, .f32⟩
  | 109 => ⟨S32x4x2048x64, .f32⟩
  | 110 => ⟨S32x4x2048x64, .f32⟩
  | 111 => ⟨S32x4x2048x64, .f32⟩
  | 112 => ⟨S1x1x2048x64, .f32⟩
  | 113 => ⟨S32x4x2048x64, .f32⟩
  | 114 => ⟨S32x4x2048x64, .f32⟩
  | 115 => ⟨S1x1x2048x64, .f32⟩
  | 116 => ⟨S32x4x2048x64, .f32⟩
  | 117 => ⟨S32x4x2048x64, .f32⟩
  | 118 => ⟨S32x4x2048x64, .f32⟩
  | 119 => ⟨S32x4x2048x128, .f32⟩
  | 120 => ⟨S_, .f32⟩
  | 121 => ⟨S32x4x2048x128, .f32⟩
  | 122 => ⟨S32x4x2048x128, .f32⟩
  | 123 => ⟨S32x2048x512, .f32⟩
  | 124 => ⟨S32x2048x4x128, .f32⟩
  | 125 => ⟨S32x2048x512, .f32⟩
  | 126 => ⟨S32x2048x512, .bf16⟩
  | 127 => ⟨S32x2048x4x128, .f32⟩
  | _ => ⟨S32x2048x1024, .f32⟩

abbrev hbmTy0_1 (i : Nat) : BufTy := match i % 128 with
  | 0 => ⟨S32x2048x512, .f32⟩
  | 1 => ⟨S32x2048x512, .bf16⟩
  | 2 => ⟨S32x2048x1024, .f32⟩
  | 3 => ⟨S32x2048x1024, .bf16⟩
  | 4 => ⟨S32x2048x1024, .f32⟩
  | 5 => ⟨S32x2048x1024, .bf16⟩
  | 6 => ⟨S32x2048x2048, .f32⟩
  | 7 => ⟨S32x2048x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_cst_6 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_cst_7 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]
-- ==== Kernel3.lean ====
abbrev S32x2048x512 : Shape := ⟨3, ![32, 2048, 512]⟩
abbrev S32x2048x1024 : Shape := ⟨3, ![32, 2048, 1024]⟩
abbrev S32x2048x2048 : Shape := ⟨3, ![32, 2048, 2048]⟩
abbrev S32x1024 : Shape := ⟨2, ![32, 1024]⟩
abbrev S4x128x128 : Shape := ⟨3, ![4, 128, 128]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S4x1x1x1 : Shape := ⟨4, ![4, 1, 1, 1]⟩
abbrev S3 : Shape := ⟨1, ![3]⟩
abbrev S1x3x1x1 : Shape := ⟨4, ![1, 3, 1, 1]⟩
abbrev S32x1x1024 : Shape := ⟨3, ![32, 1, 1024]⟩
abbrev S1x1x256x1 : Shape := ⟨4, ![1, 1, 256, 1]⟩
abbrev S1x1x1x256 : Shape := ⟨4, ![1, 1, 1, 256]⟩
abbrev S4x1x256x1 : Shape := ⟨4, ![4, 1, 256, 1]⟩
abbrev S1x3x1x256 : Shape := ⟨4, ![1, 3, 1, 256]⟩
abbrev S4x3x256x256 : Shape := ⟨4, ![4, 3, 256, 256]⟩
abbrev S1x512 : Shape := ⟨2, ![1, 512]⟩
abbrev S1x1024 : Shape := ⟨2, ![1, 1024]⟩
abbrev S1x256x512 : Shape := ⟨3, ![1, 256, 512]⟩
abbrev S1x256x1024 : Shape := ⟨3, ![1, 256, 1024]⟩
abbrev S1x256x2048 : Shape := ⟨3, ![1, 256, 2048]⟩
abbrev S1x1x1024 : Shape := ⟨3, ![1, 1, 1024]⟩
abbrev S256x128 : Shape := ⟨2, ![256, 128]⟩
abbrev S1x256x128 : Shape := ⟨3, ![1, 256, 128]⟩
abbrev S1x1x256x256 : Shape := ⟨4, ![1, 1, 256, 256]⟩
abbrev S256x256 : Shape := ⟨2, ![256, 256]⟩
abbrev S1x128x128 : Shape := ⟨3, ![1, 128, 128]⟩
abbrev S128x128 : Shape := ⟨2, ![128, 128]⟩
abbrev S256x512 : Shape := ⟨2, ![256, 512]⟩
abbrev S256x1024 : Shape := ⟨2, ![256, 1024]⟩
abbrev S1x256x256 : Shape := ⟨3, ![1, 256, 256]⟩
abbrev S256 : Shape := ⟨1, ![256]⟩
abbrev S256x1 : Shape := ⟨2, ![256, 1]⟩

abbrev nBuf : Space → Nat
  | .hbm => 54
  | .vmem => 32
  | .smem => 0
  | _ => 0

abbrev bufTy : (tb : Table) → Fin (tcTables nBuf tb) → BufTy
  | .hbm, ⟨0, _⟩ => ⟨S32x2048x512, .f32⟩
  | .hbm, ⟨1, _⟩ => ⟨S32x2048x1024, .f32⟩
  | .hbm, ⟨2, _⟩ => ⟨S32x2048x1024, .bf16⟩
  | .hbm, ⟨3, _⟩ => ⟨S32x2048x2048, .bf16⟩
  | .hbm, ⟨4, _⟩ => ⟨S32x2048x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S4x128x128, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4x1x1x1, .i32⟩
  | .hbm, ⟨16, _⟩ => ⟨S4x1x1x1, .i32⟩
  | .hbm, ⟨17, _⟩ => ⟨S3, .i32⟩
  | .hbm, ⟨18, _⟩ => ⟨S1x3x1x1, .i32⟩
  | .hbm, ⟨19, _⟩ => ⟨S32x1x1024, .f32⟩
  | .hbm, ⟨20, _⟩ => ⟨S32x1x1024, .f32⟩
  | .hbm, ⟨21, _⟩ => ⟨S32x1x1024, .f32⟩
  | .hbm, ⟨22, _⟩ => ⟨S4x128x128, .bf16⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S1x1x256x1, .i32⟩
  | .hbm, ⟨27, _⟩ => ⟨S1x1x1x256, .i32⟩
  | .hbm, ⟨28, _⟩ => ⟨S4x1x256x1, .i32⟩
  | .hbm, ⟨29, _⟩ => ⟨S4x1x256x1, .i32⟩
  | .hbm, ⟨30, _⟩ => ⟨S4x1x256x1, .i32⟩
  | .hbm, ⟨31, _⟩ => ⟨S4x1x256x1, .i32⟩
  | .hbm, ⟨32, _⟩ => ⟨S4x1x256x1, .i32⟩
  | .hbm, ⟨33, _⟩ => ⟨S4x1x256x1, .i32⟩
  | .hbm, ⟨34, _⟩ => ⟨S1x3x1x256, .i32⟩
  | .hbm, ⟨35, _⟩ => ⟨S1x3x1x256, .i32⟩
  | .hbm, ⟨36, _⟩ => ⟨S1x3x1x256, .i32⟩
  | .hbm, ⟨37, _⟩ => ⟨S4x3x256x256, .i32⟩
  | .hbm, ⟨38, _⟩ => ⟨S4x3x256x256, .i32⟩
  | .hbm, ⟨39, _⟩ => ⟨S4x3x256x256, .i1⟩
  | .hbm, ⟨40, _⟩ => ⟨S1x3x1x256, .i32⟩
  | .hbm, ⟨41, _⟩ => ⟨S1x3x1x256, .i32⟩
  | .hbm, ⟨42, _⟩ => ⟨S1x3x1x256, .i32⟩
  | .hbm, ⟨43, _⟩ => ⟨S4x3x256x256, .i32⟩
  | .hbm, ⟨44, _⟩ => ⟨S4x3x256x256, .i32⟩
  | .hbm, ⟨45, _⟩ => ⟨S4x3x256x256, .i1⟩
  | .hbm, ⟨46, _⟩ => ⟨S4x3x256x256, .i1⟩
  | .hbm, ⟨47, _⟩ => ⟨S4x3x256x256, .f32⟩
  | .hbm, ⟨48, _⟩ => ⟨S4x3x256x256, .bf16⟩
  | .hbm, ⟨49, _⟩ => ⟨S1x512, .f32⟩
  | .hbm, ⟨50, _⟩ => ⟨S1x1024, .f32⟩
  | .hbm, ⟨51, _⟩ => ⟨S1x1024, .f32⟩
  | .hbm, ⟨52, _⟩ => ⟨S32x2048x1024, .f32⟩
  | .hbm, ⟨53, _⟩ => ⟨S32x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S4x3x256x256, .bf16⟩
  | .local _ .vmem, ⟨21, _⟩ => ⟨S4x128x128, .bf16⟩
  | .local _ .vmem, ⟨22, _⟩ => ⟨S1x512, .f32⟩
  | .local _ .vmem, ⟨23, _⟩ => ⟨S512x1024, .bf16⟩
  | .local _ .vmem, ⟨24, _⟩ => ⟨S1x1024, .f32⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x3x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S32x2048x512 : Shape := ⟨3, ![32, 2048, 512]⟩
abbrev S32x2048x1024 : Shape := ⟨3, ![32, 2048, 1024]⟩
abbrev S32x2048x2048 : Shape := ⟨3, ![32, 2048, 2048]⟩
abbrev S32x1024 : Shape := ⟨2, ![32, 1024]⟩
abbrev S4x128x128 : Shape := ⟨3, ![4, 128, 128]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S32x2049x512 : Shape := ⟨3, ![32, 2049, 512]⟩
abbrev S2048 : Shape := ⟨1, ![2048]⟩
abbrev S2048x1 : Shape := ⟨2, ![2048, 1]⟩
abbrev S2048x2 : Shape := ⟨2, ![2048, 2]⟩
abbrev S32x2048x128 : Shape := ⟨3, ![32, 2048, 128]⟩
abbrev S1x2048x1 : Shape := ⟨3, ![1, 2048, 1]⟩
abbrev S32x2048x1x128 : Shape := ⟨4, ![32, 2048, 1, 128]⟩
abbrev S32x2048x4x128 : Shape := ⟨4, ![32, 2048, 4, 128]⟩
abbrev S4x128x32x2048 : Shape := ⟨4, ![4, 128, 32, 2048]⟩
abbrev S1x1x512 : Shape := ⟨3, ![1, 1, 512]⟩
abbrev S32x2048x4x256 : Shape := ⟨4, ![32, 2048, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S1x1x1024 : Shape := ⟨3, ![1, 1, 1024]⟩
abbrev S32x1x1024 : Shape := ⟨3, ![32, 1, 1024]⟩
abbrev S32x2048 : Shape := ⟨2, ![32, 2048]⟩
abbrev S32x2048x1 : Shape := ⟨3, ![32, 2048, 1]⟩

abbrev nBuf : Space → Nat
  | .hbm => 356
  | .vmem => 0
  | .smem => 0
  | _ => 0

abbrev hbmTy0_0 (i : Nat) : BufTy := match i % 128 with
  | 0 => ⟨S32x2048x512, .f32⟩
  | 1 => ⟨S32x2048x1024, .f32⟩
  | 2 => ⟨S32x2048x1024, .bf16⟩
  | 3 => ⟨S32x2048x2048, .bf16⟩
  | 4 => ⟨S32x2048x1024, .f32⟩
  | 5 => ⟨S32x1024, .f32⟩
  | 6 => ⟨S32x1024, .f32⟩
  | 7 => ⟨S32x1024, .f32⟩
  | 8 => ⟨S4x128x128, .f32⟩
  | 9 => ⟨S512, .f32⟩
  | 10 => ⟨S512x1024, .f32⟩
  | 11 => ⟨S1024, .f32⟩
  | 12 => ⟨S1024x1024, .f32⟩
  | 13 => ⟨S1024x1024, .f32⟩
  | 14 => ⟨S1024, .f32⟩
  | 15 => ⟨S_, .f32⟩
  | 16 => ⟨S_, .f32⟩
  | 17 => ⟨S32x2048x512, .f32⟩
  | 18 => ⟨S_, .i32⟩
  | 19 => ⟨S_, .f32⟩
  | 20 => ⟨S32x2049x512, .f32⟩
  | 21 => ⟨S2048, .i32⟩
  | 22 => ⟨S_, .i32⟩
  | 23 => ⟨S2048, .i32⟩
  | 24 => ⟨S2048, .i32⟩
  | 25 => ⟨S_, .i32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S_, .i32⟩
  | 40 => ⟨S_, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i1⟩
  | 50 => ⟨S_, .i32⟩
  | 51 => ⟨S2048, .i32⟩
  | 52 => ⟨S2048, .i32⟩
  | 53 => ⟨S2048, .i32⟩
  | 54 => ⟨S2048x1, .i32⟩
  | 55 => ⟨S_, .i32⟩
  | 56 => ⟨S2048x1, .i32⟩
  | 57 => ⟨S2048x2, .i32⟩
  | 58 => ⟨S32x2048x128, .f32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S_, .i32⟩
  | 68 => ⟨S2048x1, .i32⟩
  | 69 => ⟨S2048x2, .i32⟩
  | 70 => ⟨S32x2048x128, .f32⟩
  | 71 => ⟨S32x2048x128, .f32⟩
  | 72 => ⟨S2048, .i32⟩
  | 73 => ⟨S2048, .f32⟩
  | 74 => ⟨S1x2048x1, .f32⟩
  | 75 => ⟨S32x2048x128, .f32⟩
  | 76 => ⟨S32x2048x128, .f32⟩
  | 77 => ⟨S32x2048x128, .f32⟩
  | 78 => ⟨S32x2048x128, .f32⟩
  | 79 => ⟨S_, .i32⟩
  | 80 => ⟨S2048, .i32⟩
  | 81 => ⟨S2048, .i32⟩
  | 82 => ⟨S_, .i32⟩
  | 83 => ⟨S_, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S_, .i32⟩
  | 97 => ⟨S_, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S_, .i32⟩
  | 105 => ⟨S2048, .i32⟩
  | 106 => ⟨S2048, .i1⟩
  | 107 => ⟨S_, .i32⟩
  | 108 => ⟨S2048, .i32⟩
  | 109 => ⟨S2048, .i32⟩
  | 110 => ⟨S2048, .i32⟩
  | 111 => ⟨S2048x1, .i32⟩
  | 112 => ⟨S_, .i32⟩
  | 113 => ⟨S2048x1, .i32⟩
  | 114 => ⟨S2048x2, .i32⟩
  | 115 => ⟨S32x2048x128, .f32⟩
  | 116 => ⟨S_, .i32⟩
  | 117 => ⟨S2048, .i32⟩
  | 118 => ⟨S2048, .i1⟩
  | 119 => ⟨S_, .i32⟩
  | 120 => ⟨S2048, .i32⟩
  | 121 => ⟨S2048, .i32⟩
  | 122 => ⟨S2048, .i32⟩
  | 123 => ⟨S2048x1, .i32⟩
  | 124 => ⟨S_, .i32⟩
  | 125 => ⟨S2048x1, .i32⟩
  | 126 => ⟨S2048x2, .i32⟩
  | 127 => ⟨S32x2048x128, .f32⟩
  | _ => ⟨S32x2048x512, .f32⟩

abbrev hbmTy0_1 (i : Nat) : BufTy := match i % 128 with
  | 0 => ⟨S32x2048x128, .f32⟩
  | 1 => ⟨S2048, .i32⟩
  | 2 => ⟨S2048, .f32⟩
  | 3 => ⟨S1x2048x1, .f32⟩
  | 4 => ⟨S32x2048x128, .f32⟩
  | 5 => ⟨S32x2048x128, .f32⟩
  | 6 => ⟨S32x2048x128, .f32⟩
  | 7 => ⟨S32x2048x128, .f32⟩
  | 8 => ⟨S_, .i32⟩
  | 9 => ⟨S2048, .i32⟩
  | 10 => ⟨S2048, .i32⟩
  | 11 => ⟨S_, .i32⟩
  | 12 => ⟨S_, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S_, .i32⟩
  | 42 => ⟨S2048x1, .i32⟩
  | 43 => ⟨S2048x2, .i32⟩
  | 44 => ⟨S32x2048x128, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S_, .i32⟩
  | 54 => ⟨S2048x1, .i32⟩
  | 55 => ⟨S2048x2, .i32⟩
  | 56 => ⟨S32x2048x128, .f32⟩
  | 57 => ⟨S32x2048x128, .f32⟩
  | 58 => ⟨S2048, .i32⟩
  | 59 => ⟨S2048, .f32⟩
  | 60 => ⟨S1x2048x1, .f32⟩
  | 61 => ⟨S32x2048x128, .f32⟩
  | 62 => ⟨S32x2048x128, .f32⟩
  | 63 => ⟨S32x2048x128, .f32⟩
  | 64 => ⟨S32x2048x128, .f32⟩
  | 65 => ⟨S_, .i32⟩
  | 66 => ⟨S2048, .i32⟩
  | 67 => ⟨S2048, .i32⟩
  | 68 => ⟨S_, .i32⟩
  | 69 => ⟨S_, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S_, .i32⟩
  | 83 => ⟨S_, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S_, .i32⟩
  | 99 => ⟨S2048x1, .i32⟩
  | 100 => ⟨S2048x2, .i32⟩
  | 101 => ⟨S32x2048x128, .f32⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S2048x1, .i32⟩
  | 110 => ⟨S_, .i32⟩
  | 111 => ⟨S2048x1, .i32⟩
  | 112 => ⟨S2048x2, .i32⟩
  | 113 => ⟨S32x2048x128, .f32⟩
  | 114 => ⟨S32x2048x128, .f32⟩
  | 115 => ⟨S2048, .i32⟩
  | 116 => ⟨S2048, .f32⟩
  | 117 => ⟨S1x2048x1, .f32⟩
  | 118 => ⟨S32x2048x128, .f32⟩
  | 119 => ⟨S32x2048x128, .f32⟩
  | 120 => ⟨S32x2048x128, .f32⟩
  | 121 => ⟨S32x2048x128, .f32⟩
  | 122 => ⟨S32x2048x1x128, .f32⟩
  | 123 => ⟨S32x2048x1x128, .f32⟩
  | 124 => ⟨S32x2048x1x128, .f32⟩
  | 125 => ⟨S32x2048x1x128, .f32⟩
  | 126 => ⟨S32x2048x4x128, .f32⟩
  | 127 => ⟨S4x128x32x2048, .f32⟩
  | _ => ⟨S32x2048x512, .f32⟩

abbrev hbmTy0_2 (i : Nat) : BufTy := match i % 128 with
  | 0 => ⟨S32x2048x4x128, .f32⟩
  | 1 => ⟨S32x2048x512, .f32⟩
  | 2 => ⟨S1x1x512, .f32⟩
  | 3 => ⟨S32x2048x512, .f32⟩
  | 4 => ⟨S32x2048x512, .f32⟩
  | 5 => ⟨S32x2048x1024, .f32⟩
  | 6 => ⟨S32x2048x4x256, .f32⟩
  | 7 => ⟨S32x4x2048x256, .f32⟩
  | 8 => ⟨S32x2048x1024, .f32⟩
  | 9 => ⟨S_, .f32⟩
  | 10 => ⟨S32x4x2048, .f32⟩
  | 11 => ⟨S32x4x2048x1, .f32⟩
  | 12 => ⟨S_, .f32⟩
  | 13 => ⟨S32x4x2048x1, .f32⟩
  | 14 => ⟨S32x4x2048x1, .f32⟩
  | 15 => ⟨S32x4x2048x256, .f32⟩
  | 16 => ⟨S32x4x2048x256, .f32⟩
  | 17 => ⟨S32x4x2048x256, .f32⟩
  | 18 => ⟨S_, .f32⟩
  | 19 => ⟨S32x4x2048, .f32⟩
  | 20 => ⟨S32x4x2048x1, .f32⟩
  | 21 => ⟨S_, .f32⟩
  | 22 => ⟨S32x4x2048x1, .f32⟩
  | 23 => ⟨S32x4x2048x1, .f32⟩
  | 24 => ⟨S32x4x2048x256, .f32⟩
  | 25 => ⟨S32x4x2048x256, .f32⟩
  | 26 => ⟨S_, .f32⟩
  | 27 => ⟨S32x4x2048x1, .f32⟩
  | 28 => ⟨S32x4x2048x1, .f32⟩
  | 29 => ⟨S32x4x2048x1, .f32⟩
  | 30 => ⟨S32x4x2048x256, .f32⟩
  | 31 => ⟨S32x4x2048x256, .f32⟩
  | 32 => ⟨S32x2048x4x256, .f32⟩
  | 33 => ⟨S32x2048x1024, .f32⟩
  | 34 => ⟨S1x1x1024, .f32⟩
  | 35 => ⟨S32x2048x1024, .f32⟩
  | 36 => ⟨S32x2048x1024, .f32⟩
  | 37 => ⟨S32x2048x1024, .f32⟩
  | 38 => ⟨S32x2048x1024, .f32⟩
  | 39 => ⟨S_, .f32⟩
  | 40 => ⟨S32x2048x1024, .f32⟩
  | 41 => ⟨S32x2048x1024, .f32⟩
  | 42 => ⟨S_, .f32⟩
  | 43 => ⟨S32x2048x1024, .f32⟩
  | 44 => ⟨S32x2048x1024, .f32⟩
  | 45 => ⟨S32x2048x1024, .f32⟩
  | 46 => ⟨S32x2048x1024, .f32⟩
  | 47 => ⟨S32x2048x1024, .f32⟩
  | 48 => ⟨S32x2048x2048, .f32⟩
  | 49 => ⟨S32x2048x1024, .f32⟩
  | 50 => ⟨S32x2048x1024, .f32⟩
  | 51 => ⟨S32x2048x1024, .f32⟩
  | 52 => ⟨S32x2048x1024, .f32⟩
  | 53 => ⟨S_, .f32⟩
  | 54 => ⟨S32x2048x1024, .f32⟩
  | 55 => ⟨S32x2048x1024, .f32⟩
  | 56 => ⟨S_, .f32⟩
  | 57 => ⟨S32x2048x1024, .f32⟩
  | 58 => ⟨S32x2048x1024, .f32⟩
  | 59 => ⟨S32x2048x1024, .f32⟩
  | 60 => ⟨S32x2048x1024, .f32⟩
  | 61 => ⟨S32x2048x1024, .f32⟩
  | 62 => ⟨S_, .f32⟩
  | 63 => ⟨S32x2048x1024, .f32⟩
  | 64 => ⟨S32x2048x1024, .f32⟩
  | 65 => ⟨S_, .f32⟩
  | 66 => ⟨S32x2048x1024, .f32⟩
  | 67 => ⟨S32x2048x1024, .f32⟩
  | 68 => ⟨S32x2048x1024, .f32⟩
  | 69 => ⟨S32x2048x1024, .f32⟩
  | 70 => ⟨S32x1x1024, .f32⟩
  | 71 => ⟨S32x2048x1024, .f32⟩
  | 72 => ⟨S32x2048x1024, .f32⟩
  | 73 => ⟨S32x2048x1024, .f32⟩
  | 74 => ⟨S32x2048x1024, .f32⟩
  | 75 => ⟨S32x2048x1024, .f32⟩
  | 76 => ⟨S_, .f32⟩
  | 77 => ⟨S32x2048, .f32⟩
  | 78 => ⟨S32x2048x1, .f32⟩
  | 79 => ⟨S_, .f32⟩
  | 80 => ⟨S32x2048x1, .f32⟩
  | 81 => ⟨S32x2048x1, .f32⟩
  | 82 => ⟨S_, .f32⟩
  | 83 => ⟨S32x2048x1, .f32⟩
  | 84 => ⟨S32x2048x1, .f32⟩
  | 85 => ⟨S32x2048x1, .f32⟩
  | 86 => ⟨S32x2048x1024, .f32⟩
  | 87 => ⟨S32x2048x1024, .f32⟩
  | 88 => ⟨S1x1x1024, .f32⟩
  | 89 => ⟨S32x2048x1024, .f32⟩
  | 90 => ⟨S32x2048x1024, .f32⟩
  | 91 => ⟨S32x1x1024, .f32⟩
  | 92 => ⟨S32x1x1024, .f32⟩
  | 93 => ⟨S_, .f32⟩
  | 94 => ⟨S32x1x1024, .f32⟩
  | 95 => ⟨S32x1x1024, .f32⟩
  | 96 => ⟨S32x2048x1024, .f32⟩
  | 97 => ⟨S32x2048x1024, .f32⟩
  | 98 => ⟨S32x2048x1024, .f32⟩
  | 99 => ⟨S32x2048x1024, .f32⟩
  | _ => ⟨S32x2048x512, .f32⟩

abbrev hbmTy (i : Nat) : BufTy := match i / 128 with
  | 0 => hbmTy0_0 i
  | 1 => hbmTy0_1 i
  | 2 => hbmTy0_2 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_cst : Ref sig .tc := ⟨.hbm, 15, rfl⟩
abbrev main_call0_call0_v0 : Ref sig .tc := ⟨.hbm, 16, rfl⟩
abbrev main_v0 : Ref sig .tc := ⟨.hbm, 17, rfl⟩
abbrev main_c : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_c_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v5 : Ref sig .tc := ⟨.hbm, 32, rfl⟩
abbrev main_c_3 : Ref sig .tc := ⟨.hbm, 33, rfl⟩
abbrev main_v6 : Ref sig .tc := ⟨.hbm, 34, rfl⟩
abbrev main_v7 : Ref sig .tc := ⟨.hbm, 35, rfl⟩
abbrev main_c_4 : Ref sig .tc := ⟨.hbm, 36, rfl⟩
abbrev main_v8 : Ref sig .tc := ⟨.hbm, 37, rfl⟩
abbrev main_v9 : Ref sig .tc := ⟨.hbm, 38, rfl⟩
abbrev main_c_5 : Ref sig .tc := ⟨.hbm, 39, rfl⟩
abbrev main_c_6 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v10 : Ref sig .tc := ⟨.hbm, 46, rfl⟩
abbrev main_c_7 : Ref sig .tc := ⟨.hbm, 47, rfl⟩
abbrev main_v11 : Ref sig .tc := ⟨.hbm, 48, rfl⟩
abbrev main_v12 : Ref sig .tc := ⟨.hbm, 49, rfl⟩
abbrev main_c_8 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_c_9 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_c_10 : Ref sig .tc := ⟨.hbm, 59, rfl⟩
abbrev main_v20 : Ref sig .tc := ⟨.hbm, 60, rfl⟩
abbrev main_v21 : Ref sig .tc := ⟨.hbm, 61, rfl⟩
abbrev main_c_11 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_12 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_13 : Ref sig .tc := ⟨.hbm, 79, rfl⟩
abbrev main_v37 : Ref sig .tc := ⟨.hbm, 80, rfl⟩
abbrev main_v38 : Ref sig .tc := ⟨.hbm, 81, rfl⟩
abbrev main_c_14 : Ref sig .tc := ⟨.hbm, 82, rfl⟩
abbrev main_c_15 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_v39 : Ref sig .tc := ⟨.hbm, 89, rfl⟩
abbrev main_c_16 : Ref sig .tc := ⟨.hbm, 90, rfl⟩
abbrev main_v40 : Ref sig .tc := ⟨.hbm, 91, rfl⟩
abbrev main_v41 : Ref sig .tc := ⟨.hbm, 92, rfl⟩
abbrev main_c_17 : Ref sig .tc := ⟨.hbm, 93, rfl⟩
abbrev main_v42 : Ref sig .tc := ⟨.hbm, 94, rfl⟩
abbrev main_v43 : Ref sig .tc := ⟨.hbm, 95, rfl⟩
abbrev main_c_18 : Ref sig .tc := ⟨.hbm, 96, rfl⟩
abbrev main_c_19 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_v44 : Ref sig .tc := ⟨.hbm, 103, rfl⟩
abbrev main_c_20 : Ref sig .tc := ⟨.hbm, 104, rfl⟩
abbrev main_v45 : Ref sig .tc := ⟨.hbm, 105, rfl⟩
abbrev main_v46 : Ref sig .tc := ⟨.hbm, 106, rfl⟩
abbrev main_c_21 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_c_22 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_c_23 : Ref sig .tc := ⟨.hbm, 116, rfl⟩
abbrev main_v54 : Ref sig .tc := ⟨.hbm, 117, rfl⟩
abbrev main_v55 : Ref sig .tc := ⟨.hbm, 118, rfl⟩
abbrev main_c_24 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_c_25 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_c_26 : Ref sig .tc := ⟨.hbm, 136, rfl⟩
abbrev main_v71 : Ref sig .tc := ⟨.hbm, 137, rfl⟩
abbrev main_v72 : Ref sig .tc := ⟨.hbm, 138, rfl⟩
abbrev main_c_27 : Ref sig .tc := ⟨.hbm, 139, rfl⟩
abbrev main_c_28 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_v73 : Ref sig .tc := ⟨.hbm, 146, rfl⟩
abbrev main_c_29 : Ref sig .tc := ⟨.hbm, 147, rfl⟩
abbrev main_v74 : Ref sig .tc := ⟨.hbm, 148, rfl⟩
abbrev main_v75 : Ref sig .tc := ⟨.hbm, 149, rfl⟩
abbrev main_c_30 : Ref sig .tc := ⟨.hbm, 150, rfl⟩
abbrev main_v76 : Ref sig .tc := ⟨.hbm, 151, rfl⟩
abbrev main_v77 : Ref sig .tc := ⟨.hbm, 152, rfl⟩
abbrev main_c_31 : Ref sig .tc := ⟨.hbm, 153, rfl⟩
abbrev main_c_32 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_v78 : Ref sig .tc := ⟨.hbm, 160, rfl⟩
abbrev main_c_33 : Ref sig .tc := ⟨.hbm, 161, rfl⟩
abbrev main_v79 : Ref sig .tc := ⟨.hbm, 162, rfl⟩
abbrev main_v80 : Ref sig .tc := ⟨.hbm, 163, rfl⟩
abbrev main_c_34 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_c_35 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_c_36 : Ref sig .tc := ⟨.hbm, 173, rfl⟩
abbrev main_v88 : Ref sig .tc := ⟨.hbm, 174, rfl⟩
abbrev main_v89 : Ref sig .tc := ⟨.hbm, 175, rfl⟩
abbrev main_c_37 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_c_38 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_c_39 : Ref sig .tc := ⟨.hbm, 193, rfl⟩
abbrev main_v105 : Ref sig .tc := ⟨.hbm, 194, rfl⟩
abbrev main_v106 : Ref sig .tc := ⟨.hbm, 195, rfl⟩
abbrev main_c_40 : Ref sig .tc := ⟨.hbm, 196, rfl⟩
abbrev main_c_41 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_v107 : Ref sig .tc := ⟨.hbm, 203, rfl⟩
abbrev main_c_42 : Ref sig .tc := ⟨.hbm, 204, rfl⟩
abbrev main_v108 : Ref sig .tc := ⟨.hbm, 205, rfl⟩
abbrev main_v109 : Ref sig .tc := ⟨.hbm, 206, rfl⟩
abbrev main_c_43 : Ref sig .tc := ⟨.hbm, 207, rfl⟩
abbrev main_v110 : Ref sig .tc := ⟨.hbm, 208, rfl⟩
abbrev main_v111 : Ref sig .tc := ⟨.hbm, 209, rfl⟩
abbrev main_c_44 : Ref sig .tc := ⟨.hbm, 210, rfl⟩
abbrev main_c_45 : Ref sig .tc := ⟨.hbm, 211, rfl⟩
abbrev main_call9_v0 : Ref sig .tc := ⟨.hbm, 212, rfl⟩
abbrev main_call9_v1 : Ref sig .tc := ⟨.hbm, 213, rfl⟩
abbrev main_call9_v2 : Ref sig .tc := ⟨.hbm, 214, rfl⟩
abbrev main_call9_v3 : Ref sig .tc := ⟨.hbm, 215, rfl⟩
abbrev main_call9_v4 : Ref sig .tc := ⟨.hbm, 216, rfl⟩
abbrev main_v112 : Ref sig .tc := ⟨.hbm, 217, rfl⟩
abbrev main_c_46 : Ref sig .tc := ⟨.hbm, 218, rfl⟩
abbrev main_v113 : Ref sig .tc := ⟨.hbm, 219, rfl⟩
abbrev main_v114 : Ref sig .tc := ⟨.hbm, 220, rfl⟩
abbrev main_c_47 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_c_48 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_c_49 : Ref sig .tc := ⟨.hbm, 230, rfl⟩
abbrev main_v122 : Ref sig .tc := ⟨.hbm, 231, rfl⟩
abbrev main_v123 : Ref sig .tc := ⟨.hbm, 232, rfl⟩
abbrev main_c_50 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_c_51 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_cst : Ref sig .tc := ⟨.hbm, 265, rfl⟩
abbrev main_v154 : Ref sig .tc := ⟨.hbm, 266, rfl⟩
abbrev main_v155 : Ref sig .tc := ⟨.hbm, 267, rfl⟩
abbrev main_cst_52 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_cst_53 : Ref sig .tc := ⟨.hbm, 274, rfl⟩
abbrev main_v161 : Ref sig .tc := ⟨.hbm, 275, rfl⟩
abbrev main_v162 : Ref sig .tc := ⟨.hbm, 276, rfl⟩
abbrev main_cst_54 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_55 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_call10_v0 : Ref sig .tc := ⟨.hbm, 293, rfl⟩
abbrev main_call10_v1 : Ref sig .tc := ⟨.hbm, 294, rfl⟩
abbrev main_call10_cst : Ref sig .tc := ⟨.hbm, 295, rfl⟩
abbrev main_call10_v2 : Ref sig .tc := ⟨.hbm, 296, rfl⟩
abbrev main_call10_v3 : Ref sig .tc := ⟨.hbm, 297, rfl⟩
abbrev main_call10_cst_0 : Ref sig .tc := ⟨.hbm, 298, rfl⟩
abbrev main_call10_v4 : Ref sig .tc := ⟨.hbm, 299, rfl⟩
abbrev main_call10_v5 : Ref sig .tc := ⟨.hbm, 300, rfl⟩
abbrev main_v177 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_v182 : Ref sig .tc := ⟨.hbm, 306, rfl⟩
abbrev main_v183 : Ref sig .tc := ⟨.hbm, 307, rfl⟩
abbrev main_v184 : Ref sig .tc := ⟨.hbm, 308, rfl⟩
abbrev main_cst_56 : Ref sig .tc := ⟨.hbm, 309, rfl⟩
abbrev main_v185 : Ref sig .tc := ⟨.hbm, 310, rfl⟩
abbrev main_v186 : Ref sig .tc := ⟨.hbm, 311, rfl⟩
abbrev main_cst_57 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_cst_58 : Ref sig .tc := ⟨.hbm, 318, rfl⟩
abbrev main_v192 : Ref sig .tc := ⟨.hbm, 319, rfl⟩
abbrev main_v193 : Ref sig .tc := ⟨.hbm, 320, rfl⟩
abbrev main_cst_59 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_v199 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_cst_60 : Ref sig .tc := ⟨.hbm, 332, rfl⟩
abbrev main_v204 : Ref sig .tc := ⟨.hbm, 333, rfl⟩
abbrev main_v205 : Ref sig .tc := ⟨.hbm, 334, rfl⟩
abbrev main_cst_61 : Ref sig .tc := ⟨.hbm, 335, rfl⟩
abbrev main_v206 : Ref sig .tc := ⟨.hbm, 336, rfl⟩
abbrev main_v207 : Ref sig .tc := ⟨.hbm, 337, rfl⟩
abbrev main_cst_62 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_cst_63 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩

abbrev nD : Nat := 1
abbrev τ : Topo := Topo.v7x

variable {F : FTy → Type} [FloatOps F]
-- ==== Kernel4.lean ====
abbrev S32x256x1024 : Shape := ⟨3, ![32, 256, 1024]⟩
abbrev S1024 : Shape := ⟨1, ![1024]⟩
abbrev S2x4 : Shape := ⟨2, ![2, 4]⟩
abbrev S1024x5632 : Shape := ⟨2, ![1024, 5632]⟩
abbrev S_ : Shape := ⟨0, ![]⟩
abbrev S1024x1536 : Shape := ⟨2, ![1024, 1536]⟩
abbrev S1x1024 : Shape := ⟨2, ![1, 1024]⟩
abbrev S32x4x128x256 : Shape := ⟨4, ![32, 4, 128, 256]⟩
abbrev S1x256x1024 : Shape := ⟨3, ![1, 256, 1024]⟩
abbrev S1x4x128x256 : Shape := ⟨4, ![1, 4, 128, 256]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x256 : Shape := ⟨2, ![256, 256]⟩
abbrev S1x1 : Shape := ⟨2, ![1, 1]⟩
abbrev S128x256 : Shape := ⟨2, ![128, 256]⟩
abbrev S1x1x128x256 : Shape := ⟨4, ![1, 1, 128, 256]⟩

abbrev nBuf : Space → Nat
  | .hbm => 29
  | .vmem => 10
  | .smem => 1
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x4, .f32⟩
  | .hbm, ⟨5, _⟩ => ⟨S1024x5632, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .i1⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S1024x5632, .bf16⟩
  | .hbm, ⟨23, _⟩ => ⟨S1024x1536, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S32x4x128x256, .f32⟩
  | .hbm, ⟨28, _⟩ => ⟨S32x4x128x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1536, .bf16⟩
  | .local _ .vmem, ⟨6, _⟩ => ⟨S1x4x128x256, .f32⟩
  | .local _ .vmem, ⟨7, _⟩ => ⟨S1x4x128x256, .f32⟩
  | .local _ .vmem, ⟨8, _⟩ => ⟨S1x4x128x256, .f32⟩
  | .local _ .vmem, ⟨9, _⟩ => ⟨S1x4x128x256, .f32⟩
  | .local _ .smem, ⟨0, _⟩ => ⟨S2x4, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6_0 : Ref sig .tc := ⟨.hbm, 27, rfl⟩
abbrev main_v6_1 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32x256x1024 : Shape := ⟨3, ![32, 256, 1024]⟩
abbrev S1024 : Shape := ⟨1, ![1024]⟩
abbrev S2x4 : Shape := ⟨2, ![2, 4]⟩
abbrev S1024x5632 : Shape := ⟨2, ![1024, 5632]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x1536 : Shape := ⟨2, ![1024, 1536]⟩
abbrev S32x256x1536 : Shape := ⟨3, ![32, 256, 1536]⟩
abbrev S32x256x512 : Shape := ⟨3, ![32, 256, 512]⟩
abbrev S32x256x4x128 : Shape := ⟨4, ![32, 256, 4, 128]⟩
abbrev S32x4x256x128 : Shape := ⟨4, ![32, 4, 256, 128]⟩
abbrev S32x256x4x256 : Shape := ⟨4, ![32, 256, 4, 256]⟩
abbrev S32x4x256x256 : Shape := ⟨4, ![32, 4, 256, 256]⟩
abbrev S256 : Shape := ⟨1, ![256]⟩
abbrev S1x4 : Shape := ⟨2, ![1, 4]⟩
abbrev S4 : Shape := ⟨1, ![4]⟩
abbrev S4x1 : Shape := ⟨2, ![4, 1]⟩
abbrev S1x256 : Shape := ⟨2, ![1, 256]⟩
abbrev S4x256 : Shape := ⟨2, ![4, 256]⟩
abbrev S1x4x256x1 : Shape := ⟨4, ![1, 4, 256, 1]⟩
abbrev S32x4x128x256 : Shape := ⟨4, ![32, 4, 128, 256]⟩

abbrev nBuf : Space → Nat
  | .hbm => 86
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2x4, .f32⟩
  | .hbm, ⟨5, _⟩ => ⟨S1024x5632, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S2x4, .f32⟩
  | .hbm, ⟨12, _⟩ => ⟨S2x4, .i1⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S32x256x1024, .f32⟩
  | .hbm, ⟨23, _⟩ => ⟨S_, .f32⟩
  | .hbm, ⟨24, _⟩ => ⟨S32x256, .f32⟩
  | .hbm, ⟨25, _⟩ => ⟨S32x256x1, .f32⟩
  | .hbm, ⟨26, _⟩ => ⟨S_, .f32⟩
  | .hbm, ⟨27, _⟩ => ⟨S32x256x1, .f32⟩
  | .hbm, ⟨28, _⟩ => ⟨S32x256x1, .f32⟩
  | .hbm, ⟨29, _⟩ => ⟨S_, .f32⟩
  | .hbm, ⟨30, _⟩ => ⟨S32x256x1, .f32⟩
  | .hbm, ⟨31, _⟩ => ⟨S32x256x1, .f32⟩
  | .hbm, ⟨32, _⟩ => ⟨S32x256x1, .f32⟩
  | .hbm, ⟨33, _⟩ => ⟨S32x256x1024, .f32⟩
  | .hbm, ⟨34, _⟩ => ⟨S32x256x1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S1x1x1024, .f32⟩
  | .hbm, ⟨45, _⟩ => ⟨S32x256x1024, .f32⟩
  | .hbm, ⟨46, _⟩ => ⟨S32x256x1024, .f32⟩
  | .hbm, ⟨47, _⟩ => ⟨S1024x1536, .f32⟩
  | .hbm, ⟨48, _⟩ => ⟨S32x256x1536, .f32⟩
  | .hbm, ⟨49, _⟩ => ⟨S32x256x512, .f32⟩
  | .hbm, ⟨50, _⟩ => ⟨S32x256x4x128, .f32⟩
  | .hbm, ⟨51, _⟩ => ⟨S32x4x256x128, .f32⟩
  | .hbm, ⟨52, _⟩ => ⟨S_, .f32⟩
  | .hbm, ⟨53, _⟩ => ⟨S32x4x256x128, .f32⟩
  | .hbm, ⟨54, _⟩ => ⟨S32x4x256x128, .f32⟩
  | .hbm, ⟨55, _⟩ => ⟨S32x256x1024, .f32⟩
  | .hbm, ⟨56, _⟩ => ⟨S32x256x4x256, .f32⟩
  | .hbm, ⟨57, _⟩ => ⟨S32x4x256x256, .f32⟩
  | .hbm, ⟨58, _⟩ => ⟨S256, .f32⟩
  | .hbm, ⟨59, _⟩ => ⟨S1x4, .f32⟩
  | .hbm, ⟨60, _⟩ => ⟨S4, .f32⟩
  | .hbm, ⟨61, _⟩ => ⟨S4x1, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256, .f32⟩
  | .hbm, ⟨70, _⟩ => ⟨S1x4, .f32⟩
  | .hbm, ⟨71, _⟩ => ⟨S4, .f32⟩
  | .hbm, ⟨72, _⟩ => ⟨S4x1, .f32⟩
  | .hbm, ⟨73, _⟩ => ⟨S1x256, .f32⟩
  | .hbm, ⟨74, _⟩ => ⟨S4x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S1x4x256x1, .f32⟩
  | .hbm, ⟨79, _⟩ => ⟨S32x4x256x128, .f32⟩
  | .hbm, ⟨80, _⟩ => ⟨S32x4x256x128, .f32⟩
  | .hbm, ⟨81, _⟩ => ⟨S32x4x128x256, .f32⟩
  | .hbm, ⟨82, _⟩ => ⟨S1x4x256x1, .f32⟩
  | .hbm, ⟨83, _⟩ => ⟨S32x4x256x128, .f32⟩
  | .hbm, ⟨84, _⟩ => ⟨S32x4x256x128, .f32⟩
  | .hbm, ⟨85, _⟩ => ⟨S32x4x128x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S40x1024 : Shape := ⟨2, ![40, 1024]⟩
abbrev S1 : Shape := ⟨1, ![1]⟩
abbrev S1x6144 : Shape := ⟨2, ![1, 6144]⟩
abbrev S40x6144 : Shape := ⟨2, ![40, 6144]⟩
abbrev S1024x512 : Shape := ⟨2, ![1024, 512]⟩
abbrev S1x512 : Shape := ⟨2, ![1, 512]⟩
abbrev S40x512 : Shape := ⟨2, ![40, 512]⟩
abbrev S32x6144 : Shape := ⟨2, ![32, 6144]⟩

abbrev nBuf : Space → Nat
  | .hbm => 17
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S40x1024, .f32⟩
  | .hbm, ⟨6, _⟩ => ⟨S_, .i32⟩
  | .hbm, ⟨7, _⟩ => ⟨S1, .i32⟩
  | .hbm, ⟨8, _⟩ => ⟨S40x1024, .f32⟩
  | .hbm, ⟨9, _⟩ => ⟨S_, .i32⟩
  | .hbm, ⟨10, _⟩ => ⟨S1, .i32⟩
  | .hbm, ⟨11, _⟩ => ⟨S40x1024, .f32⟩
  | .hbm, ⟨12, _⟩ => ⟨S1x6144, .f32⟩
  | .hbm, ⟨13, _⟩ => ⟨S40x6144, .f32⟩
  | .hbm, ⟨14, _⟩ => ⟨S32x6144, .f32⟩
  | .hbm, ⟨15, _⟩ => ⟨S1x6144, .f32⟩
  | .hbm, ⟨16, _⟩ => ⟨S6144, .f32⟩
  | .local _ .vmem, ⟨0, _⟩ => ⟨S40x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32x1024 : Shape := ⟨2, ![32, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 28
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x6144, .f32⟩
  | .hbm, ⟨14, _⟩ => ⟨S1x6144, .f32⟩
  | .hbm, ⟨15, _⟩ => ⟨S32x6144, .f32⟩
  | .hbm, ⟨16, _⟩ => ⟨S32x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]
-- ==== Kernel6.lean ====
abbrev S65536x128 : Shape := ⟨2, ![65536, 128]⟩
abbrev S32x2048x1024 : Shape := ⟨3, ![32, 2048, 1024]⟩
abbrev S32x1024 : Shape := ⟨2, ![32, 1024]⟩
abbrev S1024 : Shape := ⟨1, ![1024]⟩
abbrev S16384x1024 : Shape := ⟨2, ![16384, 1024]⟩
abbrev S16384x8x128 : Shape := ⟨3, ![16384, 8, 128]⟩
abbrev S65536x8x128 : Shape := ⟨3, ![65536, 8, 128]⟩
abbrev S32x8x128 : Shape := ⟨3, ![32, 8, 128]⟩
abbrev S8x128 : Shape := ⟨2, ![8, 128]⟩
abbrev S128x128 : Shape := ⟨2, ![128, 128]⟩
abbrev S128x8x128 : Shape := ⟨3, ![128, 8, 128]⟩
abbrev S1x8x128 : Shape := ⟨3, ![1, 8, 128]⟩
abbrev S1x1 : Shape := ⟨2, ![1, 1]⟩
abbrev S8 : Shape := ⟨1, ![8]⟩
abbrev S8x1 : Shape := ⟨2, ![8, 1]⟩
abbrev S1 : Shape := ⟨1, ![1]⟩

abbrev nBuf : Space → Nat
  | .hbm => 13
  | .vmem => 8
  | .smem => 4
  | _ => 0

abbrev bufTy : (tb : Table) → Fin (tcTables nBuf tb) → BufTy
  | .hbm, ⟨0, _⟩ => ⟨S65536x128, .i32⟩
  | .hbm, ⟨1, _⟩ => ⟨S65536x128, .f32⟩
  | .hbm, ⟨2, _⟩ => ⟨S32x2048x1024, .f32⟩
  | .hbm, ⟨3, _⟩ => ⟨S32x1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S16384x8x128, .bf16⟩
  | .hbm, ⟨8, _⟩ => ⟨S65536x8x128, .f32⟩
  | .hbm, ⟨9, _⟩ => ⟨S32x8x128, .f32⟩
  | .hbm, ⟨10, _⟩ => ⟨S8x128, .f32⟩
  | .hbm, ⟨11, _⟩ => ⟨S65536x8x128, .f32⟩
  | .hbm, ⟨12, _⟩ => ⟨S32x2048x1024, .f32⟩
  | .local _ .vmem, ⟨0, _⟩ => ⟨S128x8x128, .f32⟩
  | .local _ .vmem, ⟨1, _⟩ => ⟨S128x8x128, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | .local _ .vmem, ⟨5, _⟩ => ⟨S16384x8x128, .bf16⟩
  | .local _ .vmem, ⟨6, _⟩ => ⟨S128x8x128, .f32⟩
  | .local _ .vmem, ⟨7, _⟩ => ⟨S128x8x128, .f32⟩
  | .local _ .smem, ⟨0, _⟩ => ⟨S128x128, .i32⟩
  | .local _ .smem, ⟨1, _⟩ => ⟨S128x128, .i32⟩
  | .local _ .smem, ⟨2, _⟩ => ⟨S128x128, .f32⟩
  | .local _ .smem, ⟨3, _⟩ => ⟨S128x128, .f32⟩
  | _, _ => ⟨S65536x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32 : BitVec 32 := 0#32
  let c128_i32 : BitVec 32 := 128#32
  let v4 : BitVec 32 := Scalar.addi c0_i32 c128_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v5 : Index := Scalar.indexCast arg8
  let c0_5 : Index := 0#32
  ![v5.toNat, 0]
def k0_off2 (v8 : BitVec 32) : Fin 3 → Nat :=
  let v9 : Index := Scalar.indexCast v8
  let c0_7 : Index := 0#32
  let c0_8 : Index := 0#32
  ![v9.toNat, 0, 0]

def k0_chk1 (v8 : BitVec 32) : Prop :=
  (∀ a, (k0_off2 v8) a + S1x8x128.size a ≤ S16384x8x128.size a)
theorem k0_off2_inb : ∀ (v8 : BitVec 32) (k0_hw1 : k0_chk1 v8), ∀ a, (k0_off2 v8) a + S1x8x128.size a ≤ S16384x8x128.size a := fun v8 k0_hw1 => k0_hw1

def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let v15 : Index := Scalar.indexCast arg8
  let c1 : Index := 1#32
  ![v15.toNat, 1]
def k0_off4 (v18 : BitVec 32) : Fin 3 → Nat :=
  let v19 : Index := Scalar.indexCast v18
  let c0_10 : Index := 0#32
  let c0_11 : Index := 0#32
  ![v19.toNat, 0, 0]

def k0_chk2 (v18 : BitVec 32) : Prop :=
  (∀ a, (k0_off4 v18) a + S1x8x128.size a ≤ S16384x8x128.size a)
theorem k0_off4_inb : ∀ (v18 : BitVec 32) (k0_hw2 : k0_chk2 v18), ∀ a, (k0_off4 v18) a + S1x8x128.size a ≤ S16384x8x128.size a := fun v18 k0_hw2 => k0_hw2

def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let v25 : Index := Scalar.indexCast arg8
  let c2 : Index := 2#32
  ![v25.toNat, 2]
def k0_off6 (v28 : BitVec 32) : Fin 3 → Nat :=
  let v29 : Index := Scalar.indexCast v28
  let c0_13 : Index := 0#32
  let c0_14 : Index := 0#32
  ![v29.toNat, 0, 0]

def k0_chk3 (v28 : BitVec 32) : Prop :=
  (∀ a, (k0_off6 v28) a + S1x8x128.size a ≤ S16384x8x128.size a)
theorem k0_off6_inb : ∀ (v28 : BitVec 32) (k0_hw3 : k0_chk3 v28), ∀ a, (k0_off6 v28) a + S1x8x128.size a ≤ S16384x8x128.size a := fun v28 k0_hw3 => k0_hw3

def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let v35 : Index := Scalar.indexCast arg8
  let c3 : Index := 3#32
  ![v35.toNat, 3]
def k0_off8 (v38 : BitVec 32) : Fin 3 → Nat :=
  let v39 : Index := Scalar.indexCast v38
  let c0_16 : Index := 0#32
  let c0_17 : Index := 0#32
  ![v39.toNat, 0, 0]

def k0_chk4 (v38 : BitVec 32) : Prop :=
  (∀ a, (k0_off8 v38) a + S1x8x128.size a ≤ S16384x8x128.size a)
theorem k0_off8_inb : ∀ (v38 : BitVec 32) (k0_hw4 : k0_chk4 v38), ∀ a, (k0_off8 v38) a + S1x8x128.size a ≤ S16384x8x128.size a := fun v38 k0_hw4 => k0_hw4

def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let v45 : Index := Scalar.indexCast arg8
  let c4 : Index := 4#32
  ![v45.toNat, 4]
def k0_off10 (v48 : BitVec 32) : Fin 3 → Nat :=
  let v49 : Index := Scalar.indexCast v48
  let c0_19 : Index := 0#32
  let c0_20 : Index := 0#32
  ![v49.toNat, 0, 0]

def k0_chk5 (v48 : BitVec 32) : Prop :=
  (∀ a, (k0_off10 v48) a + S1x8x128.size a ≤ S16384x8x128.size a)
theorem k0_off10_inb : ∀ (v48 : BitVec 32) (k0_hw5 : k0_chk5 v48), ∀ a, (k0_off10 v48) a + S1x8x128.size a ≤ S16384x8x128.size a := fun v48 k0_hw5 => k0_hw5

def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let v56 : Index := Scalar.indexCast arg8
  let c5 : Index := 5#32
  ![v56.toNat, 5]
def k0_off12 (v59 : BitVec 32) : Fin 3 → Nat :=
  let v60 : Index := Scalar.indexCast v59
  let c0_22 : Index := 0#32
  let c0_23 : Index := 0#32
  ![v60.toNat, 0, 0]

def k0_chk6 (v59 : BitVec 32) : Prop :=
  (∀ a, (k0_off12 v59) a + S1x8x128.size a ≤ S16384x8x128.size a)
theorem k0_off12_inb : ∀ (v59 : BitVec 32) (k0_hw6 : k0_chk6 v59), ∀ a, (k0_off12 v59) a + S1x8x128.size a ≤ S16384x8x128.size a := fun v59 k0_hw6 => k0_hw6

def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let v67 : Index := Scalar.indexCast arg8
  let c6 : Index := 6#32
  ![v67.toNat, 6]
def k0_off14 (v70 : BitVec 32) : Fin 3 → Nat :=
  let v71 : Index := Scalar.indexCast v70
  let c0_25 : Index := 0#32
  let c0_26 : Index := 0#32
  ![v71.toNat, 0, 0]

def k0_chk7 (v70 : BitVec 32) : Prop :=
  (∀ a, (k0_off14 v70) a + S1x8x128.size a ≤ S16384x8x128.size a)
theorem k0_off14_inb : ∀ (v70 : BitVec 32) (k0_hw7 : k0_chk7 v70), ∀ a, (k0_off14 v70) a + S1x8x128.size a ≤ S16384x8x128.size a := fun v70 k0_hw7 => k0_hw7

def k0_off15 (k0_t1 : Fin k0_t1_loop.trips) : Fin 2 → Nat :=
  let c0_i32 : BitVec 32 := 0#32
  let c1_i32 : BitVec 32 := 1#32
  let arg8 : BitVec 32 := Scf.iv c0_i32 c1_i32 k0_t1
  let v78 : Index := Scalar.indexCast arg8
  let c7 : Index := 7#32
  ![v78.toNat, 7]
def k0_off16 (v81 : BitVec 32) : Fin 3 → Nat :=
  let v82 : Index := Scalar.indexCast v81
  let c0_28 : Index := 0#32
  let c0_29 : Index := 0#32
  ![v82.toNat, 0, 0]

def k0_chk8 (v81 : BitVec 32) : Prop :=
  (∀ a, (k0_off16 v81) a + S1x8x128.size a ≤ S16384x8x128.size a)
theorem k0_off16_inb : ∀ (v81 : BitVec 32) (k0_hw8 : k0_chk8 v81), ∀ a, (k0_off16 v81) a + S1x8x128.size a ≤ S16384x8x128.size a := fun v81 k0_hw8 => k0_hw8

def k0_off17 (k0_t1 : Fin k0_t1_loop.trips) : Fin 2 → Nat :=
  let c0_i32 : BitVec 32 := 0#32
  let c1_i32 : BitVec 32 := 1#32
  let arg8 : BitVec 32 := Scf.iv c0_i32 c1_i32 k0_t1
  let v89 : Index := Scalar.indexCast arg8
  let c8 : Index := 8#32
  ![v89.toNat, 8]
def k0_off18 (v92 : BitVec 32) : Fin 3 → Nat :=
  let v93 : Index := Scalar.indexCast v92
  let c0_31 : Index := 0#32
  let c0_32 : Index := 0#32
  ![v93.toNat, 0, 0]

def k0_chk9 (v92 : BitVec 32) : Prop :=
  (∀ a, (k0_off18 v92) a + S1x8x128.size a ≤ S16384x8x128.size a)
theorem k0_off18_inb : ∀ (v92 : BitVec 32) (k0_hw9 : k0_chk9 v92), ∀ a, (k0_off18 v92) a + S1x8x128.size a ≤ S16384x8x128.size a := fun v92 k0_hw9 => k0_hw9

def k0_off19 (k0_t1 : Fin k0_t1_loop.trips) : Fin 2 → Nat :=
  let c0_i32 : BitVec 32 := 0#32
  let c1_i32 : BitVec 32 := 1#32
  let arg8 : BitVec 32 := Scf.iv c0_i32 c1_i32 k0_t1
  let v100 : Index := Scalar.indexCast arg8
  let c9 : Index := 9#32
  ![v100.toNat, 9]
def k0_off20 (v103 : BitVec 32) : Fin 3 → Nat :=
  let v104 : Index := Scalar.indexCast v103
  let c0_34 : Index := 0#32
  let c0_35 : Index := 0#32
  ![v104.toNat, 0, 0]

def k0_chk10 (v103 : BitVec 32) : Prop :=
  (∀ a, (k0_off20 v103) a + S1x8x128.size a ≤ S16384x8x128.size a)
theorem k0_off20_inb : ∀ (v103 : BitVec 32) (k0_hw10 : k0_chk10 v103), ∀ a, (k0_off20 v103) a + S1x8x128.size a ≤ S16384x8x128.size a := fun v103 k0_hw10 => k0_hw10

def k0_off21 (k0_t1 : Fin k0_t1_loop.trips) : Fin 2 → Nat :=
  let c0_i32 : BitVec 32 := 0#32
  let c1_i32 : BitVec 32 := 1#32
  let arg8 : BitVec 32 := Scf.iv c0_i32 c1_i32 k0_t1
  let v111 : Index := Scalar.indexCast arg8
  let c10 : Index := 10#32
  ![v111.toNat, 10]
def k0_off22 (v114 : BitVec 32) : Fin 3 → Nat :=
  let v115 : Index := Scalar.indexCast v114
  let c0_37 : Index := 0#32
  let c0_38 : Index := 0#32
  ![v115.toNat, 0, 0]

def k0_chk11 (v114 : BitVec 32) : Prop :=
  (∀ a, (k0_off22 v114) a + S1x8x128.size a ≤ S16384x8x128.size a)
theorem k0_off22_inb : ∀ (v114 : BitVec 32) (k0_hw11 : k0_chk11 v114), ∀ a, (k0_off22 v114) a + S1x8x128.size a ≤ S16384x8x128.size a := fun v114 k0_hw11 => k0_hw11

def k0_off23 (k0_t1 : Fin k0_t1_loop.trips) : Fin 2 → Nat :=
  let c0_i32 : BitVec 32 := 0#32
  let c1_i32 : BitVec 32 := 1#32
  let arg8 : BitVec 32 := Scf.iv c0_i32 c1_i32 k0_t1
  let v122 : Index := Scalar.indexCast arg8
  let c11 : Index := 11#32
  ![v122.toNat, 11]
def k0_off24 (v125 : BitVec 32) : Fin 3 → Nat :=
  let v126 : Index := Scalar.indexCast v125
  let c0_40 : Index := 0#32
  let c0_41 : Index := 0#32
  ![v126.toNat, 0, 0]

def k0_chk12 (v125 : BitVec 32) : Prop :=
  (∀ a, (k0_off24 v125) a + S1x8x128.size a ≤ S16384x8x128.size a)
theorem k0_off24_inb : ∀ (v125 : BitVec 32) (k0_hw12 : k0_chk12 v125), ∀ a, (k0_off24 v125) a + S1x8x128.size a ≤ S16384x8x128.size a := fun v125 k0_hw12 => k0_hw12

def k0_off25 (k0_t1 : Fin k0_t1_loop.trips) : Fin 2 → Nat :=
  let c0_i32 : BitVec 32 := 0#32
  let c1_i32 : BitVec 32 := 1#32
  let arg8 : BitVec 32 := Scf.iv c0_i32 c1_i32 k0_t1
  let v133 : Index := Scalar.indexCast arg8
  let c12 : Index := 12#32
  ![v133.toNat, 12]
def k0_off26 (v136 : BitVec 32) : Fin 3 → Nat :=
  let v137 : Index := Scalar.indexCast v136
  let c0_43 : Index := 0#32
  let c0_44 : Index := 0#32
  ![v137.toNat, 0, 0]

def k0_chk13 (v136 : BitVec 32) : Prop :=
  (∀ a, (k0_off26 v136) a + S1x8x128.size a ≤ S16384x8x128.size a)
theorem k0_off26_inb : ∀ (v136 : BitVec 32) (k0_hw13 : k0_chk13 v136), ∀ a, (k0_off26 v136) a + S1x8x128.size a ≤ S16384x8x128.size a := fun v136 k0_hw13 => k0_hw13

def k0_off27 (k0_t1 : Fin k0_t1_loop.trips) : Fin 2 → Nat :=
  let c0_i32 : BitVec 32 := 0#32
  let c1_i32 : BitVec 32 := 1#32
  let arg8 : BitVec 32 := Scf.iv c0_i32 c1_i32 k0_t1
  let v144 : Index := Scalar.indexCast arg8
  let c13 : Index := 13#32
  ![v144.toNat, 13]
def k0_off28 (v147 : BitVec 32) : Fin 3 → Nat :=
  let v148 : Index := Scalar.indexCast v147
  let c0_46 : Index := 0#32
  let c0_47 : Index := 0#32
  ![v148.toNat, 0, 0]

def k0_chk14 (v147 : BitVec 32) : Prop :=
  (∀ a, (k0_off28 v147) a + S1x8x128.size a ≤ S16384x8x128.size a)
theorem k0_off28_inb : ∀ (v147 : BitVec 32) (k0_hw14 : k0_chk14 v147), ∀ a, (k0_off28 v147) a + S1x8x128.size a ≤ S16384x8x128.size a := fun v147 k0_hw14 => k0_hw14

def k0_off29 (k0_t1 : Fin k0_t1_loop.trips) : Fin 2 → Nat :=
  let c0_i32 : BitVec 32 := 0#32
  let c1_i32 : BitVec 32 := 1#32
  let arg8 : BitVec 32 := Scf.iv c0_i32 c1_i32 k0_t1
  let v155 : Index := Scalar.indexCast arg8
  let c14 : Index := 14#32
  ![v155.toNat, 14]
def k0_off30 (v158 : BitVec 32) : Fin 3 → Nat :=
  let v159 : Index := Scalar.indexCast v158
  let c0_49 : Index := 0#32
  let c0_50 : Index := 0#32
  ![v159.toNat, 0, 0]

def k0_chk15 (v158 : BitVec 32) : Prop :=
  (∀ a, (k0_off30 v158) a + S1x8x128.size a ≤ S16384x8x128.size a)
theorem k0_off30_inb : ∀ (v158 : BitVec 32) (k0_hw15 : k0_chk15 v158), ∀ a, (k0_off30 v158) a + S1x8x128.size a ≤ S16384x8x128.size a := fun v158 k0_hw15 => k0_hw15

def k0_off31 (k0_t1 : Fin k0_t1_loop.trips) : Fin 2 → Nat :=
  let c0_i32 : BitVec 32 := 0#32
  let c1_i32 : BitVec 32 := 1#32
  let arg8 : BitVec 32 := Scf.iv c0_i32 c1_i32 k0_t1
  let v166 : Index := Scalar.indexCast arg8
  let c15 : Index := 15#32
  ![v166.toNat, 15]
def k0_off32 (v169 : BitVec 32) : Fin 3 → Nat :=
  let v170 : Index := Scalar.indexCast v169
  let c0_52 : Index := 0#32
  let c0_53 : Index := 0#32
  ![v170.toNat, 0, 0]

def k0_chk16 (v169 : BitVec 32) : Prop :=
  (∀ a, (k0_off32 v169) a + S1x8x128.size a ≤ S16384x8x128.size a)
theorem k0_off32_inb : ∀ (v169 : BitVec 32) (k0_hw16 : k0_chk16 v169), ∀ a, (k0_off32 v169) a + S1x8x128.size a ≤ S16384x8x128.size a := fun v169 k0_hw16 => k0_hw16

def k0_off33 (k0_t1 : Fin k0_t1_loop.trips) : Fin 2 → Nat :=
  let c0_i32 : BitVec 32 := 0#32
  let c1_i32 : BitVec 32 := 1#32
  let arg8 : BitVec 32 := Scf.iv c0_i32 c1_i32 k0_t1
  let v177 : Index := Scalar.indexCast arg8
  let c16 : Index := 16#32
  ![v177.toNat, 16]
def k0_off34 (v180 : BitVec 32) : Fin 3 → Nat :=
  let v181 : Index := Scalar.indexCast v180
  let c0_55 : Index := 0#32
  let c0_56 : Index := 0#32
  ![v181.toNat, 0, 0]

def k0_chk17 (v180 : BitVec 32) : Prop :=
  (∀ a, (k0_off34 v180) a + S1x8x128.size a ≤ S16384x8x128.size a)
theorem k0_off34_inb : ∀ (v180 : BitVec 32) (k0_hw17 : k0_chk17 v180), ∀ a, (k0_off34 v180) a + S1x8x128.size a ≤ S16384x8x128.size a := fun v180 k0_hw17 => k0_hw17

def k0_off35 (k0_t1 : Fin k0_t1_loop.trips) : Fin 2 → Nat :=
  let c0_i32 : BitVec 32 := 0#32
  let c1_i32 : BitVec 32 := 1#32
  let arg8 : BitVec 32 := Scf.iv c0_i32 c1_i32 k0_t1
  let v188 : Index := Scalar.indexCast arg8
  let c17 : Index := 17#32
  ![v188.toNat, 17]
def k0_off36 (v191 : BitVec 32) : Fin 3 → Nat :=
  let v192 : Index := Scalar.indexCast v191
  let c0_58 : Index := 0#32
  let c0_59 : Index := 0#32
  ![v192.toNat, 0, 0]

def k0_chk18 (v191 : BitVec 32) : Prop :=
  (∀ a, (k0_off36 v191) a + S1x8x128.size a ≤ S16384x8x128.size a)
theorem k0_off36_inb : ∀ (v191 : BitVec 32) (k0_hw18 : k0_chk18 v191), ∀ a, (k0_off36 v191) a + S1x8x128.size a ≤ S16384x8x128.size a := fun v191 k0_hw18 => k0_hw18

def k0_off37 (k0_t1 : Fin k0_t1_loop.trips) : Fin 2 → Nat :=
  let c0_i32 : BitVec 32 := 0#32
  let c1_i32 : BitVec 32 := 1#32
  let arg8 : BitVec 32 := Scf.iv c0_i32 c1_i32 k0_t1
  let v199 : Index := Scalar.indexCast arg8
  let c18 : Index := 18#32
  ![v199.toNat, 18]
def k0_off38 (v202 : BitVec 32) : Fin 3 → Nat :=
  let v203 : Index := Scalar.indexCast v202
  let c0_61 : Index := 0#32
  let c0_62 : Index := 0#32
  ![v203.toNat, 0, 0]

def k0_chk19 (v202 : BitVec 32) : Prop :=
  (∀ a, (k0_off38 v202) a + S1x8x128.size a ≤ S16384x8x128.size a)
theorem k0_off38_inb : ∀ (v202 : BitVec 32) (k0_hw19 : k0_chk19 v202), ∀ a, (k0_off38 v202) a + S1x8x128.size a ≤ S16384x8x128.size a := fun v202 k0_hw19 => k0_hw19

def k0_off39 (k0_t1 : Fin k0_t1_loop.trips) : Fin 2 → Nat :=
  let c0_i32 : BitVec 32 := 0#32
  let c1_i32 : BitVec 32 := 1#32
  let arg8 : BitVec 32 := Scf.iv c0_i32 c1_i32 k0_t1
  let v210 : Index := Scalar.indexCast arg8
  let c19 : Index := 19#32
  ![v210.toNat, 19]
def k0_off40 (v213 : BitVec 32) : Fin 3 → Nat :=
  let v214 : Index := Scalar.indexCast v213
  let c0_64 : Index := 0#32
  let c0_65 : Index := 0#32
  ![v214.toNat, 0, 0]

def k0_chk20 (v213 : BitVec 32) : Prop :=
  (∀ a, (k0_off40 v213) a + S1x8x128.size a ≤ S16384x8x128.size a)
theorem k0_off40_inb : ∀ (v213 : BitVec 32) (k0_hw20 : k0_chk20 v213), ∀ a, (k0_off40 v213) a + S1x8x128.size a ≤ S16384x8x128.size a := fun v213 k0_hw20 => k0_hw20

def k0_off41 (k0_t1 : Fin k0_t1_loop.trips) : Fin 2 → Nat :=
  let c0_i32 : BitVec 32 := 0#32
  let c1_i32 : BitVec 32 := 1#32
  let arg8 : BitVec 32 := Scf.iv c0_i32 c1_i32 k0_t1
  let v221 : Index := Scalar.indexCast arg8
  let c20 : Index := 20#32
  ![v221.toNat, 20]
def k0_off42 (v224 : BitVec 32) : Fin 3 → Nat :=
  let v225 : Index := Scalar.indexCast v224
  let c0_67 : Index := 0#32
  let c0_68 : Index := 0#32
  ![v225.toNat, 0, 0]

def k0_chk21 (v224 : BitVec 32) : Prop :=
  (∀ a, (k0_off42 v224) a + S1x8x128.size a ≤ S16384x8x128.size a)
theorem k0_off42_inb : ∀ (v224 : BitVec 32) (k0_hw21 : k0_chk21 v224), ∀ a, (k0_off42 v224) a + S1x8x128.size a ≤ S16384x8x128.size a := fun v224 k0_hw21 => k0_hw21

def k0_off43 (k0_t1 : Fin k0_t1_loop.trips) : Fin 2 → Nat :=
  let c0_i32 : BitVec 32 := 0#32
  let c1_i32 : BitVec 32 := 1#32
  let arg8 : BitVec 32 := Scf.iv c0_i32 c1_i32 k0_t1
  let v232 : Index := Scalar.indexCast arg8
  let c21 : Index := 21#32
  ![v232.toNat, 21]
def k0_off44 (v235 : BitVec 32) : Fin 3 → Nat :=
  let v236 : Index := Scalar.indexCast v235
  let c0_70 : Index := 0#32
  let c0_71 : Index := 0#32
  ![v236.toNat, 0, 0]

def k0_chk22 (v235 : BitVec 32) : Prop :=
  (∀ a, (k0_off44 v235) a + S1x8x128.size a ≤ S16384x8x128.size a)
theorem k0_off44_inb : ∀ (v235 : BitVec 32) (k0_hw22 : k0_chk22 v235), ∀ a, (k0_off44 v235) a + S1x8x128.size a ≤ S16384x8x128.size a := fun v235 k0_hw22 => k0_hw22

def k0_off45 (k0_t1 : Fin k0_t1_loop.trips) : Fin 2 → Nat :=
  let c0_i32 : BitVec 32 := 0#32
  let c1_i32 : BitVec 32 := 1#32
  let arg8 : BitVec 32 := Scf.iv c0_i32 c1_i32 k0_t1
  let v243 : Index := Scalar.indexCast arg8
  let c22 : Index := 22#32
  ![v243.toNat, 22]
def k0_off46 (v246 : BitVec 32) : Fin 3 → Nat :=
  let v247 : Index := Scalar.indexCast v246
  let c0_73 : Index := 0#32
  let c0_74 : Index := 0#32
  ![v247.toNat, 0, 0]

def k0_chk23 (v246 : BitVec 32) : Prop :=
  (∀ a, (k0_off46 v246) a + S1x8x128.size a ≤ S16384x8x128.size a)
theorem k0_off46_inb : ∀ (v246 : BitVec 32) (k0_hw23 : k0_chk23 v246), ∀ a, (k0_off46 v246) a + S1x8x128.size a ≤ S16384x8x128.size a := fun v246 k0_hw23 => k0_hw23

def k0_off47 (k0_t1 : Fin k0_t1_loop.trips) : Fin 2 → Nat :=
  let c0_i32 : BitVec 32 := 0#32
  let c1_i32 : BitVec 32 := 1#32
  let arg8 : BitVec 32 := Scf.iv c0_i32 c1_i32 k0_t1
  let v254 : Index := Scalar.indexCast arg8
  let c23 : Index := 23#32
  ![v254.toNat, 23]
def k0_off48 (v257 : BitVec 32) : Fin 3 → Nat :=
  let v258 : Index := Scalar.indexCast v257
  let c0_76 : Index := 0#32
  let c0_77 : Index := 0#32
  ![v258.toNat, 0, 0]

def k0_chk24 (v257 : BitVec 32) : Prop :=
  (∀ a, (k0_off48 v257) a + S1x8x128.size a ≤ S16384x8x128.size a)
theorem k0_off48_inb : ∀ (v257 : BitVec 32) (k0_hw24 : k0_chk24 v257), ∀ a, (k0_off48 v257) a + S1x8x128.size a ≤ S16384x8x128.size a := fun v257 k0_hw24 => k0_hw24

def k0_off49 (k0_t1 : Fin k0_t1_loop.trips) : Fin 2 → Nat :=
  let c0_i32 : BitVec 32 := 0#32
  let c1_i32 : BitVec 32 := 1#32
  let arg8 : BitVec 32 := Scf.iv c0_i32 c1_i32 k0_t1
  let v265 : Index := Scalar.indexCast arg8
  let c24 : Index := 24#32
  ![v265.toNat, 24]
def k0_off50 (v268 : BitVec 32) : Fin 3 → Nat :=
  let v269 : Index := Scalar.indexCast v268
  let c0_79 : Index := 0#32
  let c0_80 : Index := 0#32
  ![v269.toNat, 0, 0]

def k0_chk25 (v268 : BitVec 32) : Prop :=
  (∀ a, (k0_off50 v268) a + S1x8x128.size a ≤ S16384x8x128.size a)
theorem k0_off50_inb : ∀ (v268 : BitVec 32) (k0_hw25 : k0_chk25 v268), ∀ a, (k0_off50 v268) a + S1x8x128.size a ≤ S16384x8x128.size a := fun v268 k0_hw25 => k0_hw25

def k0_off51 (k0_t1 : Fin k0_t1_loop.trips) : Fin 2 → Nat :=
  let c0_i32 : BitVec 32 := 0#32
  let c1_i32 : BitVec 32 := 1#32
  let arg8 : BitVec 32 := Scf.iv c0_i32 c1_i32 k0_t1
  let v276 : Index := Scalar.indexCast arg8
  let c25 : Index := 25#32
  ![v276.toNat, 25]
def k0_off52 (v279 : BitVec 32) : Fin 3 → Nat :=
  let v280 : Index := Scalar.indexCast v279
  let c0_82 : Index := 0#32
  let c0_83 : Index := 0#32
  ![v280.toNat, 0, 0]

def k0_chk26 (v279 : BitVec 32) : Prop :=
  (∀ a, (k0_off52 v279) a + S1x8x128.size a ≤ S16384x8x128.size a)
theorem k0_off52_inb : ∀ (v279 : BitVec 32) (k0_hw26 : k0_chk26 v279), ∀ a, (k0_off52 v279) a + S1x8x128.size a ≤ S16384x8x128.size a := fun v279 k0_hw26 => k0_hw26

def k0_off53 (k0_t1 : Fin k0_t1_loop.trips) : Fin 2 → Nat :=
  let c0_i32 : BitVec 32 := 0#32
  let c1_i32 : BitVec 32 := 1#32
  let arg8 : BitVec 32 := Scf.iv c0_i32 c1_i32 k0_t1
  let v287 : Index := Scalar.indexCast arg8
  let c26 : Index := 26#32
  ![v287.toNat, 26]
def k0_off54 (v290 : BitVec 32) : Fin 3 → Nat :=
  let v291 : Index := Scalar.indexCast v290
  let c0_85 : Index := 0#32
  let c0_86 : Index := 0#32
  ![v291.toNat, 0, 0]

def k0_chk27 (v290 : BitVec 32) : Prop :=
  (∀ a, (k0_off54 v290) a + S1x8x128.size a ≤ S16384x8x128.size a)
theorem k0_off54_inb : ∀ (v290 : BitVec 32) (k0_hw27 : k0_chk27 v290), ∀ a, (k0_off54 v290) a + S1x8x128.size a ≤ S16384x8x128.size a := fun v290 k0_hw27 => k0_hw27

def k0_off55 (k0_t1 : Fin k0_t1_loop.trips) : Fin 2 → Nat :=
  let c0_i32 : BitVec 32 := 0#32
  let c1_i32 : BitVec 32 := 1#32
  let arg8 : BitVec 32 := Scf.iv c0_i32 c1_i32 k0_t1
  let v298 : Index := Scalar.indexCast arg8
  let c27 : Index := 27#32
  ![v298.toNat, 27]
def k0_off56 (v301 : BitVec 32) : Fin 3 → Nat :=
  let v302 : Index := Scalar.indexCast v301
  let c0_88 : Index := 0#32
  let c0_89 : Index := 0#32
  ![v302.toNat, 0, 0]

def k0_chk28 (v301 : BitVec 32) : Prop :=
  (∀ a, (k0_off56 v301) a + S1x8x128.size a ≤ S16384x8x128.size a)
theorem k0_off56_inb : ∀ (v301 : BitVec 32) (k0_hw28 : k0_chk28 v301), ∀ a, (k0_off56 v301) a + S1x8x128.size a ≤ S16384x8x128.size a := fun v301 k0_hw28 => k0_hw28

def k0_off57 (k0_t1 : Fin k0_t1_loop.trips) : Fin 2 → Nat :=
  let c0_i32 : BitVec 32 := 0#32
  let c1_i32 : BitVec 32 := 1#32
  let arg8 : BitVec 32 := Scf.iv c0_i32 c1_i32 k0_t1
  let v309 : Index := Scalar.indexCast arg8
  let c28 : Index := 28#32
  ![v309.toNat, 28]
def k0_off58 (v312 : BitVec 32) : Fin 3 → Nat :=
  let v313 : Index := Scalar.indexCast v312
  let c0_91 : Index := 0#32
  let c0_92 : Index := 0#32
  ![v313.toNat, 0, 0]

def k0_chk29 (v312 : BitVec 32) : Prop :=
  (∀ a, (k0_off58 v312) a + S1x8x128.size a ≤ S16384x8x128.size a)
theorem k0_off58_inb : ∀ (v312 : BitVec 32) (k0_hw29 : k0_chk29 v312), ∀ a, (k0_off58 v312) a + S1x8x128.size a ≤ S16384x8x128.size a := fun v312 k0_hw29 => k0_hw29

def k0_off59 (k0_t1 : Fin k0_t1_loop.trips) : Fin 2 → Nat :=
  let c0_i32 : BitVec 32 := 0#32
  let c1_i32 : BitVec 32 := 1#32
  let arg8 : BitVec 32 := Scf.iv c0_i32 c1_i32 k0_t1
  let v320 : Index := Scalar.indexCast arg8
  let c29 : Index := 29#32
  ![v320.toNat, 29]
def k0_off60 (v323 : BitVec 32) : Fin 3 → Nat :=
  let v324 : Index := Scalar.indexCast v323
  let c0_94 : Index := 0#32
  let c0_95 : Index := 0#32
  ![v324.toNat, 0, 0]

def k0_chk30 (v323 : BitVec 32) : Prop :=
  (∀ a, (k0_off60 v323) a + S1x8x128.size a ≤ S16384x8x128.size a)
theorem k0_off60_inb : ∀ (v323 : BitVec 32) (k0_hw30 : k0_chk30 v323), ∀ a, (k0_off60 v323) a + S1x8x128.size a ≤ S16384x8x128.size a := fun v323 k0_hw30 => k0_hw30

def k0_off61 (k0_t1 : Fin k0_t1_loop.trips) : Fin 2 → Nat :=
  let c0_i32 : BitVec 32 := 0#32
  let c1_i32 : BitVec 32 := 1#32
  let arg8 : BitVec 32 := Scf.iv c0_i32 c1_i32 k0_t1
  let v331 : Index := Scalar.indexCast arg8
  let c30 : Index := 30#32
  ![v331.toNat, 30]
def k0_off62 (v334 : BitVec 32) : Fin 3 → Nat :=
  let v335 : Index := Scalar.indexCast v334
  let c0_97 : Index := 0#32
  let c0_98 : Index := 0#32
  ![v335.toNat, 0, 0]

def k0_chk31 (v334 : BitVec 32) : Prop :=
  (∀ a, (k0_off62 v334) a + S1x8x128.size a ≤ S16384x8x128.size a)
theorem k0_off62_inb : ∀ (v334 : BitVec 32) (k0_hw31 : k0_chk31 v334), ∀ a, (k0_off62 v334) a + S1x8x128.size a ≤ S16384x8x128.size a := fun v334 k0_hw31 => k0_hw31

def k0_off63 (k0_t1 : Fin k0_t1_loop.trips) : Fin 2 → Nat :=
  let c0_i32 : BitVec 32 := 0#32
  let c1_i32 : BitVec 32 := 1#32
  let arg8 : BitVec 32 := Scf.iv c0_i32 c1_i32 k0_t1
  let v342 : Index := Scalar.indexCast arg8
  let c31 : Index := 31#32
  ![v342.toNat, 31]
def k0_off64 (v345 : BitVec 32) : Fin 3 → Nat :=
  let v346 : Index := Scalar.indexCast v345
  let c0_100 : Index := 0#32
  let c0_101 : Index := 0#32
  ![v346.toNat, 0, 0]

def k0_chk32 (v345 : BitVec 32) : Prop :=
  (∀ a, (k0_off64 v345) a + S1x8x128.size a ≤ S16384x8x128.size a)
theorem k0_off64_inb : ∀ (v345 : BitVec 32) (k0_hw32 : k0_chk32 v345), ∀ a, (k0_off64 v345) a + S1x8x128.size a ≤ S16384x8x128.size a := fun v345 k0_hw32 => k0_hw32

def k0_off65 (k0_t1 : Fin k0_t1_loop.trips) : Fin 2 → Nat :=
  let c0_i32 : BitVec 32 := 0#32
  let c1_i32 : BitVec 32 := 1#32
  let arg8 : BitVec 32 := Scf.iv c0_i32 c1_i32 k0_t1
  let v353 : Index := Scalar.indexCast arg8
  let c32 : Index := 32#32
  ![v353.toNat, 32]
def k0_off66 (v356 : BitVec 32) : Fin 3 → Nat :=
  let v357 : Index := Scalar.indexCast v356
  let c0_103 : Index := 0#32
  let c0_104 : Index := 0#32
  ![v357.toNat, 0, 0]

def k0_chk33 (v356 : BitVec 32) : Prop :=
  (∀ a, (k0_off66 v356) a + S1x8x128.size a ≤ S16384x8x128.size a)
theorem k0_off66_inb : ∀ (v356 : BitVec 32) (k0_hw33 : k0_chk33 v356), ∀ a, (k0_off66 v356) a + S1x8x128.size a ≤ S16384x8x128.size a := fun v356 k0_hw33 => k0_hw33

def k0_off67 (k0_t1 : Fin k0_t1_loop.trips) : Fin 2 → Nat :=
  let c0_i32 : BitVec 32 := 0#32
  let c1_i32 : BitVec 32 := 1#32
  let arg8 : BitVec 32 := Scf.iv c0_i32 c1_i32 k0_t1
  let v364 : Index := Scalar.indexCast arg8
  let c33 : Index := 33#32
  ![v364.toNat, 33]
def k0_off68 (v367 : BitVec 32) : Fin 3 → Nat :=
  let v368 : Index := Scalar.indexCast v367
  let c0_106 : Index := 0#32
  let c0_107 : Index := 0#32
  ![v368.toNat, 0, 0]

def k0_chk34 (v367 : BitVec 32) : Prop :=
  (∀ a, (k0_off68 v367) a + S1x8x128.size a ≤ S16384x8x128.size a)
theorem k0_off68_inb : ∀ (v367 : BitVec 32) (k0_hw34 : k0_chk34 v367), ∀ a, (k0_off68 v367) a + S1x8x128.size a ≤ S16384x8x128.size a := fun v367 k0_hw34 => k0_hw34

def k0_off69 (k0_t1 : Fin k0_t1_loop.trips) : Fin 2 → Nat :=
  let c0_i32 : BitVec 32 := 0#32
  let c1_i32 : BitVec 32 := 1#32
  let arg8 : BitVec 32 := Scf.iv c0_i32 c1_i32 k0_t1
  let v375 : Index := Scalar.indexCast arg8
  let c34 : Index := 34#32
  ![v375.toNat, 34]
def k0_off70 (v378 : BitVec 32) : Fin 3 → Nat :=
  let v379 : Index := Scalar.indexCast v378
  let c0_109 : Index := 0#32
  let c0_110 : Index := 0#32
  ![v379.toNat, 0, 0]

def k0_chk35 (v378 : BitVec 32) : Prop :=
  (∀ a, (k0_off70 v378) a + S1x8x128.size a ≤ S16384x8x128.size a)
theorem k0_off70_inb : ∀ (v378 : BitVec 32) (k0_hw35 : k0_chk35 v378), ∀ a, (k0_off70 v378) a + S1x8x128.size a ≤ S16384x8x128.size a := fun v378 k0_hw35 => k0_hw35

def k0_off71 (k0_t1 : Fin k0_t1_loop.trips) : Fin 2 → Nat :=
  let c0_i32 : BitVec 32 := 0#32
  let c1_i32 : BitVec 32 := 1#32
  let arg8 : BitVec 32 := Scf.iv c0_i32 c1_i32 k0_t1
  let v386 : Index := Scalar.indexCast arg8
  let c35 : Index := 35#32
  ![v386.toNat, 35]
def k0_off72 (v389 : BitVec 32) : Fin 3 → Nat :=
  let v390 : Index := Scalar.indexCast v389
  let c0_112 : Index := 0#32
  let c0_113 : Index := 0#32
  ![v390.toNat, 0, 0]

def k0_chk36 (v389 : BitVec 32) : Prop :=
  (∀ a, (k0_off72 v389) a + S1x8x128.size a ≤ S16384x8x128.size a)
theorem k0_off72_inb : ∀ (v389 : BitVec 32) (k0_hw36 : k0_chk36 v389), ∀ a, (k0_off72 v389) a + S1x8x128.size a ≤ S16384x8x128.size a := fun v389 k0_hw36 => k0_hw36

def k0_off73 (k0_t1 : Fin k0_t1_loop.trips) : Fin 2 → Nat :=
  let c0_i32 : BitVec 32 := 0#32
  let c1_i32 : BitVec 32 := 1#32
  let arg8 : BitVec 32 := Scf.iv c0_i32 c1_i32 k0_t1
  let v397 : Index := Scalar.indexCast arg8
  let c36 : Index := 36#32
  ![v397.toNat, 36]
def k0_off74 (v400 : BitVec 32) : Fin 3 → Nat :=
  let v401 : Index := Scalar.indexCast v400
  let c0_115 : Index := 0#32
  let c0_116 : Index := 0#32
  ![v401.toNat, 0, 0]

def k0_chk37 (v400 : BitVec 32) : Prop :=
  (∀ a, (k0_off74 v400) a + S1x8x128.size a ≤ S16384x8x128.size a)
theorem k0_off74_inb : ∀ (v400 : BitVec 32) (k0_hw37 : k0_chk37 v400), ∀ a, (k0_off74 v400) a + S1x8x128.size a ≤ S16384x8x128.size a := fun v400 k0_hw37 => k0_hw37

def k0_off75 (k0_t1 : Fin k0_t1_loop.trips) : Fin 2 → Nat :=
  let c0_i32 : BitVec 32 := 0#32
  let c1_i32 : BitVec 32 := 1#32
  let arg8 : BitVec 32 := Scf.iv c0_i32 c1_i32 k0_t1
  let v408 : Index := Scalar.indexCast arg8
  let c37 : Index := 37#32
  ![v408.toNat, 37]
def k0_off76 (v411 : BitVec 32) : Fin 3 → Nat :=
  let v412 : Index := Scalar.indexCast v411
  let c0_118 : Index := 0#32
  let c0_119 : Index := 0#32
  ![v412.toNat, 0, 0]

def k0_chk38 (v411 : BitVec 32) : Prop :=
  (∀ a, (k0_off76 v411) a + S1x8x128.size a ≤ S16384x8x128.size a)
theorem k0_off76_inb : ∀ (v411 : BitVec 32) (k0_hw38 : k0_chk38 v411), ∀ a, (k0_off76 v411) a + S1x8x128.size a ≤ S16384x8x128.size a := fun v411 k0_hw38 => k0_hw38

def k0_off77 (k0_t1 : Fin k0_t1_loop.trips) : Fin 2 → Nat :=
  let c0_i32 : BitVec 32 := 0#32
  let c1_i32 : BitVec 32 := 1#32
  let arg8 : BitVec 32 := Scf.iv c0_i32 c1_i32 k0_t1
  let v419 : Index := Scalar.indexCast arg8
  let c38 : Index := 38#32
  ![v419.toNat, 38]
def k0_off78 (v422 : BitVec 32) : Fin 3 → Nat :=
  let v423 : Index := Scalar.indexCast v422
  let c0_121 : Index := 0#32
  let c0_122 : Index := 0#32
  ![v423.toNat, 0, 0]

def k0_chk39 (v422 : BitVec 32) : Prop :=
  (∀ a, (k0_off78 v422) a + S1x8x128.size a ≤ S16384x8x128.size a)
theorem k0_off78_inb : ∀ (v422 : BitVec 32) (k0_hw39 : k0_chk39 v422), ∀ a, (k0_off78 v422) a + S1x8x128.size a ≤ S16384x8x128.size a := fun v422 k0_hw39 => k0_hw39

def k0_off79 (k0_t1 : Fin k0_t1_loop.trips) : Fin 2 → Nat :=
  let c0_i32 : BitVec 32 := 0#32
  let c1_i32 : BitVec 32 := 1#32
  let arg8 : BitVec 32 := Scf.iv c0_i32 c1_i32 k0_t1
  let v430 : Index := Scalar.indexCast arg8
  let c39 : Index := 39#32
  ![v430.toNat, 39]
def k0_off80 (v433 : BitVec 32) : Fin 3 → Nat :=
  let v434 : Index := Scalar.indexCast v433
  let c0_124 : Index := 0#32
  let c0_125 : Index := 0#32
  ![v434.toNat, 0, 0]

def k0_chk40 (v433 : BitVec 32) : Prop :=
  (∀ a, (k0_off80 v433) a + S1x8x128.size a ≤ S16384x8x128.size a)
theorem k0_off80_inb : ∀ (v433 : BitVec 32) (k0_hw40 : k0_chk40 v433), ∀ a, (k0_off80 v433) a + S1x8x128.size a ≤ S16384x8x128.size a := fun v433 k0_hw40 => k0_hw40

def k0_off81 (k0_t1 : Fin k0_t1_loop.trips) : Fin 2 → Nat :=
  let c0_i32 : BitVec 32 := 0#32
  let c1_i32 : BitVec 32 := 1#32
  let arg8 : BitVec 32 := Scf.iv c0_i32 c1_i32 k0_t1
  let v441 : Index := Scalar.indexCast arg8
  let c40 : Index := 40#32
  ![v441.toNat, 40]
def k0_off82 (v444 : BitVec 32) : Fin 3 → Nat :=
  let v445 : Index := Scalar.indexCast v444
  let c0_127 : Index := 0#32
  let c0_128 : Index := 0#32
  ![v445.toNat, 0, 0]

def k0_chk41 (v444 : BitVec 32) : Prop :=
  (∀ a, (k0_off82 v444) a + S1x8x128.size a ≤ S16384x8x128.size a)
theorem k0_off82_inb : ∀ (v444 : BitVec 32) (k0_hw41 : k0_chk41 v444), ∀ a, (k0_off82 v444) a + S1x8x128.size a ≤ S16384x8x128.size a := fun v444 k0_hw41 => k0_hw41

def k0_off83 (k0_t1 : Fin k0_t1_loop.trips) : Fin 2 → Nat :=
  let c0_i32 : BitVec 32 := 0#32
  let c1_i32 : BitVec 32 := 1#32
  let arg8 : BitVec 32 := Scf.iv c0_i32 c1_i32 k0_t1
  let v452 : Index := Scalar.indexCast arg8
  let c41 : Index := 41#32
  ![v452.toNat, 41]
def k0_off84 (v455 : BitVec 32) : Fin 3 → Nat :=
  let v456 : Index := Scalar.indexCast v455
  let c0_130 : Index := 0#32
  let c0_131 : Index := 0#32
  ![v456.toNat, 0, 0]

def k0_chk42 (v455 : BitVec 32) : Prop :=
  (∀ a, (k0_off84 v455) a + S1x8x128.size a ≤ S16384x8x128.size a)
theorem k0_off84_inb : ∀ (v455 : BitVec 32) (k0_hw42 : k0_chk42 v455), ∀ a, (k0_off84 v455) a + S1x8x128.size a ≤ S16384x8x128.size a := fun v455 k0_hw42 => k0_hw42

def k0_off85 (k0_t1 : Fin k0_t1_loop.trips) : Fin 2 → Nat :=
  let c0_i32 : BitVec 32 := 0#32
  let c1_i32 : BitVec 32 := 1#32
  let arg8 : BitVec 32 := Scf.iv c0_i32 c1_i32 k0_t1
  let v463 : Index := Scalar.indexCast arg8
  let c42 : Index := 42#32
  ![v463.toNat, 42]
def k0_off86 (v466 : BitVec 32) : Fin 3 → Nat :=
  let v467 : Index := Scalar.indexCast v466
  let c0_133 : Index := 0#32
  let c0_134 : Index := 0#32
  ![v467.toNat, 0, 0]

def k0_chk43 (v466 : BitVec 32) : Prop :=
  (∀ a, (k0_off86 v466) a + S1x8x128.size a ≤ S16384x8x128.size a)
theorem k0_off86_inb : ∀ (v466 : BitVec 32) (k0_hw43 : k0_chk43 v466), ∀ a, (k0_off86 v466) a + S1x8x128.size a ≤ S16384x8x128.size a := fun v466 k0_hw43 => k0_hw43

def k0_off87 (k0_t1 : Fin k0_t1_loop.trips) : Fin 2 → Nat :=
  let c0_i32 : BitVec 32 := 0#32
  let c1_i32 : BitVec 32 := 1#32
  let arg8 : BitVec 32 := Scf.iv c0_i32 c1_i32 k0_t1
  let v474 : Index := Scalar.indexCast arg8
  let c43 : Index := 43#32
  ![v474.toNat, 43]
def k0_off88 (v477 : BitVec 32) : Fin 3 → Nat :=
  let v478 : Index := Scalar.indexCast v477
  let c0_136 : Index := 0#32
  let c0_137 : Index := 0#32
  ![v478.toNat, 0, 0]

def k0_chk44 (v477 : BitVec 32) : Prop :=
  (∀ a, (k0_off88 v477) a + S1x8x128.size a ≤ S16384x8x128.size a)
theorem k0_off88_inb : ∀ (v477 : BitVec 32) (k0_hw44 : k0_chk44 v477), ∀ a, (k0_off88 v477) a + S1x8x128.size a ≤ S16384x8x128.size a := fun v477 k0_hw44 => k0_hw44

def k0_off89 (k0_t1 : Fin k0_t1_loop.trips) : Fin 2 → Nat :=
  let c0_i32 : BitVec 32 := 0#32
  let c1_i32 : BitVec 32 := 1#32
  let arg8 : BitVec 32 := Scf.iv c0_i32 c1_i32 k0_t1
  let v485 : Index := Scalar.indexCast arg8
  let c44 : Index := 44#32
  ![v485.toNat, 44]
def k0_off90 (v488 : BitVec 32) : Fin 3 → Nat :=
  let v489 : Index := Scalar.indexCast v488
  let c0_139 : Index := 0#32
  let c0_140 : Index := 0#32
  ![v489.toNat, 0, 0]

def k0_chk45 (v488 : BitVec 32) : Prop :=
  (∀ a, (k0_off90 v488) a + S1x8x128.size a ≤ S16384x8x128.size a)
theorem k0_off90_inb : ∀ (v488 : BitVec 32) (k0_hw45 : k0_chk45 v488), ∀ a, (k0_off90 v488) a + S1x8x128.size a ≤ S16384x8x128.size a := fun v488 k0_hw45 => k0_hw45

def k0_off91 (k0_t1 : Fin k0_t1_loop.trips) : Fin 2 → Nat :=
  let c0_i32 : BitVec 32 := 0#32
  let c1_i32 : BitVec 32 := 1#32
  let arg8 : BitVec 32 := Scf.iv c0_i32 c1_i32 k0_t1
  let v496 : Index := Scalar.indexCast arg8
  let c45 : Index := 45#32
  ![v496.toNat, 45]
def k0_off92 (v499 : BitVec 32) : Fin 3 → Nat :=
  let v500 : Index := Scalar.indexCast v499
  let c0_142 : Index := 0#32
  let c0_143 : Index := 0#32
  ![v500.toNat, 0, 0]

def k0_chk46 (v499 : BitVec 32) : Prop :=
  (∀ a, (k0_off92 v499) a + S1x8x128.size a ≤ S16384x8x128.size a)
theorem k0_off92_inb : ∀ (v499 : BitVec 32) (k0_hw46 : k0_chk46 v499), ∀ a, (k0_off92 v499) a + S1x8x128.size a ≤ S16384x8x128.size a := fun v499 k0_hw46 => k0_hw46

def k0_off93 (k0_t1 : Fin k0_t1_loop.trips) : Fin 2 → Nat :=
  let c0_i32 : BitVec 32 := 0#32
  let c1_i32 : BitVec 32 := 1#32
  let arg8 : BitVec 32 := Scf.iv c0_i32 c1_i32 k0_t1
  let v507 : Index := Scalar.indexCast arg8
  let c46 : Index := 46#32
  ![v507.toNat, 46]
def k0_off94 (v510 : BitVec 32) : Fin 3 → Nat :=
  let v511 : Index := Scalar.indexCast v510
  let c0_145 : Index := 0#32
  let c0_146 : Index := 0#32
  ![v511.toNat, 0, 0]

def k0_chk47 (v510 : BitVec 32) : Prop :=
  (∀ a, (k0_off94 v510) a + S1x8x128.size a ≤ S16384x8x128.size a)
theorem k0_off94_inb : ∀ (v510 : BitVec 32) (k0_hw47 : k0_chk47 v510), ∀ a, (k0_off94 v510) a + S1x8x128.size a ≤ S16384x8x128.size a := fun v510 k0_hw47 => k0_hw47

def k0_off95 (k0_t1 : Fin k0_t1_loop.trips) : Fin 2 → Nat :=
  let c0_i32 : BitVec 32 := 0#32
  let c1_i32 : BitVec 32 := 1#32
  let arg8 : BitVec 32 := Scf.iv c0_i32 c1_i32 k0_t1
  let v518 : Index := Scalar.indexCast arg8
  let c47 : Index := 47#32
  ![v518.toNat, 47]
def k0_off96 (v521 : BitVec 32) : Fin 3 → Nat :=
  let v522 : Index := Scalar.indexCast v521
  let c0_148 : Index := 0#32
  let c0_149 : Index := 0#32
  ![v522.toNat, 0, 0]

def k0_chk48 (v521 : BitVec 32) : Prop :=
  (∀ a, (k0_off96 v521) a + S1x8x128.size a ≤ S16384x8x128.size a)
theorem k0_off96_inb : ∀ (v521 : BitVec 32) (k0_hw48 : k0_chk48 v521), ∀ a, (k0_off96 v521) a + S1x8x128.size a ≤ S16384x8x128.size a := fun v521 k0_hw48 => k0_hw48

def k0_off97 (k0_t1 : Fin k0_t1_loop.trips) : Fin 2 → Nat :=
  let c0_i32 : BitVec 32 := 0#32
  let c1_i32 : BitVec 32 := 1#32
  let arg8 : BitVec 32 := Scf.iv c0_i32 c1_i32 k0_t1
  let v529 : Index := Scalar.indexCast arg8
  let c48 : Index := 48#32
  ![v529.toNat, 48]
def k0_off98 (v532 : BitVec 32) : Fin 3 → Nat :=
  let v533 : Index := Scalar.indexCast v532
  let c0_151 : Index := 0#32
  let c0_152 : Index := 0#32
  ![v533.toNat, 0, 0]

def k0_chk49 (v532 : BitVec 32) : Prop :=
  (∀ a, (k0_off98 v532) a + S1x8x128.size a ≤ S16384x8x128.size a)
theorem k0_off98_inb : ∀ (v532 : BitVec 32) (k0_hw49 : k0_chk49 v532), ∀ a, (k0_off98 v532) a + S1x8x128.size a ≤ S16384x8x128.size a := fun v532 k0_hw49 => k0_hw49

def k0_off99 (k0_t1 : Fin k0_t1_loop.trips) : Fin 2 → Nat :=
  let c0_i32 : BitVec 32 := 0#32
  let c1_i32 : BitVec 32 := 1#32
  let arg8 : BitVec 32 := Scf.iv c0_i32 c1_i32 k0_t1
  let v540 : Index := Scalar.indexCast arg8
  let c49 : Index := 49#32
  ![v540.toNat, 49]
def k0_off100 (v543 : BitVec 32) : Fin 3 → Nat :=
  let v544 : Index := Scalar.indexCast v543
  let c0_154 : Index := 0#32
  let c0_155 : Index := 0#32
  ![v544.toNat, 0, 0]

def k0_chk50 (v543 : BitVec 32) : Prop :=
  (∀ a, (k0_off100 v543) a + S1x8x128.size a ≤ S16384x8x128.size a)
theorem k0_off100_inb : ∀ (v543 : BitVec 32) (k0_hw50 : k0_chk50 v543), ∀ a, (k0_off100 v543) a + S1x8x128.size a ≤ S16384x8x128.size a := fun v543 k0_hw50 => k0_hw50

def k0_off101 (k0_t1 : Fin k0_t1_loop.trips) : Fin 2 → Nat :=
  let c0_i32 : BitVec 32 := 0#32
  let c1_i32 : BitVec 32 := 1#32
  let arg8 : BitVec 32 := Scf.iv c0_i32 c1_i32 k0_t1
  let v551 : Index := Scalar.indexCast arg8
  let c50 : Index := 50#32
  ![v551.toNat, 50]
def k0_off102 (v554 : BitVec 32) : Fin 3 → Nat :=
  let v555 : Index := Scalar.indexCast v554
  let c0_157 : Index := 0#32
  let c0_158 : Index := 0#32
  ![v555.toNat, 0, 0]

def k0_chk51 (v554 : BitVec 32) : Prop :=
  (∀ a, (k0_off102 v554) a + S1x8x128.size a ≤ S16384x8x128.size a)
theorem k0_off102_inb : ∀ (v554 : BitVec 32) (k0_hw51 : k0_chk51 v554), ∀ a, (k0_off102 v554) a + S1x8x128.size a ≤ S16384x8x128.size a := fun v554 k0_hw51 => k0_hw51

def k0_off103 (k0_t1 : Fin k0_t1_loop.trips) : Fin 2 → Nat :=
  let c0_i32 : BitVec 32 := 0#32
  let c1_i32 : BitVec 32 := 1#32
  let arg8 : BitVec 32 := Scf.iv c0_i32 c1_i32 k0_t1
  let v562 : Index := Scalar.indexCast arg8
  let c51 : Index := 51#32
  ![v562.toNat, 51]
def k0_off104 (v565 : BitVec 32) : Fin 3 → Nat :=
  let v566 : Index := Scalar.indexCast v565
  let c0_160 : Index := 0#32
  let c0_161 : Index := 0#32
  ![v566.toNat, 0, 0]

def k0_chk52 (v565 : BitVec 32) : Prop :=
  (∀ a, (k0_off104 v565) a + S1x8x128.size a ≤ S16384x8x128.size a)
theorem k0_off104_inb : ∀ (v565 : BitVec 32) (k0_hw52 : k0_chk52 v565), ∀ a, (k0_off104 v565) a + S1x8x128.size a ≤ S16384x8x128.size a := fun v565 k0_hw52 => k0_hw52

def k0_off105 (k0_t1 : Fin k0_t1_loop.trips) : Fin 2 → Nat :=
  let c0_i32 : BitVec 32 := 0#32
  let c1_i32 : BitVec 32 := 1#32
  let arg8 : BitVec 32 := Scf.iv c0_i32 c1_i32 k0_t1
  let v573 : Index := Scalar.indexCast arg8
  let c52 : Index := 52#32
  ![v573.toNat, 52]
def k0_off106 (v576 : BitVec 32) : Fin 3 → Nat :=
  let v577 : Index := Scalar.indexCast v576
  let c0_163 : Index := 0#32
  let c0_164 : Index := 0#32
  ![v577.toNat, 0, 0]

def k0_chk53 (v576 : BitVec 32) : Prop :=
  (∀ a, (k0_off106 v576) a + S1x8x128.size a ≤ S16384x8x128.size a)
theorem k0_off106_inb : ∀ (v576 : BitVec 32) (k0_hw53 : k0_chk53 v576), ∀ a, (k0_off106 v576) a + S1x8x128.size a ≤ S16384x8x128.size a := fun v576 k0_hw53 => k0_hw53

def k0_off107 (k0_t1 : Fin k0_t1_loop.trips) : Fin 2 → Nat :=
  let c0_i32 : BitVec 32 := 0#32
  let c1_i32 : BitVec 32 := 1#32
  let arg8 : BitVec 32 := Scf.iv c0_i32 c1_i32 k0_t1
  let v584 : Index := Scalar.indexCast arg8
  let c53 : Index := 53#32
  ![v584.toNat, 53]
def k0_off108 (v587 : BitVec 32) : Fin 3 → Nat :=
  let v588 : Index := Scalar.indexCast v587
  let c0_166 : Index := 0#32
  let c0_167 : Index := 0#32
  ![v588.toNat, 0, 0]

def k0_chk54 (v587 : BitVec 32) : Prop :=
  (∀ a, (k0_off108 v587) a + S1x8x128.size a ≤ S16384x8x128.size a)
theorem k0_off108_inb : ∀ (v587 : BitVec 32) (k0_hw54 : k0_chk54 v587), ∀ a, (k0_off108 v587) a + S1x8x128.size a ≤ S16384x8x128.size a := fun v587 k0_hw54 => k0_hw54

def k0_off109 (k0_t1 : Fin k0_t1_loop.trips) : Fin 2 → Nat :=
  let c0_i32 : BitVec 32 := 0#32
  let c1_i32 : BitVec 32 := 1#32
  let arg8 : BitVec 32 := Scf.iv c0_i32 c1_i32 k0_t1
  let v595 : Index := Scalar.indexCast arg8
  let c54 : Index := 54#32
  ![v595.toNat, 54]
def k0_off110 (v598 : BitVec 32) : Fin 3 → Nat :=
  let v599 : Index := Scalar.indexCast v598
  let c0_169 : Index := 0#32
  let c0_170 : Index := 0#32
  ![v599.toNat, 0, 0]

def k0_chk55 (v598 : BitVec 32) : Prop :=
  (∀ a, (k0_off110 v598) a + S1x8x128.size a ≤ S16384x8x128.size a)
theorem k0_off110_inb : ∀ (v598 : BitVec 32) (k0_hw55 : k0_chk55 v598), ∀ a, (k0_off110 v598) a + S1x8x128.size a ≤ S16384x8x128.size a := fun v598 k0_hw55 => k0_hw55

def k0_off111 (k0_t1 : Fin k0_t1_loop.trips) : Fin 2 → Nat :=
  let c0_i32 : BitVec 32 := 0#32
  let c1_i32 : BitVec 32 := 1#32
  let arg8 : BitVec 32 := Scf.iv c0_i32 c1_i32 k0_t1
  let v606 : Index := Scalar.indexCast arg8
  let c55 : Index := 55#32
  ![v606.toNat, 55]
def k0_off112 (v609 : BitVec 32) : Fin 3 → Nat :=
  let v610 : Index := Scalar.indexCast v609
  let c0_172 : Index := 0#32
  let c0_173 : Index := 0#32
  ![v610.toNat, 0, 0]

def k0_chk56 (v609 : BitVec 32) : Prop :=
  (∀ a, (k0_off112 v609) a + S1x8x128.size a ≤ S16384x8x128.size a)
theorem k0_off112_inb : ∀ (v609 : BitVec 32) (k0_hw56 : k0_chk56 v609), ∀ a, (k0_off112 v609) a + S1x8x128.size a ≤ S16384x8x128.size a := fun v609 k0_hw56 => k0_hw56

def k0_off113 (k0_t1 : Fin k0_t1_loop.trips) : Fin 2 → Nat :=
  let c0_i32 : BitVec 32 := 0#32
  let c1_i32 : BitVec 32 := 1#32
  let arg8 : BitVec 32 := Scf.iv c0_i32 c1_i32 k0_t1
  let v617 : Index := Scalar.indexCast arg8
  let c56 : Index := 56#32
  ![v617.toNat, 56]
def k0_off114 (v620 : BitVec 32) : Fin 3 → Nat :=
  let v621 : Index := Scalar.indexCast v620
  let c0_175 : Index := 0#32
  let c0_176 : Index := 0#32
  ![v621.toNat, 0, 0]

def k0_chk57 (v620 : BitVec 32) : Prop :=
  (∀ a, (k0_off114 v620) a + S1x8x128.size a ≤ S16384x8x128.size a)
theorem k0_off114_inb : ∀ (v620 : BitVec 32) (k0_hw57 : k0_chk57 v620), ∀ a, (k0_off114 v620) a + S1x8x128.size a ≤ S16384x8x128.size a := fun v620 k0_hw57 => k0_hw57

def k0_off115 (k0_t1 : Fin k0_t1_loop.trips) : Fin 2 → Nat :=
  let c0_i32 : BitVec 32 := 0#32
  let c1_i32 : BitVec 32 := 1#32
  let arg8 : BitVec 32 := Scf.iv c0_i32 c1_i32 k0_t1
  let v628 : Index := Scalar.indexCast arg8
  let c57 : Index := 57#32
  ![v628.toNat, 57]
def k0_off116 (v631 : BitVec 32) : Fin 3 → Nat :=
  let v632 : Index := Scalar.indexCast v631
  let c0_178 : Index := 0#32
  let c0_179 : Index := 0#32
  ![v632.toNat, 0, 0]

def k0_chk58 (v631 : BitVec 32) : Prop :=
  (∀ a, (k0_off116 v631) a + S1x8x128.size a ≤ S16384x8x128.size a)
theorem k0_off116_inb : ∀ (v631 : BitVec 32) (k0_hw58 : k0_chk58 v631), ∀ a, (k0_off116 v631) a + S1x8x128.size a ≤ S16384x8x128.size a := fun v631 k0_hw58 => k0_hw58

def k0_off117 (k0_t1 : Fin k0_t1_loop.trips) : Fin 2 → Nat :=
  let c0_i32 : BitVec 32 := 0#32
  let c1_i32 : BitVec 32 := 1#32
  let arg8 : BitVec 32 := Scf.iv c0_i32 c1_i32 k0_t1
  let v639 : Index := Scalar.indexCast arg8
  let c58 : Index := 58#32
  ![v639.toNat, 58]
def k0_off118 (v642 : BitVec 32) : Fin 3 → Nat :=
  let v643 : Index := Scalar.indexCast v642
  let c0_181 : Index := 0#32
  let c0_182 : Index := 0#32
  ![v643.toNat, 0, 0]

def k0_chk59 (v642 : BitVec 32) : Prop :=
  (∀ a, (k0_off118 v642) a + S1x8x128.size a ≤ S16384x8x128.size a)
theorem k0_off118_inb : ∀ (v642 : BitVec 32) (k0_hw59 : k0_chk59 v642), ∀ a, (k0_off118 v642) a + S1x8x128.size a ≤ S16384x8x128.size a := fun v642 k0_hw59 => k0_hw59

def k0_off119 (k0_t1 : Fin k0_t1_loop.trips) : Fin 2 → Nat :=
  let c0_i32 : BitVec 32 := 0#32
  let c1_i32 : BitVec 32 := 1#32
  let arg8 : BitVec 32 := Scf.iv c0_i32 c1_i32 k0_t1
  let v650 : Index := Scalar.indexCast arg8
  let c59 : Index := 59#32
  ![v650.toNat, 59]
def k0_off120 (v653 : BitVec 32) : Fin 3 → Nat :=
  let v654 : Index := Scalar.indexCast v653
  let c0_184 : Index := 0#32
  let c0_185 : Index := 0#32
  ![v654.toNat, 0, 0]

def k0_chk60 (v653 : BitVec 32) : Prop :=
  (∀ a, (k0_off120 v653) a + S1x8x128.size a ≤ S16384x8x128.size a)
theorem k0_off120_inb : ∀ (v653 : BitVec 32) (k0_hw60 : k0_chk60 v653), ∀ a, (k0_off120 v653) a + S1x8x128.size a ≤ S16384x8x128.size a := fun v653 k0_hw60 => k0_hw60

def k0_off121 (k0_t1 : Fin k0_t1_loop.trips) : Fin 2 → Nat :=
  let c0_i32 : BitVec 32 := 0#32
  let c1_i32 : BitVec 32 := 1#32
  let arg8 : BitVec 32 := Scf.iv c0_i32 c1_i32 k0_t1
  let v661 : Index := Scalar.indexCast arg8
  let c60 : Index := 60#32
  ![v661.toNat, 60]
def k0_off122 (v664 : BitVec 32) : Fin 3 → Nat :=
  let v665 : Index := Scalar.indexCast v664
  let c0_187 : Index := 0#32
  let c0_188 : Index := 0#32
  ![v665.toNat, 0, 0]

def k0_chk61 (v664 : BitVec 32) : Prop :=
  (∀ a, (k0_off122 v664) a + S1x8x128.size a ≤ S16384x8x128.size a)
theorem k0_off122_inb : ∀ (v664 : BitVec 32) (k0_hw61 : k0_chk61 v664), ∀ a, (k0_off122 v664) a + S1x8x128.size a ≤ S16384x8x128.size a := fun v664 k0_hw61 => k0_hw61

def k0_off123 (k0_t1 : Fin k0_t1_loop.trips) : Fin 2 → Nat :=
  let c0_i32 : BitVec 32 := 0#32
  let c1_i32 : BitVec 32 := 1#32
  let arg8 : BitVec 32 := Scf.iv c0_i32 c1_i32 k0_t1
  let v672 : Index := Scalar.indexCast arg8
  let c61 : Index := 61#32
  ![v672.toNat, 61]
def k0_off124 (v675 : BitVec 32) : Fin 3 → Nat :=
  let v676 : Index := Scalar.indexCast v675
  let c0_190 : Index := 0#32
  let c0_191 : Index := 0#32
  ![v676.toNat, 0, 0]

def k0_chk62 (v675 : BitVec 32) : Prop :=
  (∀ a, (k0_off124 v675) a + S1x8x128.size a ≤ S16384x8x128.size a)
theorem k0_off124_inb : ∀ (v675 : BitVec 32) (k0_hw62 : k0_chk62 v675), ∀ a, (k0_off124 v675) a + S1x8x128.size a ≤ S16384x8x128.size a := fun v675 k0_hw62 => k0_hw62

def k0_off125 (k0_t1 : Fin k0_t1_loop.trips) : Fin 2 → Nat :=
  let c0_i32 : BitVec 32 := 0#32
  let c1_i32 : BitVec 32 := 1#32
  let arg8 : BitVec 32 := Scf.iv c0_i32 c1_i32 k0_t1
  let v683 : Index := Scalar.indexCast arg8
  let c62 : Index := 62#32
  ![v683.toNat, 62]
def k0_off126 (v686 : BitVec 32) : Fin 3 → Nat :=
  let v687 : Index := Scalar.indexCast v686
  let c0_193 : Index := 0#32
  let c0_194 : Index := 0#32
  ![v687.toNat, 0, 0]

def k0_chk63 (v686 : BitVec 32) : Prop :=
  (∀ a, (k0_off126 v686) a + S1x8x128.size a ≤ S16384x8x128.size a)
theorem k0_off126_inb : ∀ (v686 : BitVec 32) (k0_hw63 : k0_chk63 v686), ∀ a, (k0_off126 v686) a + S1x8x128.size a ≤ S16384x8x128.size a := fun v686 k0_hw63 => k0_hw63

def k0_off127 (k0_t1 : Fin k0_t1_loop.trips) : Fin 2 → Nat :=
  let c0_i32 : BitVec 32 := 0#32
  let c1_i32 : BitVec 32 := 1#32
  let arg8 : BitVec 32 := Scf.iv c0_i32 c1_i32 k0_t1
  let v694 : Index := Scalar.indexCast arg8
  let c63 : Index := 63#32
  ![v694.toNat, 63]
def k0_off128 (v697 : BitVec 32) : Fin 3 → Nat :=
  let v698 : Index := Scalar.indexCast v697
  let c0_196 : Index := 0#32
  let c0_197 : Index := 0#32
  ![v698.toNat, 0, 0]

def k0_chk64 (v697 : BitVec 32) : Prop :=
  (∀ a, (k0_off128 v697) a + S1x8x128.size a ≤ S16384x8x128.size a)
theorem k0_off128_inb : ∀ (v697 : BitVec 32) (k0_hw64 : k0_chk64 v697), ∀ a, (k0_off128 v697) a + S1x8x128.size a ≤ S16384x8x128.size a := fun v697 k0_hw64 => k0_hw64

def k0_off129 (k0_t1 : Fin k0_t1_loop.trips) : Fin 2 → Nat :=
  let c0_i32 : BitVec 32 := 0#32
  let c1_i32 : BitVec 32 := 1#32
  let arg8 : BitVec 32 := Scf.iv c0_i32 c1_i32 k0_t1
  let v705 : Index := Scalar.indexCast arg8
  let c64 : Index := 64#32
  ![v705.toNat, 64]
def k0_off130 (v708 : BitVec 32) : Fin 3 → Nat :=
  let v709 : Index := Scalar.indexCast v708
  let c0_199 : Index := 0#32
  let c0_200 : Index := 0#32
  ![v709.toNat, 0, 0]

def k0_chk65 (v708 : BitVec 32) : Prop :=
  (∀ a, (k0_off130 v708) a + S1x8x128.size a ≤ S16384x8x128.size a)
theorem k0_off130_inb : ∀ (v708 : BitVec 32) (k0_hw65 : k0_chk65 v708), ∀ a, (k0_off130 v708) a + S1x8x128.size a ≤ S16384x8x128.size a := fun v708 k0_hw65 => k0_hw65

def k0_off131 (k0_t1 : Fin k0_t1_loop.trips) : Fin 2 → Nat :=
  let c0_i32 : BitVec 32 := 0#32
  let c1_i32 : BitVec 32 := 1#32
  let arg8 : BitVec 32 := Scf.iv c0_i32 c1_i32 k0_t1
  let v716 : Index := Scalar.indexCast arg8
  let c65 : Index := 65#32
  ![v716.toNat, 65]
def k0_off132 (v719 : BitVec 32) : Fin 3 → Nat :=
  let v720 : Index := Scalar.indexCast v719
  let c0_202 : Index := 0#32
  let c0_203 : Index := 0#32
  ![v720.toNat, 0, 0]

def k0_chk66 (v719 : BitVec 32) : Prop :=
  (∀ a, (k0_off132 v719) a + S1x8x128.size a ≤ S16384x8x128.size a)
theorem k0_off132_inb : ∀ (v719 : BitVec 32) (k0_hw66 : k0_chk66 v719), ∀ a, (k0_off132 v719) a + S1x8x128.size a ≤ S16384x8x128.size a := fun v719 k0_hw66 => k0_hw66

def k0_off133 (k0_t1 : Fin k0_t1_loop.trips) : Fin 2 → Nat :=
  let c0_i32 : BitVec 32 := 0#32
  let c1_i32 : BitVec 32 := 1#32
  let arg8 : BitVec 32 := Scf.iv c0_i32 c1_i32 k0_t1
  let v727 : Index := Scalar.indexCast arg8
  let c66 : Index := 66#32
  ![v727.toNat, 66]
def k0_off134 (v730 : BitVec 32) : Fin 3 → Nat :=
  let v731 : Index := Scalar.indexCast v730
  let c0_205 : Index := 0#32
  let c0_206 : Index := 0#32
  ![v731.toNat, 0, 0]

def k0_chk67 (v730 : BitVec 32) : Prop :=
  (∀ a, (k0_off134 v730) a + S1x8x128.size a ≤ S16384x8x128.size a)
theorem k0_off134_inb : ∀ (v730 : BitVec 32) (k0_hw67 : k0_chk67 v730), ∀ a, (k0_off134 v730) a + S1x8x128.size a ≤ S16384x8x128.size a := fun v730 k0_hw67 => k0_hw67

def k0_off135 (k0_t1 : Fin k0_t1_loop.trips) : Fin 2 → Nat :=
  let c0_i32 : BitVec 32 := 0#32
  let c1_i32 : BitVec 32 := 1#32
  let arg8 : BitVec 32 := Scf.iv c0_i32 c1_i32 k0_t1
  let v738 : Index := Scalar.indexCast arg8
  let c67 : Index := 67#32
  ![v738.toNat, 67]
def k0_off136 (v741 : BitVec 32) : Fin 3 → Nat :=
  let v742 : Index := Scalar.indexCast v741
  let c0_208 : Index := 0#32
  let c0_209 : Index := 0#32
  ![v742.toNat, 0, 0]

def k0_chk68 (v741 : BitVec 32) : Prop :=
  (∀ a, (k0_off136 v741) a + S1x8x128.size a ≤ S16384x8x128.size a)
theorem k0_off136_inb : ∀ (v741 : BitVec 32) (k0_hw68 : k0_chk68 v741), ∀ a, (k0_off136 v741) a + S1x8x128.size a ≤ S16384x8x128.size a := fun v741 k0_hw68 => k0_hw68

def k0_off137 (k0_t1 : Fin k0_t1_loop.trips) : Fin 2 → Nat :=
  let c0_i32 : BitVec 32 := 0#32
  let c1_i32 : BitVec 32 := 1#32
  let arg8 : BitVec 32 := Scf.iv c0_i32 c1_i32 k0_t1
  let v749 : Index := Scalar.indexCast arg8
  let c68 : Index := 68#32
  ![v749.toNat, 68]
def k0_off138 (v752 : BitVec 32) : Fin 3 → Nat :=
  let v753 : Index := Scalar.indexCast v752
  let c0_211 : Index := 0#32
  let c0_212 : Index := 0#32
  ![v753.toNat, 0, 0]

def k0_chk69 (v752 : BitVec 32) : Prop :=
  (∀ a, (k0_off138 v752) a + S1x8x128.size a ≤ S16384x8x128.size a)
theorem k0_off138_inb : ∀ (v752 : BitVec 32) (k0_hw69 : k0_chk69 v752), ∀ a, (k0_off138 v752) a + S1x8x128.size a ≤ S16384x8x128.size a := fun v752 k0_hw69 => k0_hw69

def k0_off139 (k0_t1 : Fin k0_t1_loop.trips) : Fin 2 → Nat :=
  let c0_i32 : BitVec 32 := 0#32
  let c1_i32 : BitVec 32 := 1#32
  let arg8 : BitVec 32 := Scf.iv c0_i32 c1_i32 k0_t1
  let v760 : Index := Scalar.indexCast arg8
  let c69 : Index := 69#32
  ![v760.toNat, 69]
def k0_off140 (v763 : BitVec 32) : Fin 3 → Nat :=
  let v764 : Index := Scalar.indexCast v763
  let c0_214 : Index := 0#32
  let c0_215 : Index := 0#32
  ![v764.toNat, 0, 0]

def k0_chk70 (v763 : BitVec 32) : Prop :=
  (∀ a, (k0_off140 v763) a + S1x8x128.size a ≤ S16384x8x128.size a)
theorem k0_off140_inb : ∀ (v763 : BitVec 32) (k0_hw70 : k0_chk70 v763), ∀ a, (k0_off140 v763) a + S1x8x128.size a ≤ S16384x8x128.size a := fun v763 k0_hw70 => k0_hw70

def k0_off141 (k0_t1 : Fin k0_t1_loop.trips) : Fin 2 → Nat :=
  let c0_i32 : BitVec 32 := 0#32
  let c1_i32 : BitVec 32 := 1#32
  let arg8 : BitVec 32 := Scf.iv c0_i32 c1_i32 k0_t1
  let v771 : Index := Scalar.indexCast arg8
  let c70 : Index := 70#32
  ![v771.toNat, 70]
def k0_off142 (v774 : BitVec 32) : Fin 3 → Nat :=
  let v775 : Index := Scalar.indexCast v774
  let c0_217 : Index := 0#32
  let c0_218 : Index := 0#32
  ![v775.toNat, 0, 0]

def k0_chk71 (v774 : BitVec 32) : Prop :=
  (∀ a, (k0_off142 v774) a + S1x8x128.size a ≤ S16384x8x128.size a)
theorem k0_off142_inb : ∀ (v774 : BitVec 32) (k0_hw71 : k0_chk71 v774), ∀ a, (k0_off142 v774) a + S1x8x128.size a ≤ S16384x8x128.size a := fun v774 k0_hw71 => k0_hw71

def k0_off143 (k0_t1 : Fin k0_t1_loop.trips) : Fin 2 → Nat :=
  let c0_i32 : BitVec 32 := 0#32
  let c1_i32 : BitVec 32 := 1#32
  let arg8 : BitVec 32 := Scf.iv c0_i32 c1_i32 k0_t1
  let v782 : Index := Scalar.indexCast arg8
  let c71 : Index := 71#32
  ![v782.toNat, 71]
def k0_off144 (v785 : BitVec 32) : Fin 3 → Nat :=
  let v786 : Index := Scalar.indexCast v785
  let c0_220 : Index := 0#32
  let c0_221 : Index := 0#32
  ![v786.toNat, 0, 0]

def k0_chk72 (v785 : BitVec 32) : Prop :=
  (∀ a, (k0_off144 v785) a + S1x8x128.size a ≤ S16384x8x128.size a)
theorem k0_off144_inb : ∀ (v785 : BitVec 32) (k0_hw72 : k0_chk72 v785), ∀ a, (k0_off144 v785) a + S1x8x128.size a ≤ S16384x8x128.size a := fun v785 k0_hw72 => k0_hw72

def k0_off145 (k0_t1 : Fin k0_t1_loop.trips) : Fin 2 → Nat :=
  let c0_i32 : BitVec 32 := 0#32
  let c1_i32 : BitVec 32 := 1#32
  let arg8 : BitVec 32 := Scf.iv c0_i32 c1_i32 k0_t1
  let v793 : Index := Scalar.indexCast arg8
  let c72 : Index := 72#32
  ![v793.toNat, 72]
def k0_off146 (v796 : BitVec 32) : Fin 3 → Nat :=
  let v797 : Index := Scalar.indexCast v796
  let c0_223 : Index := 0#32
  let c0_224 : Index := 0#32
  ![v797.toNat, 0, 0]

def k0_chk73 (v796 : BitVec 32) : Prop :=
  (∀ a, (k0_off146 v796) a + S1x8x128.size a ≤ S16384x8x128.size a)
theorem k0_off146_inb : ∀ (v796 : BitVec 32) (k0_hw73 : k0_chk73 v796), ∀ a, (k0_off146 v796) a + S1x8x128.size a ≤ S16384x8x128.size a := fun v796 k0_hw73 => k0_hw73

def k0_off147 (k0_t1 : Fin k0_t1_loop.trips) : Fin 2 → Nat :=
  let c0_i32 : BitVec 32 := 0#32
  let c1_i32 : BitVec 32 := 1#32
  let arg8 : BitVec 32 := Scf.iv c0_i32 c1_i32 k0_t1
  let v804 : Index := Scalar.indexCast arg8
  let c73 : Index := 73#32
  ![v804.toNat, 73]
def k0_off148 (v807 : BitVec 32) : Fin 3 → Nat :=
  let v808 : Index := Scalar.indexCast v807
  let c0_226 : Index := 0#32
  let c0_227 : Index := 0#32
  ![v808.toNat, 0, 0]

def k0_chk74 (v807 : BitVec 32) : Prop :=
  (∀ a, (k0_off148 v807) a + S1x8x128.size a ≤ S16384x8x128.size a)
theorem k0_off148_inb : ∀ (v807 : BitVec 32) (k0_hw74 : k0_chk74 v807), ∀ a, (k0_off148 v807) a + S1x8x128.size a ≤ S16384x8x128.size a := fun v807 k0_hw74 => k0_hw74

def k0_off149 (k0_t1 : Fin k0_t1_loop.trips) : Fin 2 → Nat :=
  let c0_i32 : BitVec 32 := 0#32
  let c1_i32 : BitVec 32 := 1#32
  let arg8 : BitVec 32 := Scf.iv c0_i32 c1_i32 k0_t1
  let v815 : Index := Scalar.indexCast arg8
  let c74 : Index := 74#32
  ![v815.toNat, 74]
def k0_off150 (v818 : BitVec 32) : Fin 3 → Nat :=
  let v819 : Index := Scalar.indexCast v818
  let c0_229 : Index := 0#32
  let c0_230 : Index := 0#32
  ![v819.toNat, 0, 0]

def k0_chk75 (v818 : BitVec 32) : Prop :=
  (∀ a, (k0_off150 v818) a + S1x8x128.size a ≤ S16384x8x128.size a)
theorem k0_off150_inb : ∀ (v818 : BitVec 32) (k0_hw75 : k0_chk75 v818), ∀ a, (k0_off150 v818) a + S1x8x128.size a ≤ S16384x8x128.size a := fun v818 k0_hw75 => k0_hw75

def k0_off151 (k0_t1 : Fin k0_t1_loop.trips) : Fin 2 → Nat :=
  let c0_i32 : BitVec 32 := 0#32
  let c1_i32 : BitVec 32 := 1#32
  let arg8 : BitVec 32 := Scf.iv c0_i32 c1_i32 k0_t1
  let v826 : Index := Scalar.indexCast arg8
  let c75 : Index := 75#32
  ![v826.toNat, 75]
def k0_off152 (v829 : BitVec 32) : Fin 3 → Nat :=
  let v830 : Index := Scalar.indexCast v829
  let c0_232 : Index := 0#32
  let c0_233 : Index := 0#32
  ![v830.toNat, 0, 0]

def k0_chk76 (v829 : BitVec 32) : Prop :=
  (∀ a, (k0_off152 v829) a + S1x8x128.size a ≤ S16384x8x128.size a)
theorem k0_off152_inb : ∀ (v829 : BitVec 32) (k0_hw76 : k0_chk76 v829), ∀ a, (k0_off152 v829) a + S1x8x128.size a ≤ S16384x8x128.size a := fun v829 k0_hw76 => k0_hw76

def k0_off153 (k0_t1 : Fin k0_t1_loop.trips) : Fin 2 → Nat :=
  let c0_i32 : BitVec 32 := 0#32
  let c1_i32 : BitVec 32 := 1#32
  let arg8 : BitVec 32 := Scf.iv c0_i32 c1_i32 k0_t1
  let v837 : Index := Scalar.indexCast arg8
  let c76 : Index := 76#32
  ![v837.toNat, 76]
def k0_off154 (v840 : BitVec 32) : Fin 3 → Nat :=
  let v841 : Index := Scalar.indexCast v840
  let c0_235 : Index := 0#32
  let c0_236 : Index := 0#32
  ![v841.toNat, 0, 0]

def k0_chk77 (v840 : BitVec 32) : Prop :=
  (∀ a, (k0_off154 v840) a + S1x8x128.size a ≤ S16384x8x128.size a)
theorem k0_off154_inb : ∀ (v840 : BitVec 32) (k0_hw77 : k0_chk77 v840), ∀ a, (k0_off154 v840) a + S1x8x128.size a ≤ S16384x8x128.size a := fun v840 k0_hw77 => k0_hw77

def k0_off155 (k0_t1 : Fin k0_t1_loop.trips) : Fin 2 → Nat :=
  let c0_i32 : BitVec 32 := 0#32
  let c1_i32 : BitVec 32 := 1#32
  let arg8 : BitVec 32 := Scf.iv c0_i32 c1_i32 k0_t1
  let v848 : Index := Scalar.indexCast arg8
  let c77 : Index := 77#32
  ![v848.toNat, 77]
def k0_off156 (v851 : BitVec 32) : Fin 3 → Nat :=
  let v852 : Index := Scalar.indexCast v851
  let c0_238 : Index := 0#32
  let c0_239 : Index := 0#32
  ![v852.toNat, 0, 0]

def k0_chk78 (v851 : BitVec 32) : Prop :=
  (∀ a, (k0_off156 v851) a + S1x8x128.size a ≤ S16384x8x128.size a)
theorem k0_off156_inb : ∀ (v851 : BitVec 32) (k0_hw78 : k0_chk78 v851), ∀ a, (k0_off156 v851) a + S1x8x128.size a ≤ S16384x8x128.size a := fun v851 k0_hw78 => k0_hw78

def k0_off157 (k0_t1 : Fin k0_t1_loop.trips) : Fin 2 → Nat :=
  let c0_i32 : BitVec 32 := 0#32
  let c1_i32 : BitVec 32 := 1#32
  let arg8 : BitVec 32 := Scf.iv c0_i32 c1_i32 k0_t1
  let v859 : Index := Scalar.indexCast arg8
  let c78 : Index := 78#32
  ![v859.toNat, 78]
def k0_off158 (v862 : BitVec 32) : Fin 3 → Nat :=
  let v863 : Index := Scalar.indexCast v862
  let c0_241 : Index := 0#32
  let c0_242 : Index := 0#32
  ![v863.toNat, 0, 0]

def k0_chk79 (v862 : BitVec 32) : Prop :=
  (∀ a, (k0_off158 v862) a + S1x8x128.size a ≤ S16384x8x128.size a)
theorem k0_off158_inb : ∀ (v862 : BitVec 32) (k0_hw79 : k0_chk79 v862), ∀ a, (k0_off158 v862) a + S1x8x128.size a ≤ S16384x8x128.size a := fun v862 k0_hw79 => k0_hw79

def k0_off159 (k0_t1 : Fin k0_t1_loop.trips) : Fin 2 → Nat :=
  let c0_i32 : BitVec 32 := 0#32
  let c1_i32 : BitVec 32 := 1#32
  let arg8 : BitVec 32 := Scf.iv c0_i32 c1_i32 k0_t1
  let v870 : Index := Scalar.indexCast arg8
  let c79 : Index := 79#32
  ![v870.toNat, 79]
def k0_off160 (v873 : BitVec 32) : Fin 3 → Nat :=
  let v874 : Index := Scalar.indexCast v873
  let c0_244 : Index := 0#32
  let c0_245 : Index := 0#32
  ![v874.toNat, 0, 0]

def k0_chk80 (v873 : BitVec 32) : Prop :=
  (∀ a, (k0_off160 v873) a + S1x8x128.size a ≤ S16384x8x128.size a)
theorem k0_off160_inb : ∀ (v873 : BitVec 32) (k0_hw80 : k0_chk80 v873), ∀ a, (k0_off160 v873) a + S1x8x128.size a ≤ S16384x8x128.size a := fun v873 k0_hw80 => k0_hw80

def k0_off161 (k0_t1 : Fin k0_t1_loop.trips) : Fin 2 → Nat :=
  let c0_i32 : BitVec 32 := 0#32
  let c1_i32 : BitVec 32 := 1#32
  let arg8 : BitVec 32 := Scf.iv c0_i32 c1_i32 k0_t1
  let v881 : Index := Scalar.indexCast arg8
  let c80 : Index := 80#32
  ![v881.toNat, 80]
def k0_off162 (v884 : BitVec 32) : Fin 3 → Nat :=
  let v885 : Index := Scalar.indexCast v884
  let c0_247 : Index := 0#32
  let c0_248 : Index := 0#32
  ![v885.toNat, 0, 0]

def k0_chk81 (v884 : BitVec 32) : Prop :=
  (∀ a, (k0_off162 v884) a + S1x8x128.size a ≤ S16384x8x128.size a)
theorem k0_off162_inb : ∀ (v884 : BitVec 32) (k0_hw81 : k0_chk81 v884), ∀ a, (k0_off162 v884) a + S1x8x128.size a ≤ S16384x8x128.size a := fun v884 k0_hw81 => k0_hw81

def k0_off163 (k0_t1 : Fin k0_t1_loop.trips) : Fin 2 → Nat :=
  let c0_i32 : BitVec 32 := 0#32
  let c1_i32 : BitVec 32 := 1#32
  let arg8 : BitVec 32 := Scf.iv c0_i32 c1_i32 k0_t1
  let v892 : Index := Scalar.indexCast arg8
  let c81 : Index := 81#32
  ![v892.toNat, 81]
def k0_off164 (v895 : BitVec 32) : Fin 3 → Nat :=
  let v896 : Index := Scalar.indexCast v895
  let c0_250 : Index := 0#32
  let c0_251 : Index := 0#32
  ![v896.toNat, 0, 0]

def k0_chk82 (v895 : BitVec 32) : Prop :=
  (∀ a, (k0_off164 v895) a + S1x8x128.size a ≤ S16384x8x128.size a)
theorem k0_off164_inb : ∀ (v895 : BitVec 32) (k0_hw82 : k0_chk82 v895), ∀ a, (k0_off164 v895) a + S1x8x128.size a ≤ S16384x8x128.size a := fun v895 k0_hw82 => k0_hw82

def k0_off165 (k0_t1 : Fin k0_t1_loop.trips) : Fin 2 → Nat :=
  let c0_i32 : BitVec 32 := 0#32
  let c1_i32 : BitVec 32 := 1#32
  let arg8 : BitVec 32 := Scf.iv c0_i32 c1_i32 k0_t1
  let v903 : Index := Scalar.indexCast arg8
  let c82 : Index := 82#32
  ![v903.toNat, 82]
def k0_off166 (v906 : BitVec 32) : Fin 3 → Nat :=
  let v907 : Index := Scalar.indexCast v906
  let c0_253 : Index := 0#32
  let c0_254 : Index := 0#32
  ![v907.toNat, 0, 0]

def k0_chk83 (v906 : BitVec 32) : Prop :=
  (∀ a, (k0_off166 v906) a + S1x8x128.size a ≤ S16384x8x128.size a)
theorem k0_off166_inb : ∀ (v906 : BitVec 32) (k0_hw83 : k0_chk83 v906), ∀ a, (k0_off166 v906) a + S1x8x128.size a ≤ S16384x8x128.size a := fun v906 k0_hw83 => k0_hw83

def k0_off167 (k0_t1 : Fin k0_t1_loop.trips) : Fin 2 → Nat :=
  let c0_i32 : BitVec 32 := 0#32
  let c1_i32 : BitVec 32 := 1#32
  let arg8 : BitVec 32 := Scf.iv c0_i32 c1_i32 k0_t1
  let v914 : Index := Scalar.indexCast arg8
  let c83 : Index := 83#32
  ![v914.toNat, 83]
def k0_off168 (v917 : BitVec 32) : Fin 3 → Nat :=
  let v918 : Index := Scalar.indexCast v917
  let c0_256 : Index := 0#32
  let c0_257 : Index := 0#32
  ![v918.toNat, 0, 0]

def k0_chk84 (v917 : BitVec 32) : Prop :=
  (∀ a, (k0_off168 v917) a + S1x8x128.size a ≤ S16384x8x128.size a)
theorem k0_off168_inb : ∀ (v917 : BitVec 32) (k0_hw84 : k0_chk84 v917), ∀ a, (k0_off168 v917) a + S1x8x128.size a ≤ S16384x8x128.size a := fun v917 k0_hw84 => k0_hw84

def k0_off169 (k0_t1 : Fin k0_t1_loop.trips) : Fin 2 → Nat :=
  let c0_i32 : BitVec 32 := 0#32
  let c1_i32 : BitVec 32 := 1#32
  let arg8 : BitVec 32 := Scf.iv c0_i32 c1_i32 k0_t1
  let v925 : Index := Scalar.indexCast arg8
  let c84 : Index := 84#32
  ![v925.toNat, 84]
def k0_off170 (v928 : BitVec 32) : Fin 3 → Nat :=
  let v929 : Index := Scalar.indexCast v928
  let c0_259 : Index := 0#32
  let c0_260 : Index := 0#32
  ![v929.toNat, 0, 0]

def k0_chk85 (v928 : BitVec 32) : Prop :=
  (∀ a, (k0_off170 v928) a + S1x8x128.size a ≤ S16384x8x128.size a)
theorem k0_off170_inb : ∀ (v928 : BitVec 32) (k0_hw85 : k0_chk85 v928), ∀ a, (k0_off170 v928) a + S1x8x128.size a ≤ S16384x8x128.size a := fun v928 k0_hw85 => k0_hw85

def k0_off171 (k0_t1 : Fin k0_t1_loop.trips) : Fin 2 → Nat :=
  let c0_i32 : BitVec 32 := 0#32
  let c1_i32 : BitVec 32 := 1#32
  let arg8 : BitVec 32 := Scf.iv c0_i32 c1_i32 k0_t1
  let v936 : Index := Scalar.indexCast arg8
  let c85 : Index := 85#32
  ![v936.toNat, 85]
def k0_off172 (v939 : BitVec 32) : Fin 3 → Nat :=
  let v940 : Index := Scalar.indexCast v939
  let c0_262 : Index := 0#32
  let c0_263 : Index := 0#32
  ![v940.toNat, 0, 0]

def k0_chk86 (v939 : BitVec 32) : Prop :=
  (∀ a, (k0_off172 v939) a + S1x8x128.size a ≤ S16384x8x128.size a)
theorem k0_off172_inb : ∀ (v939 : BitVec 32) (k0_hw86 : k0_chk86 v939), ∀ a, (k0_off172 v939) a + S1x8x128.size a ≤ S16384x8x128.size a := fun v939 k0_hw86 => k0_hw86

def k0_off173 (k0_t1 : Fin k0_t1_loop.trips) : Fin 2 → Nat :=
  let c0_i32 : BitVec 32 := 0#32
  let c1_i32 : BitVec 32 := 1#32
  let arg8 : BitVec 32 := Scf.iv c0_i32 c1_i32 k0_t1
  let v947 : Index := Scalar.indexCast arg8
  let c86 : Index := 86#32
  ![v947.toNat, 86]
def k0_off174 (v950 : BitVec 32) : Fin 3 → Nat :=
  let v951 : Index := Scalar.indexCast v950
  let c0_265 : Index := 0#32
  let c0_266 : Index := 0#32
  ![v951.toNat, 0, 0]

def k0_chk87 (v950 : BitVec 32) : Prop :=
  (∀ a, (k0_off174 v950) a + S1x8x128.size a ≤ S16384x8x128.size a)
theorem k0_off174_inb : ∀ (v950 : BitVec 32) (k0_hw87 : k0_chk87 v950), ∀ a, (k0_off174 v950) a + S1x8x128.size a ≤ S16384x8x128.size a := fun v950 k0_hw87 => k0_hw87

def k0_off175 (k0_t1 : Fin k0_t1_loop.trips) : Fin 2 → Nat :=
  let c0_i32 : BitVec 32 := 0#32
  let c1_i32 : BitVec 32 := 1#32
  let arg8 : BitVec 32 := Scf.iv c0_i32 c1_i32 k0_t1
  let v958 : Index := Scalar.indexCast arg8
  let c87 : Index := 87#32
  ![v958.toNat, 87]
def k0_off176 (v961 : BitVec 32) : Fin 3 → Nat :=
  let v962 : Index := Scalar.indexCast v961
  let c0_268 : Index := 0#32
  let c0_269 : Index := 0#32
  ![v962.toNat, 0, 0]

def k0_chk88 (v961 : BitVec 32) : Prop :=
  (∀ a, (k0_off176 v961) a + S1x8x128.size a ≤ S16384x8x128.size a)
theorem k0_off176_inb : ∀ (v961 : BitVec 32) (k0_hw88 : k0_chk88 v961), ∀ a, (k0_off176 v961) a + S1x8x128.size a ≤ S16384x8x128.size a := fun v961 k0_hw88 => k0_hw88

def k0_off177 (k0_t1 : Fin k0_t1_loop.trips) : Fin 2 → Nat :=
  let c0_i32 : BitVec 32 := 0#32
  let c1_i32 : BitVec 32 := 1#32
  let arg8 : BitVec 32 := Scf.iv c0_i32 c1_i32 k0_t1
  let v969 : Index := Scalar.indexCast arg8
  let c88 : Index := 88#32
  ![v969.toNat, 88]
def k0_off178 (v972 : BitVec 32) : Fin 3 → Nat :=
  let v973 : Index := Scalar.indexCast v972
  let c0_271 : Index := 0#32
  let c0_272 : Index := 0#32
  ![v973.toNat, 0, 0]

def k0_chk89 (v972 : BitVec 32) : Prop :=
  (∀ a, (k0_off178 v972) a + S1x8x128.size a ≤ S16384x8x128.size a)
theorem k0_off178_inb : ∀ (v972 : BitVec 32) (k0_hw89 : k0_chk89 v972), ∀ a, (k0_off178 v972) a + S1x8x128.size a ≤ S16384x8x128.size a := fun v972 k0_hw89 => k0_hw89

def k0_off179 (k0_t1 : Fin k0_t1_loop.trips) : Fin 2 → Nat :=
  let c0_i32 : BitVec 32 := 0#32
  let c1_i32 : BitVec 32 := 1#32
  let arg8 : BitVec 32 := Scf.iv c0_i32 c1_i32 k0_t1
  let v980 : Index := Scalar.indexCast arg8
  let c89 : Index := 89#32
  ![v980.toNat, 89]
def k0_off180 (v983 : BitVec 32) : Fin 3 → Nat :=
  let v984 : Index := Scalar.indexCast v983
  let c0_274 : Index := 0#32
  let c0_275 : Index := 0#32
  ![v984.toNat, 0, 0]

def k0_chk90 (v983 : BitVec 32) : Prop :=
  (∀ a, (k0_off180 v983) a + S1x8x128.size a ≤ S16384x8x128.size a)
theorem k0_off180_inb : ∀ (v983 : BitVec 32) (k0_hw90 : k0_chk90 v983), ∀ a, (k0_off180 v983) a + S1x8x128.size a ≤ S16384x8x128.size a := fun v983 k0_hw90 => k0_hw90

def k0_off181 (k0_t1 : Fin k0_t1_loop.trips) : Fin 2 → Nat :=
  let c0_i32 : BitVec 32 := 0#32
  let c1_i32 : BitVec 32 := 1#32
  let arg8 : BitVec 32 := Scf.iv c0_i32 c1_i32 k0_t1
  let v991 : Index := Scalar.indexCast arg8
  let c90 : Index := 90#32
  ![v991.toNat, 90]
def k0_off182 (v994 : BitVec 32) : Fin 3 → Nat :=
  let v995 : Index := Scalar.indexCast v994
  let c0_277 : Index := 0#32
  let c0_278 : Index := 0#32
  ![v995.toNat, 0, 0]

def k0_chk91 (v994 : BitVec 32) : Prop :=
  (∀ a, (k0_off182 v994) a + S1x8x128.size a ≤ S16384x8x128.size a)
theorem k0_off182_inb : ∀ (v994 : BitVec 32) (k0_hw91 : k0_chk91 v994), ∀ a, (k0_off182 v994) a + S1x8x128.size a ≤ S16384x8x128.size a := fun v994 k0_hw91 => k0_hw91

def k0_off183 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1002 : Index := Scalar.indexCast arg8
  let c91 : Index := 91#32
  ![v1002.toNat, 91]
def k0_off184 (v1005 : BitVec 32) : Fin 3 → Nat :=
  let v1006 : Index := Scalar.indexCast v1005
  let c0_280 : Index := 0#32
  let c0_281 : Index := 0#32
  ![v1006.toNat, 0, 0]

def k0_chk92 (v1005 : BitVec 32) : Prop :=
  (∀ a, (k0_off184 v1005) a + S1x8x128.size a ≤ S16384x8x128.size a)
theorem k0_off184_inb : ∀ (v1005 : BitVec 32) (k0_hw92 : k0_chk92 v1005), ∀ a, (k0_off184 v1005) a + S1x8x128.size a ≤ S16384x8x128.size a := fun v1005 k0_hw92 => k0_hw92

def k0_off185 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1013 : Index := Scalar.indexCast arg8
  let c92 : Index := 92#32
  ![v1013.toNat, 92]
def k0_off186 (v1016 : BitVec 32) : Fin 3 → Nat :=
  let v1017 : Index := Scalar.indexCast v1016
  let c0_283 : Index := 0#32
  let c0_284 : Index := 0#32
  ![v1017.toNat, 0, 0]

def k0_chk93 (v1016 : BitVec 32) : Prop :=
  (∀ a, (k0_off186 v1016) a + S1x8x128.size a ≤ S16384x8x128.size a)
theorem k0_off186_inb : ∀ (v1016 : BitVec 32) (k0_hw93 : k0_chk93 v1016), ∀ a, (k0_off186 v1016) a + S1x8x128.size a ≤ S16384x8x128.size a := fun v1016 k0_hw93 => k0_hw93

def k0_off187 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1024 : Index := Scalar.indexCast arg8
  let c93 : Index := 93#32
  ![v1024.toNat, 93]
def k0_off188 (v1027 : BitVec 32) : Fin 3 → Nat :=
  let v1028 : Index := Scalar.indexCast v1027
  let c0_286 : Index := 0#32
  let c0_287 : Index := 0#32
  ![v1028.toNat, 0, 0]

def k0_chk94 (v1027 : BitVec 32) : Prop :=
  (∀ a, (k0_off188 v1027) a + S1x8x128.size a ≤ S16384x8x128.size a)
theorem k0_off188_inb : ∀ (v1027 : BitVec 32) (k0_hw94 : k0_chk94 v1027), ∀ a, (k0_off188 v1027) a + S1x8x128.size a ≤ S16384x8x128.size a := fun v1027 k0_hw94 => k0_hw94

def k0_off189 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1035 : Index := Scalar.indexCast arg8
  let c94 : Index := 94#32
  ![v1035.toNat, 94]
def k0_off190 (v1038 : BitVec 32) : Fin 3 → Nat :=
  let v1039 : Index := Scalar.indexCast v1038
  let c0_289 : Index := 0#32
  let c0_290 : Index := 0#32
  ![v1039.toNat, 0, 0]

def k0_chk95 (v1038 : BitVec 32) : Prop :=
  (∀ a, (k0_off190 v1038) a + S1x8x128.size a ≤ S16384x8x128.size a)
theorem k0_off190_inb : ∀ (v1038 : BitVec 32) (k0_hw95 : k0_chk95 v1038), ∀ a, (k0_off190 v1038) a + S1x8x128.size a ≤ S16384x8x128.size a := fun v1038 k0_hw95 => k0_hw95

def k0_off191 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1046 : Index := Scalar.indexCast arg8
  let c95 : Index := 95#32
  ![v1046.toNat, 95]
def k0_off192 (v1049 : BitVec 32) : Fin 3 → Nat :=
  let v1050 : Index := Scalar.indexCast v1049
  let c0_292 : Index := 0#32
  let c0_293 : Index := 0#32
  ![v1050.toNat, 0, 0]

def k0_chk96 (v1049 : BitVec 32) : Prop :=
  (∀ a, (k0_off192 v1049) a + S1x8x128.size a ≤ S16384x8x128.size a)
theorem k0_off192_inb : ∀ (v1049 : BitVec 32) (k0_hw96 : k0_chk96 v1049), ∀ a, (k0_off192 v1049) a + S1x8x128.size a ≤ S16384x8x128.size a := fun v1049 k0_hw96 => k0_hw96

def k0_off193 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1057 : Index := Scalar.indexCast arg8
  let c96 : Index := 96#32
  ![v1057.toNat, 96]
def k0_off194 (v1060 : BitVec 32) : Fin 3 → Nat :=
  let v1061 : Index := Scalar.indexCast v1060
  let c0_295 : Index := 0#32
  let c0_296 : Index := 0#32
  ![v1061.toNat, 0, 0]

def k0_chk97 (v1060 : BitVec 32) : Prop :=
  (∀ a, (k0_off194 v1060) a + S1x8x128.size a ≤ S16384x8x128.size a)
theorem k0_off194_inb : ∀ (v1060 : BitVec 32) (k0_hw97 : k0_chk97 v1060), ∀ a, (k0_off194 v1060) a + S1x8x128.size a ≤ S16384x8x128.size a := fun v1060 k0_hw97 => k0_hw97

def k0_off195 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1068 : Index := Scalar.indexCast arg8
  let c97 : Index := 97#32
  ![v1068.toNat, 97]
def k0_off196 (v1071 : BitVec 32) : Fin 3 → Nat :=
  let v1072 : Index := Scalar.indexCast v1071
  let c0_298 : Index := 0#32
  let c0_299 : Index := 0#32
  ![v1072.toNat, 0, 0]

def k0_chk98 (v1071 : BitVec 32) : Prop :=
  (∀ a, (k0_off196 v1071) a + S1x8x128.size a ≤ S16384x8x128.size a)
theorem k0_off196_inb : ∀ (v1071 : BitVec 32) (k0_hw98 : k0_chk98 v1071), ∀ a, (k0_off196 v1071) a + S1x8x128.size a ≤ S16384x8x128.size a := fun v1071 k0_hw98 => k0_hw98

def k0_off197 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1079 : Index := Scalar.indexCast arg8
  let c98 : Index := 98#32
  ![v1079.toNat, 98]
def k0_off198 (v1082 : BitVec 32) : Fin 3 → Nat :=
  let v1083 : Index := Scalar.indexCast v1082
  let c0_301 : Index := 0#32
  let c0_302 : Index := 0#32
  ![v1083.toNat, 0, 0]

def k0_chk99 (v1082 : BitVec 32) : Prop :=
  (∀ a, (k0_off198 v1082) a + S1x8x128.size a ≤ S16384x8x128.size a)
theorem k0_off198_inb : ∀ (v1082 : BitVec 32) (k0_hw99 : k0_chk99 v1082), ∀ a, (k0_off198 v1082) a + S1x8x128.size a ≤ S16384x8x128.size a := fun v1082 k0_hw99 => k0_hw99

def k0_off199 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1090 : Index := Scalar.indexCast arg8
  let c99 : Index := 99#32
  ![v1090.toNat, 99]
def k0_off200 (v1093 : BitVec 32) : Fin 3 → Nat :=
  let v1094 : Index := Scalar.indexCast v1093
  let c0_304 : Index := 0#32
  let c0_305 : Index := 0#32
  ![v1094.toNat, 0, 0]

def k0_chk100 (v1093 : BitVec 32) : Prop :=
  (∀ a, (k0_off200 v1093) a + S1x8x128.size a ≤ S16384x8x128.size a)
theorem k0_off200_inb : ∀ (v1093 : BitVec 32) (k0_hw100 : k0_chk100 v1093), ∀ a, (k0_off200 v1093) a + S1x8x128.size a ≤ S16384x8x128.size a := fun v1093 k0_hw100 => k0_hw100

def k0_off201 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1101 : Index := Scalar.indexCast arg8
  let c100 : Index := 100#32
  ![v1101.toNat, 100]
def k0_off202 (v1104 : BitVec 32) : Fin 3 → Nat :=
  let v1105 : Index := Scalar.indexCast v1104
  let c0_307 : Index := 0#32
  let c0_308 : Index := 0#32
  ![v1105.toNat, 0, 0]

def k0_chk101 (v1104 : BitVec 32) : Prop :=
  (∀ a, (k0_off202 v1104) a + S1x8x128.size a ≤ S16384x8x128.size a)
theorem k0_off202_inb : ∀ (v1104 : BitVec 32) (k0_hw101 : k0_chk101 v1104), ∀ a, (k0_off202 v1104) a + S1x8x128.size a ≤ S16384x8x128.size a := fun v1104 k0_hw101 => k0_hw101

def k0_off203 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1112 : Index := Scalar.indexCast arg8
  let c101 : Index := 101#32
  ![v1112.toNat, 101]
def k0_off204 (v1115 : BitVec 32) : Fin 3 → Nat :=
  let v1116 : Index := Scalar.indexCast v1115
  let c0_310 : Index := 0#32
  let c0_311 : Index := 0#32
  ![v1116.toNat, 0, 0]

def k0_chk102 (v1115 : BitVec 32) : Prop :=
  (∀ a, (k0_off204 v1115) a + S1x8x128.size a ≤ S16384x8x128.size a)
theorem k0_off204_inb : ∀ (v1115 : BitVec 32) (k0_hw102 : k0_chk102 v1115), ∀ a, (k0_off204 v1115) a + S1x8x128.size a ≤ S16384x8x128.size a := fun v1115 k0_hw102 => k0_hw102

def k0_off205 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1123 : Index := Scalar.indexCast arg8
  let c102 : Index := 102#32
  ![v1123.toNat, 102]
def k0_off206 (v1126 : BitVec 32) : Fin 3 → Nat :=
  let v1127 : Index := Scalar.indexCast v1126
  let c0_313 : Index := 0#32
  let c0_314 : Index := 0#32
  ![v1127.toNat, 0, 0]

def k0_chk103 (v1126 : BitVec 32) : Prop :=
  (∀ a, (k0_off206 v1126) a + S1x8x128.size a ≤ S16384x8x128.size a)
theorem k0_off206_inb : ∀ (v1126 : BitVec 32) (k0_hw103 : k0_chk103 v1126), ∀ a, (k0_off206 v1126) a + S1x8x128.size a ≤ S16384x8x128.size a := fun v1126 k0_hw103 => k0_hw103

def k0_off207 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1134 : Index := Scalar.indexCast arg8
  let c103 : Index := 103#32
  ![v1134.toNat, 103]
def k0_off208 (v1137 : BitVec 32) : Fin 3 → Nat :=
  let v1138 : Index := Scalar.indexCast v1137
  let c0_316 : Index := 0#32
  let c0_317 : Index := 0#32
  ![v1138.toNat, 0, 0]

def k0_chk104 (v1137 : BitVec 32) : Prop :=
  (∀ a, (k0_off208 v1137) a + S1x8x128.size a ≤ S16384x8x128.size a)
theorem k0_off208_inb : ∀ (v1137 : BitVec 32) (k0_hw104 : k0_chk104 v1137), ∀ a, (k0_off208 v1137) a + S1x8x128.size a ≤ S16384x8x128.size a := fun v1137 k0_hw104 => k0_hw104

def k0_off209 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1145 : Index := Scalar.indexCast arg8
  let c104 : Index := 104#32
  ![v1145.toNat, 104]
def k0_off210 (v1148 : BitVec 32) : Fin 3 → Nat :=
  let v1149 : Index := Scalar.indexCast v1148
  let c0_319 : Index := 0#32
  let c0_320 : Index := 0#32
  ![v1149.toNat, 0, 0]

def k0_chk105 (v1148 : BitVec 32) : Prop :=
  (∀ a, (k0_off210 v1148) a + S1x8x128.size a ≤ S16384x8x128.size a)
theorem k0_off210_inb : ∀ (v1148 : BitVec 32) (k0_hw105 : k0_chk105 v1148), ∀ a, (k0_off210 v1148) a + S1x8x128.size a ≤ S16384x8x128.size a := fun v1148 k0_hw105 => k0_hw105

def k0_off211 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1156 : Index := Scalar.indexCast arg8
  let c105 : Index := 105#32
  ![v1156.toNat, 105]
def k0_off212 (v1159 : BitVec 32) : Fin 3 → Nat :=
  let v1160 : Index := Scalar.indexCast v1159
  let c0_322 : Index := 0#32
  let c0_323 : Index := 0#32
  ![v1160.toNat, 0, 0]

def k0_chk106 (v1159 : BitVec 32) : Prop :=
  (∀ a, (k0_off212 v1159) a + S1x8x128.size a ≤ S16384x8x128.size a)
theorem k0_off212_inb : ∀ (v1159 : BitVec 32) (k0_hw106 : k0_chk106 v1159), ∀ a, (k0_off212 v1159) a + S1x8x128.size a ≤ S16384x8x128.size a := fun v1159 k0_hw106 => k0_hw106

def k0_off213 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1167 : Index := Scalar.indexCast arg8
  let c106 : Index := 106#32
  ![v1167.toNat, 106]
def k0_off214 (v1170 : BitVec 32) : Fin 3 → Nat :=
  let v1171 : Index := Scalar.indexCast v1170
  let c0_325 : Index := 0#32
  let c0_326 : Index := 0#32
  ![v1171.toNat, 0, 0]

def k0_chk107 (v1170 : BitVec 32) : Prop :=
  (∀ a, (k0_off214 v1170) a + S1x8x128.size a ≤ S16384x8x128.size a)
theorem k0_off214_inb : ∀ (v1170 : BitVec 32) (k0_hw107 : k0_chk107 v1170), ∀ a, (k0_off214 v1170) a + S1x8x128.size a ≤ S16384x8x128.size a := fun v1170 k0_hw107 => k0_hw107

def k0_off215 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1178 : Index := Scalar.indexCast arg8
  let c107 : Index := 107#32
  ![v1178.toNat, 107]
def k0_off216 (v1181 : BitVec 32) : Fin 3 → Nat :=
  let v1182 : Index := Scalar.indexCast v1181
  let c0_328 : Index := 0#32
  let c0_329 : Index := 0#32
  ![v1182.toNat, 0, 0]

def k0_chk108 (v1181 : BitVec 32) : Prop :=
  (∀ a, (k0_off216 v1181) a + S1x8x128.size a ≤ S16384x8x128.size a)
theorem k0_off216_inb : ∀ (v1181 : BitVec 32) (k0_hw108 : k0_chk108 v1181), ∀ a, (k0_off216 v1181) a + S1x8x128.size a ≤ S16384x8x128.size a := fun v1181 k0_hw108 => k0_hw108

def k0_off217 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1189 : Index := Scalar.indexCast arg8
  let c108 : Index := 108#32
  ![v1189.toNat, 108]
def k0_off218 (v1192 : BitVec 32) : Fin 3 → Nat :=
  let v1193 : Index := Scalar.indexCast v1192
  let c0_331 : Index := 0#32
  let c0_332 : Index := 0#32
  ![v1193.toNat, 0, 0]

def k0_chk109 (v1192 : BitVec 32) : Prop :=
  (∀ a, (k0_off218 v1192) a + S1x8x128.size a ≤ S16384x8x128.size a)
theorem k0_off218_inb : ∀ (v1192 : BitVec 32) (k0_hw109 : k0_chk109 v1192), ∀ a, (k0_off218 v1192) a + S1x8x128.size a ≤ S16384x8x128.size a := fun v1192 k0_hw109 => k0_hw109

def k0_off219 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1200 : Index := Scalar.indexCast arg8
  let c109 : Index := 109#32
  ![v1200.toNat, 109]
def k0_off220 (v1203 : BitVec 32) : Fin 3 → Nat :=
  let v1204 : Index := Scalar.indexCast v1203
  let c0_334 : Index := 0#32
  let c0_335 : Index := 0#32
  ![v1204.toNat, 0, 0]

def k0_chk110 (v1203 : BitVec 32) : Prop :=
  (∀ a, (k0_off220 v1203) a + S1x8x128.size a ≤ S16384x8x128.size a)
theorem k0_off220_inb : ∀ (v1203 : BitVec 32) (k0_hw110 : k0_chk110 v1203), ∀ a, (k0_off220 v1203) a + S1x8x128.size a ≤ S16384x8x128.size a := fun v1203 k0_hw110 => k0_hw110

def k0_off221 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1211 : Index := Scalar.indexCast arg8
  let c110 : Index := 110#32
  ![v1211.toNat, 110]
def k0_off222 (v1214 : BitVec 32) : Fin 3 → Nat :=
  let v1215 : Index := Scalar.indexCast v1214
  let c0_337 : Index := 0#32
  let c0_338 : Index := 0#32
  ![v1215.toNat, 0, 0]

def k0_chk111 (v1214 : BitVec 32) : Prop :=
  (∀ a, (k0_off222 v1214) a + S1x8x128.size a ≤ S16384x8x128.size a)
theorem k0_off222_inb : ∀ (v1214 : BitVec 32) (k0_hw111 : k0_chk111 v1214), ∀ a, (k0_off222 v1214) a + S1x8x128.size a ≤ S16384x8x128.size a := fun v1214 k0_hw111 => k0_hw111

def k0_off223 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1222 : Index := Scalar.indexCast arg8
  let c111 : Index := 111#32
  ![v1222.toNat, 111]
def k0_off224 (v1225 : BitVec 32) : Fin 3 → Nat :=
  let v1226 : Index := Scalar.indexCast v1225
  let c0_340 : Index := 0#32
  let c0_341 : Index := 0#32
  ![v1226.toNat, 0, 0]

def k0_chk112 (v1225 : BitVec 32) : Prop :=
  (∀ a, (k0_off224 v1225) a + S1x8x128.size a ≤ S16384x8x128.size a)
theorem k0_off224_inb : ∀ (v1225 : BitVec 32) (k0_hw112 : k0_chk112 v1225), ∀ a, (k0_off224 v1225) a + S1x8x128.size a ≤ S16384x8x128.size a := fun v1225 k0_hw112 => k0_hw112

def k0_off225 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1233 : Index := Scalar.indexCast arg8
  let c112 : Index := 112#32
  ![v1233.toNat, 112]
def k0_off226 (v1236 : BitVec 32) : Fin 3 → Nat :=
  let v1237 : Index := Scalar.indexCast v1236
  let c0_343 : Index := 0#32
  let c0_344 : Index := 0#32
  ![v1237.toNat, 0, 0]

def k0_chk113 (v1236 : BitVec 32) : Prop :=
  (∀ a, (k0_off226 v1236) a + S1x8x128.size a ≤ S16384x8x128.size a)
theorem k0_off226_inb : ∀ (v1236 : BitVec 32) (k0_hw113 : k0_chk113 v1236), ∀ a, (k0_off226 v1236) a + S1x8x128.size a ≤ S16384x8x128.size a := fun v1236 k0_hw113 => k0_hw113

def k0_off227 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1244 : Index := Scalar.indexCast arg8
  let c113 : Index := 113#32
  ![v1244.toNat, 113]
def k0_off228 (v1247 : BitVec 32) : Fin 3 → Nat :=
  let v1248 : Index := Scalar.indexCast v1247
  let c0_346 : Index := 0#32
  let c0_347 : Index := 0#32
  ![v1248.toNat, 0, 0]

def k0_chk114 (v1247 : BitVec 32) : Prop :=
  (∀ a, (k0_off228 v1247) a + S1x8x128.size a ≤ S16384x8x128.size a)
theorem k0_off228_inb : ∀ (v1247 : BitVec 32) (k0_hw114 : k0_chk114 v1247), ∀ a, (k0_off228 v1247) a + S1x8x128.size a ≤ S16384x8x128.size a := fun v1247 k0_hw114 => k0_hw114

def k0_off229 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1255 : Index := Scalar.indexCast arg8
  let c114 : Index := 114#32
  ![v1255.toNat, 114]
def k0_off230 (v1258 : BitVec 32) : Fin 3 → Nat :=
  let v1259 : Index := Scalar.indexCast v1258
  let c0_349 : Index := 0#32
  let c0_350 : Index := 0#32
  ![v1259.toNat, 0, 0]

def k0_chk115 (v1258 : BitVec 32) : Prop :=
  (∀ a, (k0_off230 v1258) a + S1x8x128.size a ≤ S16384x8x128.size a)
theorem k0_off230_inb : ∀ (v1258 : BitVec 32) (k0_hw115 : k0_chk115 v1258), ∀ a, (k0_off230 v1258) a + S1x8x128.size a ≤ S16384x8x128.size a := fun v1258 k0_hw115 => k0_hw115

def k0_off231 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1266 : Index := Scalar.indexCast arg8
  let c115 : Index := 115#32
  ![v1266.toNat, 115]
def k0_off232 (v1269 : BitVec 32) : Fin 3 → Nat :=
  let v1270 : Index := Scalar.indexCast v1269
  let c0_352 : Index := 0#32
  let c0_353 : Index := 0#32
  ![v1270.toNat, 0, 0]

def k0_chk116 (v1269 : BitVec 32) : Prop :=
  (∀ a, (k0_off232 v1269) a + S1x8x128.size a ≤ S16384x8x128.size a)
theorem k0_off232_inb : ∀ (v1269 : BitVec 32) (k0_hw116 : k0_chk116 v1269), ∀ a, (k0_off232 v1269) a + S1x8x128.size a ≤ S16384x8x128.size a := fun v1269 k0_hw116 => k0_hw116

def k0_off233 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1277 : Index := Scalar.indexCast arg8
  let c116 : Index := 116#32
  ![v1277.toNat, 116]
def k0_off234 (v1280 : BitVec 32) : Fin 3 → Nat :=
  let v1281 : Index := Scalar.indexCast v1280
  let c0_355 : Index := 0#32
  let c0_356 : Index := 0#32
  ![v1281.toNat, 0, 0]

def k0_chk117 (v1280 : BitVec 32) : Prop :=
  (∀ a, (k0_off234 v1280) a + S1x8x128.size a ≤ S16384x8x128.size a)
theorem k0_off234_inb : ∀ (v1280 : BitVec 32) (k0_hw117 : k0_chk117 v1280), ∀ a, (k0_off234 v1280) a + S1x8x128.size a ≤ S16384x8x128.size a := fun v1280 k0_hw117 => k0_hw117

def k0_off235 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1288 : Index := Scalar.indexCast arg8
  let c117 : Index := 117#32
  ![v1288.toNat, 117]
def k0_off236 (v1291 : BitVec 32) : Fin 3 → Nat :=
  let v1292 : Index := Scalar.indexCast v1291
  let c0_358 : Index := 0#32
  let c0_359 : Index := 0#32
  ![v1292.toNat, 0, 0]

def k0_chk118 (v1291 : BitVec 32) : Prop :=
  (∀ a, (k0_off236 v1291) a + S1x8x128.size a ≤ S16384x8x128.size a)
theorem k0_off236_inb : ∀ (v1291 : BitVec 32) (k0_hw118 : k0_chk118 v1291), ∀ a, (k0_off236 v1291) a + S1x8x128.size a ≤ S16384x8x128.size a := fun v1291 k0_hw118 => k0_hw118

def k0_off237 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1299 : Index := Scalar.indexCast arg8
  let c118 : Index := 118#32
  ![v1299.toNat, 118]
def k0_off238 (v1302 : BitVec 32) : Fin 3 → Nat :=
  let v1303 : Index := Scalar.indexCast v1302
  let c0_361 : Index := 0#32
  let c0_362 : Index := 0#32
  ![v1303.toNat, 0, 0]

def k0_chk119 (v1302 : BitVec 32) : Prop :=
  (∀ a, (k0_off238 v1302) a + S1x8x128.size a ≤ S16384x8x128.size a)
theorem k0_off238_inb : ∀ (v1302 : BitVec 32) (k0_hw119 : k0_chk119 v1302), ∀ a, (k0_off238 v1302) a + S1x8x128.size a ≤ S16384x8x128.size a := fun v1302 k0_hw119 => k0_hw119

def k0_off239 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1310 : Index := Scalar.indexCast arg8
  let c119 : Index := 119#32
  ![v1310.toNat, 119]
def k0_off240 (v1313 : BitVec 32) : Fin 3 → Nat :=
  let v1314 : Index := Scalar.indexCast v1313
  let c0_364 : Index := 0#32
  let c0_365 : Index := 0#32
  ![v1314.toNat, 0, 0]

def k0_chk120 (v1313 : BitVec 32) : Prop :=
  (∀ a, (k0_off240 v1313) a + S1x8x128.size a ≤ S16384x8x128.size a)
theorem k0_off240_inb : ∀ (v1313 : BitVec 32) (k0_hw120 : k0_chk120 v1313), ∀ a, (k0_off240 v1313) a + S1x8x128.size a ≤ S16384x8x128.size a := fun v1313 k0_hw120 => k0_hw120

def k0_off241 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1321 : Index := Scalar.indexCast arg8
  let c120 : Index := 120#32
  ![v1321.toNat, 120]
def k0_off242 (v1324 : BitVec 32) : Fin 3 → Nat :=
  let v1325 : Index := Scalar.indexCast v1324
  let c0_367 : Index := 0#32
  let c0_368 : Index := 0#32
  ![v1325.toNat, 0, 0]

def k0_chk121 (v1324 : BitVec 32) : Prop :=
  (∀ a, (k0_off242 v1324) a + S1x8x128.size a ≤ S16384x8x128.size a)
theorem k0_off242_inb : ∀ (v1324 : BitVec 32) (k0_hw121 : k0_chk121 v1324), ∀ a, (k0_off242 v1324) a + S1x8x128.size a ≤ S16384x8x128.size a := fun v1324 k0_hw121 => k0_hw121

def k0_off243 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1332 : Index := Scalar.indexCast arg8
  let c121 : Index := 121#32
  ![v1332.toNat, 121]
def k0_off244 (v1335 : BitVec 32) : Fin 3 → Nat :=
  let v1336 : Index := Scalar.indexCast v1335
  let c0_370 : Index := 0#32
  let c0_371 : Index := 0#32
  ![v1336.toNat, 0, 0]

def k0_chk122 (v1335 : BitVec 32) : Prop :=
  (∀ a, (k0_off244 v1335) a + S1x8x128.size a ≤ S16384x8x128.size a)
theorem k0_off244_inb : ∀ (v1335 : BitVec 32) (k0_hw122 : k0_chk122 v1335), ∀ a, (k0_off244 v1335) a + S1x8x128.size a ≤ S16384x8x128.size a := fun v1335 k0_hw122 => k0_hw122

def k0_off245 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1343 : Index := Scalar.indexCast arg8
  let c122 : Index := 122#32
  ![v1343.toNat, 122]
def k0_off246 (v1346 : BitVec 32) : Fin 3 → Nat :=
  let v1347 : Index := Scalar.indexCast v1346
  let c0_373 : Index := 0#32
  let c0_374 : Index := 0#32
  ![v1347.toNat, 0, 0]

def k0_chk123 (v1346 : BitVec 32) : Prop :=
  (∀ a, (k0_off246 v1346) a + S1x8x128.size a ≤ S16384x8x128.size a)
theorem k0_off246_inb : ∀ (v1346 : BitVec 32) (k0_hw123 : k0_chk123 v1346), ∀ a, (k0_off246 v1346) a + S1x8x128.size a ≤ S16384x8x128.size a := fun v1346 k0_hw123 => k0_hw123

def k0_off247 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1354 : Index := Scalar.indexCast arg8
  let c123 : Index := 123#32
  ![v1354.toNat, 123]
def k0_off248 (v1357 : BitVec 32) : Fin 3 → Nat :=
  let v1358 : Index := Scalar.indexCast v1357
  let c0_376 : Index := 0#32
  let c0_377 : Index := 0#32
  ![v1358.toNat, 0, 0]

def k0_chk124 (v1357 : BitVec 32) : Prop :=
  (∀ a, (k0_off248 v1357) a + S1x8x128.size a ≤ S16384x8x128.size a)
theorem k0_off248_inb : ∀ (v1357 : BitVec 32) (k0_hw124 : k0_chk124 v1357), ∀ a, (k0_off248 v1357) a + S1x8x128.size a ≤ S16384x8x128.size a := fun v1357 k0_hw124 => k0_hw124

def k0_off249 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1365 : Index := Scalar.indexCast arg8
  let c124 : Index := 124#32
  ![v1365.toNat, 124]
def k0_off250 (v1368 : BitVec 32) : Fin 3 → Nat :=
  let v1369 : Index := Scalar.indexCast v1368
  let c0_379 : Index := 0#32
  let c0_380 : Index := 0#32
  ![v1369.toNat, 0, 0]

def k0_chk125 (v1368 : BitVec 32) : Prop :=
  (∀ a, (k0_off250 v1368) a + S1x8x128.size a ≤ S16384x8x128.size a)
theorem k0_off250_inb : ∀ (v1368 : BitVec 32) (k0_hw125 : k0_chk125 v1368), ∀ a, (k0_off250 v1368) a + S1x8x128.size a ≤ S16384x8x128.size a := fun v1368 k0_hw125 => k0_hw125

def k0_off251 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1376 : Index := Scalar.indexCast arg8
  let c125 : Index := 125#32
  ![v1376.toNat, 125]
def k0_off252 (v1379 : BitVec 32) : Fin 3 → Nat :=
  let v1380 : Index := Scalar.indexCast v1379
  let c0_382 : Index := 0#32
  let c0_383 : Index := 0#32
  ![v1380.toNat, 0, 0]

def k0_chk126 (v1379 : BitVec 32) : Prop :=
  (∀ a, (k0_off252 v1379) a + S1x8x128.size a ≤ S16384x8x128.size a)
theorem k0_off252_inb : ∀ (v1379 : BitVec 32) (k0_hw126 : k0_chk126 v1379), ∀ a, (k0_off252 v1379) a + S1x8x128.size a ≤ S16384x8x128.size a := fun v1379 k0_hw126 => k0_hw126

def k0_off253 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1387 : Index := Scalar.indexCast arg8
  let c126 : Index := 126#32
  ![v1387.toNat, 126]
def k0_off254 (v1390 : BitVec 32) : Fin 3 → Nat :=
  let v1391 : Index := Scalar.indexCast v1390
  let c0_385 : Index := 0#32
  let c0_386 : Index := 0#32
  ![v1391.toNat, 0, 0]

def k0_chk127 (v1390 : BitVec 32) : Prop :=
  (∀ a, (k0_off254 v1390) a + S1x8x128.size a ≤ S16384x8x128.size a)
theorem k0_off254_inb : ∀ (v1390 : BitVec 32) (k0_hw127 : k0_chk127 v1390), ∀ a, (k0_off254 v1390) a + S1x8x128.size a ≤ S16384x8x128.size a := fun v1390 k0_hw127 => k0_hw127

def k0_off255 (k0_t1 : Fin k0_t1_loop.trips) : Fin 2 → Nat :=
  let c0_i32 : BitVec 32 := 0#32
  let c1_i32 : BitVec 32 := 1#32
  let arg8 : BitVec 32 := Scf.iv c0_i32 c1_i32 k0_t1
  let v1398 : Index := Scalar.indexCast arg8
  let c127 : Index := 127#32
  ![v1398.toNat, 127]
def k0_off256 (v1401 : BitVec 32) : Fin 3 → Nat :=
  let v1402 : Index := Scalar.indexCast v1401
  let c0_388 : Index := 0#32
  let c0_389 : Index := 0#32
  ![v1402.toNat, 0, 0]

def k0_chk128 (v1401 : BitVec 32) : Prop :=
  (∀ a, (k0_off256 v1401) a + S1x8x128.size a ≤ S16384x8x128.size a)
theorem k0_off256_inb : ∀ (v1401 : BitVec 32) (k0_hw128 : k0_chk128 v1401), ∀ a, (k0_off256 v1401) a + S1x8x128.size a ≤ S16384x8x128.size a := fun v1401 k0_hw128 => k0_hw128

def k0_off257 (k0_t1 : Fin k0_t1_loop.trips) : Fin 3 → Nat :=
  let c0_i32 : BitVec 32 := 0#32
  let c1_i32 : BitVec 32 := 1#32
  let arg8 : BitVec 32 := Scf.iv c0_i32 c1_i32 k0_t1
  let v1412 : Index := Scalar.indexCast arg8
  let c0_390 : Index := 0#32
  let c0_391 : Index := 0#32
  ![v1412.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S65536x128 : Shape := ⟨2, ![65536, 128]⟩
abbrev S32x2048x1024 : Shape := ⟨3, ![32, 2048, 1024]⟩
abbrev S32x1024 : Shape := ⟨2, ![32, 1024]⟩
abbrev S1024 : Shape := ⟨1, ![1024]⟩
abbrev S16384x1024 : Shape := ⟨2, ![16384, 1024]⟩
abbrev S65536x8x16 : Shape := ⟨3, ![65536, 8, 16]⟩
abbrev S_ : Shape := ⟨0, ![]⟩
abbrev S65536x8x16x1 : Shape := ⟨4, ![65536, 8, 16, 1]⟩
abbrev S65536x8x16x1024 : Shape := ⟨4, ![65536, 8, 16, 1024]⟩
abbrev S65536x1024 : Shape := ⟨2, ![65536, 1024]⟩
abbrev S32x1x1024 : Shape := ⟨3, ![32, 1, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536x128, .i32⟩
  | .hbm, ⟨1, _⟩ => ⟨S65536x128, .f32⟩
  | .hbm, ⟨2, _⟩ => ⟨S32x2048x1024, .f32⟩
  | .hbm, ⟨3, _⟩ => ⟨S32x1024, .f32⟩
  | .hbm, ⟨4, _⟩ => ⟨S1024, .f32⟩
  | .hbm, ⟨5, _⟩ => ⟨S16384x1024, .f32⟩
  | .hbm, ⟨6, _⟩ => ⟨S65536x8x16, .i32⟩
  | .hbm, ⟨7, _⟩ => ⟨S65536x8x16, .f32⟩
  | .hbm, ⟨8, _⟩ => ⟨S_, .i32⟩
  | .hbm, ⟨9, _⟩ => ⟨S65536x8x16, .i32⟩
  | .hbm, ⟨10, _⟩ => ⟨S65536x8x16, .i1⟩
  | .hbm, ⟨11, _⟩ => ⟨S_, .i32⟩
  | .hbm, ⟨12, _⟩ => ⟨S65536x8x16, .i32⟩
  | .hbm, ⟨13, _⟩ => ⟨S65536x8x16, .i32⟩
  | .hbm, ⟨14, _⟩ => ⟨S65536x8x16, .i32⟩
  | .hbm, ⟨15, _⟩ => ⟨S65536x8x16x1, .i32⟩
  | .hbm, ⟨16, _⟩ => ⟨S65536x8x16x1024, .f32⟩
  | .hbm, ⟨17, _⟩ => ⟨S65536x1024, .f32⟩
  | .hbm, ⟨18, _⟩ => ⟨S32x1x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S_, .f32⟩
  | .hbm, ⟨25, _⟩ => ⟨S32x2048, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S32x2048x1, .f32⟩
  | .hbm, ⟨34, _⟩ => ⟨S32x2048x1024, .f32⟩
  | .hbm, ⟨35, _⟩ => ⟨S32x2048x1024, .f32⟩
  | .hbm, ⟨36, _⟩ => ⟨S1x1x1024, .f32⟩
  | .hbm, ⟨37, _⟩ => ⟨S32x2048x1024, .f32⟩
  | .hbm, ⟨38, _⟩ => ⟨S32x2048x1024, .f32⟩
  | _, _ => ⟨S65536x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Ret.Loop.lean ====
/-
  What the kernel's counted loop over the sixteen chunks leaves in its four buffers, as values. Going forward the state of
  a head before chunk `k` is `state` (its recursion is one chunk's step, the printed payload itself), and chunk `k`'s rows
  of the output block are that chunk's payload; going backward the same with the chunks taken from the last. Stated over
  any float operations: nothing here computes with the payloads.
-/
module

public import proofs.«01_k».proof.Proof.Gen.KernelIdeal.Frame
public import proofs.«01_k».proof.Proof.Gen.KernelIdeal.Loops
public import Idealize.ShloMosaic.Lib.WholeRead
public import Idealize.ShloMosaic.Lib.Pointwise.Index

@[expose] public section

set_option maxRecDepth 16384

noncomputable section

namespace Cert.KernelIdeal.Ret

open Cert.KernelIdeal.Gen
open Idealize.ShloMosaic Idealize.ShloMosaic.TcCoe Idealize.ShloMosaic.Tactic

variable {F : FTy → Type} [FloatOps F]

/-! ## The chunks -/

/-- Chunk `k` of head `hh`'s queries (or keys) in a block of two heads: 128 rows, 128 columns. -/
def chQ {α : Type} (x : S1x2048x256.Idx → α) (hh : Fin 2) (k : Fin 16) : S1x128x128.Idx → α := fun y =>
  x (ix3 0 ⟨128 * k.val + (y 1).val, by have : (y 1).val < 128 := (y 1).isLt; omega⟩
    ⟨128 * hh.val + (y 2).val, by have : (y 2).val < 128 := (y 2).isLt; omega⟩)

/-- Chunk `k` of head `hh`'s values in a block of two heads: 128 rows, 256 columns. -/
def chV {α : Type} (x : S1x2048x512.Idx → α) (hh : Fin 2) (k : Fin 16) : S1x128x256.Idx → α := fun y =>
  x (ix3 0 ⟨128 * k.val + (y 1).val, by have : (y 1).val < 128 := (y 1).isLt; omega⟩
    ⟨256 * hh.val + (y 2).val, by have : (y 2).val < 256 := (y 2).isLt; omega⟩)

/-- Head `hh` of the two heads' states. -/
def hd {α : Type} (s : S2x128x256.Idx → α) (hh : Fin 2) : S1x128x256.Idx → α := fun y => s (ix3 hh (y 1) (y 2))

/-- The chunk trip `k` of the forward direction takes. -/
def fwd (k : ℕ) : Fin 16 := Fin.ofNat 16 k
/-- The chunk trip `k` of the backward direction takes. -/
def bwd (k : ℕ) : Fin 16 := Fin.rev (Fin.ofNat 16 k)

theorem fwd_val {k : ℕ} (h : k < 16) : (fwd k).val = k := Nat.mod_eq_of_lt h
theorem bwd_val {k : ℕ} (h : k < 16) : (bwd k).val = 15 - k := by
  unfold bwd; rw [Fin.val_rev]; have : (Fin.ofNat 16 k).val = k := Nat.mod_eq_of_lt h; omega

/-- The state before trip `k`, the chunks taken in the order `ord`. -/
def state (kd : FVec F S128x128 .f32) (bl : FVec F S1x256 .f32) (ck : Fin 16 → Vec F S1x128x128 .bf16) (cv : Fin 16 → Vec F S1x128x256 .bf16)
    (ord : ℕ → Fin 16) (s : Vec F S1x128x256 .f32) : ℕ → Vec F S1x128x256 .f32
  | 0 => s
  | k + 1 => k0_pay10 kd bl (ck (ord k)) (cv (ord k)) (state kd bl ck cv ord s k)

/-- Trip `k`'s 128 rows of the result, forward. -/
def outF (im qd : FVec F S128x128 .f32) (kd : FVec F S128x128 .f32) (bl : FVec F S1x256 .f32) (cq ck : Fin 16 → Vec F S1x128x128 .bf16)
    (cv : Fin 16 → Vec F S1x128x256 .bf16) (ord : ℕ → Fin 16) (s : Vec F S1x128x256 .f32) (k : ℕ) : Vec F S1x128x256 .f32 :=
  k0_pay11 im qd (cq (ord k)) (ck (ord k)) (cv (ord k)) (state kd bl ck cv ord s k)

/-- Trip `k`'s 128 rows of the result, backward (the payload the kernel stores in its second buffer, of rank two). -/
def outB (im qd : FVec F S128x128 .f32) (kd : FVec F S128x128 .f32) (bl : FVec F S1x256 .f32) (cq ck : Fin 16 → Vec F S1x128x128 .bf16)
    (cv : Fin 16 → Vec F S1x128x256 .bf16) (ord : ℕ → Fin 16) (s : Vec F S1x128x256 .f32) (k : ℕ) : Vec F S128x256 .f32 :=
  k0_pay16 im qd (cq (ord k)) (ck (ord k)) (cv (ord k)) (state kd bl ck cv ord s k)

/-! ## The accesses' offsets, in closed form -/

theorem trips_eq : k0_t1_loop.trips = 16 := by decide

theorem off3_eq (k : Fin k0_t1_loop.trips) : k0_off3 k = ![0, 128 * (fwd k.val).val, 128 * (0 : Fin 2).val] := by revert k; decide +kernel
theorem off8_eq (k : Fin k0_t1_loop.trips) : k0_off8 k = ![0, 128 * (fwd k.val).val, 128 * (1 : Fin 2).val] := by revert k; decide +kernel
theorem off5_eq (k : Fin k0_t1_loop.trips) : k0_off5 k = ![0, 128 * (bwd k.val).val, 128 * (0 : Fin 2).val] := by revert k; decide +kernel
theorem off10_eq (k : Fin k0_t1_loop.trips) : k0_off10 k = ![0, 128 * (bwd k.val).val, 128 * (1 : Fin 2).val] := by revert k; decide +kernel
theorem off4_eq (k : Fin k0_t1_loop.trips) : k0_off4 k = ![0, 128 * (fwd k.val).val, 256 * (0 : Fin 2).val] := by revert k; decide +kernel
theorem off9_eq (k : Fin k0_t1_loop.trips) : k0_off9 k = ![0, 128 * (fwd k.val).val, 256 * (1 : Fin 2).val] := by revert k; decide +kernel
theorem off6_eq (k : Fin k0_t1_loop.trips) : k0_off6 k = ![0, 128 * (bwd k.val).val, 256 * (0 : Fin 2).val] := by revert k; decide +kernel
theorem off11_eq (k : Fin k0_t1_loop.trips) : k0_off11 k = ![0, 128 * (bwd k.val).val, 256 * (1 : Fin 2).val] := by revert k; decide +kernel
theorem off7_eq (k : Fin k0_t1_loop.trips) : k0_off7 k = ![128 * (bwd k.val).val, 256 * (0 : Fin 2).val] := by revert k; decide +kernel
theorem off12_eq (k : Fin k0_t1_loop.trips) : k0_off12 k = ![128 * (bwd k.val).val, 256 * (1 : Fin 2).val] := by revert k; decide +kernel

/-! ## The loads -/

/-- A load of one head's chunk from a block of queries or keys. -/
theorem load_chQ {e : EltTy} (a : Memref sig .tc .vmem S1x2048x256 e) (ha : a.IsWhole) (X : S1x2048x256.Idx → Elt F e) (hh : Fin 2) (k : Fin 16)
    (off : Fin 3 → ℕ) (inb) (h : off = ![0, 128 * k.val, 128 * hh.val]) :
    View.readAt (Elt F) a.view (Rect.unit (s := S1x2048x256) off ![1, 128, 128] inb).toLoadRect (ha.unread X) = chQ X hh k := by
  subst h
  funext y
  rw [Memref.IsWhole.readAt_unread]
  unfold chQ
  congr 1
  funext b
  apply Fin.ext
  match b with
  | ⟨0, _⟩ => have h0 : (y 0).val < 1 := (y 0).isLt
              show 0 + 1 * (y 0).val = 0; omega
  | ⟨1, _⟩ => show _ + 1 * (y 1).val = _ + (y 1).val; rw [Nat.one_mul]; rfl
  | ⟨2, _⟩ => show _ + 1 * (y 2).val = _ + (y 2).val; rw [Nat.one_mul]; rfl

/-- A load of one head's chunk from a block of values. -/
theorem load_chV {e : EltTy} (a : Memref sig .tc .vmem S1x2048x512 e) (ha : a.IsWhole) (X : S1x2048x512.Idx → Elt F e) (hh : Fin 2) (k : Fin 16)
    (off : Fin 3 → ℕ) (inb) (h : off = ![0, 128 * k.val, 256 * hh.val]) :
    View.readAt (Elt F) a.view (Rect.unit (s := S1x2048x512) off ![1, 128, 256] inb).toLoadRect (ha.unread X) = chV X hh k := by
  subst h
  funext y
  rw [Memref.IsWhole.readAt_unread]
  unfold chV
  congr 1
  funext b
  apply Fin.ext
  match b with
  | ⟨0, _⟩ => have h0 : (y 0).val < 1 := (y 0).isLt
              show 0 + 1 * (y 0).val = 0; omega
  | ⟨1, _⟩ => show _ + 1 * (y 1).val = _ + (y 1).val; rw [Nat.one_mul]; rfl
  | ⟨2, _⟩ => show _ + 1 * (y 2).val = _ + (y 2).val; rw [Nat.one_mul]; rfl

/-- A load of one head's state from the buffer of two. -/
theorem load_hd {e : EltTy} (a : Memref sig .tc .vmem S2x128x256 e) (f : a.view.ty.Contents (Elt F)) (hh : Fin 2) (off : Fin 3 → ℕ) (inb)
    (h : off = ![hh.val, 0, 0]) :
    View.readAt (Elt F) a.view (Rect.unit (s := S2x128x256) off ![1, 128, 256] inb).toLoadRect f = hd (a.view.read (Elt F) f) hh := by
  subst h
  funext y
  rw [View.readAt_apply]
  unfold hd
  congr 1
  funext b
  apply Fin.ext
  match b with
  | ⟨0, _⟩ => have h0 : (y 0).val < 1 := (y 0).isLt
              show hh.val + 1 * (y 0).val = hh.val; omega
  | ⟨1, _⟩ => show 0 + 1 * (y 1).val = (y 1).val; omega
  | ⟨2, _⟩ => show 0 + 1 * (y 2).val = (y 2).val; omega

/-! ## The stores -/

/-- After a store to each head's state, each head reads what was stored to it. -/
theorem read_hd {e : EltTy} (a : Memref sig .tc .vmem S2x128x256 e) (f : a.view.ty.Contents (Elt F)) (inb1 inb0)
    (w1 w0 : S1x128x256.Idx → Elt F e) (hh : Fin 2) :
    hd (a.view.read (Elt F) (a.view.writes (Elt F) f [⟨Rect.unit (s := S2x128x256) ![1, 0, 0] ![1, 128, 256] inb1, w1⟩,
      ⟨Rect.unit (s := S2x128x256) ![0, 0, 0] ![1, 128, 256] inb0, w0⟩])) hh = if hh = 0 then w0 else w1 := by
  funext y
  unfold hd
  have y0 : (y 0).val < 1 := (y 0).isLt
  match hh with
  | 0 =>
    rw [if_pos rfl]
    refine (View.read_writes_cons_miss_of_axis a.view f _ _ _ 0 1 1 rfl rfl rfl (Or.inl (by show (0 : ℕ) < 1; omega))).trans ?_
    refine View.read_writes_cons_hit_of_coords a.view f (Rect.unit (s := S2x128x256) ![0, 0, 0] ![1, 128, 256] inb0) w0 [] y _ ?_
    intro b
    match b with
    | ⟨0, _⟩ => show 0 = 0 + 1 * (y 0).val; omega
    | ⟨1, _⟩ => show (y 1).val = 0 + 1 * (y 1).val; omega
    | ⟨2, _⟩ => show (y 2).val = 0 + 1 * (y 2).val; omega
  | 1 =>
    rw [if_neg (by decide)]
    refine View.read_writes_cons_hit_of_coords a.view f (Rect.unit (s := S2x128x256) ![1, 0, 0] ![1, 128, 256] inb1) w1 _ y _ ?_
    intro b
    match b with
    | ⟨0, _⟩ => show 1 = 1 + 1 * (y 0).val; omega
    | ⟨1, _⟩ => show (y 1).val = 0 + 1 * (y 1).val; omega
    | ⟨2, _⟩ => show (y 2).val = 0 + 1 * (y 2).val; omega

/-- After a store to each head's columns of chunk `k`'s rows, those rows read what was stored and the others what they read. -/
theorem read_out8 {e : EltTy} (a : Memref sig .tc .vmem S1x2048x512 e) (f : a.view.ty.Contents (Elt F)) (k : Fin 16) (off1 off0 : Fin 3 → ℕ) (inb1 inb0)
    (h1 : off1 = ![0, 128 * k.val, 256 * (1 : Fin 2).val]) (h0 : off0 = ![0, 128 * k.val, 256 * (0 : Fin 2).val])
    (w1 w0 : S1x128x256.Idx → Elt F e) (j : Fin 16) (hh : Fin 2) :
    chV (a.view.read (Elt F) (a.view.writes (Elt F) f [⟨Rect.unit (s := S1x2048x512) off1 ![1, 128, 256] inb1, w1⟩,
      ⟨Rect.unit (s := S1x2048x512) off0 ![1, 128, 256] inb0, w0⟩])) hh j
      = if j = k then (if hh = 0 then w0 else w1) else chV (a.view.read (Elt F) f) hh j := by
  subst h1 h0
  funext y
  have y0 : (y 0).val < 1 := (y 0).isLt
  have y1 : (y 1).val < 128 := (y 1).isLt
  have y2 : (y 2).val < 256 := (y 2).isLt
  unfold chV
  by_cases hj : j = k
  · subst hj
    rw [if_pos rfl]
    match hh with
    | 0 =>
      rw [if_pos rfl]
      refine (View.read_writes_cons_miss_of_axis a.view f _ _ _ 2 256 256 rfl rfl rfl (Or.inl (by show 256 * 0 + (y 2).val < 256; omega))).trans ?_
      refine View.read_writes_cons_hit_of_coords a.view f (Rect.unit (s := S1x2048x512) ![0, 128 * j.val, 256 * (0 : Fin 2).val] ![1, 128, 256] inb0) w0 [] y _ ?_
      intro b
      match b with
      | ⟨0, _⟩ => show 0 = 0 + 1 * (y 0).val; omega
      | ⟨1, _⟩ => show 128 * j.val + (y 1).val = 128 * j.val + 1 * (y 1).val; omega
      | ⟨2, _⟩ => show 256 * 0 + (y 2).val = 256 * 0 + 1 * (y 2).val; omega
    | 1 =>
      rw [if_neg (by decide)]
      refine View.read_writes_cons_hit_of_coords a.view f (Rect.unit (s := S1x2048x512) ![0, 128 * j.val, 256 * (1 : Fin 2).val] ![1, 128, 256] inb1) w1 _ y _ ?_
      intro b
      match b with
      | ⟨0, _⟩ => show 0 = 0 + 1 * (y 0).val; omega
      | ⟨1, _⟩ => show 128 * j.val + (y 1).val = 128 * j.val + 1 * (y 1).val; omega
      | ⟨2, _⟩ => show 256 * 1 + (y 2).val = 256 * 1 + 1 * (y 2).val; omega
  · rw [if_neg hj]
    have hj' : j.val ≠ k.val := fun h => hj (Fin.ext h)
    have hm : 128 * j.val + (y 1).val < 128 * k.val ∨ 128 * k.val + 128 ≤ 128 * j.val + (y 1).val := by omega
    refine (View.read_writes_cons_miss_of_axis a.view f _ _ _ 1 (128 * k.val) 128 rfl rfl rfl hm).trans ?_
    exact View.read_writes_cons_miss_of_axis a.view f _ _ _ 1 (128 * k.val) 128 rfl rfl rfl hm

/-- Head `hh`'s columns of chunk `k`'s rows in the second buffer. -/
def chY {α : Type} (x : S2048x512.Idx → α) (hh : Fin 2) (k : Fin 16) : S128x256.Idx → α := fun y =>
  x (ix2 ⟨128 * k.val + (y 0).val, by have : (y 0).val < 128 := (y 0).isLt; omega⟩
    ⟨256 * hh.val + (y 1).val, by have : (y 1).val < 256 := (y 1).isLt; omega⟩)

/-- The same of the second buffer. -/
theorem read_out11 {e : EltTy} (a : Memref sig .tc .vmem S2048x512 e) (f : a.view.ty.Contents (Elt F)) (k : Fin 16) (off1 off0 : Fin 2 → ℕ) (inb1 inb0)
    (h1 : off1 = ![128 * k.val, 256 * (1 : Fin 2).val]) (h0 : off0 = ![128 * k.val, 256 * (0 : Fin 2).val])
    (w1 w0 : S128x256.Idx → Elt F e) (j : Fin 16) (hh : Fin 2) :
    chY (a.view.read (Elt F) (a.view.writes (Elt F) f [⟨Rect.unit (s := S2048x512) off1 ![128, 256] inb1, w1⟩,
      ⟨Rect.unit (s := S2048x512) off0 ![128, 256] inb0, w0⟩])) hh j
      = if j = k then (if hh = 0 then w0 else w1) else chY (a.view.read (Elt F) f) hh j := by
  subst h1 h0
  funext y
  have y0 : (y 0).val < 128 := (y 0).isLt
  have y1 : (y 1).val < 256 := (y 1).isLt
  unfold chY
  by_cases hj : j = k
  · subst hj
    rw [if_pos rfl]
    match hh with
    | 0 =>
      rw [if_pos rfl]
      refine (View.read_writes_cons_miss_of_axis a.view f _ _ _ 1 256 256 rfl rfl rfl (Or.inl (by show 256 * 0 + (y 1).val < 256; omega))).trans ?_
      refine View.read_writes_cons_hit_of_coords a.view f (Rect.unit (s := S2048x512) ![128 * j.val, 256 * (0 : Fin 2).val] ![128, 256] inb0) w0 [] y _ ?_
      intro b
      match b with
      | ⟨0, _⟩ => show 128 * j.val + (y 0).val = 128 * j.val + 1 * (y 0).val; omega
      | ⟨1, _⟩ => show 256 * 0 + (y 1).val = 256 * 0 + 1 * (y 1).val; omega
    | 1 =>
      rw [if_neg (by decide)]
      refine View.read_writes_cons_hit_of_coords a.view f (Rect.unit (s := S2048x512) ![128 * j.val, 256 * (1 : Fin 2).val] ![128, 256] inb1) w1 _ y _ ?_
      intro b
      match b with
      | ⟨0, _⟩ => show 128 * j.val + (y 0).val = 128 * j.val + 1 * (y 0).val; omega
      | ⟨1, _⟩ => show 256 * 1 + (y 1).val = 256 * 1 + 1 * (y 1).val; omega
  · rw [if_neg hj]
    have hj' : j.val ≠ k.val := fun h => hj (Fin.ext h)
    have hm : 128 * j.val + (y 0).val < 128 * k.val ∨ 128 * k.val + 128 ≤ 128 * j.val + (y 0).val := by omega
    refine (View.read_writes_cons_miss_of_axis a.view f _ _ _ 0 (128 * k.val) 128 rfl rfl rfl hm).trans ?_
    exact View.read_writes_cons_miss_of_axis a.view f _ _ _ 0 (128 * k.val) 128 rfl rfl rfl hm

/-! ## The loop -/

section Loop

variable (𝒱 : Variants) (c : Dev nD) (bd : Option 𝒱.V) (i : grid0.Coords) (arg2 : Memref sig .tc .smem S2x4 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x512 .bf16) (harg5 : arg5.IsWhole) (arg6 : Memref sig .tc .vmem S1x2x128x256 .f32) (harg6 : arg6.IsWhole) (arg7 : Memref sig .tc .vmem S1x2x128x256 .f32) (harg7 : arg7.IsWhole) (arg8 : Memref sig .tc .vmem S1x2048x512 .f32) (harg8 : arg8.IsWhole) (arg9 : Memref sig .tc .vmem S2x128x256 .f32) (harg9 : arg9.IsWhole) (arg10 : Memref sig .tc .vmem S2x128x256 .f32) (harg10 : arg10.IsWhole) (arg11 : Memref sig .tc .vmem S2048x512 .f32) (harg11 : arg11.IsWhole)
  (IF QF KF IB QB KB : Fin 2 → FVec F S128x128 .f32) (BF BB : Fin 2 → FVec F S1x256 .f32) (z : BitVec 32)
  (x1 x2 : Vec F S1x2048x256 .bf16) (x3 : Vec F S1x2048x512 .bf16)
  (G8 : arg8.view.ty.Contents (Elt F)) (G9 : arg9.view.ty.Contents (Elt F)) (G10 : arg10.view.ty.Contents (Elt F)) (G11 : arg11.view.ty.Contents (Elt F))

/-- What the four buffers read before trip `k`. -/
def Before (k : ℕ) (L : List (View.Piece (Elt F) S1x2048x512 .f32) × List (View.Piece (Elt F) S2x128x256 .f32) × List (View.Piece (Elt F) S2x128x256 .f32)
    × List (View.Piece (Elt F) S2048x512 .f32)) : Prop := ∀ hh : Fin 2,
  hd (arg9.view.read (Elt F) (arg9.view.writes (Elt F) G9 L.2.1)) hh = state (KF hh) (BF hh) (chQ x2 hh) (chV x3 hh) fwd (hd (arg9.view.read (Elt F) G9) hh) k
  ∧ hd (arg10.view.read (Elt F) (arg10.view.writes (Elt F) G10 L.2.2.1)) hh = state (KB hh) (BB hh) (chQ x2 hh) (chV x3 hh) bwd (hd (arg10.view.read (Elt F) G10) hh) k
  ∧ (∀ j < k, chV (arg8.view.read (Elt F) (arg8.view.writes (Elt F) G8 L.1)) hh (fwd j)
      = outF (IF hh) (QF hh) (KF hh) (BF hh) (chQ x1 hh) (chQ x2 hh) (chV x3 hh) fwd (hd (arg9.view.read (Elt F) G9) hh) j)
  ∧ ∀ j < k, chY (arg11.view.read (Elt F) (arg11.view.writes (Elt F) G11 L.2.2.2)) hh (bwd j)
      = outB (IB hh) (QB hh) (KB hh) (BB hh) (chQ x1 hh) (chQ x2 hh) (chV x3 hh) bwd (hd (arg10.view.read (Elt F) G10) hh) j

unseal trip_k0_t1 in
/-- One trip's pieces, the loads read as the chunks and the states they are. -/
theorem trip_pieces (k : Fin k0_t1_loop.trips) (f8 f9 f10 f11) :
    tripL_k0_t1 (F := F) 𝒱 c bd i arg2 harg2 arg3 harg3 arg4 harg4 arg5 harg5 arg6 harg6 arg7 harg7 arg8 harg8 arg9 harg9 arg10 harg10 arg11 harg11 (IF 0) (QF 0) (KF 0) (BF 0) (IB 0) (QB 0) (KB 0) (BB 0) (IF 1) (QF 1) (KF 1) (BF 1) (IB 1) (QB 1) (KB 1) (BB 1) z (harg3.unread x1) (harg4.unread x2) (harg5.unread x3) k f8 f9 f10 f11
      = ([⟨Rect.unit (s := S1x2048x512) (k0_off9 k) ![1, 128, 256] (k0_off9_inb k), k0_pay11 (IF 1) (QF 1) (chQ x1 1 (fwd k)) (chQ x2 1 (fwd k)) (chV x3 1 (fwd k)) (hd (arg9.view.read (Elt F) f9) 1)⟩,
          ⟨Rect.unit (s := S1x2048x512) (k0_off4 k) ![1, 128, 256] (k0_off4_inb k), k0_pay11 (IF 0) (QF 0) (chQ x1 0 (fwd k)) (chQ x2 0 (fwd k)) (chV x3 0 (fwd k)) (hd (arg9.view.read (Elt F) f9) 0)⟩],
         [⟨Rect.unit (s := S2x128x256) ![1, 0, 0] ![1, 128, 256] inb_S2x128x256_S1x128x256_1_0_0, k0_pay10 (KF 1) (BF 1) (chQ x2 1 (fwd k)) (chV x3 1 (fwd k)) (hd (arg9.view.read (Elt F) f9) 1)⟩,
          ⟨Rect.unit (s := S2x128x256) ![0, 0, 0] ![1, 128, 256] inb_S2x128x256_S1x128x256_0_0_0, k0_pay10 (KF 0) (BF 0) (chQ x2 0 (fwd k)) (chV x3 0 (fwd k)) (hd (arg9.view.read (Elt F) f9) 0)⟩],
         [⟨Rect.unit (s := S2x128x256) ![1, 0, 0] ![1, 128, 256] inb_S2x128x256_S1x128x256_1_0_0, k0_pay10 (KB 1) (BB 1) (chQ x2 1 (bwd k)) (chV x3 1 (bwd k)) (hd (arg10.view.read (Elt F) f10) 1)⟩,
          ⟨Rect.unit (s := S2x128x256) ![0, 0, 0] ![1, 128, 256] inb_S2x128x256_S1x128x256_0_0_0, k0_pay10 (KB 0) (BB 0) (chQ x2 0 (bwd k)) (chV x3 0 (bwd k)) (hd (arg10.view.read (Elt F) f10) 0)⟩],
         [⟨Rect.unit (s := S2048x512) (k0_off12 k) ![128, 256] (k0_off12_inb k), k0_pay16 (IB 1) (QB 1) (chQ x1 1 (bwd k)) (chQ x2 1 (bwd k)) (chV x3 1 (bwd k)) (hd (arg10.view.read (Elt F) f10) 1)⟩,
          ⟨Rect.unit (s := S2048x512) (k0_off7 k) ![128, 256] (k0_off7_inb k), k0_pay16 (IB 0) (QB 0) (chQ x1 0 (bwd k)) (chQ x2 0 (bwd k)) (chV x3 0 (bwd k)) (hd (arg10.view.read (Elt F) f10) 0)⟩]) := by
  rw [← load_chQ arg3 harg3 x1 0 (fwd k) (k0_off3 k) (k0_off3_inb k) (off3_eq k), ← load_chQ arg4 harg4 x2 0 (fwd k) (k0_off3 k) (k0_off3_inb k) (off3_eq k),
    ← load_chQ arg3 harg3 x1 1 (fwd k) (k0_off8 k) (k0_off8_inb k) (off8_eq k), ← load_chQ arg4 harg4 x2 1 (fwd k) (k0_off8 k) (k0_off8_inb k) (off8_eq k),
    ← load_chQ arg3 harg3 x1 0 (bwd k) (k0_off5 k) (k0_off5_inb k) (off5_eq k), ← load_chQ arg4 harg4 x2 0 (bwd k) (k0_off5 k) (k0_off5_inb k) (off5_eq k),
    ← load_chQ arg3 harg3 x1 1 (bwd k) (k0_off10 k) (k0_off10_inb k) (off10_eq k), ← load_chQ arg4 harg4 x2 1 (bwd k) (k0_off10 k) (k0_off10_inb k) (off10_eq k),
    ← load_chV arg5 harg5 x3 0 (fwd k) (k0_off4 k) (k0_off4_inb k) (off4_eq k), ← load_chV arg5 harg5 x3 1 (fwd k) (k0_off9 k) (k0_off9_inb k) (off9_eq k),
    ← load_chV arg5 harg5 x3 0 (bwd k) (k0_off6 k) (k0_off6_inb k) (off6_eq k), ← load_chV arg5 harg5 x3 1 (bwd k) (k0_off11 k) (k0_off11_inb k) (off11_eq k),
    ← load_hd arg9 f9 0 ![0, 0, 0] inb_S2x128x256_S1x128x256_0_0_0 rfl, ← load_hd arg9 f9 1 ![1, 0, 0] inb_S2x128x256_S1x128x256_1_0_0 rfl,
    ← load_hd arg10 f10 0 ![0, 0, 0] inb_S2x128x256_S1x128x256_0_0_0 rfl, ← load_hd arg10 f10 1 ![1, 0, 0] inb_S2x128x256_S1x128x256_1_0_0 rfl]
  unfold tripL_k0_t1
  unfold trip_k0_t1
  rfl

/-- What the four buffers read before trip `k`, for every `k` up to the last. -/
theorem before_eq (k : ℕ) (hk : k ≤ 16) :
    Before arg8 arg9 arg10 arg11 IF QF KF IB QB KB BF BB x1 x2 x3 G8 G9 G10 G11 k (pb_k0_t1 𝒱 c bd i arg2 harg2 arg3 harg3 arg4 harg4 arg5 harg5 arg6 harg6 arg7 harg7 arg8 harg8 arg9 harg9 arg10 harg10 arg11 harg11 (IF 0) (QF 0) (KF 0) (BF 0) (IB 0) (QB 0) (KB 0) (BB 0) (IF 1) (QF 1) (KF 1) (BF 1) (IB 1) (QB 1) (KB 1) (BB 1) z (harg3.unread x1) (harg4.unread x2) (harg5.unread x3) G8 G9 G10 G11 k) := by
  induction k with
  | zero =>
    intro hh
    exact ⟨rfl, rfl, fun j hj => absurd hj (Nat.not_lt_zero j), fun j hj => absurd hj (Nat.not_lt_zero j)⟩
  | succ k ih =>
    have hk' : k < 16 := hk
    have ih := ih (le_of_lt hk')
    have hs := pb_k0_t1_succ (F := F) 𝒱 c bd i arg2 harg2 arg3 harg3 arg4 harg4 arg5 harg5 arg6 harg6 arg7 harg7 arg8 harg8 arg9 harg9 arg10 harg10 arg11 harg11 (IF 0) (QF 0) (KF 0) (BF 0) (IB 0) (QB 0) (KB 0) (BB 0) (IF 1) (QF 1) (KF 1) (BF 1) (IB 1) (QB 1) (KB 1) (BB 1) z (harg3.unread x1) (harg4.unread x2) (harg5.unread x3) G8 G9 G10 G11 ⟨k, by rw [trips_eq]; exact hk'⟩
    rw [show (⟨k, by rw [trips_eq]; exact hk'⟩ : Fin k0_t1_loop.trips).val + 1 = k + 1 from rfl, trip_pieces] at hs
    rw [hs]
    generalize (pb_k0_t1 𝒱 c bd i arg2 harg2 arg3 harg3 arg4 harg4 arg5 harg5 arg6 harg6 arg7 harg7 arg8 harg8 arg9 harg9 arg10 harg10 arg11 harg11 (IF 0) (QF 0) (KF 0) (BF 0) (IB 0) (QB 0) (KB 0) (BB 0) (IF 1) (QF 1) (KF 1) (BF 1) (IB 1) (QB 1) (KB 1) (BB 1) z (harg3.unread x1) (harg4.unread x2) (harg5.unread x3) G8 G9 G10 G11 k) = L at ih
    have ord_lt : ∀ {j}, j < k + 1 → fwd j ≠ fwd k → j < k := fun hj h => lt_of_le_of_ne (Nat.lt_succ_iff.mp hj) fun e => h (by rw [e])
    have ord_lt' : ∀ {j}, j < k + 1 → bwd j ≠ bwd k → j < k := fun hj h => lt_of_le_of_ne (Nat.lt_succ_iff.mp hj) fun e => h (by rw [e])
    have ord_eq : ∀ {j}, j < k + 1 → fwd j = fwd k → j = k := fun {j} hj h => by
      have := congrArg Fin.val h; rwa [fwd_val (by omega), fwd_val hk'] at this
    have ord_eq' : ∀ {j}, j < k + 1 → bwd j = bwd k → j = k := fun {j} hj h => by
      have := congrArg Fin.val h; rw [bwd_val (by omega), bwd_val hk'] at this; omega
    intro hh
    obtain ⟨h9, h10, h8, h11⟩ := ih hh
    refine ⟨?_, ?_, fun j hj => ?_, fun j hj => ?_⟩
    · dsimp only
      rw [View.writes_append, read_hd]
      unfold state
      rw [← h9]
      match hh with
      | 0 => rw [if_pos rfl]
      | 1 => rw [if_neg (by decide)]
    · dsimp only
      rw [View.writes_append, read_hd]
      unfold state
      rw [← h10]
      match hh with
      | 0 => rw [if_pos rfl]
      | 1 => rw [if_neg (by decide)]
    · dsimp only
      rw [View.writes_append, read_out8 arg8 _ (fwd k) _ _ _ _ (off9_eq _) (off4_eq _)]
      by_cases he : fwd j = fwd k
      · rw [if_pos he]
        obtain rfl := ord_eq hj he
        unfold outF
        rw [← h9]
        match hh with
        | 0 => rw [if_pos rfl]
        | 1 => rw [if_neg (by decide)]
      · rw [if_neg he]; exact h8 j (ord_lt hj he)
    · dsimp only
      rw [View.writes_append, read_out11 arg11 _ (bwd k) _ _ _ _ (off12_eq _) (off7_eq _)]
      by_cases he : bwd j = bwd k
      · rw [if_pos he]
        obtain rfl := ord_eq' hj he
        unfold outB
        rw [← h10]
        match hh with
        | 0 => rw [if_pos rfl]
        | 1 => rw [if_neg (by decide)]
      · rw [if_neg he]; exact h11 j (ord_lt' hj he)

/-- The first buffer after the last trip: the forward direction's result. -/
def YF (s9 : Fin 2 → Vec F S1x128x256 .f32) : Vec F S1x2048x512 .f32 := fun y =>
  have h2 : (y 2).val < 512 := (y 2).isLt
  outF (IF ⟨(y 2).val / 256, by omega⟩) (QF ⟨(y 2).val / 256, by omega⟩) (KF ⟨(y 2).val / 256, by omega⟩) (BF ⟨(y 2).val / 256, by omega⟩)
    (chQ x1 ⟨(y 2).val / 256, by omega⟩) (chQ x2 ⟨(y 2).val / 256, by omega⟩) (chV x3 ⟨(y 2).val / 256, by omega⟩) fwd
    (s9 ⟨(y 2).val / 256, by omega⟩) ((y 1).val / 128)
    (ix3 (0 : Fin 1) (⟨(y 1).val % 128, Nat.mod_lt _ (by decide)⟩ : Fin 128) (⟨(y 2).val % 256, Nat.mod_lt _ (by decide)⟩ : Fin 256))

/-- The second buffer after the last trip: the backward direction's result. -/
def YB (s10 : Fin 2 → Vec F S1x128x256 .f32) : Vec F S2048x512 .f32 := fun y =>
  have h2 : (y 1).val < 512 := (y 1).isLt
  outB (IB ⟨(y 1).val / 256, by omega⟩) (QB ⟨(y 1).val / 256, by omega⟩) (KB ⟨(y 1).val / 256, by omega⟩) (BB ⟨(y 1).val / 256, by omega⟩)
    (chQ x1 ⟨(y 1).val / 256, by omega⟩) (chQ x2 ⟨(y 1).val / 256, by omega⟩) (chV x3 ⟨(y 1).val / 256, by omega⟩) bwd
    (s10 ⟨(y 1).val / 256, by omega⟩) (15 - (y 0).val / 128)
    (ix2 (⟨(y 0).val % 128, Nat.mod_lt _ (by decide)⟩ : Fin 128) (⟨(y 1).val % 256, Nat.mod_lt _ (by decide)⟩ : Fin 256))

theorem loop_out8 : arg8.view.read (Elt F) (arg8.view.writes (Elt F) G8 (pb_k0_t1 𝒱 c bd i arg2 harg2 arg3 harg3 arg4 harg4 arg5 harg5 arg6 harg6 arg7 harg7 arg8 harg8 arg9 harg9 arg10 harg10 arg11 harg11 (IF 0) (QF 0) (KF 0) (BF 0) (IB 0) (QB 0) (KB 0) (BB 0) (IF 1) (QF 1) (KF 1) (BF 1) (IB 1) (QB 1) (KB 1) (BB 1) z (harg3.unread x1) (harg4.unread x2) (harg5.unread x3) G8 G9 G10 G11 16).1)
    = YF IF QF KF BF x1 x2 x3 (fun hh => hd (arg9.view.read (Elt F) G9) hh) := by
  funext y
  have y0 : (y 0).val < 1 := (y 0).isLt
  have y1 : (y 1).val < 2048 := (y 1).isLt
  have y2 : (y 2).val < 512 := (y 2).isLt
  have h := (before_eq 𝒱 c bd i arg2 harg2 arg3 harg3 arg4 harg4 arg5 harg5 arg6 harg6 arg7 harg7 arg8 harg8 arg9 harg9 arg10 harg10 arg11 harg11 IF QF KF IB QB KB BF BB z x1 x2 x3 G8 G9 G10 G11 16 le_rfl ⟨(y 2).val / 256, by omega⟩).2.2.1 ((y 1).val / 128) (by omega)
  unfold YF
  dsimp only
  rw [← h]
  unfold chV
  congr 1
  funext b
  apply Fin.ext
  match b with
  | ⟨0, _⟩ => show (y 0).val = 0; omega
  | ⟨1, _⟩ => show (y 1).val = 128 * (fwd ((y 1).val / 128)).val + (y 1).val % 128; rw [fwd_val (by omega)]; omega
  | ⟨2, _⟩ => show (y 2).val = 256 * ((y 2).val / 256) + (y 2).val % 256; omega

theorem loop_out11 : arg11.view.read (Elt F) (arg11.view.writes (Elt F) G11 (pb_k0_t1 𝒱 c bd i arg2 harg2 arg3 harg3 arg4 harg4 arg5 harg5 arg6 harg6 arg7 harg7 arg8 harg8 arg9 harg9 arg10 harg10 arg11 harg11 (IF 0) (QF 0) (KF 0) (BF 0) (IB 0) (QB 0) (KB 0) (BB 0) (IF 1) (QF 1) (KF 1) (BF 1) (IB 1) (QB 1) (KB 1) (BB 1) z (harg3.unread x1) (harg4.unread x2) (harg5.unread x3) G8 G9 G10 G11 16).2.2.2)
    = YB IB QB KB BB x1 x2 x3 (fun hh => hd (arg10.view.read (Elt F) G10) hh) := by
  funext y
  have y0 : (y 0).val < 2048 := (y 0).isLt
  have y1 : (y 1).val < 512 := (y 1).isLt
  have h := (before_eq 𝒱 c bd i arg2 harg2 arg3 harg3 arg4 harg4 arg5 harg5 arg6 harg6 arg7 harg7 arg8 harg8 arg9 harg9 arg10 harg10 arg11 harg11 IF QF KF IB QB KB BF BB z x1 x2 x3 G8 G9 G10 G11 16 le_rfl ⟨(y 1).val / 256, by omega⟩).2.2.2 (15 - (y 0).val / 128) (by omega)
  unfold YB
  dsimp only
  rw [← h]
  unfold chY
  congr 1
  funext b
  apply Fin.ext
  match b with
  | ⟨0, _⟩ => show (y 0).val = 128 * (bwd (15 - (y 0).val / 128)).val + (y 0).val % 128; rw [bwd_val (by omega)]; omega
  | ⟨1, _⟩ => show (y 1).val = 256 * ((y 1).val / 256) + (y 1).val % 256; omega

end Loop

end Cert.KernelIdeal.Ret

end
-- ==== Proof.Ret.Run.lean ====
/-
  The retention kernel's run. One grid point (a batch row and a pair of heads) computes the block `OUT` of its operand
  blocks; the launch leaves every block of the result at that, the arguments unchanged and the machine at rest. Written
  once, over any float operations: the kernel as compiled takes the same run at its own.
-/
module
public import proofs.«01_k».proof.Proof.Ret.Loop
public import Idealize.ShloMosaic.Lib.Claim
@[expose] public section
set_option maxRecDepth 16384
noncomputable section
namespace Cert.KernelIdeal.Ret
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The decay tables of a head -/

section Tables
-- `L d hh`: the logarithm of the decay of direction `d` (0 forward, 1 backward) of the pair's head `hh`
variable (L : Fin 2 → Fin 2 → F .f32) (hh : Fin 2)
/-- Forward: the decay between two rows of a chunk. -/
def IFt : FVec F S128x128 .f32 := k0_pay36 k0_pay22 (L 0 hh)
/-- Forward: the decay of the state at each row. -/
def QFt : FVec F S128x128 .f32 := k0_pay37 k0_pay23 (L 0 hh)
/-- Forward: the decay of each key's row to the chunk's end. -/
def KFt : FVec F S128x128 .f32 := k0_pay38 k0_pay23 (L 0 hh)
/-- Forward: the decay of a whole chunk. -/
def BFt : FVec F S1x256 .f32 := k0_pay40 (k0_pay39 (L 0 hh))
/-- Backward: the decay between two rows of a chunk. -/
def IBt : FVec F S128x128 .f32 := k0_pay41 k0_pay22 (L 1 hh)
/-- Backward: the decay of the state at each row. -/
def QBt : FVec F S128x128 .f32 := k0_pay42 k0_pay23 (L 1 hh)
/-- Backward: the decay of each key's row to the chunk's start. -/
def KBt : FVec F S128x128 .f32 := k0_pay43 k0_pay23 (L 1 hh)
/-- Backward: the decay of a whole chunk. -/
def BBt : FVec F S1x256 .f32 := k0_pay44 (L 1 hh)
end Tables

/-- A table of four scalars. -/
def quad {α : Type} (a b c d : α) : Fin 2 → Fin 2 → α
  | 0, 0 => a
  | 0, 1 => b
  | 1, 0 => c
  | 1, 1 => d

/-- The two heads' log-decays at grid point `i`, from the table of all four heads. -/
def lgv (x0 : Vec F S2x4 .f32) (i : grid0.Coords) (d hh : Fin 2) : F .f32 := x0 (ix2 d (Fin.ofNat 4 (2 * (i 1).val + hh.val)))

/-- A point's forward rows. -/
def outFwd (L : Fin 2 → Fin 2 → F .f32) (x1 : Vec F S1x2048x256 .bf16) (x2 : Vec F S1x2048x256 .bf16) (x3 : Vec F S1x2048x512 .bf16)
    (x4 : Vec F S1x2x128x256 .f32) : Vec F S1x2048x512 .f32 :=
  YF (IFt L) (QFt L) (KFt L) (BFt L) x1 x2 x3 (fun hh => hd (k0_pay45 x4) hh)

/-- A point's backward rows. -/
def outBwd (L : Fin 2 → Fin 2 → F .f32) (x1 : Vec F S1x2048x256 .bf16) (x2 : Vec F S1x2048x256 .bf16) (x3 : Vec F S1x2048x512 .bf16)
    (x5 : Vec F S1x2x128x256 .f32) : Vec F S2048x512 .f32 :=
  YB (IBt L) (QBt L) (KBt L) (BBt L) x1 x2 x3 (fun hh => hd (k0_pay46 x5) hh)

/-- A point's block of the result, of its operand blocks. -/
def OUT (i : grid0.Coords) (x0 : Vec F S2x4 .f32) (x1 : Vec F S1x2048x256 .bf16) (x2 : Vec F S1x2048x256 .bf16) (x3 : Vec F S1x2048x512 .bf16)
    (x4 : Vec F S1x2x128x256 .f32) (x5 : Vec F S1x2x128x256 .f32) : Vec F S1x2048x512 .f32 :=
  k0_pay6 (outFwd (lgv x0 i) x1 x2 x3 x4) (outBwd (lgv x0 i) x1 x2 x3 x5)

/-! ## Whole-buffer reads -/

/-- A box at offsets zero of the whole buffer's sizes places every index at itself. -/
theorem emb_whole {s : Shape} (off : Fin s.rank → ℕ) (inb) (h : ∀ a, off a = 0) (y : s.Idx) (a : Fin s.rank) :
    ((Rect.unit (s := s) off s.size inb).emb y a).val = (y a).val := by
  show off a + 1 * (y a).val = (y a).val
  rw [h]; omega

/-- A load of the whole buffer reads what the buffer reads. -/
theorem load_whole {sp : Space} {s : Shape} {e : EltTy} (a : Memref sig .tc sp s e) (f : a.view.ty.Contents (Elt F)) (off : Fin s.rank → ℕ) (inb)
    (h : ∀ a, off a = 0) :
    (View.readAt (Elt F) a.view (Rect.unit (s := s) off s.size inb).toLoadRect f : s.Idx → Elt F e) = a.view.read (Elt F) f := by
  funext y
  exact congrArg (a.view.read (Elt F) f) (funext fun b => Fin.ext (emb_whole off inb h y b))

/-- After a store of the whole buffer it reads what was stored. -/
theorem read_store_whole {sp : Space} {s : Shape} {e : EltTy} (a : Memref sig .tc sp s e) (f : a.view.ty.Contents (Elt F)) (off : Fin s.rank → ℕ) (inb)
    (h : ∀ a, off a = 0) (w : s.Idx → Elt F e) (Ls : List (View.Piece (Elt F) s e)) :
    a.view.read (Elt F) (a.view.writes (Elt F) f ((⟨Rect.unit (s := s) off s.size inb, w⟩ : View.Piece (Elt F) s e) :: Ls)) = w := by
  funext y
  exact View.read_writes_cons_hit_of_coords a.view f (Rect.unit (s := s) off s.size inb) w Ls y y fun b => (emb_whole off inb h y b).symm

/-- A scalar of the log-decay table, as the kernel loads it. -/
theorem off1_eq (i : grid0.Coords) (hh : Fin 2) : k0_off1 i (BitVec.ofNat 32 hh.val) = ![0, 2 * (i 1).val + hh.val] := by
  have h : (i 1).val < 2 := (i 1).isLt
  have h' : hh.val < 2 := hh.isLt
  unfold k0_off1
  generalize (i 1).val = n at h ⊢
  generalize hh.val = k at h' ⊢
  match n, k, h, h' with
  | 0, 0, _, _ => rfl
  | 0, 1, _, _ => rfl
  | 1, 0, _, _ => rfl
  | 1, 1, _, _ => rfl

theorem off2_eq (i : grid0.Coords) (hh : Fin 2) : k0_off2 i (BitVec.ofNat 32 hh.val) = ![1, 2 * (i 1).val + hh.val] := by
  have h : (i 1).val < 2 := (i 1).isLt
  have h' : hh.val < 2 := hh.isLt
  unfold k0_off2
  generalize (i 1).val = n at h ⊢
  generalize hh.val = k at h' ⊢
  match n, k, h, h' with
  | 0, 0, _, _ => rfl
  | 0, 1, _, _ => rfl
  | 1, 0, _, _ => rfl
  | 1, 1, _, _ => rfl

/-- One entry of the log-decay table, read at the offsets the kernel computes. -/
theorem lgv_of (x0 : Vec F S2x4 .f32) (i : grid0.Coords) (d hh : Fin 2) (off : Fin 2 → ℕ) (inb) (h : off = ![d.val, 2 * (i 1).val + hh.val])
    (y : S1x1.Idx) : x0 ((Rect.unit (s := S2x4) off S1x1.size inb).emb y) = lgv x0 i d hh := by
  subst h
  have hi : (i 1).val < 2 := (i 1).isLt
  have y0 : (y 0).val < 1 := (y 0).isLt
  have y1 : (y 1).val < 1 := (y 1).isLt
  unfold lgv
  congr 1
  funext b
  apply Fin.ext
  match b with
  | ⟨0, _⟩ => show d.val + 1 * (y 0).val = d.val; omega
  | ⟨1, _⟩ => show 2 * (i 1).val + hh.val + 1 * (y 1).val = (2 * (i 1).val + hh.val) % 4; omega

set_option maxHeartbeats 2000000 in
/-- The kernel body at any grid coordinates: from its operand blocks to those blocks unchanged and the output block at `OUT`. -/
theorem kernelRun (c : Dev nD) (i : grid0.Coords) (arg2 : Memref sig .tc .smem S2x4 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x512 .bf16) (harg5 : arg5.IsWhole) (arg6 : Memref sig .tc .vmem S1x2x128x256 .f32) (harg6 : arg6.IsWhole) (arg7 : Memref sig .tc .vmem S1x2x128x256 .f32) (harg7 : arg7.IsWhole) (arg8 : Memref sig .tc .vmem S1x2048x512 .f32) (harg8 : arg8.IsWhole) (arg9 : Memref sig .tc .vmem S2x128x256 .f32) (harg9 : arg9.IsWhole) (arg10 : Memref sig .tc .vmem S2x128x256 .f32) (harg10 : arg10.IsWhole) (arg11 : Memref sig .tc .vmem S2048x512 .f32) (harg11 : arg11.IsWhole)
    (x0 : Vec F S2x4 .f32) (x1 : Vec F S1x2048x256 .bf16) (x2 : Vec F S1x2048x256 .bf16) (x3 : Vec F S1x2048x512 .bf16) (x4 : Vec F S1x2x128x256 .f32) (x5 : Vec F S1x2x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (OUT i x0 x1 x2 x3 x4 x5) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_ret i arg2 harg2 arg3 harg3 arg4 harg4 arg5 harg5 arg6 harg6 arg7 harg7 arg8 harg8 arg9 harg9 arg10 harg10 arg11 harg11) K := by
    intro E K
    simp only [cc0_ret_eq_skeleton]; unfold cc0_ret_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    have r00 : kernelRun.sl.r c i arg2 harg2 x0 = lgv x0 i 0 0 := by
      exact (congrFun hf0 _).trans (lgv_of x0 i 0 0 _ (k0_off1_inb i 0) (off1_eq i 0) (Shape.Idx.first (by decide)))
    have r10 : kernelRun.sl.r_1 c i arg2 harg2 x0 = lgv x0 i 1 0 := by
      exact (congrFun hf0 _).trans (lgv_of x0 i 1 0 _ (k0_off2_inb i 0) (off2_eq i 0) (Shape.Idx.first (by decide)))
    have r01 : kernelRun.sl.r_6 c i arg2 harg2 x0 = lgv x0 i 0 1 := by
      exact (congrFun hf0 _).trans (lgv_of x0 i 0 1 _ (k0_off1_inb i 1) (off1_eq i 1) (Shape.Idx.first (by decide)))
    have r11 : kernelRun.sl.r_7 c i arg2 harg2 x0 = lgv x0 i 1 1 := by
      exact (congrFun hf0 _).trans (lgv_of x0 i 1 1 _ (k0_off2_inb i 1) (off2_eq i 1) (Shape.Idx.first (by decide)))
    have hL : lgv x0 i = (quad (kernelRun.sl.r c i arg2 harg2 x0) (kernelRun.sl.r_6 c i arg2 harg2 x0) (kernelRun.sl.r_1 c i arg2 harg2 x0) (kernelRun.sl.r_7 c i arg2 harg2 x0)) := by
      funext d hh
      match d, hh with
      | 0, 0 => exact r00.symm
      | 0, 1 => exact r01.symm
      | 1, 0 => exact r10.symm
      | 1, 1 => exact r11.symm
    have hs9 : arg9.view.read (Elt F) (arg9.view.writes (Elt F) arg9.view.junk (kernelRun.sl.HS0_1 c arg6 harg6 x4)) = k0_pay45 x4 := by
      refine (read_store_whole arg9 _ _ _ (by decide) _ _).trans ?_
      exact congrArg k0_pay45 ((load_whole arg6 _ _ _ (by decide)).trans hf4)
    have hs10 : arg10.view.read (Elt F) (arg10.view.writes (Elt F) arg10.view.junk (kernelRun.sl.HS1_1 c arg7 harg7 x5)) = k0_pay46 x5 := by
      refine (read_store_whole arg10 _ _ _ (by decide) _ _).trans ?_
      exact congrArg k0_pay46 ((load_whole arg7 _ _ _ (by decide)).trans hf5)
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; isplitr
      · ipureintro; exact hf5
      · iexact H5
    isplitl [H6]
    · iexists _; isplitr
      swap
      · iexact H6
      · ipureintro
        refine (read_store_whole arg8 _ _ _ (by decide) _ _).trans ?_
        unfold OUT
        refine congrArg₂ k0_pay6 ?_ ?_
        · refine (load_whole arg8 _ _ _ (by decide)).trans ?_
          unfold outFwd
          rw [← hs9, hL, show Scf.trips k0_t1_loop.lb k0_t1_loop.ub k0_t1_loop.st = 16 from trips_eq]
          exact loop_out8 Variants.none c none i arg2 harg2 arg3 harg3 arg4 harg4 arg5 harg5 arg6 harg6 arg7 harg7 arg8 harg8 arg9 harg9 arg10 harg10 arg11 harg11 (IFt (quad (kernelRun.sl.r c i arg2 harg2 x0) (kernelRun.sl.r_6 c i arg2 harg2 x0) (kernelRun.sl.r_1 c i arg2 harg2 x0) (kernelRun.sl.r_7 c i arg2 harg2 x0))) (QFt (quad (kernelRun.sl.r c i arg2 harg2 x0) (kernelRun.sl.r_6 c i arg2 harg2 x0) (kernelRun.sl.r_1 c i arg2 harg2 x0) (kernelRun.sl.r_7 c i arg2 harg2 x0))) (KFt (quad (kernelRun.sl.r c i arg2 harg2 x0) (kernelRun.sl.r_6 c i arg2 harg2 x0) (kernelRun.sl.r_1 c i arg2 harg2 x0) (kernelRun.sl.r_7 c i arg2 harg2 x0))) (IBt (quad (kernelRun.sl.r c i arg2 harg2 x0) (kernelRun.sl.r_6 c i arg2 harg2 x0) (kernelRun.sl.r_1 c i arg2 harg2 x0) (kernelRun.sl.r_7 c i arg2 harg2 x0))) (QBt (quad (kernelRun.sl.r c i arg2 harg2 x0) (kernelRun.sl.r_6 c i arg2 harg2 x0) (kernelRun.sl.r_1 c i arg2 harg2 x0) (kernelRun.sl.r_7 c i arg2 harg2 x0))) (KBt (quad (kernelRun.sl.r c i arg2 harg2 x0) (kernelRun.sl.r_6 c i arg2 harg2 x0) (kernelRun.sl.r_1 c i arg2 harg2 x0) (kernelRun.sl.r_7 c i arg2 harg2 x0))) (BFt (quad (kernelRun.sl.r c i arg2 harg2 x0) (kernelRun.sl.r_6 c i arg2 harg2 x0) (kernelRun.sl.r_1 c i arg2 harg2 x0) (kernelRun.sl.r_7 c i arg2 harg2 x0))) (BBt (quad (kernelRun.sl.r c i arg2 harg2 x0) (kernelRun.sl.r_6 c i arg2 harg2 x0) (kernelRun.sl.r_1 c i arg2 harg2 x0) (kernelRun.sl.r_7 c i arg2 harg2 x0))) 0#32 x1 x2 x3 _ _ _ _
        · refine (load_whole arg11 _ _ _ (by decide)).trans ?_
          unfold outBwd
          rw [← hs10, hL, show Scf.trips k0_t1_loop.lb k0_t1_loop.ub k0_t1_loop.st = 16 from trips_eq]
          exact loop_out11 Variants.none c none i arg2 harg2 arg3 harg3 arg4 harg4 arg5 harg5 arg6 harg6 arg7 harg7 arg8 harg8 arg9 harg9 arg10 harg10 arg11 harg11 (IFt (quad (kernelRun.sl.r c i arg2 harg2 x0) (kernelRun.sl.r_6 c i arg2 harg2 x0) (kernelRun.sl.r_1 c i arg2 harg2 x0) (kernelRun.sl.r_7 c i arg2 harg2 x0))) (QFt (quad (kernelRun.sl.r c i arg2 harg2 x0) (kernelRun.sl.r_6 c i arg2 harg2 x0) (kernelRun.sl.r_1 c i arg2 harg2 x0) (kernelRun.sl.r_7 c i arg2 harg2 x0))) (KFt (quad (kernelRun.sl.r c i arg2 harg2 x0) (kernelRun.sl.r_6 c i arg2 harg2 x0) (kernelRun.sl.r_1 c i arg2 harg2 x0) (kernelRun.sl.r_7 c i arg2 harg2 x0))) (IBt (quad (kernelRun.sl.r c i arg2 harg2 x0) (kernelRun.sl.r_6 c i arg2 harg2 x0) (kernelRun.sl.r_1 c i arg2 harg2 x0) (kernelRun.sl.r_7 c i arg2 harg2 x0))) (QBt (quad (kernelRun.sl.r c i arg2 harg2 x0) (kernelRun.sl.r_6 c i arg2 harg2 x0) (kernelRun.sl.r_1 c i arg2 harg2 x0) (kernelRun.sl.r_7 c i arg2 harg2 x0))) (KBt (quad (kernelRun.sl.r c i arg2 harg2 x0) (kernelRun.sl.r_6 c i arg2 harg2 x0) (kernelRun.sl.r_1 c i arg2 harg2 x0) (kernelRun.sl.r_7 c i arg2 harg2 x0))) (BFt (quad (kernelRun.sl.r c i arg2 harg2 x0) (kernelRun.sl.r_6 c i arg2 harg2 x0) (kernelRun.sl.r_1 c i arg2 harg2 x0) (kernelRun.sl.r_7 c i arg2 harg2 x0))) (BBt (quad (kernelRun.sl.r c i arg2 harg2 x0) (kernelRun.sl.r_6 c i arg2 harg2 x0) (kernelRun.sl.r_1 c i arg2 harg2 x0) (kernelRun.sl.r_7 c i arg2 harg2 x0))) 0#32 x1 x2 x3 _ _ _ _
    isplitl [HS0]
    · iexists _, _; isplitr
      swap
      · iexact HS0
      · ipureintro; rfl
    isplitl [HS1]
    · iexists _, _; isplitr
      swap
      · iexact HS1
      · ipureintro; rfl
    · iexists _, _; isplitr
      swap
      · iexact HS2
      · ipureintro; rfl

/-! ## The launch -/

/-- What the launch's frame keeps between points: the three scratch buffers at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The proof data: at every point the operands' blocks stay and the result's block becomes `OUT` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUT (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What a point's body is called with. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- What it leaves. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 1000000 in
/-- The body at a point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl, show (dats m 0 c).owesAt () t.succ = (dats m 0 c).owesAt () t.castSucc from rfl, after0_0, after0_1, after0_2, after0_3, after0_4, after0_5, after0_6]
  rw [show (dats m 0 c).Φ t.castSucc = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by unfold defs₀; rw [Defs.onTc_tc]

/-- Every point meets its obligation. -/
theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

set_option backward.isDefEq.respectTransparency.types false in
/-- The whole program: every result block at its `OUT`, every other buffer as the launch leaves it, the machine at rest. -/
theorem run_main_quiescent :
    θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main (hbody := fun c => (body_obligation m c).loose) (hshare := fun c => (dats m 0 c).share_full fun _ => rfl) (howed := fun _ _ => rfl) (V := V m) (hmain := hmain m Variants.none) (hA := A_eq m) (hΦ := fun _ _ => rfl)

/-- The arguments end unchanged and the machine is at rest. -/
theorem frame_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Ret

end
-- ==== Proof.Ret.Chunk.lean ====
/-
  The mathematics both programs share: one chunk's step of a decayed retention over the extended reals, the state that
  the steps hand on, and the four decay tables. A chunk read from its last row to its first, with its tables turned the
  same way, gives the same rows in the opposite order and the same state: which is what makes the kernel's backward
  direction the reference's forward scan over the flipped sequence. No distributivity is used: every sum is only renamed.
-/
module

public import Idealize.ShloMosaic.PureOps.Ideal
public import Idealize.ShloMosaic.PureOps.Ideal.Laws
public import Idealize.ShloMosaic.Lib.Pointwise.Select
public import Idealize.ShloMosaic.Lib.Pointwise.Index

@[expose] public section

noncomputable section

namespace Cert.Ret

open Idealize.ShloMosaic

/-! ## One chunk -/

/-- A chunk's rows: the decayed scores times the values, plus the decayed queries times the state. -/
def chunkOut (im : Fin 128 → Fin 128 → EReal) (qd : Fin 128 → EReal) (q k : Fin 128 → Fin 128 → EReal) (v s : Fin 128 → Fin 256 → EReal)
    (n : Fin 128) (e : Fin 256) : EReal :=
  (∑ m : Fin 128, ((∑ d : Fin 128, q n d * k m d) * im n m) * v m e) + ∑ d : Fin 128, (q n d * qd n) * s d e

/-- The state after a chunk. -/
def chunkNext (kd : Fin 128 → EReal) (bl : EReal) (k : Fin 128 → Fin 128 → EReal) (v s : Fin 128 → Fin 256 → EReal)
    (d : Fin 128) (e : Fin 256) : EReal :=
  s d e * bl + ∑ m : Fin 128, (k m d * kd m) * v m e

/-- The state before chunk `t` of a sequence of chunks. -/
def states (kd : Fin 128 → EReal) (bl : EReal) (ck : ℕ → Fin 128 → Fin 128 → EReal) (cv : ℕ → Fin 128 → Fin 256 → EReal)
    (s : Fin 128 → Fin 256 → EReal) : ℕ → Fin 128 → Fin 256 → EReal
  | 0 => s
  | t + 1 => chunkNext kd bl (ck t) (cv t) (states kd bl ck cv s t)

/-- Chunk `t`'s rows of the retention. -/
def outAt (im : Fin 128 → Fin 128 → EReal) (qd kd : Fin 128 → EReal) (bl : EReal) (cq ck : ℕ → Fin 128 → Fin 128 → EReal)
    (cv : ℕ → Fin 128 → Fin 256 → EReal) (s : Fin 128 → Fin 256 → EReal) (t : ℕ) : Fin 128 → Fin 256 → EReal :=
  chunkOut im qd (cq t) (ck t) (cv t) (states kd bl ck cv s t)

/-! ## A chunk turned round -/

theorem chunkOut_rev (im : Fin 128 → Fin 128 → EReal) (qd : Fin 128 → EReal) (q k : Fin 128 → Fin 128 → EReal) (v s : Fin 128 → Fin 256 → EReal)
    (n : Fin 128) (e : Fin 256) :
    chunkOut (fun n m => im n.rev m.rev) (fun n => qd n.rev) (fun n => q n.rev) (fun n => k n.rev) (fun n => v n.rev) s n e =
      chunkOut im qd q k v s n.rev e := by
  unfold chunkOut
  rw [← Equiv.sum_comp Fin.revPerm (fun m => ((∑ d : Fin 128, q n.rev d * k m d) * im n.rev m) * v m e)]
  rfl

theorem chunkNext_rev (kd : Fin 128 → EReal) (bl : EReal) (k : Fin 128 → Fin 128 → EReal) (v s : Fin 128 → Fin 256 → EReal) :
    chunkNext (fun n => kd n.rev) bl (fun n => k n.rev) (fun n => v n.rev) s = chunkNext kd bl k v s := by
  funext d e
  unfold chunkNext
  rw [← Equiv.sum_comp Fin.revPerm (fun m => (k m d * kd m) * v m e)]
  rfl

theorem states_rev (kd : Fin 128 → EReal) (bl : EReal) (ck : ℕ → Fin 128 → Fin 128 → EReal) (cv : ℕ → Fin 128 → Fin 256 → EReal)
    (s : Fin 128 → Fin 256 → EReal) (t : ℕ) :
    states (fun n => kd n.rev) bl (fun t n => ck t n.rev) (fun t n => cv t n.rev) s t = states kd bl ck cv s t := by
  induction t with
  | zero => rfl
  | succ t ih => show chunkNext _ _ _ _ _ = chunkNext _ _ _ _ _; rw [ih, chunkNext_rev]

theorem outAt_rev (im : Fin 128 → Fin 128 → EReal) (qd kd : Fin 128 → EReal) (bl : EReal) (cq ck : ℕ → Fin 128 → Fin 128 → EReal)
    (cv : ℕ → Fin 128 → Fin 256 → EReal) (s : Fin 128 → Fin 256 → EReal) (t : ℕ) (n : Fin 128) (e : Fin 256) :
    outAt (fun n m => im n.rev m.rev) (fun n => qd n.rev) (fun n => kd n.rev) bl (fun t n => cq t n.rev) (fun t n => ck t n.rev)
      (fun t n => cv t n.rev) s t n e = outAt im qd kd bl cq ck cv s t n.rev e := by
  unfold outAt
  rw [states_rev, chunkOut_rev]

/-! ## The decays, `l` the logarithm of one row's decay -/

/-- The decay of `x` rows. -/
def dec (l : EReal) (x : ℝ) : EReal := Ideal.exp (l * (x : EReal))

/-- Forward: a row sees the rows up to itself. -/
def fIn (l : EReal) (n m : Fin 128) : EReal := if m.val ≤ n.val then dec l ((n.val : ℝ) - m.val) else 0
/-- Backward: a row sees the rows after itself. -/
def bIn (l : EReal) (n m : Fin 128) : EReal := if n.val < m.val then dec l ((m.val : ℝ) - n.val) else 0
/-- Forward: from the chunk's start to a row, itself counted. -/
def fQd (l : EReal) (n : Fin 128) : EReal := dec l ((n.val : ℝ) + 1)
/-- Backward: from the chunk's end to a row. -/
def bQd (l : EReal) (n : Fin 128) : EReal := dec l (128 - (n.val : ℝ))
/-- Forward: from a row to the chunk's end. -/
def fKd (l : EReal) (n : Fin 128) : EReal := dec l (127 - (n.val : ℝ))
/-- Backward: from a row to the chunk's start. -/
def bKd (l : EReal) (n : Fin 128) : EReal := dec l (n.val : ℝ)

theorem rev_real (n : Fin 128) : ((n.rev.val : ℕ) : ℝ) = 127 - (n.val : ℝ) := by
  have h : n.rev.val + n.val = 127 := by rw [Fin.val_rev]; omega
  have h' : ((n.rev.val : ℕ) : ℝ) + (n.val : ℝ) = 127 := by exact_mod_cast h
  linarith

/-- The scan over the flipped sequence has a strict mask: its tables are the backward ones turned round. -/
theorem bIn_rev (l : EReal) (n m : Fin 128) : bIn l n.rev m.rev = if m.val < n.val then dec l ((n.val : ℝ) - m.val) else 0 := by
  unfold bIn
  rw [rev_real, rev_real]
  have h : n.rev.val < m.rev.val ↔ m.val < n.val := by rw [Fin.val_rev, Fin.val_rev]; omega
  rw [show (127 - (m.val : ℝ)) - (127 - (n.val : ℝ)) = (n.val : ℝ) - m.val by ring]
  exact if_congr h rfl rfl

theorem bQd_rev (l : EReal) (n : Fin 128) : bQd l n.rev = dec l ((n.val : ℝ) + 1) := by
  unfold bQd; rw [rev_real, show (128 : ℝ) - (127 - (n.val : ℝ)) = (n.val : ℝ) + 1 by ring]

theorem bKd_rev (l : EReal) (n : Fin 128) : bKd l n.rev = dec l (127 - (n.val : ℝ)) := by
  unfold bKd; rw [rev_real]

/-! ## The printed forms of the tables' entries -/

theorem sel_oge (x y a b : EReal) (p : Prop) [Decidable p] (h : y ≤ x ↔ p) :
    Scalar.select (Ideal.cmp .oge x y) a b = if p then a else b := by
  rw [Ideal.cmp_oge]
  by_cases hp : p
  · rw [if_pos hp, decide_eq_true (h.2 hp)]; rfl
  · rw [if_neg hp, decide_eq_false (fun hx => hp (h.1 hx))]; rfl

theorem sel_ogt (x y a b : EReal) (p : Prop) [Decidable p] (h : y < x ↔ p) :
    Scalar.select (Ideal.cmp .ogt x y) a b = if p then a else b := by
  rw [Ideal.cmp_ogt]
  by_cases hp : p
  · rw [if_pos hp, decide_eq_true (h.2 hp)]; rfl
  · rw [if_neg hp, decide_eq_false (fun hx => hp (h.1 hx))]; rfl

theorem sel_olt (x y a b : EReal) (p : Prop) [Decidable p] (h : x < y ↔ p) :
    Scalar.select (Ideal.cmp .olt x y) a b = if p then a else b := by
  rw [Ideal.cmp_olt]
  by_cases hp : p
  · rw [if_pos hp, decide_eq_true (h.2 hp)]; rfl
  · rw [if_neg hp, decide_eq_false (fun hx => hp (h.1 hx))]; rfl

/-- A difference of two rows' numbers, against zero. -/
theorem sub_nonneg_iff (n m : Fin 128) : (0 : EReal) ≤ (((n.val : ℝ) - m.val : ℝ) : EReal) ↔ m.val ≤ n.val := by
  rw [← EReal.coe_zero, EReal.coe_le_coe_iff, sub_nonneg, Nat.cast_le]
theorem sub_pos_iff (n m : Fin 128) : (0 : EReal) < (((n.val : ℝ) - m.val : ℝ) : EReal) ↔ m.val < n.val := by
  rw [← EReal.coe_zero, EReal.coe_lt_coe_iff, sub_pos, Nat.cast_lt]
theorem sub_neg_iff (n m : Fin 128) : (((n.val : ℝ) - m.val : ℝ) : EReal) < (0 : EReal) ↔ n.val < m.val := by
  rw [← EReal.coe_zero, EReal.coe_lt_coe_iff, sub_neg, Nat.cast_lt]

theorem word_127 : Ideal.ofBits .f32 0x42FE0000#32 = ((127 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num

/-! ## A head of the whole sequence -/

/-- Row `n` of chunk `c`. -/
def ROW (c : Fin 16) (n : Fin 128) : Fin 2048 := ⟨128 * c.val + n.val, by have := c.isLt; have := n.isLt; omega⟩
/-- Column `d` of head `h` in the queries and keys. -/
def QCOL (h : Fin 4) (d : Fin 128) : Fin 512 := ⟨128 * h.val + d.val, by have := h.isLt; have := d.isLt; omega⟩
/-- Column `e` of head `h` in the values. -/
def VCOL (h : Fin 4) (e : Fin 256) : Fin 1024 := ⟨256 * h.val + e.val, by have := h.isLt; have := e.isLt; omega⟩
/-- A row's place in its chunk. -/
def INCH (r : Fin 2048) : Fin 128 := ⟨r.val % 128, Nat.mod_lt _ (by decide)⟩

/-- The forward retention of one head at row `r`. -/
def headF (l : EReal) (q k : Fin 2048 → Fin 128 → EReal) (v : Fin 2048 → Fin 256 → EReal) (s : Fin 128 → Fin 256 → EReal)
    (r : Fin 2048) (e : Fin 256) : EReal :=
  outAt (fIn l) (fQd l) (fKd l) (dec l 128) (fun t n => q (ROW (Fin.ofNat 16 t) n)) (fun t n => k (ROW (Fin.ofNat 16 t) n))
    (fun t n => v (ROW (Fin.ofNat 16 t) n)) s (r.val / 128) (INCH r) e

/-- The backward retention of one head at row `r`: its chunks from the last. -/
def headB (l : EReal) (q k : Fin 2048 → Fin 128 → EReal) (v : Fin 2048 → Fin 256 → EReal) (s : Fin 128 → Fin 256 → EReal)
    (r : Fin 2048) (e : Fin 256) : EReal :=
  outAt (bIn l) (bQd l) (bKd l) (dec l 128) (fun t n => q (ROW (Fin.rev (Fin.ofNat 16 t)) n)) (fun t n => k (ROW (Fin.rev (Fin.ofNat 16 t)) n))
    (fun t n => v (ROW (Fin.rev (Fin.ofNat 16 t)) n)) s (15 - r.val / 128) (INCH r) e

/-- A row of the flipped sequence. -/
theorem ROW_rev (c : Fin 16) (n : Fin 128) : (ROW c n).rev = ROW c.rev n.rev := by
  apply Fin.ext
  rw [Fin.val_rev]
  show 2048 - (128 * c.val + n.val + 1) = 128 * c.rev.val + n.rev.val
  rw [Fin.val_rev, Fin.val_rev]; have := c.isLt; have := n.isLt; omega

/-- The forward scan over the flipped sequence, read at the flipped row, is the backward retention. -/
theorem headB_eq (l : EReal) (q k : Fin 2048 → Fin 128 → EReal) (v : Fin 2048 → Fin 256 → EReal) (s : Fin 128 → Fin 256 → EReal)
    (r : Fin 2048) (e : Fin 256) :
    outAt (fun n m => if m.val < n.val then dec l ((n.val : ℝ) - m.val) else 0) (fun n => dec l ((n.val : ℝ) + 1))
      (fun n => dec l (127 - (n.val : ℝ))) (dec l 128) (fun t n => q (ROW (Fin.ofNat 16 t) n).rev) (fun t n => k (ROW (Fin.ofNat 16 t) n).rev)
      (fun t n => v (ROW (Fin.ofNat 16 t) n).rev) s (r.rev.val / 128) (INCH r.rev) e = headB l q k v s r e := by
  have ht : r.rev.val / 128 = 15 - r.val / 128 := by rw [Fin.val_rev]; have := r.isLt; omega
  have hn : INCH r.rev = (INCH r).rev := by
    apply Fin.ext; show r.rev.val % 128 = (INCH r).rev.val
    rw [Fin.val_rev, Fin.val_rev]; show _ = 128 - (r.val % 128 + 1); have := r.isLt; omega
  have hr := outAt_rev (bIn l) (bQd l) (bKd l) (dec l 128) (fun t n => q (ROW (Fin.rev (Fin.ofNat 16 t)) n))
    (fun t n => k (ROW (Fin.rev (Fin.ofNat 16 t)) n)) (fun t n => v (ROW (Fin.rev (Fin.ofNat 16 t)) n)) s (15 - r.val / 128) (INCH r).rev e
  rw [Fin.rev_rev] at hr
  unfold headB
  rw [← hr, ht, hn]
  simp only [bIn_rev, bQd_rev, bKd_rev, ROW_rev]

/-- A result column's head. -/
def HEAD (c : Fin 1024) : Fin 4 := ⟨c.val / 256, by have := c.isLt; omega⟩
/-- A result column's place in its head. -/
def OFF (c : Fin 1024) : Fin 256 := ⟨c.val % 256, Nat.mod_lt _ (by decide)⟩

theorem VCOL_HEAD (c : Fin 1024) : VCOL (HEAD c) (OFF c) = c := Fin.ext (Nat.div_add_mod _ _)

/-- The retention of every head in both directions, at an entry. -/
def RES (lg : Fin 2 → Fin 4 → EReal) (q k : Fin 32 → Fin 2048 → Fin 512 → EReal) (v : Fin 32 → Fin 2048 → Fin 1024 → EReal)
    (sf sb : Fin 32 → Fin 4 → Fin 128 → Fin 256 → EReal) (b : Fin 32) (r : Fin 2048) (c : Fin 1024) : EReal :=
  headF (lg 0 (HEAD c)) (fun r d => q b r (QCOL (HEAD c) d)) (fun r d => k b r (QCOL (HEAD c) d)) (fun r e => v b r (VCOL (HEAD c) e))
      (sf b (HEAD c)) r (OFF c) +
    headB (lg 1 (HEAD c)) (fun r d => q b r (QCOL (HEAD c) d)) (fun r d => k b r (QCOL (HEAD c) d)) (fun r e => v b r (VCOL (HEAD c) e))
      (sb b (HEAD c)) r (OFF c)

end Cert.Ret

end

end
-- ==== Proof.Ret.Payload.lean ====
/-
  The kernel's payloads over the extended reals, at an entry: a chunk's step is `chunkNext`, its rows are `chunkOut`, and
  the decay tables that a grid point builds from its two heads' logarithms are the tables of `Ret/Chunk.lean`.
-/
module

public import proofs.«01_k».proof.Proof.Ret.Run
public import proofs.«01_k».proof.Proof.Ret.Chunk
public import Idealize.ShloMosaic.Lib.Pipeline.Value
public import Idealize.ShloMosaic.Lib.IdealHost
public import Idealize.ShloMosaic.Lib.ValueIdxCore

@[expose] public section

set_option maxRecDepth 16384

noncomputable section

namespace Cert.KernelIdeal.Ret

open Cert.KernelIdeal.Gen Cert.Ret
open Idealize.ShloMosaic

/-! ## The products -/

theorem dot_nt (x y : FVec Ideal S128x128 .bf16) (n m : Fin 128) :
    matmul dot_S128x128_S128x128_S128x128_1_1_0_0_n_n none x y (constant S128x128 .f32 0x00000000#32) (ix2 n m) =
      ∑ d : Fin 128, x (ix2 n d) * y (ix2 m d) := by
  show FloatOps.matmul _ _ _ _ _ _ = _
  rw [Ideal.matmul_constant_zero_apply, ← Equiv.sum_comp (ValueIdx.contrEquiv1 dot_S128x128_S128x128_S128x128_1_1_0_0_n_n 128 rfl rfl).symm]
  refine Finset.sum_congr rfl fun k _ => ?_
  have hk := ValueIdx.contrEquiv1_symm_val dot_S128x128_S128x128_S128x128_1_1_0_0_n_n 128 rfl rfl k
  congr 2
  · funext a; apply Fin.ext; match a with | ⟨0, _⟩ => rfl | ⟨1, _⟩ => exact hk
  · funext a; apply Fin.ext; match a with | ⟨0, _⟩ => rfl | ⟨1, _⟩ => exact hk

theorem dot_nn (x : FVec Ideal S128x128 .bf16) (y : FVec Ideal S128x256 .bf16) (n : Fin 128) (e : Fin 256) :
    matmul dot_S128x128_S128x256_S128x256_1_0_0_1_n_n none x y (constant S128x256 .f32 0x00000000#32) (ix2 n e) =
      ∑ d : Fin 128, x (ix2 n d) * y (ix2 d e) := by
  show FloatOps.matmul _ _ _ _ _ _ = _
  rw [Ideal.matmul_constant_zero_apply, ← Equiv.sum_comp (ValueIdx.contrEquiv1 dot_S128x128_S128x256_S128x256_1_0_0_1_n_n 128 rfl rfl).symm]
  refine Finset.sum_congr rfl fun k _ => ?_
  have hk := ValueIdx.contrEquiv1_symm_val dot_S128x128_S128x256_S128x256_1_0_0_1_n_n 128 rfl rfl k
  congr 2
  · funext a; apply Fin.ext; match a with | ⟨0, _⟩ => rfl | ⟨1, _⟩ => exact hk
  · funext a; apply Fin.ext; match a with | ⟨0, _⟩ => exact hk | ⟨1, _⟩ => rfl

theorem dot_tn (x : FVec Ideal S128x128 .bf16) (y : FVec Ideal S128x256 .bf16) (d : Fin 128) (e : Fin 256) :
    matmul dot_S128x128_S128x256_S128x256_0_0_1_1_n_n none x y (constant S128x256 .f32 0x00000000#32) (ix2 d e) =
      ∑ m : Fin 128, x (ix2 m d) * y (ix2 m e) := by
  show FloatOps.matmul _ _ _ _ _ _ = _
  rw [Ideal.matmul_constant_zero_apply, ← Equiv.sum_comp (ValueIdx.contrEquiv1 dot_S128x128_S128x256_S128x256_0_0_1_1_n_n 128 rfl rfl).symm]
  refine Finset.sum_congr rfl fun k _ => ?_
  have hk := ValueIdx.contrEquiv1_symm_val dot_S128x128_S128x256_S128x256_0_0_1_1_n_n 128 rfl rfl k
  congr 2
  · funext a; apply Fin.ext; match a with | ⟨0, _⟩ => exact hk | ⟨1, _⟩ => rfl
  · funext a; apply Fin.ext; match a with | ⟨0, _⟩ => exact hk | ⟨1, _⟩ => rfl

/-! ## The casts of shape -/

theorem drop128 {α : Type} (x : S1x128x128.Idx → α) (n m : Fin 128) :
    shapeCast S128x128 x shapeCasts_S1x128x128_S128x128 (ix2 n m) = x (ix3 0 n m) :=
  shapeCast_apply x _ _ _ (by rw [Shape.rowMajor_val_three, Shape.rowMajor_val_two]; show (0 * 128 + n.val) * 128 + m.val = n.val * 128 + m.val; omega)
theorem drop256 {α : Type} (x : S1x128x256.Idx → α) (n : Fin 128) (e : Fin 256) :
    shapeCast S128x256 x shapeCasts_S1x128x256_S128x256 (ix2 n e) = x (ix3 0 n e) :=
  shapeCast_apply x _ _ _ (by rw [Shape.rowMajor_val_three, Shape.rowMajor_val_two]; show (0 * 128 + n.val) * 256 + e.val = n.val * 256 + e.val; omega)
theorem add256 {α : Type} (x : S128x256.Idx → α) (n : Fin 128) (e : Fin 256) :
    shapeCast S1x128x256 x shapeCasts_S128x256_S1x128x256 (ix3 0 n e) = x (ix2 n e) :=
  shapeCast_apply x _ _ _ (by rw [Shape.rowMajor_val_three, Shape.rowMajor_val_two]; show n.val * 256 + e.val = (0 * 128 + n.val) * 256 + e.val; omega)

/-! ## The two payloads of a chunk -/

theorem pay10_apply (KD : FVec Ideal S128x128 .f32) (BL : FVec Ideal S1x256 .f32) (kd : Fin 128 → EReal) (bl : EReal)
    (hk : ∀ m d, KD (ix2 m d) = kd m) (hb : ∀ e, BL (ix2 0 e) = bl) (k : Vec Ideal S1x128x128 .bf16) (v : Vec Ideal S1x128x256 .bf16)
    (s : Vec Ideal S1x128x256 .f32) (d : Fin 128) (e : Fin 256) :
    k0_pay10 KD BL k v s (ix3 0 d e) =
      chunkNext kd bl (fun m d => k (ix3 0 m d)) (fun m e => v (ix3 0 m e)) (fun d e => s (ix3 0 d e)) d e := by
  unfold k0_pay10 k0_pay7 k0_pay8 k0_pay9
  rw [add256]
  show (_ : EReal) * _ + _ = _
  show shapeCast S128x256 s _ (ix2 d e) * broadcastTo S128x256 BL _ (ix2 d e) + matmul (F := Ideal) dot_S128x128_S128x256_S128x256_0_0_1_1_n_n _ _ _ _ (ix2 d e) = _
  rw [drop256, dot_tn, broadcastTo_apply BL _ (ix2 d e) (ix2 0 e) (by intro a; match a with | ⟨0, _⟩ => rfl | ⟨1, _⟩ => rfl), hb]
  unfold chunkNext
  congr 1
  refine Finset.sum_congr rfl fun m _ => ?_
  rw [drop256]
  show (shapeCast S128x128 k _ (ix2 m d) * KD (ix2 m d)) * _ = _
  rw [drop128, hk]

theorem pay16_apply (IM QD : FVec Ideal S128x128 .f32) (im : Fin 128 → Fin 128 → EReal) (qd : Fin 128 → EReal)
    (hi : ∀ n m, IM (ix2 n m) = im n m) (hq : ∀ n d, QD (ix2 n d) = qd n) (q k : Vec Ideal S1x128x128 .bf16) (v : Vec Ideal S1x128x256 .bf16)
    (s : Vec Ideal S1x128x256 .f32) (n : Fin 128) (e : Fin 256) :
    k0_pay16 IM QD q k v s (ix2 n e) =
      chunkOut im qd (fun n d => q (ix3 0 n d)) (fun m d => k (ix3 0 m d)) (fun m e => v (ix3 0 m e)) (fun d e => s (ix3 0 d e)) n e := by
  unfold k0_pay16 k0_pay12 k0_pay13 k0_pay14
  rw [shapeCast_self]
  show matmul (F := Ideal) dot_S128x128_S128x256_S128x256_1_0_0_1_n_n _ _ _ _ (ix2 n e)
    + matmul (F := Ideal) dot_S128x128_S128x256_S128x256_1_0_0_1_n_n _ _ _ _ (ix2 n e) = _
  rw [dot_nn, dot_nn]
  unfold chunkOut
  congr 1
  · refine Finset.sum_congr rfl fun m _ => ?_
    rw [drop256]
    show (matmul (F := Ideal) dot_S128x128_S128x128_S128x128_1_1_0_0_n_n _ _ _ _ (ix2 n m) * IM (ix2 n m)) * _ = _
    rw [dot_nt, hi]
    simp only [drop128]
  · refine Finset.sum_congr rfl fun d _ => ?_
    show (shapeCast S128x128 q _ (ix2 n d) * QD (ix2 n d)) * shapeCast S128x256 s _ (ix2 d e) = _
    rw [drop128, drop256, hq]

/-- The forward rows are the same payload, with a unit axis put in front. -/
theorem pay11_eq (IM QD : FVec Ideal S128x128 .f32) (q k : Vec Ideal S1x128x128 .bf16) (v : Vec Ideal S1x128x256 .bf16)
    (s : Vec Ideal S1x128x256 .f32) (n : Fin 128) (e : Fin 256) : k0_pay11 IM QD q k v s (ix3 0 n e) = k0_pay16 IM QD q k v s (ix2 n e) := by
  unfold k0_pay11 k0_pay16 k0_pay12 k0_pay13 k0_pay14 k0_pay7 k0_pay8 k0_pay9
  rw [add256, shapeCast_self]

/-! ## The state and the rows of all chunks -/

theorem state_apply (KD : FVec Ideal S128x128 .f32) (BL : FVec Ideal S1x256 .f32) (kd : Fin 128 → EReal) (bl : EReal)
    (hk : ∀ m d, KD (ix2 m d) = kd m) (hb : ∀ e, BL (ix2 0 e) = bl) (ck : Fin 16 → Vec Ideal S1x128x128 .bf16)
    (cv : Fin 16 → Vec Ideal S1x128x256 .bf16) (ord : ℕ → Fin 16) (s : Vec Ideal S1x128x256 .f32) (t : ℕ) (d : Fin 128) (e : Fin 256) :
    state KD BL ck cv ord s t (ix3 0 d e) =
      states kd bl (fun t m d => ck (ord t) (ix3 0 m d)) (fun t m e => cv (ord t) (ix3 0 m e)) (fun d e => s (ix3 0 d e)) t d e := by
  induction t generalizing d e with
  | zero => rfl
  | succ t ih =>
    show k0_pay10 KD BL _ _ _ _ = chunkNext _ _ _ _ _ d e
    rw [pay10_apply KD BL kd bl hk hb]
    congr 1
    funext d e; exact ih d e

theorem outB_apply (IM QD KD : FVec Ideal S128x128 .f32) (BL : FVec Ideal S1x256 .f32) (im : Fin 128 → Fin 128 → EReal) (qd kd : Fin 128 → EReal)
    (bl : EReal) (hi : ∀ n m, IM (ix2 n m) = im n m) (hq : ∀ n d, QD (ix2 n d) = qd n) (hk : ∀ m d, KD (ix2 m d) = kd m)
    (hb : ∀ e, BL (ix2 0 e) = bl) (cq ck : Fin 16 → Vec Ideal S1x128x128 .bf16)
    (cv : Fin 16 → Vec Ideal S1x128x256 .bf16) (ord : ℕ → Fin 16) (s : Vec Ideal S1x128x256 .f32) (t : ℕ) (n : Fin 128) (e : Fin 256) :
    outB IM QD KD BL cq ck cv ord s t (ix2 n e) =
      outAt im qd kd bl (fun t m d => cq (ord t) (ix3 0 m d)) (fun t m d => ck (ord t) (ix3 0 m d)) (fun t m e => cv (ord t) (ix3 0 m e))
        (fun d e => s (ix3 0 d e)) t n e := by
  unfold outB outAt
  rw [pay16_apply IM QD im qd hi hq]
  congr 1
  funext d e; exact state_apply KD BL kd bl hk hb ck cv ord s t d e

theorem outF_eq (IM QD KD : FVec Ideal S128x128 .f32) (BL : FVec Ideal S1x256 .f32) (cq ck : Fin 16 → Vec Ideal S1x128x128 .bf16)
    (cv : Fin 16 → Vec Ideal S1x128x256 .bf16) (ord : ℕ → Fin 16) (s : Vec Ideal S1x128x256 .f32) (t : ℕ) (n : Fin 128) (e : Fin 256) :
    outF IM QD KD BL cq ck cv ord s t (ix3 0 n e) = outB IM QD KD BL cq ck cv ord s t (ix2 n e) := pay11_eq ..

/-! ## The tables -/

theorem rel_apply (n m : Fin 128) : (k0_pay22 (F := Ideal)) (ix2 n m) = (((n.val : ℝ) - m.val : ℝ) : EReal) := by
  show ((((BitVec.ofNat 32 (0 * 128 + n.val) - BitVec.ofNat 32 (0 * 128 + m.val) : BitVec 32).toInt : ℤ) : ℝ) : EReal) = _
  rw [Nat.zero_mul, Nat.zero_add, Nat.zero_add]
  have h : (BitVec.ofNat 32 n.val - BitVec.ofNat 32 m.val : BitVec 32).toInt = (n.val : ℤ) - m.val := by
    have hn := n.isLt; have hm := m.isLt
    have e : ∀ x : Fin 128, (BitVec.ofNat 32 x.val).toInt = x.val := fun x => by
      rw [BitVec.toInt_ofNat']; have := x.isLt; rw [Int.bmod_eq_of_le] <;> omega
    rw [BitVec.toInt_sub, e, e, Int.bmod_eq_of_le] <;> omega
  rw [h]; push_cast; rfl

theorem pos_apply (n d : Fin 128) : (k0_pay23 (F := Ideal)) (ix2 n d) = ((n.val : ℝ) : EReal) := by
  show ((((BitVec.ofNat 32 (0 * 128 + n.val) : BitVec 32).toInt : ℤ) : ℝ) : EReal) = _
  rw [Nat.zero_mul, Nat.zero_add]
  have h : (BitVec.ofNat 32 n.val : BitVec 32).toInt = (n.val : ℤ) := by
    have hn := n.isLt
    rw [BitVec.toInt_ofNat', Int.bmod_eq_of_le] <;> omega
  rw [h]; push_cast; rfl

variable (L : Fin 2 → Fin 2 → EReal) (hh : Fin 2)

theorem IFt_apply (n m : Fin 128) : IFt (F := Ideal) L hh (ix2 n m) = fIn (L 0 hh) n m := by
  show Scalar.select (Ideal.cmp .oge ((k0_pay22 (F := Ideal)) (ix2 n m)) (Ideal.ofBits .f32 0x00000000#32))
    (Ideal.exp (L 0 hh * Scalar.select (Ideal.cmp .oge ((k0_pay22 (F := Ideal)) (ix2 n m)) (Ideal.ofBits .f32 0x00000000#32))
      ((k0_pay22 (F := Ideal)) (ix2 n m)) (Ideal.ofBits .f32 0x00000000#32))) (Ideal.ofBits .f32 0x00000000#32) = _
  rw [rel_apply, Ideal.ofBits_zero_f32, sel_oge _ _ _ _ _ (sub_nonneg_iff n m), sel_oge _ _ _ _ _ (sub_nonneg_iff n m)]
  unfold fIn dec
  by_cases h : m.val ≤ n.val
  · rw [if_pos h, if_pos h, if_pos h]
  · rw [if_neg h, if_neg h]

theorem IBt_apply (n m : Fin 128) : IBt (F := Ideal) L hh (ix2 n m) = bIn (L 1 hh) n m := by
  show Scalar.select (Ideal.cmp .olt ((k0_pay22 (F := Ideal)) (ix2 n m)) (Ideal.ofBits .f32 0x00000000#32))
    (Ideal.exp (L 1 hh * Scalar.select (Ideal.cmp .olt ((k0_pay22 (F := Ideal)) (ix2 n m)) (Ideal.ofBits .f32 0x00000000#32))
      (Ideal.ofBits .f32 0x00000000#32 - (k0_pay22 (F := Ideal)) (ix2 n m)) (Ideal.ofBits .f32 0x00000000#32))) (Ideal.ofBits .f32 0x00000000#32) = _
  rw [rel_apply, Ideal.ofBits_zero_f32, sel_olt _ _ _ _ _ (sub_neg_iff n m), sel_olt _ _ _ _ _ (sub_neg_iff n m)]
  unfold bIn dec
  by_cases h : n.val < m.val
  · rw [if_pos h, if_pos h, if_pos h, zero_sub, ← EReal.coe_neg, neg_sub]
  · rw [if_neg h, if_neg h]

theorem QFt_apply (n d : Fin 128) : QFt (F := Ideal) L hh (ix2 n d) = fQd (L 0 hh) n := by
  show Ideal.exp (L 0 hh * ((k0_pay23 (F := Ideal)) (ix2 n d) + Ideal.ofBits .f32 0x3F800000#32)) = _
  rw [pos_apply, Ideal.ofBits_one_f32, ← EReal.coe_one, ← EReal.coe_add]; rfl

theorem KFt_apply (n d : Fin 128) : KFt (F := Ideal) L hh (ix2 n d) = fKd (L 0 hh) n := by
  show Ideal.exp (L 0 hh * (Ideal.ofBits .f32 0x42FE0000#32 - (k0_pay23 (F := Ideal)) (ix2 n d))) = _
  rw [pos_apply, word_127, ← EReal.coe_sub]; rfl

theorem BFt_apply (e : Fin 256) : BFt (F := Ideal) L hh (ix2 0 e) = dec (L 0 hh) 128 := by
  show Ideal.exp (L 0 hh * Ideal.ofBits .f32 0x43000000#32) = _
  rw [word_128]; rfl

theorem QBt_apply (n d : Fin 128) : QBt (F := Ideal) L hh (ix2 n d) = bQd (L 1 hh) n := by
  show Ideal.exp (L 1 hh * (Ideal.ofBits .f32 0x43000000#32 - (k0_pay23 (F := Ideal)) (ix2 n d))) = _
  rw [pos_apply, word_128, ← EReal.coe_sub]; rfl

theorem KBt_apply (n d : Fin 128) : KBt (F := Ideal) L hh (ix2 n d) = bKd (L 1 hh) n := by
  show Ideal.exp (L 1 hh * (k0_pay23 (F := Ideal)) (ix2 n d)) = _
  rw [pos_apply]; rfl

theorem BBt_apply (e : Fin 256) : BBt (F := Ideal) L hh (ix2 0 e) = dec (L 1 hh) 128 := by
  show Ideal.exp (L 1 hh * Ideal.ofBits .f32 0x43000000#32) = _
  rw [word_128]; rfl

end Cert.KernelIdeal.Ret

end

end
-- ==== Proof.Ret.Value.lean ====
/-
  The kernel's result, at an entry, over the extended reals: each grid point's block of its operands' blocks, and the
  whole array of the blocks.
-/
module

public import proofs.«01_k».proof.Proof.Ret.Payload
public import proofs.«01_k».proof.Proof.Ret.Run
public import proofs.«01_k».proof.Proof.Gen.ReferenceIdeal.Step
public import Idealize.ShloMosaic.Lib.Pipeline.ValueKit
public import Idealize.ShloMosaic.Lib.StableHlo.Run

@[expose] public section

set_option maxRecDepth 16384

noncomputable section

namespace Cert.KernelIdeal.Ret

open Cert.KernelIdeal Cert.KernelIdeal.Gen Cert.Ret
open Idealize.ShloMosaic Idealize.ShloMosaic.TcCoe

/-! ## A point's block -/

/-- A block column's head of the pair. -/
def PH (y : Fin 512) : Fin 2 := ⟨y.val / 256, by have := y.isLt; omega⟩
/-- A block column's place in its head. -/
def PO (y : Fin 512) : Fin 256 := ⟨y.val % 256, Nat.mod_lt _ (by decide)⟩
/-- A head's query columns in a block. -/
def PQ (hh : Fin 2) (d : Fin 128) : Fin 256 := ⟨128 * hh.val + d.val, by have := d.isLt; have := hh.isLt; omega⟩
/-- A head's value columns in a block. -/
def PV (hh : Fin 2) (e : Fin 256) : Fin 512 := ⟨256 * hh.val + e.val, by have := e.isLt; have := hh.isLt; omega⟩

theorem state_block (x : Vec Ideal S1x2x128x256 .f32) (hh : Fin 2) (d : Fin 128) (e : Fin 256) :
    hd (shapeCast S2x128x256 (shapeCast S2x128x256 x shapeCasts_S1x2x128x256_S2x128x256) shapeCasts_S2x128x256_S2x128x256) hh (ix3 0 d e) =
      x (ix4 0 hh d e) := by
  rw [shapeCast_self]
  exact shapeCast_apply x _ (ix3 hh d e) _ (by
    rw [Shape.rowMajor_val_four, Shape.rowMajor_val_three]
    show ((0 * 2 + hh.val) * 128 + d.val) * 256 + e.val = (hh.val * 128 + d.val) * 256 + e.val
    omega)

section
variable (L : Fin 2 → Fin 2 → EReal) (x1 x2 : Vec Ideal S1x2048x256 .bf16) (x3 : Vec Ideal S1x2048x512 .bf16) (x4 x5 : Vec Ideal S1x2x128x256 .f32)
  (r : Fin 2048) (y : Fin 512)

theorem outFwd_apply : outFwd (F := Ideal) L x1 x2 x3 x4 (ix3 0 r y) =
    headF (L 0 (PH y)) (fun r d => x1 (ix3 0 r (PQ (PH y) d))) (fun r d => x2 (ix3 0 r (PQ (PH y) d))) (fun r e => x3 (ix3 0 r (PV (PH y) e)))
      (fun d e => x4 (ix4 0 (PH y) d e)) r (PO y) := by
  show outF (IFt (F := Ideal) L (PH y)) (QFt L (PH y)) (KFt L (PH y)) (BFt L (PH y)) (chQ x1 (PH y)) (chQ x2 (PH y)) (chV x3 (PH y)) fwd
    (hd (k0_pay45 x4) (PH y)) (r.val / 128) (ix3 0 (INCH r) (PO y)) = _
  rw [outF_eq, outB_apply _ _ _ _ _ _ _ _ (IFt_apply L (PH y)) (QFt_apply L (PH y)) (KFt_apply L (PH y)) (BFt_apply L (PH y))]
  unfold headF
  congr 1
  funext d e
  exact state_block x4 (PH y) d e

theorem outBwd_apply : outBwd (F := Ideal) L x1 x2 x3 x5 (ix2 r y) =
    headB (L 1 (PH y)) (fun r d => x1 (ix3 0 r (PQ (PH y) d))) (fun r d => x2 (ix3 0 r (PQ (PH y) d))) (fun r e => x3 (ix3 0 r (PV (PH y) e)))
      (fun d e => x5 (ix4 0 (PH y) d e)) r (PO y) := by
  show outB (IBt (F := Ideal) L (PH y)) (QBt L (PH y)) (KBt L (PH y)) (BBt L (PH y)) (chQ x1 (PH y)) (chQ x2 (PH y)) (chV x3 (PH y)) bwd
    (hd (k0_pay46 x5) (PH y)) (15 - r.val / 128) (ix2 (INCH r) (PO y)) = _
  rw [outB_apply _ _ _ _ _ _ _ _ (IBt_apply L (PH y)) (QBt_apply L (PH y)) (KBt_apply L (PH y)) (BBt_apply L (PH y))]
  unfold headB
  congr 1
  funext d e
  exact state_block x5 (PH y) d e

end

theorem OUT_apply (i : grid0.Coords) (x0 : Vec Ideal S2x4 .f32) (x1 x2 : Vec Ideal S1x2048x256 .bf16) (x3 : Vec Ideal S1x2048x512 .bf16)
    (x4 x5 : Vec Ideal S1x2x128x256 .f32) (r : Fin 2048) (y : Fin 512) : OUT (F := Ideal) i x0 x1 x2 x3 x4 x5 (ix3 0 r y) =
    headF (lgv (F := Ideal) x0 i 0 (PH y)) (fun r d => x1 (ix3 0 r (PQ (PH y) d))) (fun r d => x2 (ix3 0 r (PQ (PH y) d))) (fun r e => x3 (ix3 0 r (PV (PH y) e)))
        (fun d e => x4 (ix4 0 (PH y) d e)) r (PO y) +
      headB (lgv (F := Ideal) x0 i 1 (PH y)) (fun r d => x1 (ix3 0 r (PQ (PH y) d))) (fun r d => x2 (ix3 0 r (PQ (PH y) d))) (fun r e => x3 (ix3 0 r (PV (PH y) e)))
        (fun d e => x5 (ix4 0 (PH y) d e)) r (PO y) := by
  unfold OUT k0_pay6
  rw [shapeCast_apply _ _ (ix3 0 r y) (ix2 r y) (by
    rw [Shape.rowMajor_val_three, Shape.rowMajor_val_two]; show r.val * 512 + y.val = (0 * 2048 + r.val) * 512 + y.val; omega)]
  show shapeCast S2048x512 (outFwd (F := Ideal) (lgv x0 i) x1 x2 x3 x4) _ (ix2 r y) + outBwd (F := Ideal) (lgv x0 i) x1 x2 x3 x5 (ix2 r y) = _
  rw [shapeCast_apply _ _ (ix2 r y) (ix3 0 r y) (by
    rw [Shape.rowMajor_val_three, Shape.rowMajor_val_two]; show (0 * 2048 + r.val) * 512 + y.val = r.val * 512 + y.val; omega),
    outFwd_apply, outBwd_apply]

/-! ## The windows -/

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![(grid0.coords t 0).val, 0, (grid0.coords t 1).val] := (by decide +kernel : ∀ t : Fin grid0.N, _)
theorem idx2 : ∀ t : Fin cfg0.N, win0_2.index t = ![(grid0.coords t 0).val, 0, (grid0.coords t 1).val] := (by decide +kernel : ∀ t : Fin grid0.N, _)
theorem idx3 : ∀ t : Fin cfg0.N, win0_3.index t = ![(grid0.coords t 0).val, 0, (grid0.coords t 1).val] := (by decide +kernel : ∀ t : Fin grid0.N, _)
theorem idx4 : ∀ t : Fin cfg0.N, win0_4.index t = ![(grid0.coords t 0).val, (grid0.coords t 1).val, 0, 0] := (by decide +kernel : ∀ t : Fin grid0.N, _)
theorem idx5 : ∀ t : Fin cfg0.N, win0_5.index t = ![(grid0.coords t 0).val, (grid0.coords t 1).val, 0, 0] := (by decide +kernel : ∀ t : Fin grid0.N, _)
theorem idx6 : ∀ t : Fin cfg0.N, win0_6.index t = ![(grid0.coords t 0).val, 0, (grid0.coords t 1).val] := (by decide +kernel : ∀ t : Fin grid0.N, _)

/-- A point's example. -/
def EX (t : Fin cfg0.N) : Fin 32 := grid0.coords t 0
/-- A point's pair of heads. -/
def PR (t : Fin cfg0.N) : Fin 2 := grid0.coords t 1
/-- The columns of a point's pair in the queries and keys. -/
def PRQ (t : Fin cfg0.N) (d : Fin 256) : Fin 512 := ⟨256 * (PR t).val + d.val, by have := d.isLt; have := (PR t).isLt; omega⟩
/-- The columns of a point's pair in the values and the result. -/
def PRV (t : Fin cfg0.N) (e : Fin 512) : Fin 1024 := ⟨512 * (PR t).val + e.val, by have := e.isLt; have := (PR t).isLt; omega⟩
/-- The heads of a point's pair. -/
def PRH (t : Fin cfg0.N) (hh : Fin 2) : Fin 4 := ⟨2 * (PR t).val + hh.val, by have := hh.isLt; have := (PR t).isLt; omega⟩

theorem blk0 (t : Fin cfg0.N) (d : Fin 2) (h : Fin 4) : iblk m c 0 t (ix2 d h) = V m c main_v0 (ix2 d h) := by
  blk_simp [iblk]
  refine congrArg (V m c main_v0) (funext fun a => Fin.ext ?_)
  blk_simp [idx0]
  match a with
  | ⟨0, _⟩ => show 0 * 2 + d.val = d.val; omega
  | ⟨1, _⟩ => show 0 * 4 + h.val = h.val; omega

theorem blk1 (t : Fin cfg0.N) (r : Fin 2048) (d : Fin 256) : iblk m c 1 t (ix3 0 r d) = m ((c : Thread nD τ).loc main_arg0) (ix3 (EX t) r (PRQ t d)) := by
  rw [← V_main_arg0 m c]
  blk_simp [iblk]
  refine congrArg (V m c main_arg0) (funext fun a => Fin.ext ?_)
  blk_simp [idx1]
  match a with
  | ⟨0, _⟩ => show (EX t).val * 1 + 0 = (EX t).val; omega
  | ⟨1, _⟩ => show 0 * 2048 + r.val = r.val; omega
  | ⟨2, _⟩ => show (PR t).val * 256 + d.val = 256 * (PR t).val + d.val; omega

theorem blk2 (t : Fin cfg0.N) (r : Fin 2048) (d : Fin 256) : iblk m c 2 t (ix3 0 r d) = m ((c : Thread nD τ).loc main_arg1) (ix3 (EX t) r (PRQ t d)) := by
  rw [← V_main_arg1 m c]
  blk_simp [iblk]
  refine congrArg (V m c main_arg1) (funext fun a => Fin.ext ?_)
  blk_simp [idx2]
  match a with
  | ⟨0, _⟩ => show (EX t).val * 1 + 0 = (EX t).val; omega
  | ⟨1, _⟩ => show 0 * 2048 + r.val = r.val; omega
  | ⟨2, _⟩ => show (PR t).val * 256 + d.val = 256 * (PR t).val + d.val; omega

theorem blk3 (t : Fin cfg0.N) (r : Fin 2048) (e : Fin 512) : iblk m c 3 t (ix3 0 r e) = m ((c : Thread nD τ).loc main_arg2) (ix3 (EX t) r (PRV t e)) := by
  rw [← V_main_arg2 m c]
  blk_simp [iblk]
  refine congrArg (V m c main_arg2) (funext fun a => Fin.ext ?_)
  blk_simp [idx3]
  match a with
  | ⟨0, _⟩ => show (EX t).val * 1 + 0 = (EX t).val; omega
  | ⟨1, _⟩ => show 0 * 2048 + r.val = r.val; omega
  | ⟨2, _⟩ => show (PR t).val * 512 + e.val = 512 * (PR t).val + e.val; omega

theorem blk4 (t : Fin cfg0.N) (hh : Fin 2) (d : Fin 128) (e : Fin 256) : iblk m c 4 t (ix4 0 hh d e) = m ((c : Thread nD τ).loc main_arg4) (ix4 (EX t) (PRH t hh) d e) := by
  rw [← V_main_arg4 m c]
  blk_simp [iblk]
  refine congrArg (V m c main_arg4) (funext fun a => Fin.ext ?_)
  blk_simp [idx4]
  match a with
  | ⟨0, _⟩ => show (EX t).val * 1 + 0 = (EX t).val; omega
  | ⟨1, _⟩ => show (PR t).val * 2 + hh.val = 2 * (PR t).val + hh.val; omega
  | ⟨2, _⟩ => show 0 * 128 + d.val = d.val; omega
  | ⟨3, _⟩ => show 0 * 256 + e.val = e.val; omega

theorem blk5 (t : Fin cfg0.N) (hh : Fin 2) (d : Fin 128) (e : Fin 256) : iblk m c 5 t (ix4 0 hh d e) = m ((c : Thread nD τ).loc main_arg5) (ix4 (EX t) (PRH t hh) d e) := by
  rw [← V_main_arg5 m c]
  blk_simp [iblk]
  refine congrArg (V m c main_arg5) (funext fun a => Fin.ext ?_)
  blk_simp [idx5]
  match a with
  | ⟨0, _⟩ => show (EX t).val * 1 + 0 = (EX t).val; omega
  | ⟨1, _⟩ => show (PR t).val * 2 + hh.val = 2 * (PR t).val + hh.val; omega
  | ⟨2, _⟩ => show 0 * 128 + d.val = d.val; omega
  | ⟨3, _⟩ => show 0 * 256 + e.val = e.val; omega

/-- Where a point's block of the result lies. -/
theorem emb6 (t : Fin cfg0.N) (r : Fin 2048) (y : Fin 512) :
    ((cfg0.win 6).blk t).view.emb (ix3 (0 : Fin 1) r y) = ix3 (EX t) r (PRV t y) := by
  refine funext fun a => Fin.ext ?_
  blk_simp [idx6]
  match a with
  | ⟨0, _⟩ => show (EX t).val * 1 + 0 = (EX t).val; omega
  | ⟨1, _⟩ => show 0 * 2048 + r.val = r.val; omega
  | ⟨2, _⟩ => show (PR t).val * 512 + y.val = 512 * (PR t).val + y.val; omega

theorem HEAD_PRV (t : Fin cfg0.N) (y : Fin 512) : HEAD (PRV t y) = PRH t (PH y) := by
  apply Fin.ext; show (512 * (PR t).val + y.val) / 256 = 2 * (PR t).val + y.val / 256; omega
theorem OFF_PRV (t : Fin cfg0.N) (y : Fin 512) : OFF (PRV t y) = PO y := by
  apply Fin.ext; show (512 * (PR t).val + y.val) % 256 = y.val % 256; omega
theorem PRQ_PQ (t : Fin cfg0.N) (hh : Fin 2) (d : Fin 128) : PRQ t (PQ hh d) = QCOL (PRH t hh) d := by
  apply Fin.ext; show 256 * (PR t).val + (128 * hh.val + d.val) = 128 * (2 * (PR t).val + hh.val) + d.val; omega
theorem PRV_PV (t : Fin cfg0.N) (hh : Fin 2) (e : Fin 256) : PRV t (PV hh e) = VCOL (PRH t hh) e := by
  apply Fin.ext; show 512 * (PR t).val + (256 * hh.val + e.val) = 256 * (2 * (PR t).val + hh.val) + e.val; omega
theorem lgv_blk (t : Fin cfg0.N) (d hh : Fin 2) : lgv (F := Ideal) (iblk m c 0 t) (grid0.coords t) d hh = V m c main_v0 (ix2 d (PRH t hh)) := by
  have h : (Fin.ofNat 4 (2 * (grid0.coords t 1).val + hh.val) : Fin 4) = PRH t hh := by
    apply Fin.ext
    show (2 * (PR t).val + hh.val) % 4 = 2 * (PR t).val + hh.val
    have := (PR t).isLt; have := hh.isLt; omega
  show iblk m c 0 t (ix2 d (Fin.ofNat 4 (2 * (grid0.coords t 1).val + hh.val))) = _
  rw [h]
  exact blk0 m c t d _

/-- The whole result of the arrays. -/
def G : S32x2048x1024.Idx → EReal := fun i =>
  RES (fun d h => V m c main_v0 (ix2 d h)) (fun b r e => m ((c : Thread nD τ).loc main_arg0) (ix3 b r e))
    (fun b r e => m ((c : Thread nD τ).loc main_arg1) (ix3 b r e)) (fun b r e => m ((c : Thread nD τ).loc main_arg2) (ix3 b r e))
    (fun b h d e => m ((c : Thread nD τ).loc main_arg4) (ix4 b h d e)) (fun b h d e => m ((c : Thread nD τ).loc main_arg5) (ix4 b h d e))
    (i 0) (i 1) (i 2)

/-- The result array after the last point. -/
theorem final6 : (dats m 0 c).arrAt 6 cfg0.N = G m c := by
  refine (dats m 0 c).arrAt_eq_of_covers 6 _ (by decide +kernel) fun t hf y => ?_
  blk_simp
  rw [after0_6]
  obtain ⟨b, r, y2, rfl⟩ : ∃ (b : Fin 1) (r : Fin 2048) (y2 : Fin 512), y = ix3 b r y2 := ⟨y 0, y 1, y 2, (ix3_eta y).symm⟩
  obtain rfl : b = 0 := Subsingleton.elim _ _
  refine (OUT_apply _ _ _ _ _ _ _ r y2).trans ?_
  rw [emb6]
  show _ = RES _ _ _ _ _ _ (EX t) r (PRV t y2)
  unfold RES
  simp only [lgv_blk, blk1, blk2, blk3, blk4, blk5, HEAD_PRV, OFF_PRV, PRQ_PQ, PRV_PV]

/-! ## The logarithms of the decays -/

/-- The kernel's host operations make the reference's logarithms. -/
theorem lg_eq (a0 a1 : FVec Ideal S32x2048x512 .bf16) (a2 : FVec Ideal S32x2048x1024 .bf16) :
    V m c main_v0 = Cert.ReferenceIdeal.Step.A_main_v2 (F := Ideal) a0 a1 a2 (m ((c : Thread nD τ).loc main_arg3)) := by
  unfold V
  after_results
  rfl

end Cert.KernelIdeal.Ret

end

end
-- ==== Proof.Ret.RefTables.lean ====
/-
  The reference's four decay tables of each direction and its chunks, at an entry, over the extended reals.
-/
module

public import proofs.«01_k».proof.Proof.Gen.ReferenceIdeal.Step
public import proofs.«01_k».proof.Proof.Ret.Chunk
public import Idealize.ShloMosaic.Lib.Pipeline.Value
public import Idealize.ShloMosaic.Lib.IdealHost
public import Idealize.ShloMosaic.Lib.ValueIdxCore
public import Idealize.ShloMosaic.Lib.DynamicIndex
public import Idealize.ShloMosaic.Lib.Pointwise.ShapeOpsCore

@[expose] public section

set_option maxRecDepth 16384

noncomputable section

namespace Cert.ReferenceIdeal.Ret

open Cert.ReferenceIdeal Cert.ReferenceIdeal.Gen Cert.Ret
open Idealize.ShloMosaic

/-! ## Broadcasts -/

theorem b_4_411 {α : Type} (x : S4.Idx → α) (h : Fin 4) : broadcastInDim S4x1x1 ![0] bcast_S4_S4x1x1_0 x (ix3 h 0 0) = x (ix1 h) :=
  broadcastInDim_apply _ _ x _ _ (by intro a; match a with | ⟨0, _⟩ => rfl)
theorem b_411_full {α : Type} (x : S4x1x1.Idx → α) (h : Fin 4) (n m : Fin 128) : broadcastInDim S4x128x128 ![0, 1, 2] bcast_S4x1x1_S4x128x128_0_1_2 x (ix3 h n m) = x (ix3 h 0 0) :=
  broadcastInDim_apply _ _ x _ _ (by intro a; match a with | ⟨0, _⟩ => rfl | ⟨1, _⟩ => rfl | ⟨2, _⟩ => rfl)
theorem b_nm_1nm {α : Type} (x : S128x128.Idx → α) (n m : Fin 128) : broadcastInDim S1x128x128 ![1, 2] bcast_S128x128_S1x128x128_1_2 x (ix3 0 n m) = x (ix2 n m) :=
  broadcastInDim_apply _ _ x _ _ (by intro a; match a with | ⟨0, _⟩ => rfl | ⟨1, _⟩ => rfl)
theorem b_1nm_full {α : Type} (x : S1x128x128.Idx → α) (h : Fin 4) (n m : Fin 128) : broadcastInDim S4x128x128 ![0, 1, 2] bcast_S1x128x128_S4x128x128_0_1_2 x (ix3 h n m) = x (ix3 0 n m) :=
  broadcastInDim_apply _ _ x _ _ (by intro a; match a with | ⟨0, _⟩ => rfl | ⟨1, _⟩ => rfl | ⟨2, _⟩ => rfl)
theorem b_nm_full {α : Type} (x : S128x128.Idx → α) (h : Fin 4) (n m : Fin 128) : broadcastInDim S4x128x128 ![1, 2] bcast_S128x128_S4x128x128_1_2 x (ix3 h n m) = x (ix2 n m) :=
  broadcastInDim_apply _ _ x _ _ (by intro a; match a with | ⟨0, _⟩ => rfl | ⟨1, _⟩ => rfl)
theorem b_n_n1 {α : Type} (x : S128.Idx → α) (n : Fin 128) : broadcastInDim S128x1 ![0] bcast_S128_S128x1_0 x (ix2 n 0) = x (ix1 n) :=
  broadcastInDim_apply _ _ x _ _ (by intro a; match a with | ⟨0, _⟩ => rfl)
theorem b_n_1n {α : Type} (x : S128.Idx → α) (n : Fin 128) : broadcastInDim S1x128 ![1] bcast_S128_S1x128_1 x (ix2 0 n) = x (ix1 n) :=
  broadcastInDim_apply _ _ x _ _ (by intro a; match a with | ⟨0, _⟩ => rfl)
theorem b_n1_nm {α : Type} (x : S128x1.Idx → α) (n m : Fin 128) : broadcastInDim S128x128 ![0, 1] bcast_S128x1_S128x128_0_1 x (ix2 n m) = x (ix2 n 0) :=
  broadcastInDim_apply _ _ x _ _ (by intro a; match a with | ⟨0, _⟩ => rfl | ⟨1, _⟩ => rfl)
theorem b_1n_nm {α : Type} (x : S1x128.Idx → α) (n m : Fin 128) : broadcastInDim S128x128 ![0, 1] bcast_S1x128_S128x128_0_1 x (ix2 n m) = x (ix2 0 m) :=
  broadcastInDim_apply _ _ x _ _ (by intro a; match a with | ⟨0, _⟩ => rfl | ⟨1, _⟩ => rfl)
theorem b_4_41 {α : Type} (x : S4.Idx → α) (h : Fin 4) : broadcastInDim S4x1 ![0] bcast_S4_S4x1_0 x (ix2 h 0) = x (ix1 h) :=
  broadcastInDim_apply _ _ x _ _ (by intro a; match a with | ⟨0, _⟩ => rfl)
theorem b_41_hn {α : Type} (x : S4x1.Idx → α) (h : Fin 4) (n : Fin 128) : broadcastInDim S4x128 ![0, 1] bcast_S4x1_S4x128_0_1 x (ix2 h n) = x (ix2 h 0) :=
  broadcastInDim_apply _ _ x _ _ (by intro a; match a with | ⟨0, _⟩ => rfl | ⟨1, _⟩ => rfl)
theorem b_1n_hn {α : Type} (x : S1x128.Idx → α) (h : Fin 4) (n : Fin 128) : broadcastInDim S4x128 ![0, 1] bcast_S1x128_S4x128_0_1 x (ix2 h n) = x (ix2 0 n) :=
  broadcastInDim_apply _ _ x _ _ (by intro a; match a with | ⟨0, _⟩ => rfl | ⟨1, _⟩ => rfl)
theorem b_hn_hn1 {α : Type} (x : S4x128.Idx → α) (h : Fin 4) (n : Fin 128) : broadcastInDim S4x128x1 ![0, 1] bcast_S4x128_S4x128x1_0_1 x (ix3 h n 0) = x (ix2 h n) :=
  broadcastInDim_apply _ _ x _ _ (by intro a; match a with | ⟨0, _⟩ => rfl | ⟨1, _⟩ => rfl)

/-! ## The tables -/

/-- The rows' numbers. -/
theorem pos_apply (n : Fin 128) : Step.K_main_v14 (F := Ideal) (ix1 n) = ((n.val : ℝ) : EReal) := by
  show ((((BitVec.ofNat 32 n.val : BitVec 32).toInt : ℤ) : ℝ) : EReal) = _
  rw [toInt_ofNat_of_lt (by have := n.isLt; omega)]; push_cast; rfl

/-- The rows' distances. -/
theorem rel_apply (n m : Fin 128) : Step.K_main_v19 (F := Ideal) (ix2 n m) = (((n.val : ℝ) - m.val : ℝ) : EReal) := by
  show Step.K_main_v17 (F := Ideal) (ix2 n m) - Step.K_main_v18 (F := Ideal) (ix2 n m) = _
  unfold Step.K_main_v17 Step.K_main_v18 Step.K_main_v15 Step.K_main_v16
  rw [b_n1_nm, b_1n_nm, b_n_n1, b_n_1n, pos_apply, pos_apply, ← EReal.coe_sub]

variable (l : FVec Ideal S4 .f32) (h : Fin 4) (n m : Fin 128)

/-- A head's logarithm at every pair of rows. -/
theorem lg_full : broadcastInDim S4x128x128 ![0, 1, 2] bcast_S4x1x1_S4x128x128_0_1_2 (broadcastInDim S4x1x1 ![0] bcast_S4_S4x1x1_0 l) (ix3 h n m) =
    l (ix1 h) := by rw [b_411_full, b_4_411]
/-- A head's logarithm at every row. -/
theorem lg_rows : broadcastInDim S4x128 ![0, 1] bcast_S4x1_S4x128_0_1 (broadcastInDim S4x1 ![0] bcast_S4_S4x1_0 l) (ix2 h n) = l (ix1 h) := by
  rw [b_41_hn, b_4_41]

theorem intraF_apply : select (Step.K_main_call2_v1 (F := Ideal)) (Host.exp (mulf (broadcastInDim S4x128x128 ![0, 1, 2] bcast_S4x1x1_S4x128x128_0_1_2
      (broadcastInDim S4x1x1 ![0] bcast_S4_S4x1x1_0 l)) (Step.K_main_v26 (F := Ideal)))) (Step.K_main_call2_v2 (F := Ideal)) (ix3 h n m) =
    fIn (l (ix1 h)) n m := by
  show Scalar.select (Step.K_main_call2_v1 (F := Ideal) (ix3 h n m)) (Ideal.exp (broadcastInDim S4x128x128 ![0, 1, 2] bcast_S4x1x1_S4x128x128_0_1_2
      (broadcastInDim S4x1x1 ![0] bcast_S4_S4x1x1_0 l) (ix3 h n m) * Step.K_main_v26 (F := Ideal) (ix3 h n m))) (Ideal.ofBits .f32 0x00000000#32) = _
  unfold Step.K_main_call2_v1 Step.K_main_v26 Step.K_main_v24
  rw [lg_full, b_nm_full, b_1nm_full, b_nm_1nm]
  show Scalar.select (Ideal.cmp .oge (Step.K_main_v19 (F := Ideal) (ix2 n m)) (Ideal.ofBits .f32 0x00000000#32)) (Ideal.exp (l (ix1 h) *
    Scalar.select (Ideal.cmp .oge (Step.K_main_v19 (F := Ideal) (ix2 n m)) (Ideal.ofBits .f32 0x00000000#32)) (Step.K_main_v19 (F := Ideal) (ix2 n m))
      (Ideal.ofBits .f32 0x00000000#32))) (Ideal.ofBits .f32 0x00000000#32) = _
  rw [rel_apply, Ideal.ofBits_zero_f32, sel_oge _ _ _ _ _ (sub_nonneg_iff n m), sel_oge _ _ _ _ _ (sub_nonneg_iff n m)]
  unfold fIn dec
  by_cases hh : m.val ≤ n.val
  · rw [if_pos hh, if_pos hh, if_pos hh]
  · rw [if_neg hh, if_neg hh]

theorem intraB_apply : select (Step.K_main_call4_v1 (F := Ideal)) (Host.exp (mulf (broadcastInDim S4x128x128 ![0, 1, 2] bcast_S4x1x1_S4x128x128_0_1_2
      (broadcastInDim S4x1x1 ![0] bcast_S4_S4x1x1_0 l)) (Step.K_main_v66 (F := Ideal)))) (Step.K_main_call4_v2 (F := Ideal)) (ix3 h n m) =
    if m.val < n.val then dec (l (ix1 h)) ((n.val : ℝ) - m.val) else 0 := by
  show Scalar.select (Step.K_main_call4_v1 (F := Ideal) (ix3 h n m)) (Ideal.exp (broadcastInDim S4x128x128 ![0, 1, 2] bcast_S4x1x1_S4x128x128_0_1_2
      (broadcastInDim S4x1x1 ![0] bcast_S4_S4x1x1_0 l) (ix3 h n m) * Step.K_main_v66 (F := Ideal) (ix3 h n m))) (Ideal.ofBits .f32 0x00000000#32) = _
  unfold Step.K_main_call4_v1 Step.K_main_v66 Step.K_main_v64
  rw [lg_full, b_nm_full, b_1nm_full, b_nm_1nm]
  show Scalar.select (Ideal.cmp .ogt (Step.K_main_v19 (F := Ideal) (ix2 n m)) (Ideal.ofBits .f32 0x00000000#32)) (Ideal.exp (l (ix1 h) *
    Scalar.select (Ideal.cmp .ogt (Step.K_main_v19 (F := Ideal) (ix2 n m)) (Ideal.ofBits .f32 0x00000000#32)) (Step.K_main_v19 (F := Ideal) (ix2 n m))
      (Ideal.ofBits .f32 0x00000000#32))) (Ideal.ofBits .f32 0x00000000#32) = _
  rw [rel_apply, Ideal.ofBits_zero_f32, sel_ogt _ _ _ _ _ (sub_pos_iff n m), sel_ogt _ _ _ _ _ (sub_pos_iff n m)]
  unfold dec
  by_cases hh : m.val < n.val
  · rw [if_pos hh, if_pos hh, if_pos hh]
  · rw [if_neg hh, if_neg hh]

theorem qdec_apply : broadcastInDim S4x128x1 ![0, 1] bcast_S4x128_S4x128x1_0_1 (Host.exp (mulf (broadcastInDim S4x128 ![0, 1] bcast_S4x1_S4x128_0_1
      (broadcastInDim S4x1 ![0] bcast_S4_S4x1_0 l)) (Step.K_main_v35 (F := Ideal)))) (ix3 h n 0) = dec (l (ix1 h)) ((n.val : ℝ) + 1) := by
  rw [b_hn_hn1]
  show Ideal.exp (broadcastInDim S4x128 ![0, 1] bcast_S4x1_S4x128_0_1 (broadcastInDim S4x1 ![0] bcast_S4_S4x1_0 l) (ix2 h n) *
    Step.K_main_v35 (F := Ideal) (ix2 h n)) = _
  unfold Step.K_main_v35 Step.K_main_v33
  rw [lg_rows, b_1n_hn, b_n_1n]
  show Ideal.exp (l (ix1 h) * (Step.K_main_v14 (F := Ideal) (ix1 n) + Ideal.ofBits .f32 0x3F800000#32)) = _
  rw [pos_apply, Ideal.ofBits_one_f32, ← EReal.coe_one, ← EReal.coe_add]; rfl

theorem kdec_apply : broadcastInDim S4x128x1 ![0, 1] bcast_S4x128_S4x128x1_0_1 (Host.exp (mulf (broadcastInDim S4x128 ![0, 1] bcast_S4x1_S4x128_0_1
      (broadcastInDim S4x1 ![0] bcast_S4_S4x1_0 l)) (Step.K_main_v44 (F := Ideal)))) (ix3 h n 0) = dec (l (ix1 h)) (127 - (n.val : ℝ)) := by
  rw [b_hn_hn1]
  show Ideal.exp (broadcastInDim S4x128 ![0, 1] bcast_S4x1_S4x128_0_1 (broadcastInDim S4x1 ![0] bcast_S4_S4x1_0 l) (ix2 h n) *
    Step.K_main_v44 (F := Ideal) (ix2 h n)) = _
  unfold Step.K_main_v44 Step.K_main_v42
  rw [lg_rows, b_1n_hn, b_n_1n]
  show Ideal.exp (l (ix1 h) * (Ideal.ofBits .f32 0x42FE0000#32 - Step.K_main_v14 (F := Ideal) (ix1 n))) = _
  rw [pos_apply, word_127, ← EReal.coe_sub]; rfl

theorem blk_apply : broadcastInDim S4x1x1 ![0] bcast_S4_S4x1x1_0 (Host.exp (mulf l (Step.K_main_v48 (F := Ideal)))) (ix3 h 0 0) = dec (l (ix1 h)) 128 := by
  rw [b_4_411]
  show Ideal.exp (l (ix1 h) * Ideal.ofBits .f32 0x43000000#32) = _
  rw [word_128]; rfl

section
variable (a0 a1 : FVec Ideal S32x2048x512 .bf16) (a2 : FVec Ideal S32x2048x1024 .bf16) (a3 : FVec Ideal S2x4 .f32)

/-- The heads' forward logarithms. -/
theorem row0 : Step.A_main_v13 (F := Ideal) a0 a1 a2 a3 (ix1 h) = Step.A_main_v2 (F := Ideal) a0 a1 a2 a3 (ix2 0 h) := by
  unfold Step.A_main_v13 Step.A_main_v12
  rw [shapeCast_apply _ _ (ix1 h) (ix2 0 h) (by rw [Shape.rowMajor_val_two, Shape.rowMajor_val_one]; show 0 * 4 + h.val = h.val; omega)]
  exact extractStridedSlice_apply _ _ _ _ _ (by intro a; match a with | ⟨0, _⟩ => rfl | ⟨1, _⟩ => exact (Nat.zero_add _).symm)
/-- The heads' backward logarithms. -/
theorem row1 : Step.A_main_v53 (F := Ideal) a0 a1 a2 a3 (ix1 h) = Step.A_main_v2 (F := Ideal) a0 a1 a2 a3 (ix2 1 h) := by
  unfold Step.A_main_v53 Step.A_main_v52
  rw [shapeCast_apply _ _ (ix1 h) (ix2 0 h) (by rw [Shape.rowMajor_val_two, Shape.rowMajor_val_one]; show 0 * 4 + h.val = h.val; omega)]
  exact extractStridedSlice_apply _ _ _ _ _ (by intro a; match a with | ⟨0, _⟩ => rfl | ⟨1, _⟩ => exact (Nat.zero_add _).symm)

theorem t29 : Step.A_main_v29 (F := Ideal) a0 a1 a2 a3 (ix3 h n m) = fIn (Step.A_main_v2 (F := Ideal) a0 a1 a2 a3 (ix2 0 h)) n m := by
  rw [← row0]; exact intraF_apply _ h n m
theorem t38 : Step.A_main_v38 (F := Ideal) a0 a1 a2 a3 (ix3 h n 0) = fQd (Step.A_main_v2 (F := Ideal) a0 a1 a2 a3 (ix2 0 h)) n := by
  rw [← row0]; exact qdec_apply _ h n
theorem t47 : Step.A_main_v47 (F := Ideal) a0 a1 a2 a3 (ix3 h n 0) = fKd (Step.A_main_v2 (F := Ideal) a0 a1 a2 a3 (ix2 0 h)) n := by
  rw [← row0]; exact kdec_apply _ h n
theorem t51 : Step.A_main_v51 (F := Ideal) a0 a1 a2 a3 (ix3 h 0 0) = dec (Step.A_main_v2 (F := Ideal) a0 a1 a2 a3 (ix2 0 h)) 128 := by
  rw [← row0]; exact blk_apply _ h
theorem t69 : Step.A_main_v69 (F := Ideal) a0 a1 a2 a3 (ix3 h n m) =
    if m.val < n.val then dec (Step.A_main_v2 (F := Ideal) a0 a1 a2 a3 (ix2 1 h)) ((n.val : ℝ) - m.val) else 0 := by
  rw [← row1]; exact intraB_apply _ h n m
theorem t78 : Step.A_main_v78 (F := Ideal) a0 a1 a2 a3 (ix3 h n 0) = dec (Step.A_main_v2 (F := Ideal) a0 a1 a2 a3 (ix2 1 h)) ((n.val : ℝ) + 1) := by
  rw [← row1]; exact qdec_apply _ h n
theorem t87 : Step.A_main_v87 (F := Ideal) a0 a1 a2 a3 (ix3 h n 0) = dec (Step.A_main_v2 (F := Ideal) a0 a1 a2 a3 (ix2 1 h)) (127 - (n.val : ℝ)) := by
  rw [← row1]; exact kdec_apply _ h n
theorem t91 : Step.A_main_v91 (F := Ideal) a0 a1 a2 a3 (ix3 h 0 0) = dec (Step.A_main_v2 (F := Ideal) a0 a1 a2 a3 (ix2 1 h)) 128 := by
  rw [← row1]; exact blk_apply _ h
end

/-! ## The chunks -/

section
variable {α : Type} (b : Fin 32) (t : Fin 16)

/-- A head's columns of the queries or keys. -/
theorem heads128 (x : S32x2048x512.Idx → α) (r : Fin 2048) (d : Fin 128) :
    transpose S32x4x2048x128 [0, 2, 1, 3] (shapeCast S32x2048x4x128 x shapeCasts_S32x2048x512_S32x2048x4x128)
      transposes_S32x2048x4x128_S32x4x2048x128_0_2_1_3 (ix4 b h r d) = x (ix3 b r (QCOL h d)) := by
  rw [transpose_apply _ _ _ _ (ix4 b r h d) (by intro a; match a with | ⟨0, _⟩ => rfl | ⟨1, _⟩ => rfl | ⟨2, _⟩ => rfl | ⟨3, _⟩ => rfl)]
  refine shapeCast_apply _ _ _ _ ?_
  rw [Shape.rowMajor_val_three, Shape.rowMajor_val_four]
  show (b.val * 2048 + r.val) * 512 + (128 * h.val + d.val) = ((b.val * 2048 + r.val) * 4 + h.val) * 128 + d.val
  omega
/-- A head's columns of the values. -/
theorem heads256 (x : S32x2048x1024.Idx → α) (r : Fin 2048) (e : Fin 256) :
    transpose S32x4x2048x256 [0, 2, 1, 3] (shapeCast S32x2048x4x256 x shapeCasts_S32x2048x1024_S32x2048x4x256)
      transposes_S32x2048x4x256_S32x4x2048x256_0_2_1_3 (ix4 b h r e) = x (ix3 b r (VCOL h e)) := by
  rw [transpose_apply _ _ _ _ (ix4 b r h e) (by intro a; match a with | ⟨0, _⟩ => rfl | ⟨1, _⟩ => rfl | ⟨2, _⟩ => rfl | ⟨3, _⟩ => rfl)]
  refine shapeCast_apply _ _ _ _ ?_
  rw [Shape.rowMajor_val_three, Shape.rowMajor_val_four]
  show (b.val * 2048 + r.val) * 1024 + (256 * h.val + e.val) = ((b.val * 2048 + r.val) * 4 + h.val) * 256 + e.val
  omega

/-- A chunk of a head's queries or keys. -/
theorem chunks128 (x : S32x4x2048x128.Idx → α) (d : Fin 128) :
    transpose S16x32x4x128x128 [2, 0, 1, 3, 4] (shapeCast S32x4x16x128x128 x shapeCasts_S32x4x2048x128_S32x4x16x128x128)
      transposes_S32x4x16x128x128_S16x32x4x128x128_2_0_1_3_4 (ix5 t b h n d) = x (ix4 b h (ROW t n) d) := by
  rw [transpose_apply _ _ _ _ (ix5 b h t n d)
    (by intro a; match a with | ⟨0, _⟩ => rfl | ⟨1, _⟩ => rfl | ⟨2, _⟩ => rfl | ⟨3, _⟩ => rfl | ⟨4, _⟩ => rfl)]
  refine shapeCast_apply _ _ _ _ ?_
  rw [Shape.rowMajor_val_four, Shape.rowMajor_val_five]
  show ((b.val * 4 + h.val) * 2048 + (128 * t.val + n.val)) * 128 + d.val = (((b.val * 4 + h.val) * 16 + t.val) * 128 + n.val) * 128 + d.val
  omega
/-- A chunk of a head's values. -/
theorem chunks256 (x : S32x4x2048x256.Idx → α) (e : Fin 256) :
    transpose S16x32x4x128x256 [2, 0, 1, 3, 4] (shapeCast S32x4x16x128x256 x shapeCasts_S32x4x2048x256_S32x4x16x128x256)
      transposes_S32x4x16x128x256_S16x32x4x128x256_2_0_1_3_4 (ix5 t b h n e) = x (ix4 b h (ROW t n) e) := by
  rw [transpose_apply _ _ _ _ (ix5 b h t n e)
    (by intro a; match a with | ⟨0, _⟩ => rfl | ⟨1, _⟩ => rfl | ⟨2, _⟩ => rfl | ⟨3, _⟩ => rfl | ⟨4, _⟩ => rfl)]
  refine shapeCast_apply _ _ _ _ ?_
  rw [Shape.rowMajor_val_four, Shape.rowMajor_val_five]
  show ((b.val * 4 + h.val) * 2048 + (128 * t.val + n.val)) * 256 + e.val = (((b.val * 4 + h.val) * 16 + t.val) * 128 + n.val) * 256 + e.val
  omega

/-- The flipped sequence. -/
theorem flip128 (x : S32x4x2048x128.Idx → α) (r : Fin 2048) (d : Fin 128) : Host.reverse [2] x (ix4 b h r d) = x (ix4 b h r.rev d) := by
  rw [Host.reverse_apply]
  refine congrArg x (funext fun a => ?_)
  match a with | ⟨0, _⟩ => rfl | ⟨1, _⟩ => rfl | ⟨2, _⟩ => rfl | ⟨3, _⟩ => rfl
theorem flip256 (x : S32x4x2048x256.Idx → α) (r : Fin 2048) (e : Fin 256) : Host.reverse [2] x (ix4 b h r e) = x (ix4 b h r.rev e) := by
  rw [Host.reverse_apply]
  refine congrArg x (funext fun a => ?_)
  match a with | ⟨0, _⟩ => rfl | ⟨1, _⟩ => rfl | ⟨2, _⟩ => rfl | ⟨3, _⟩ => rfl
end

section
variable (a0 a1 : FVec Ideal S32x2048x512 .bf16) (a2 : FVec Ideal S32x2048x1024 .bf16) (a3 : FVec Ideal S2x4 .f32) (b : Fin 32) (t : Fin 16)
  (d : Fin 128) (e : Fin 256)

theorem q93 : Step.A_main_v93 (F := Ideal) a0 a1 a2 a3 (ix5 t b h n d) = a0 (ix3 b (ROW t n) (QCOL h d)) :=
  (chunks128 h n b t _ d).trans (heads128 h b _ _ d)
theorem k95 : Step.A_main_v95 (F := Ideal) a0 a1 a2 a3 (ix5 t b h n d) = a1 (ix3 b (ROW t n) (QCOL h d)) :=
  (chunks128 h n b t _ d).trans (heads128 h b _ _ d)
theorem v97 : Step.A_main_v97 (F := Ideal) a0 a1 a2 a3 (ix5 t b h n e) = a2 (ix3 b (ROW t n) (VCOL h e)) :=
  (chunks256 h n b t _ e).trans (heads256 h b _ _ e)
theorem q100 : Step.A_main_v100 (F := Ideal) a0 a1 a2 a3 (ix5 t b h n d) = a0 (ix3 b (ROW t n).rev (QCOL h d)) :=
  (chunks128 h n b t _ d).trans ((flip128 h b _ _ d).trans (heads128 h b _ _ d))
theorem k103 : Step.A_main_v103 (F := Ideal) a0 a1 a2 a3 (ix5 t b h n d) = a1 (ix3 b (ROW t n).rev (QCOL h d)) :=
  (chunks128 h n b t _ d).trans ((flip128 h b _ _ d).trans (heads128 h b _ _ d))
theorem v106 : Step.A_main_v106 (F := Ideal) a0 a1 a2 a3 (ix5 t b h n e) = a2 (ix3 b (ROW t n).rev (VCOL h e)) :=
  (chunks256 h n b t _ e).trans ((flip256 h b _ _ e).trans (heads256 h b _ _ e))
end

end Cert.ReferenceIdeal.Ret

end

end
-- ==== Proof.Ret.RefStep.lean ====
/-
  The reference's scan, a trip at a time, and its result at an entry, over the extended reals.
-/
module

public import proofs.«01_k».proof.Proof.Ret.RefTables

@[expose] public section

set_option maxRecDepth 16384

noncomputable section

namespace Cert.ReferenceIdeal.Ret

open Cert.ReferenceIdeal Cert.ReferenceIdeal.Gen Cert.Ret
open Idealize.ShloMosaic

/-! ## The products, batched over the examples and the heads -/

variable (b : Fin 32) (h : Fin 4) (n m d : Fin 128) (e : Fin 256)

theorem dot_nt (x : FVec Ideal S32x4x128x128 .f32) (y : FVec Ideal S32x4x128x128 .f32) :
    Host.dotGeneral dot_S32x4x128x128_S32x4x128x128_S32x4x128x128_3_3_2_2_01_01 none x y (ix4 b h n m) = ∑ d : Fin 128, x (ix4 b h n d) * y (ix4 b h m d) := by
  show FloatOps.dotGeneral _ _ _ _ _ _ = _
  rw [Ideal.dotGeneral_apply, ← Equiv.sum_comp (ValueIdx.contrEquiv1 dot_S32x4x128x128_S32x4x128x128_S32x4x128x128_3_3_2_2_01_01 128 rfl rfl).symm]
  refine Finset.sum_congr rfl fun k _ => ?_
  have hk := ValueIdx.contrEquiv1_symm_val dot_S32x4x128x128_S32x4x128x128_S32x4x128x128_3_3_2_2_01_01 128 rfl rfl k
  congr 2
  · funext a; apply Fin.ext; match a with | ⟨0, _⟩ => rfl | ⟨1, _⟩ => rfl | ⟨2, _⟩ => rfl | ⟨3, _⟩ => exact hk
  · funext a; apply Fin.ext; match a with | ⟨0, _⟩ => rfl | ⟨1, _⟩ => rfl | ⟨2, _⟩ => rfl | ⟨3, _⟩ => exact hk

theorem dot_nn (x : FVec Ideal S32x4x128x128 .f32) (y : FVec Ideal S32x4x128x256 .f32) :
    Host.dotGeneral dot_S32x4x128x128_S32x4x128x256_S32x4x128x256_3_2_2_3_01_01 none x y (ix4 b h n e) = ∑ d : Fin 128, x (ix4 b h n d) * y (ix4 b h d e) := by
  show FloatOps.dotGeneral _ _ _ _ _ _ = _
  rw [Ideal.dotGeneral_apply, ← Equiv.sum_comp (ValueIdx.contrEquiv1 dot_S32x4x128x128_S32x4x128x256_S32x4x128x256_3_2_2_3_01_01 128 rfl rfl).symm]
  refine Finset.sum_congr rfl fun k _ => ?_
  have hk := ValueIdx.contrEquiv1_symm_val dot_S32x4x128x128_S32x4x128x256_S32x4x128x256_3_2_2_3_01_01 128 rfl rfl k
  congr 2
  · funext a; apply Fin.ext; match a with | ⟨0, _⟩ => rfl | ⟨1, _⟩ => rfl | ⟨2, _⟩ => rfl | ⟨3, _⟩ => exact hk
  · funext a; apply Fin.ext; match a with | ⟨0, _⟩ => rfl | ⟨1, _⟩ => rfl | ⟨2, _⟩ => exact hk | ⟨3, _⟩ => rfl

theorem dot_tn (x : FVec Ideal S32x4x128x128 .f32) (y : FVec Ideal S32x4x128x256 .f32) :
    Host.dotGeneral dot_S32x4x128x128_S32x4x128x256_S32x4x128x256_2_2_3_3_01_01 none x y (ix4 b h d e) = ∑ m : Fin 128, x (ix4 b h m d) * y (ix4 b h m e) := by
  show FloatOps.dotGeneral _ _ _ _ _ _ = _
  rw [Ideal.dotGeneral_apply, ← Equiv.sum_comp (ValueIdx.contrEquiv1 dot_S32x4x128x128_S32x4x128x256_S32x4x128x256_2_2_3_3_01_01 128 rfl rfl).symm]
  refine Finset.sum_congr rfl fun k _ => ?_
  have hk := ValueIdx.contrEquiv1_symm_val dot_S32x4x128x128_S32x4x128x256_S32x4x128x256_2_2_3_3_01_01 128 rfl rfl k
  congr 2
  · funext a; apply Fin.ext; match a with | ⟨0, _⟩ => rfl | ⟨1, _⟩ => rfl | ⟨2, _⟩ => exact hk | ⟨3, _⟩ => rfl
  · funext a; apply Fin.ext; match a with | ⟨0, _⟩ => rfl | ⟨1, _⟩ => rfl | ⟨2, _⟩ => exact hk | ⟨3, _⟩ => rfl

/-! ## A head's table at every example -/

theorem b_intra {α : Type} (x : S4x128x128.Idx → α) : broadcastInDim S32x4x128x128 ![0, 1, 2, 3] bcast_S1x4x128x128_S32x4x128x128_0_1_2_3
    (broadcastInDim S1x4x128x128 ![1, 2, 3] bcast_S4x128x128_S1x4x128x128_1_2_3 x) (ix4 b h n m) = x (ix3 h n m) :=
  (broadcastInDim_apply _ _ _ _ (ix4 0 h n m) (by intro a; match a with | ⟨0, _⟩ => rfl | ⟨1, _⟩ => rfl | ⟨2, _⟩ => rfl | ⟨3, _⟩ => rfl)).trans
    (broadcastInDim_apply _ _ x _ _ (by intro a; match a with | ⟨0, _⟩ => rfl | ⟨1, _⟩ => rfl | ⟨2, _⟩ => rfl))
theorem b_rows {α : Type} (x : S4x128x1.Idx → α) : broadcastInDim S32x4x128x128 ![0, 1, 2, 3] bcast_S1x4x128x1_S32x4x128x128_0_1_2_3
    (broadcastInDim S1x4x128x1 ![1, 2, 3] bcast_S4x128x1_S1x4x128x1_1_2_3 x) (ix4 b h n d) = x (ix3 h n 0) :=
  (broadcastInDim_apply _ _ _ _ (ix4 0 h n 0) (by intro a; match a with | ⟨0, _⟩ => rfl | ⟨1, _⟩ => rfl | ⟨2, _⟩ => rfl | ⟨3, _⟩ => rfl)).trans
    (broadcastInDim_apply _ _ x _ _ (by intro a; match a with | ⟨0, _⟩ => rfl | ⟨1, _⟩ => rfl | ⟨2, _⟩ => rfl))
theorem b_head {α : Type} (x : S4x1x1.Idx → α) : broadcastInDim S32x4x128x256 ![0, 1, 2, 3] bcast_S1x4x1x1_S32x4x128x256_0_1_2_3
    (broadcastInDim S1x4x1x1 ![1, 2, 3] bcast_S4x1x1_S1x4x1x1_1_2_3 x) (ix4 b h d e) = x (ix3 h 0 0) :=
  (broadcastInDim_apply _ _ _ _ (ix4 0 h 0 0) (by intro a; match a with | ⟨0, _⟩ => rfl | ⟨1, _⟩ => rfl | ⟨2, _⟩ => rfl | ⟨3, _⟩ => rfl)).trans
    (broadcastInDim_apply _ _ x _ _ (by intro a; match a with | ⟨0, _⟩ => rfl | ⟨1, _⟩ => rfl | ⟨2, _⟩ => rfl))

/-! ## One trip -/

section
variable (Q K : FVec Ideal S32x4x128x128 .f32) (V S : FVec Ideal S32x4x128x256 .f32) (IM : FVec Ideal S4x128x128 .f32)
  (QD KD : FVec Ideal S4x128x1 .f32) (BL : FVec Ideal S4x1x1 .f32)

/-- A trip's rows. -/
def outR : FVec Ideal S32x4x128x256 .f32 :=
  addf (Host.dotGeneral dot_S32x4x128x128_S32x4x128x256_S32x4x128x256_3_2_2_3_01_01 none
      (mulf (Host.dotGeneral dot_S32x4x128x128_S32x4x128x128_S32x4x128x128_3_3_2_2_01_01 none Q K)
        (broadcastInDim S32x4x128x128 ![0, 1, 2, 3] bcast_S1x4x128x128_S32x4x128x128_0_1_2_3
          (broadcastInDim S1x4x128x128 ![1, 2, 3] bcast_S4x128x128_S1x4x128x128_1_2_3 IM))) V)
    (Host.dotGeneral dot_S32x4x128x128_S32x4x128x256_S32x4x128x256_3_2_2_3_01_01 none
      (mulf Q (broadcastInDim S32x4x128x128 ![0, 1, 2, 3] bcast_S1x4x128x1_S32x4x128x128_0_1_2_3
        (broadcastInDim S1x4x128x1 ![1, 2, 3] bcast_S4x128x1_S1x4x128x1_1_2_3 QD))) S)
/-- The state a trip leaves. -/
def nextR : FVec Ideal S32x4x128x256 .f32 :=
  addf (mulf S (broadcastInDim S32x4x128x256 ![0, 1, 2, 3] bcast_S1x4x1x1_S32x4x128x256_0_1_2_3
      (broadcastInDim S1x4x1x1 ![1, 2, 3] bcast_S4x1x1_S1x4x1x1_1_2_3 BL)))
    (Host.dotGeneral dot_S32x4x128x128_S32x4x128x256_S32x4x128x256_2_2_3_3_01_01 none
      (mulf K (broadcastInDim S32x4x128x128 ![0, 1, 2, 3] bcast_S1x4x128x1_S32x4x128x128_0_1_2_3
        (broadcastInDim S1x4x128x1 ![1, 2, 3] bcast_S4x128x1_S1x4x128x1_1_2_3 KD))) V)

theorem outR_apply : outR Q K V S IM QD (ix4 b h n e) =
    chunkOut (fun n m => IM (ix3 h n m)) (fun n => QD (ix3 h n 0)) (fun n d => Q (ix4 b h n d)) (fun n d => K (ix4 b h n d))
      (fun n e => V (ix4 b h n e)) (fun d e => S (ix4 b h d e)) n e := by
  show Host.dotGeneral (F := Ideal) dot_S32x4x128x128_S32x4x128x256_S32x4x128x256_3_2_2_3_01_01 none _ _ (ix4 b h n e) +
    Host.dotGeneral (F := Ideal) dot_S32x4x128x128_S32x4x128x256_S32x4x128x256_3_2_2_3_01_01 none _ _ (ix4 b h n e) = _
  rw [dot_nn, dot_nn]
  unfold chunkOut
  congr 1
  · refine Finset.sum_congr rfl fun m _ => ?_
    show (Host.dotGeneral (F := Ideal) dot_S32x4x128x128_S32x4x128x128_S32x4x128x128_3_3_2_2_01_01 none _ _ (ix4 b h n m) *
      broadcastInDim S32x4x128x128 _ _ _ (ix4 b h n m)) * _ = _
    rw [dot_nt, b_intra]
  · refine Finset.sum_congr rfl fun d _ => ?_
    show (_ * broadcastInDim S32x4x128x128 _ _ _ (ix4 b h n d)) * _ = _
    rw [b_rows]

theorem nextR_apply : nextR K V S KD BL (ix4 b h d e) =
    chunkNext (fun n => KD (ix3 h n 0)) (BL (ix3 h 0 0)) (fun n d => K (ix4 b h n d)) (fun n e => V (ix4 b h n e))
      (fun d e => S (ix4 b h d e)) d e := by
  show _ * broadcastInDim S32x4x128x256 _ _ _ (ix4 b h d e) +
    Host.dotGeneral (F := Ideal) dot_S32x4x128x128_S32x4x128x256_S32x4x128x256_2_2_3_3_01_01 none _ _ (ix4 b h d e) = _
  rw [dot_tn, b_head]
  unfold chunkNext
  congr 1
  refine Finset.sum_congr rfl fun m _ => ?_
  show (_ * broadcastInDim S32x4x128x128 _ _ _ (ix4 b h m d)) * _ = _
  rw [b_rows]
end

/-! ## The chunk of a trip -/

variable (t : Fin 16) (st : Fin 5 → ℤ)

theorem slice128 {α : Type} (X : S16x32x4x128x128.Idx → α) (hst : ∀ a, st a = (![t.val, 0, 0, 0, 0] a : ℕ)) :
    shapeCast S32x4x128x128 (Host.dynamicSlice S1x32x4x128x128 X st sliceFits_S16x32x4x128x128_S1x32x4x128x128) shapeCasts_S1x32x4x128x128_S32x4x128x128 (ix4 b h n d) = X (ix5 t b h n d) := by
  rw [shapeCast_apply _ _ _ (ix5 0 b h n d) (by
    rw [Shape.rowMajor_val_five, Shape.rowMajor_val_four]
    show (((0 * 32 + b.val) * 4 + h.val) * 128 + n.val) * 128 + d.val = ((b.val * 4 + h.val) * 128 + n.val) * 128 + d.val
    omega), Host.dynamicSlice_apply]
  have hc := fun a => Host.clampedStart_of_le (s := S16x32x4x128x128) (t := S1x32x4x128x128) rfl st a (![t.val, 0, 0, 0, 0] a) (hst a) (by
    match a with
    | ⟨0, _⟩ => exact t.isLt
    | ⟨1, _⟩ => exact le_refl 32
    | ⟨2, _⟩ => exact le_refl 4
    | ⟨3, _⟩ => exact le_refl 128
    | ⟨4, _⟩ => exact le_refl 128)
  refine congrArg X (funext fun a => Fin.ext ?_)
  match a with
  | ⟨0, _⟩ => exact congrArg (· + 0) (hc 0)
  | ⟨1, _⟩ => exact (congrArg (· + b.val) (hc 1)).trans (Nat.zero_add _)
  | ⟨2, _⟩ => exact (congrArg (· + h.val) (hc 2)).trans (Nat.zero_add _)
  | ⟨3, _⟩ => exact (congrArg (· + n.val) (hc 3)).trans (Nat.zero_add _)
  | ⟨4, _⟩ => exact (congrArg (· + d.val) (hc 4)).trans (Nat.zero_add _)

theorem slice256 {α : Type} (X : S16x32x4x128x256.Idx → α) (hst : ∀ a, st a = (![t.val, 0, 0, 0, 0] a : ℕ)) :
    shapeCast S32x4x128x256 (Host.dynamicSlice S1x32x4x128x256 X st sliceFits_S16x32x4x128x256_S1x32x4x128x256) shapeCasts_S1x32x4x128x256_S32x4x128x256 (ix4 b h n e) = X (ix5 t b h n e) := by
  rw [shapeCast_apply _ _ _ (ix5 0 b h n e) (by
    rw [Shape.rowMajor_val_five, Shape.rowMajor_val_four]
    show (((0 * 32 + b.val) * 4 + h.val) * 128 + n.val) * 256 + e.val = ((b.val * 4 + h.val) * 128 + n.val) * 256 + e.val
    omega), Host.dynamicSlice_apply]
  have hc := fun a => Host.clampedStart_of_le (s := S16x32x4x128x256) (t := S1x32x4x128x256) rfl st a (![t.val, 0, 0, 0, 0] a) (hst a) (by
    match a with
    | ⟨0, _⟩ => exact t.isLt
    | ⟨1, _⟩ => exact le_refl 32
    | ⟨2, _⟩ => exact le_refl 4
    | ⟨3, _⟩ => exact le_refl 128
    | ⟨4, _⟩ => exact le_refl 256)
  refine congrArg X (funext fun a => Fin.ext ?_)
  match a with
  | ⟨0, _⟩ => exact congrArg (· + 0) (hc 0)
  | ⟨1, _⟩ => exact (congrArg (· + b.val) (hc 1)).trans (Nat.zero_add _)
  | ⟨2, _⟩ => exact (congrArg (· + h.val) (hc 2)).trans (Nat.zero_add _)
  | ⟨3, _⟩ => exact (congrArg (· + n.val) (hc 3)).trans (Nat.zero_add _)
  | ⟨4, _⟩ => exact (congrArg (· + e.val) (hc 4)).trans (Nat.zero_add _)

/-- The rows a trip stores. -/
theorem update256 {α : Type} (X : S16x32x4x128x256.Idx → α) (U : S32x4x128x256.Idx → α) (hst : ∀ a, st a = (![t.val, 0, 0, 0, 0] a : ℕ)) (t' : Fin 16) :
    Host.dynamicUpdateSlice X (broadcastInDim S1x32x4x128x256 ![1, 2, 3, 4] bcast_S32x4x128x256_S1x32x4x128x256_1_2_3_4 U) st
      updateFits_S16x32x4x128x256_S1x32x4x128x256 (ix5 t' b h n e) = if t' = t then U (ix4 b h n e) else X (ix5 t' b h n e) := by
  rw [Host.dynamicUpdateSlice_apply]
  have hc := fun a => Host.clampedStart_of_le (s := S16x32x4x128x256) (t := S1x32x4x128x256) rfl st a (![t.val, 0, 0, 0, 0] a) (hst a) (by
    match a with
    | ⟨0, _⟩ => exact t.isLt
    | ⟨1, _⟩ => exact le_refl 32
    | ⟨2, _⟩ => exact le_refl 4
    | ⟨3, _⟩ => exact le_refl 128
    | ⟨4, _⟩ => exact le_refl 256)
  by_cases hh : t' = t
  · subst hh
    rw [if_pos rfl, dif_pos (by
      intro a
      rw [hc a]
      match a with
      | ⟨0, _⟩ => exact ⟨le_refl _, Nat.lt_succ_self _⟩
      | ⟨1, _⟩ => exact ⟨Nat.zero_le _, (Nat.zero_add 32).symm ▸ b.isLt⟩
      | ⟨2, _⟩ => exact ⟨Nat.zero_le _, (Nat.zero_add 4).symm ▸ h.isLt⟩
      | ⟨3, _⟩ => exact ⟨Nat.zero_le _, (Nat.zero_add 128).symm ▸ n.isLt⟩
      | ⟨4, _⟩ => exact ⟨Nat.zero_le _, (Nat.zero_add 256).symm ▸ e.isLt⟩)]
    refine broadcastInDim_apply _ _ U _ _ (fun a => ?_)
    match a with
    | ⟨0, _⟩ => exact (congrArg (b.val - ·) (hc 1)).symm
    | ⟨1, _⟩ => exact (congrArg (h.val - ·) (hc 2)).symm
    | ⟨2, _⟩ => exact (congrArg (n.val - ·) (hc 3)).symm
    | ⟨3, _⟩ => exact (congrArg (e.val - ·) (hc 4)).symm
  · rw [if_neg hh, dif_neg (fun hin => hh (Fin.ext ?_))]
    have h0 := hin 0
    rw [hc 0] at h0
    exact le_antisymm (Nat.lt_succ_iff.1 h0.2) h0.1

/-- A trip's starts. -/
theorem starts (j : ℕ) (hj : j < 16) (a : Fin 5) :
    ((![(constantI S_ 32 (BitVec.ofNat 32 j) : S_.Idx → BitVec 32), constantI S_ 32 0#32, constantI S_ 32 0#32, constantI S_ 32 0#32,
      constantI S_ 32 0#32] : Fin 5 → S_.Idx → BitVec 32) a (Shape.Idx.first h_S_)).toInt = (![(Fin.ofNat 16 j).val, 0, 0, 0, 0] a : ℕ) := by
  match a with
  | ⟨0, _⟩ =>
    show (BitVec.ofNat 32 j).toInt = ((j % 16 : ℕ) : ℤ)
    rw [toInt_ofNat_of_lt (by omega), Nat.mod_eq_of_lt hj]
  | ⟨1, _⟩ => rfl
  | ⟨2, _⟩ => rfl
  | ⟨3, _⟩ => rfl
  | ⟨4, _⟩ => rfl

/-! ## The scan -/

section
variable (it : ℕ → Step.State Ideal) (hs : ∀ n, it (n + 1) = Step.step n (it n))
include hs

/-- What no trip changes. -/
theorem keep {β : Type} (f : Step.State Ideal → β) (hf : ∀ j s, f (Step.step j s) = f s) (j : ℕ) : f (it j) = f (it 0) := by
  induction j with
  | zero => rfl
  | succ j ih => rw [hs, hf, ih]

/-- The Fwd state before a trip. -/
theorem stateFwd (j : ℕ) (hj : j ≤ 16) (d : Fin 128) (e : Fin 256) : (it j).main_v109_15 (ix4 b h d e) =
    states (fun n => (it 0).main_v109_9 (ix3 h n 0)) ((it 0).main_v109_8 (ix3 h 0 0)) (fun t n d => (it 0).main_v109_1 (ix5 (Fin.ofNat 16 t) b h n d))
      (fun t n e => (it 0).main_v109_2 (ix5 (Fin.ofNat 16 t) b h n e)) (fun d e => (it 0).main_v109_15 (ix4 b h d e)) j d e := by
  induction j generalizing d e with
  | zero => rfl
  | succ j ih =>
    rw [hs, Step.step_main_v109_15]
    show nextR (Step.b11 j (it j)) (Step.b17 j (it j)) (it j).main_v109_15 (it j).main_v109_9 (it j).main_v109_8 (ix4 b h d e) = _
    rw [nextR_apply, keep it hs (·.main_v109_9) (fun _ _ => rfl) j, keep it hs (·.main_v109_8) (fun _ _ => rfl) j]
    show _ = chunkNext _ _ _ _ _ d e
    congr 1
    · funext n d
      rw [← keep it hs (·.main_v109_1) (fun _ _ => rfl) j]
      exact slice128 b h n d _ _ _ (starts j hj)
    · funext n e
      rw [← keep it hs (·.main_v109_2) (fun _ _ => rfl) j]
      exact slice256 b h n e _ _ _ (starts j hj)
    · funext d e; exact ih (Nat.le_of_lt hj) d e

/-- The Fwd rows of a trip. -/
theorem rowsFwd (j : ℕ) (hj : j < 16) : Step.b45 j (it j) (ix4 b h n e) =
    outAt (fun n m => (it 0).main_v109_6 (ix3 h n m)) (fun n => (it 0).main_v109_7 (ix3 h n 0)) (fun n => (it 0).main_v109_9 (ix3 h n 0)) ((it 0).main_v109_8 (ix3 h 0 0))
      (fun t n d => (it 0).main_v109_0 (ix5 (Fin.ofNat 16 t) b h n d)) (fun t n d => (it 0).main_v109_1 (ix5 (Fin.ofNat 16 t) b h n d))
      (fun t n e => (it 0).main_v109_2 (ix5 (Fin.ofNat 16 t) b h n e)) (fun d e => (it 0).main_v109_15 (ix4 b h d e)) j n e := by
  show outR (Step.b5 j (it j)) (Step.b11 j (it j)) (Step.b17 j (it j)) (it j).main_v109_15 (it j).main_v109_6 (it j).main_v109_7 (ix4 b h n e) = _
  rw [outR_apply, keep it hs (·.main_v109_6) (fun _ _ => rfl) j, keep it hs (·.main_v109_7) (fun _ _ => rfl) j]
  unfold outAt
  congr 1
  · funext n d
    rw [← keep it hs (·.main_v109_0) (fun _ _ => rfl) j]
    exact slice128 b h n d _ _ _ (starts j hj)
  · funext n d
    rw [← keep it hs (·.main_v109_1) (fun _ _ => rfl) j]
    exact slice128 b h n d _ _ _ (starts j hj)
  · funext n e
    rw [← keep it hs (·.main_v109_2) (fun _ _ => rfl) j]
    exact slice256 b h n e _ _ _ (starts j hj)
  · funext d e; exact stateFwd b h it hs j (Nat.le_of_lt hj) d e

/-- The Fwd rows the scan has stored. -/
theorem storedFwd (j : ℕ) (hj : j ≤ 16) (t : Fin 16) (ht : t.val < j) : (it j).main_v109_17 (ix5 t b h n e) = Step.b45 t.val (it t.val) (ix4 b h n e) := by
  induction j with
  | zero => exact absurd ht (Nat.not_lt_zero _)
  | succ j ih =>
    rw [hs, Step.step_main_v109_17]
    refine (update256 b h n e (Fin.ofNat 16 j) _ _ _ (starts j hj) t).trans ?_
    have hv : (Fin.ofNat 16 j).val = j := Nat.mod_eq_of_lt hj
    by_cases hh : t = Fin.ofNat 16 j
    · rw [if_pos hh]
      have ht' : t.val = j := by rw [hh, hv]
      rw [ht']
    · rw [if_neg hh]
      exact ih (Nat.le_of_lt hj) (lt_of_le_of_ne (Nat.lt_succ_iff.1 ht) fun h' => hh (Fin.ext (h'.trans hv.symm)))

/-- The Bwd state before a trip. -/
theorem stateBwd (j : ℕ) (hj : j ≤ 16) (d : Fin 128) (e : Fin 256) : (it j).main_v109_16 (ix4 b h d e) =
    states (fun n => (it 0).main_v109_13 (ix3 h n 0)) ((it 0).main_v109_12 (ix3 h 0 0)) (fun t n d => (it 0).main_v109_4 (ix5 (Fin.ofNat 16 t) b h n d))
      (fun t n e => (it 0).main_v109_5 (ix5 (Fin.ofNat 16 t) b h n e)) (fun d e => (it 0).main_v109_16 (ix4 b h d e)) j d e := by
  induction j generalizing d e with
  | zero => rfl
  | succ j ih =>
    rw [hs, Step.step_main_v109_16]
    show nextR (Step.b29 j (it j)) (Step.b35 j (it j)) (it j).main_v109_16 (it j).main_v109_13 (it j).main_v109_12 (ix4 b h d e) = _
    rw [nextR_apply, keep it hs (·.main_v109_13) (fun _ _ => rfl) j, keep it hs (·.main_v109_12) (fun _ _ => rfl) j]
    show _ = chunkNext _ _ _ _ _ d e
    congr 1
    · funext n d
      rw [← keep it hs (·.main_v109_4) (fun _ _ => rfl) j]
      exact slice128 b h n d _ _ _ (starts j hj)
    · funext n e
      rw [← keep it hs (·.main_v109_5) (fun _ _ => rfl) j]
      exact slice256 b h n e _ _ _ (starts j hj)
    · funext d e; exact ih (Nat.le_of_lt hj) d e

/-- The Bwd rows of a trip. -/
theorem rowsBwd (j : ℕ) (hj : j < 16) : Step.b63 j (it j) (ix4 b h n e) =
    outAt (fun n m => (it 0).main_v109_10 (ix3 h n m)) (fun n => (it 0).main_v109_11 (ix3 h n 0)) (fun n => (it 0).main_v109_13 (ix3 h n 0)) ((it 0).main_v109_12 (ix3 h 0 0))
      (fun t n d => (it 0).main_v109_3 (ix5 (Fin.ofNat 16 t) b h n d)) (fun t n d => (it 0).main_v109_4 (ix5 (Fin.ofNat 16 t) b h n d))
      (fun t n e => (it 0).main_v109_5 (ix5 (Fin.ofNat 16 t) b h n e)) (fun d e => (it 0).main_v109_16 (ix4 b h d e)) j n e := by
  show outR (Step.b23 j (it j)) (Step.b29 j (it j)) (Step.b35 j (it j)) (it j).main_v109_16 (it j).main_v109_10 (it j).main_v109_11 (ix4 b h n e) = _
  rw [outR_apply, keep it hs (·.main_v109_10) (fun _ _ => rfl) j, keep it hs (·.main_v109_11) (fun _ _ => rfl) j]
  unfold outAt
  congr 1
  · funext n d
    rw [← keep it hs (·.main_v109_3) (fun _ _ => rfl) j]
    exact slice128 b h n d _ _ _ (starts j hj)
  · funext n d
    rw [← keep it hs (·.main_v109_4) (fun _ _ => rfl) j]
    exact slice128 b h n d _ _ _ (starts j hj)
  · funext n e
    rw [← keep it hs (·.main_v109_5) (fun _ _ => rfl) j]
    exact slice256 b h n e _ _ _ (starts j hj)
  · funext d e; exact stateBwd b h it hs j (Nat.le_of_lt hj) d e

/-- The Bwd rows the scan has stored. -/
theorem storedBwd (j : ℕ) (hj : j ≤ 16) (t : Fin 16) (ht : t.val < j) : (it j).main_v109_18 (ix5 t b h n e) = Step.b63 t.val (it t.val) (ix4 b h n e) := by
  induction j with
  | zero => exact absurd ht (Nat.not_lt_zero _)
  | succ j ih =>
    rw [hs, Step.step_main_v109_18]
    refine (update256 b h n e (Fin.ofNat 16 j) _ _ _ (starts j hj) t).trans ?_
    have hv : (Fin.ofNat 16 j).val = j := Nat.mod_eq_of_lt hj
    by_cases hh : t = Fin.ofNat 16 j
    · rw [if_pos hh]
      have ht' : t.val = j := by rw [hh, hv]
      rw [ht']
    · rw [if_neg hh]
      exact ih (Nat.le_of_lt hj) (lt_of_le_of_ne (Nat.lt_succ_iff.1 ht) fun h' => hh (Fin.ext (h'.trans hv.symm)))

end

/-! ## The result -/

/-- A row's chunk. -/
def CH (r : Fin 2048) : Fin 16 := ⟨r.val / 128, by have := r.isLt; omega⟩

/-- The chunks of a head laid side by side. -/
theorem join256 {α : Type} (X : S16x32x4x128x256.Idx → α) (r : Fin 2048) :
    shapeCast S32x4x2048x256 (transpose S32x4x16x128x256 [1, 2, 0, 3, 4] X transposes_S16x32x4x128x256_S32x4x16x128x256_1_2_0_3_4)
      shapeCasts_S32x4x16x128x256_S32x4x2048x256 (ix4 b h r e) = X (ix5 (CH r) b h (INCH r) e) := by
  rw [shapeCast_apply _ _ _ (ix5 b h (CH r) (INCH r) e) (by
    rw [Shape.rowMajor_val_five, Shape.rowMajor_val_four]
    have hd := Nat.div_add_mod r.val 128
    show (((b.val * 4 + h.val) * 16 + (CH r).val) * 128 + (INCH r).val) * 256 + e.val = ((b.val * 4 + h.val) * 2048 + r.val) * 256 + e.val
    have hq : 128 * (CH r).val + (INCH r).val = r.val := hd
    generalize (CH r).val = q at hq ⊢
    generalize (INCH r).val = m at hq ⊢
    omega)]
  exact transpose_apply _ _ _ _ _ (by intro a; match a with | ⟨0, _⟩ => rfl | ⟨1, _⟩ => rfl | ⟨2, _⟩ => rfl | ⟨3, _⟩ => rfl | ⟨4, _⟩ => rfl)

/-- The heads laid side by side. -/
theorem merge256 {α : Type} (X : S32x4x2048x256.Idx → α) (r : Fin 2048) :
    shapeCast S32x2048x1024 (transpose S32x2048x4x256 [0, 2, 1, 3] X transposes_S32x4x2048x256_S32x2048x4x256_0_2_1_3)
      shapeCasts_S32x2048x4x256_S32x2048x1024 (ix3 b r (VCOL h e)) = X (ix4 b h r e) := by
  rw [shapeCast_apply _ _ _ (ix4 b r h e) (by
    rw [Shape.rowMajor_val_four, Shape.rowMajor_val_three]
    show ((b.val * 2048 + r.val) * 4 + h.val) * 256 + e.val = (b.val * 2048 + r.val) * 1024 + (256 * h.val + e.val)
    omega)]
  exact transpose_apply _ _ _ _ _ (by intro a; match a with | ⟨0, _⟩ => rfl | ⟨1, _⟩ => rfl | ⟨2, _⟩ => rfl | ⟨3, _⟩ => rfl)

/-- The result's entry of two stored arrays. -/
theorem result_apply (s : Step.State Ideal) (r : Fin 2048) : Step.R_main_v117 s (ix3 b r (VCOL h e)) =
    s.main_v109_17 (ix5 (CH r) b h (INCH r) e) + s.main_v109_18 (ix5 (CH r.rev) b h (INCH r.rev) e) := by
  refine (merge256 b h e _ r).trans ?_
  show shapeCast S32x4x2048x256 _ _ (ix4 b h r e) + Host.reverse [2] _ (ix4 b h r e) = _
  rw [flip256, join256, join256]

section
variable (a0 a1 : FVec Ideal S32x2048x512 .bf16) (a2 : FVec Ideal S32x2048x1024 .bf16) (a3 : FVec Ideal S2x4 .f32)
  (a4 a5 : FVec Ideal S32x4x128x256 .f32)
theorem init0 : (Step.init (F := Ideal) a4 a5 a0 a1 a2 a3).main_v109_0 = Step.A_main_v93 (F := Ideal) a0 a1 a2 a3 := by unfold Step.init; rfl
theorem init1 : (Step.init (F := Ideal) a4 a5 a0 a1 a2 a3).main_v109_1 = Step.A_main_v95 (F := Ideal) a0 a1 a2 a3 := by unfold Step.init; rfl
theorem init2 : (Step.init (F := Ideal) a4 a5 a0 a1 a2 a3).main_v109_2 = Step.A_main_v97 (F := Ideal) a0 a1 a2 a3 := by unfold Step.init; rfl
theorem init3 : (Step.init (F := Ideal) a4 a5 a0 a1 a2 a3).main_v109_3 = Step.A_main_v100 (F := Ideal) a0 a1 a2 a3 := by unfold Step.init; rfl
theorem init4 : (Step.init (F := Ideal) a4 a5 a0 a1 a2 a3).main_v109_4 = Step.A_main_v103 (F := Ideal) a0 a1 a2 a3 := by unfold Step.init; rfl
theorem init5 : (Step.init (F := Ideal) a4 a5 a0 a1 a2 a3).main_v109_5 = Step.A_main_v106 (F := Ideal) a0 a1 a2 a3 := by unfold Step.init; rfl
theorem init6 : (Step.init (F := Ideal) a4 a5 a0 a1 a2 a3).main_v109_6 = Step.A_main_v29 (F := Ideal) a0 a1 a2 a3 := by unfold Step.init; rfl
theorem init7 : (Step.init (F := Ideal) a4 a5 a0 a1 a2 a3).main_v109_7 = Step.A_main_v38 (F := Ideal) a0 a1 a2 a3 := by unfold Step.init; rfl
theorem init8 : (Step.init (F := Ideal) a4 a5 a0 a1 a2 a3).main_v109_8 = Step.A_main_v51 (F := Ideal) a0 a1 a2 a3 := by unfold Step.init; rfl
theorem init9 : (Step.init (F := Ideal) a4 a5 a0 a1 a2 a3).main_v109_9 = Step.A_main_v47 (F := Ideal) a0 a1 a2 a3 := by unfold Step.init; rfl
theorem init10 : (Step.init (F := Ideal) a4 a5 a0 a1 a2 a3).main_v109_10 = Step.A_main_v69 (F := Ideal) a0 a1 a2 a3 := by unfold Step.init; rfl
theorem init11 : (Step.init (F := Ideal) a4 a5 a0 a1 a2 a3).main_v109_11 = Step.A_main_v78 (F := Ideal) a0 a1 a2 a3 := by unfold Step.init; rfl
theorem init12 : (Step.init (F := Ideal) a4 a5 a0 a1 a2 a3).main_v109_12 = Step.A_main_v91 (F := Ideal) a0 a1 a2 a3 := by unfold Step.init; rfl
theorem init13 : (Step.init (F := Ideal) a4 a5 a0 a1 a2 a3).main_v109_13 = Step.A_main_v87 (F := Ideal) a0 a1 a2 a3 := by unfold Step.init; rfl
theorem init15 : (Step.init (F := Ideal) a4 a5 a0 a1 a2 a3).main_v109_15 = a4 := by unfold Step.init; rfl
theorem init16 : (Step.init (F := Ideal) a4 a5 a0 a1 a2 a3).main_v109_16 = a5 := by unfold Step.init; rfl
end

theorem result_eq (a0 a1 : FVec Ideal S32x2048x512 .bf16) (a2 : FVec Ideal S32x2048x1024 .bf16) (a3 : FVec Ideal S2x4 .f32)
    (a4 a5 : FVec Ideal S32x4x128x256 .f32) (it : ℕ → Step.State Ideal) (h0 : it 0 = Step.init (F := Ideal) a4 a5 a0 a1 a2 a3)
    (hs : ∀ n, it (n + 1) = Step.step n (it n)) (r : Fin 2048) : Step.R_main_v117 (it 16) (ix3 b r (VCOL h e)) =
    headF (Step.A_main_v2 (F := Ideal) a0 a1 a2 a3 (ix2 0 h)) (fun r d => a0 (ix3 b r (QCOL h d))) (fun r d => a1 (ix3 b r (QCOL h d)))
        (fun r e => a2 (ix3 b r (VCOL h e))) (fun d e => a4 (ix4 b h d e)) r e +
      headB (Step.A_main_v2 (F := Ideal) a0 a1 a2 a3 (ix2 1 h)) (fun r d => a0 (ix3 b r (QCOL h d))) (fun r d => a1 (ix3 b r (QCOL h d)))
        (fun r e => a2 (ix3 b r (VCOL h e))) (fun d e => a5 (ix4 b h d e)) r e := by
  rw [result_apply, storedFwd b h _ e it hs 16 le_rfl _ (CH r).isLt, storedBwd b h _ e it hs 16 le_rfl _ (CH r.rev).isLt,
    rowsFwd b h _ e it hs _ (CH r).isLt, rowsBwd b h _ e it hs _ (CH r.rev).isLt, h0, ← headB_eq _ _ _ _ _ r e]
  unfold headF
  simp only [init0, init1, init2, init3, init4, init5, init6, init7, init8, init9, init10, init11, init12, init13, init15, init16,
    t29, t38, t47, t51, q93, k95, v97, t69, t78, t87, t91, q100, k103, v106]
  rfl

theorem result_RES (a0 a1 : FVec Ideal S32x2048x512 .bf16) (a2 : FVec Ideal S32x2048x1024 .bf16) (a3 : FVec Ideal S2x4 .f32)
    (a4 a5 : FVec Ideal S32x4x128x256 .f32) (it : ℕ → Step.State Ideal) (h0 : it 0 = Step.init a4 a5 a0 a1 a2 a3)
    (hs : ∀ n, it (n + 1) = Step.step n (it n)) (r : Fin 2048) (c : Fin 1024) : Step.R_main_v117 (it 16) (ix3 b r c) =
    RES (fun d h => Step.A_main_v2 (F := Ideal) a0 a1 a2 a3 (ix2 d h)) (fun b r c => a0 (ix3 b r c)) (fun b r c => a1 (ix3 b r c))
      (fun b r c => a2 (ix3 b r c)) (fun b h d e => a4 (ix4 b h d e)) (fun b h d e => a5 (ix4 b h d e)) b r c := by
  have hr := result_eq b (HEAD c) (OFF c) a0 a1 a2 a3 a4 a5 it h0 hs r
  rw [VCOL_HEAD] at hr
  exact hr

end Cert.ReferenceIdeal.Ret

end

end
-- ==== Proof.Ret.RefRun.lean ====
/-
  The reference's run over its trips: one application of the run's `STEP` to a valuation is a trip of the state the
  valuation holds, so the run's result is the last state's.
-/
module

public import proofs.«01_k».proof.Proof.Gen.ReferenceIdeal.Run
public import proofs.«01_k».proof.Proof.Gen.ReferenceIdeal.Step

@[expose] public section

set_option maxRecDepth 16384

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation holds in the buffers the loop carries. -/
def stateOf (V0 : Valuation τ sig (Elt F)) : State F :=
  { main_v109_15 := V0 (Proc.devRef .tc main_v109_15), main_v109_16 := V0 (Proc.devRef .tc main_v109_16), main_v109_17 := V0 (Proc.devRef .tc main_v109_17), main_v109_18 := V0 (Proc.devRef .tc main_v109_18), main_v109_0 := V0 (Proc.devRef .tc main_v109_0), main_v109_1 := V0 (Proc.devRef .tc main_v109_1), main_v109_2 := V0 (Proc.devRef .tc main_v109_2), main_v109_3 := V0 (Proc.devRef .tc main_v109_3), main_v109_4 := V0 (Proc.devRef .tc main_v109_4), main_v109_5 := V0 (Proc.devRef .tc main_v109_5), main_v109_6 := V0 (Proc.devRef .tc main_v109_6), main_v109_7 := V0 (Proc.devRef .tc main_v109_7), main_v109_8 := V0 (Proc.devRef .tc main_v109_8), main_v109_9 := V0 (Proc.devRef .tc main_v109_9), main_v109_10 := V0 (Proc.devRef .tc main_v109_10), main_v109_11 := V0 (Proc.devRef .tc main_v109_11), main_v109_12 := V0 (Proc.devRef .tc main_v109_12), main_v109_13 := V0 (Proc.devRef .tc main_v109_13) }

section
variable (V0 : Valuation τ sig (Elt F)) (j : ℕ)

theorem trip15 (h : V0 (Proc.devRef .tc main_v109_14) = constantI S_ 32 (BitVec.ofNat 32 j)) :
    step_main_v109_15 V0 = Step.b53 j (stateOf V0) := by
  unfold step_main_v109_15 res_main_while0b_v119 res_main_while0b_v120
  rw [h]
  rfl
theorem trip16 (h : V0 (Proc.devRef .tc main_v109_14) = constantI S_ 32 (BitVec.ofNat 32 j)) :
    step_main_v109_16 V0 = Step.b71 j (stateOf V0) := by
  unfold step_main_v109_16 res_main_while0b_v122 res_main_while0b_v123
  rw [h]
  rfl
theorem trip17 (h : V0 (Proc.devRef .tc main_v109_14) = constantI S_ 32 (BitVec.ofNat 32 j)) :
    step_main_v109_17 V0 = Step.b77 j (stateOf V0) := by
  unfold step_main_v109_17 res_main_while0b_v118 res_main_while0b_v119 res_main_while0b_v120
  rw [h]
  rfl
theorem trip18 (h : V0 (Proc.devRef .tc main_v109_14) = constantI S_ 32 (BitVec.ofNat 32 j)) :
    step_main_v109_18 V0 = Step.b83 j (stateOf V0) := by
  unfold step_main_v109_18 res_main_while0b_v121 res_main_while0b_v122 res_main_while0b_v123
  rw [h]
  rfl

/-- One trip of the state a valuation holds. -/
theorem trip (h : V0 (Proc.devRef .tc main_v109_14) = constantI S_ 32 (BitVec.ofNat 32 j)) : stateOf (STEP V0) = step j (stateOf V0) := by
  unfold stateOf step
  rw [STEP_main_v109_15, STEP_main_v109_16, STEP_main_v109_17, STEP_main_v109_18, STEP_main_v109_0, STEP_main_v109_1, STEP_main_v109_2, STEP_main_v109_3, STEP_main_v109_4, STEP_main_v109_5, STEP_main_v109_6, STEP_main_v109_7, STEP_main_v109_8, STEP_main_v109_9, STEP_main_v109_10, STEP_main_v109_11, STEP_main_v109_12, STEP_main_v109_13, trip15 V0 j h, trip16 V0 j h, trip17 V0 j h, trip18 V0 j h]
  rfl

/-- A trip adds one to the counter. -/
theorem count (h : V0 (Proc.devRef .tc main_v109_14) = constantI S_ 32 (BitVec.ofNat 32 j)) :
    STEP V0 (Proc.devRef .tc main_v109_14) = constantI S_ 32 (BitVec.ofNat 32 (j + 1)) := by
  rw [STEP_main_v109_14]
  unfold step_main_v109_14
  rw [h]
  funext i
  show BitVec.ofNat 32 j + 1#32 = BitVec.ofNat 32 (j + 1)
  simp only [BitVec.ofNat_add]
end

variable (m : (ℓ : Loc nD τ sig) → Buf (Elt F) ℓ) (c : Dev nD)

/-- The state the first trip starts from. -/
abbrev first : State F :=
  init (m ((c.tc : Thread nD τ).loc main_arg4)) (m ((c.tc : Thread nD τ).loc main_arg5)) (m ((c.tc : Thread nD τ).loc main_arg0))
    (m ((c.tc : Thread nD τ).loc main_arg1)) (m ((c.tc : Thread nD τ).loc main_arg2)) (m ((c.tc : Thread nD τ).loc main_arg3))

set_option maxHeartbeats 1500000 in
/-- What the operations before the loop leave. -/
theorem entry_first : stateOf (entryContents preI m c) = first m c := by
  unfold stateOf first init
  congr 1 <;> (simp only [entryContents, afterL_cons, afterL_nil]; after_reads_simp) <;> rfl

set_option maxHeartbeats 1500000 in
theorem entry_count : entryContents preI m c (Proc.devRef .tc main_v109_14) = constantI S_ 32 (BitVec.ofNat 32 0) := by
  simp only [entryContents, afterL_cons, afterL_nil]; after_reads_simp; rfl

/-- The states of the trips. -/
def trips : ℕ → State F
  | 0 => first m c
  | n + 1 => step n (trips n)

theorem holds (k : ℕ) : stateOf (STEP^[k] (entryContents preI m c)) = trips m c k ∧
    STEP^[k] (entryContents preI m c) (Proc.devRef .tc main_v109_14) = constantI S_ 32 (BitVec.ofNat 32 k) := by
  induction k with
  | zero => exact ⟨entry_first m c, entry_count m c⟩
  | succ k ih =>
    rw [Function.iterate_succ_apply']
    exact ⟨(trip _ k ih.2).trans (congrArg (step k) ih.1), count _ k ih.2⟩

/-- The result is the last state's. -/
theorem out_eq (V0 : Valuation τ sig (Elt F)) : out_main_v117 V0 = Step.R_main_v117 (stateOf V0) := by
  unfold out_main_v117
  rfl

theorem out_trips : out_main_v117 (STEP^[16] (entryContents preI m c)) = Step.R_main_v117 (trips m c 16) := by
  rw [out_eq, (holds m c 16).1]

end Cert.ReferenceIdeal.Ret

end

end
-- ==== Proof.Ret.Final.lean ====
/-
  The claims of the retention: the frames of the kernel at its words and over the extended reals and of the reference,
  and the equality of the kernel's and the reference's results over the extended reals.
-/
module

public import proofs.«01_k».proof.Defs
public import proofs.«01_k».proof.Proof.Ret.Value
public import proofs.«01_k».proof.Proof.Ret.RefStep
public import proofs.«01_k».proof.Proof.Gen.Kernel.Frame
public import proofs.«01_k».proof.Proof.Ret.RefRun
public import Idealize.ShloMosaic.Lib.Claim
public import Idealize.ShloMosaic.Lib.Quiescent

@[expose] public section

noncomputable section

namespace Cert.Ret

open Idealize.ShloMosaic Idealize.ShloMosaic.TcCoe

/-! ## The frames -/

section
open Cert.Kernel.Gen Cert.KernelIdeal.Gen

/-- The two programs' bodies are the same. -/
theorem body_eq : Cert.Kernel.defs₀ (F := Bits) = Cert.KernelIdeal.defs₀ :=
  congrArg Defs.onTc (funext fun l => funext fun x => match l, x with
    | 0, (t, s) => rfl
    | ⟨_ + 1, h⟩, _ => absurd h (Nat.not_lt.2 (Nat.le_add_left _ _)))
theorem defs_eq : Cert.Kernel.defs (F := Bits) = Cert.KernelIdeal.defs := congrArg (Pipeline.defs (Cert.KernelIdeal.pcfgs (F := Bits))) body_eq
set_option maxHeartbeats 1000000 in
theorem main_eq : Cert.Kernel.main (F := Bits) = Cert.KernelIdeal.main := rfl

theorem frame_kernel : letI := Cert.Kernel.Gen.facts; Cert.quiescent_Kernel := fun m g _ => by
  rw [defs_eq, main_eq]
  exact Cert.KernelIdeal.Ret.frame_quiescent (F := Bits) m g
theorem frame_kernelIdeal : letI := Cert.KernelIdeal.Gen.facts; Cert.quiescent_KernelIdeal := fun m g _ =>
  Cert.KernelIdeal.Ret.frame_quiescent m g
end

theorem frame_referenceIdeal : letI := Cert.ReferenceIdeal.Gen.facts; Cert.quiescent_ReferenceIdeal := fun m g _ =>
  letI := Cert.ReferenceIdeal.Gen.facts
  (θ_run Cert.ReferenceIdeal.defs _ _).mono
    (fun r h => ⟨fun c => (h c).2, sem_eq_zero_of_no_sems (by decide) r.2⟩) (Cert.ReferenceIdeal.Value.run (F := Ideal) m g)

/-! ## The values -/

theorem algebraic_ret : letI := Cert.KernelIdeal.Gen.facts; letI := Cert.ReferenceIdeal.Gen.facts; Cert.algebraic_KernelIdeal_ReferenceIdeal :=
  letI := Cert.KernelIdeal.Gen.facts
  letI := Cert.ReferenceIdeal.Gen.facts
  fun m g m' g' _ ha => ⟨fun c => Cert.KernelIdeal.Ret.G m c,
    (θ_run Cert.KernelIdeal.defs _ _).mono
      (fun r h c => ⟨((h.1.1 c).1 6).trans (Cert.KernelIdeal.Ret.final6 m c), h.2.1 c⟩)
      (θ_run_and (Cert.KernelIdeal.Ret.run_main_quiescent (F := Ideal) m g) (Cert.KernelIdeal.Ret.frame_quiescent (F := Ideal) m g)),
    (θ_run Cert.ReferenceIdeal.defs _ _).mono
      (fun r h c => ⟨(h c).1.trans ((Cert.ReferenceIdeal.Ret.out_trips m' c).trans (by
        obtain ⟨h0, h1, h2, h3, h4, h5⟩ := ha c
        funext i
        obtain ⟨b, r, e, rfl⟩ : ∃ (b : Fin 32) (r : Fin 2048) (e : Fin 1024), i = ix3 b r e := ⟨i 0, i 1, i 2, (ix3_eta i).symm⟩
        refine (Cert.ReferenceIdeal.Ret.result_RES b _ _ _ _ _ _ (Cert.ReferenceIdeal.Ret.trips m' c) rfl (fun _ => rfl) r e).trans ?_
        show _ = RES _ _ _ _ _ _ b r e
        rw [Cert.KernelIdeal.Ret.lg_eq m c (m' ((c.tc : Thread _ _).loc Cert.ReferenceIdeal.main_arg0))
          (m' ((c.tc : Thread _ _).loc Cert.ReferenceIdeal.main_arg1)) (m' ((c.tc : Thread _ _).loc Cert.ReferenceIdeal.main_arg2)),
          h0, h1, h2, h3, h4, h5])), (h c).2⟩)
      (Cert.ReferenceIdeal.Value.run (F := Ideal) m' g')⟩

end Cert.Ret

end

end
-- ==== Proof.Proj.Spec.lean ====
/-
  The input projection at an entry: a token's normalised and modulated row, a row of the projection, and the rotary
  embedding of one head's row, each over the extended reals.
-/
module

public import Idealize.ShloMosaic.Lib.Pointwise

@[expose] public section

noncomputable section

namespace Cert.Proj

open Idealize.ShloMosaic

/-- A token's row under the root-mean-square norm, the gain, the scale and the shift. -/
def HID (x g sh sc : Fin 1024 → EReal) (d : Fin 1024) : EReal :=
  x d * Ideal.rsqrt (Ideal.div (∑ k, x k * x k) (Ideal.ofBits .f32 0x44800000#32) + Ideal.ofBits .f32 0x358637BD#32) * g d * (1 + sc d) + sh d

/-- A column of the token's projected row. -/
def PRJ (x g sh sc : Fin 1024 → EReal) (w : Fin 1024 → Fin 5632 → EReal) (n : Fin 5632) : EReal := ∑ k, HID x g sh sc k * w k n

/-- A column of a token's projected row, from the arrays. -/
def TOK (a0 : FVec Ideal ⟨3, ![32, 2048, 1024]⟩ .f32) (a1 : FVec Ideal ⟨1, ![1024]⟩ .f32) (a2 a3 : FVec Ideal ⟨2, ![32, 1024]⟩ .f32)
    (a4 : FVec Ideal ⟨2, ![1024, 5632]⟩ .f32) (b : Fin 32) (R : Fin 2048) (n : Fin 5632) : EReal :=
  PRJ (fun d => a0 (ix3 b R d)) (fun d => a1 (ix1 d)) (fun d => a2 (ix2 b d)) (fun d => a3 (ix2 b d)) (fun k n => a4 (ix2 k n)) n

/-- A column's head. -/
def HN (n : Fin 512) : Fin 4 := ⟨n.val / 128, by have := n.isLt; omega⟩
/-- A column's lane in its head. -/
def LN (n : Fin 512) : Fin 128 := ⟨n.val % 128, Nat.mod_lt _ (by decide)⟩
/-- The projected column of a head's lane, the heads starting at the column `off`. -/
def HC (off : Nat) (h : off + 512 ≤ 5632) (hd : Fin 4) (l : Fin 128) : Fin 5632 := ⟨off + (128 * hd.val + l.val), by have := hd.isLt; have := l.isLt; omega⟩

theorem HC_zero (off : Nat) (h : off + 512 ≤ 5632) (l : Fin 128) : HC off h 0 l = ⟨off + l.val, by have := l.isLt; omega⟩ :=
  Fin.ext (show off + (128 * 0 + l.val) = off + l.val by omega)

/-- The rotation as one product with the cosines and one product of the rolled row with the signed sines. -/
def ROLL (a co si : Fin 128 → EReal) (l : Fin 128) : EReal := a l * co l + a ⟨(l.val + 128 - 64) % 128, Nat.mod_lt _ (by decide)⟩ * si l

/-- The rotation half by half. -/
def ROT (a : Fin 128 → EReal) (co si : Fin 64 → EReal) (l : Fin 128) : EReal :=
  if h : l.val < 64 then a l * co ⟨l.val, h⟩ - a ⟨64 + l.val, by omega⟩ * si ⟨l.val, h⟩
  else a ⟨l.val - 64, by omega⟩ * si ⟨l.val - 64, by have := l.isLt; omega⟩ + a ⟨64 + (l.val - 64), by have := l.isLt; omega⟩ * co ⟨l.val - 64, by have := l.isLt; omega⟩

/-- A table of half the lanes, repeated. -/
def DUP (co : Fin 64 → EReal) (l : Fin 128) : EReal := if h : l.val < 64 then co ⟨l.val, h⟩ else co ⟨l.val - 64, by have := l.isLt; omega⟩
/-- A table of half the lanes, negated and then as it stands. -/
def SGN (si : Fin 64 → EReal) (l : Fin 128) : EReal := if h : l.val < 64 then -si ⟨l.val, h⟩ else si ⟨l.val - 64, by have := l.isLt; omega⟩

theorem ROLL_eq (a : Fin 128 → EReal) (co si : Fin 64 → EReal) (l : Fin 128) : ROLL a (DUP co) (SGN si) l = ROT a co si l := by
  have hl := l.isLt
  unfold ROLL ROT DUP SGN
  by_cases h : l.val < 64
  · rw [dif_pos h, dif_pos h, dif_pos h, mul_neg, ← sub_eq_add_neg]
    congr 3
    exact Fin.ext (show (l.val + 128 - 64) % 128 = 64 + l.val by omega)
  · rw [dif_neg h, dif_neg h, dif_neg h, add_comm]
    congr 3
    · exact Fin.ext (show (l.val + 128 - 64) % 128 = l.val - 64 by omega)
    · exact Fin.ext (show l.val = 64 + (l.val - 64) by omega)

end Cert.Proj

end

end
-- ==== Proof.Proj.Block.lean ====
/-
  What a grid point of the projection leaves in its six blocks, at an entry, from its operands' blocks.
-/
module

public import proofs.«01_k».proof.Proof.Proj.Spec
public import proofs.«01_k».proof.Proof.Gen.Kernel2Ideal.Frame
public import Idealize.ShloMosaic.Lib.Pipeline.ValueKit

@[expose] public section

set_option maxRecDepth 16384

noncomputable section

namespace Cert.Kernel2Ideal.Proj

open Cert.Kernel2Ideal Cert.Kernel2Ideal.Gen Cert.Proj
open Idealize.ShloMosaic Idealize.ShloMosaic.TcCoe

variable (x0 : Vec Ideal S1x512x1024 .f32) (x1 : Vec Ideal S1x1024 .f32) (x2 x3 : Vec Ideal S1x1x1024 .f32) (x4 x5 : Vec Ideal S512x128 .f32)
  (x6 : Vec Ideal S1024x5632 .bf16)

/-- A block's row of the projection. -/
def ROW (r : Fin 512) (n : Fin 5632) : EReal :=
  PRJ (fun d => x0 (ix3 0 r d)) (fun d => x1 (ix2 0 d)) (fun d => x2 (ix3 0 0 d)) (fun d => x3 (ix3 0 0 d)) (fun k n => x6 (ix2 k n)) n

theorem hid_apply (r : Fin 512) (d : Fin 1024) : k0_pay2 x0 x1 x2 x3 (ix2 r d) =
    HID (fun d => x0 (ix3 0 r d)) (fun d => x1 (ix2 0 d)) (fun d => x2 (ix3 0 0 d)) (fun d => x3 (ix3 0 0 d)) d := by
  pointwise [k0_pay2]
  rfl

theorem out7_apply (r : Fin 512) (n : Fin 512) : out0_7 x0 x1 x2 x3 x4 x5 x6 (ix3 0 r n) = ROW x0 x1 x2 x3 x6 r ⟨n.val, by omega⟩ := by
  frame_out
  pointwise [k0_pay3, hid_apply]
  rfl
theorem out10_apply (r : Fin 512) (n : Fin 1024) : out0_10 x0 x1 x2 x3 x4 x5 x6 (ix3 0 r n) = ROW x0 x1 x2 x3 x6 r ⟨1536 + n.val, by omega⟩ := by
  frame_out
  pointwise [k0_pay18, k0_pay21, hid_apply]
  rfl
theorem out11_apply (r : Fin 512) (n : Fin 1024) : out0_11 x0 x1 x2 x3 x4 x5 x6 (ix3 0 r n) = ROW x0 x1 x2 x3 x6 r ⟨2560 + n.val, by omega⟩ := by
  frame_out
  pointwise [k0_pay19, k0_pay21, hid_apply]
  rfl
theorem out12_apply (r : Fin 512) (n : Fin 2048) : out0_12 x0 x1 x2 x3 x4 x5 x6 (ix3 0 r n) = ROW x0 x1 x2 x3 x6 r ⟨3584 + n.val, by omega⟩ := by
  frame_out
  pointwise [k0_pay1, k0_pay20, k0_pay21, hid_apply]
  rfl

/-- A block's row of the projection rotated, the heads starting at the column `off`. -/
def ROTE (off : Nat) (h : off + 512 ≤ 5632) (r : Fin 512) (hd : Fin 4) (l : Fin 128) : EReal :=
  ROLL (fun l => ROW x0 x1 x2 x3 x6 r (HC off h hd l)) (fun l => x4 (ix2 r l)) (fun l => x5 (ix2 r l)) l

/-- A column is its head and its lane. -/
theorem head_lane (n : Fin 512) (hd : Fin 4) (l : Fin 128) (h : n.val = 128 * hd.val + l.val) : HN n = hd ∧ LN n = l := by
  have := l.isLt
  exact ⟨Fin.ext (show n.val / 128 = hd.val by omega), Fin.ext (show n.val % 128 = l.val by omega)⟩

theorem out8_apply (r : Fin 512) (n : Fin 512) :
    out0_8 x0 x1 x2 x3 x4 x5 x6 (ix3 0 r n) = ROTE x0 x1 x2 x3 x4 x5 x6 512 (by decide) r (HN n) (LN n) := by
  unfold out0_8
  canon_tiles x h
  all_goals
    idx_vars x
    obtain rfl : r = x1 := Fin.ext h1
  · rw [(head_lane n 3 x2 h2).1, (head_lane n 3 x2 h2).2]
    pointwise [k0_pay16, k0_pay15, k0_pay22, k0_pay23, k0_pay24, k0_pay4, k0_pay5, k0_pay6, k0_pay21, hid_apply]
    rfl
  · rw [(head_lane n 2 x2 h2).1, (head_lane n 2 x2 h2).2]
    pointwise [k0_pay13, k0_pay22, k0_pay23, k0_pay24, k0_pay4, k0_pay5, k0_pay6, k0_pay21, hid_apply]
    rfl
  · rw [(head_lane n 1 x2 h2).1, (head_lane n 1 x2 h2).2]
    pointwise [k0_pay11, k0_pay10, k0_pay4, k0_pay5, k0_pay6, k0_pay21, hid_apply]
    rfl
  · rw [(head_lane n 0 x2 (h2.trans (Nat.zero_add _).symm)).1, (head_lane n 0 x2 (h2.trans (Nat.zero_add _).symm)).2]
    pointwise [k0_pay8, k0_pay4, k0_pay5, k0_pay6, k0_pay21, hid_apply]
    simp only [ROTE, ROLL, HC_zero]
    rfl

theorem out9_apply (r : Fin 512) (n : Fin 512) :
    out0_9 x0 x1 x2 x3 x4 x5 x6 (ix3 0 r n) = ROTE x0 x1 x2 x3 x4 x5 x6 1024 (by decide) r (HN n) (LN n) * Ideal.ofBits .f32 0x3DB504F3#32 := by
  unfold out0_9
  canon_tiles x h
  all_goals
    idx_vars x
    obtain rfl : r = x1 := Fin.ext h1
  · rw [(head_lane n 3 x2 h2).1, (head_lane n 3 x2 h2).2]
    pointwise [k0_pay17, k0_pay22, k0_pay23, k0_pay25, k0_pay4, k0_pay5, k0_pay7, k0_pay21, hid_apply]
    rfl
  · rw [(head_lane n 2 x2 h2).1, (head_lane n 2 x2 h2).2]
    pointwise [k0_pay14, k0_pay22, k0_pay23, k0_pay25, k0_pay4, k0_pay5, k0_pay7, k0_pay21, hid_apply]
    rfl
  · rw [(head_lane n 1 x2 h2).1, (head_lane n 1 x2 h2).2]
    pointwise [k0_pay12, k0_pay22, k0_pay23, k0_pay25, k0_pay4, k0_pay5, k0_pay7, k0_pay21, hid_apply]
    rfl
  · rw [(head_lane n 0 x2 (h2.trans (Nat.zero_add _).symm)).1, (head_lane n 0 x2 (h2.trans (Nat.zero_add _).symm)).2]
    pointwise [k0_pay9, k0_pay4, k0_pay5, k0_pay7, k0_pay21, hid_apply]
    simp only [ROTE, ROLL, HC_zero]
    rfl

end Cert.Kernel2Ideal.Proj

end

end
-- ==== Proof.Proj.Value.lean ====
/-
  The projection's six arrays after the last grid point, at an entry.
-/
module

public import proofs.«01_k».proof.Proof.Proj.Block

@[expose] public section

set_option maxRecDepth 16384

noncomputable section

namespace Cert.Kernel2Ideal.Proj

open Cert.Kernel2Ideal Cert.Kernel2Ideal.Gen Cert.Proj
open Idealize.ShloMosaic Idealize.ShloMosaic.TcCoe

variable (m : (ℓ : Loc nD τ sig) → Buf (Elt Ideal) ℓ) (c : Dev nD)

/-! ## The host's tables and copies -/

theorem V_g (d : Fin 1024) : V m c main_v32 (ix2 0 d) = m ((c : Thread nD τ).loc main_arg1) (ix1 d) := by
  have h : V m c main_v32 = shapeCast S1x1024 (m ((c : Thread nD τ).loc main_arg1)) shapeCasts_S1024_S1x1024 := by
    unfold V; after_results; rfl
  rw [h]; pointwise
theorem V_sh (b : Fin 32) (d : Fin 1024) : V m c main_v29 (ix3 b 0 d) = m ((c : Thread nD τ).loc main_arg2) (ix2 b d) := by
  have h : V m c main_v29 = shapeCast S32x1x1024 (m ((c : Thread nD τ).loc main_arg2)) shapeCasts_S32x1024_S32x1x1024 := by
    unfold V; after_results; rfl
  rw [h]; pointwise
theorem V_sc (b : Fin 32) (d : Fin 1024) : V m c main_v30 (ix3 b 0 d) = m ((c : Thread nD τ).loc main_arg3) (ix2 b d) := by
  have h : V m c main_v30 = shapeCast S32x1x1024 (m ((c : Thread nD τ).loc main_arg3)) shapeCasts_S32x1024_S32x1x1024 := by
    unfold V; after_results; rfl
  rw [h]; pointwise
theorem V_w : V m c main_v31 = m ((c : Thread nD τ).loc main_arg4) := by
  unfold V; after_results; rfl
theorem V_co (R : Fin 2048) (l : Fin 128) : V m c main_v26 (ix2 R l) = DUP (fun l => V m c main_v24 (ix2 R l)) l := by
  have h : V m c main_v26 = concatenate S2048x128 1 [⟨S2048x64, V m c main_v24⟩, ⟨S2048x64, V m c main_v24⟩] concatenates_S2048x64_S2048x64_S2048x128_d1 := by
    unfold V; after_results
  rw [h]; pointwise; rfl
theorem V_si (R : Fin 2048) (l : Fin 128) : V m c main_v28 (ix2 R l) = SGN (fun l => V m c main_v25 (ix2 R l)) l := by
  have h : V m c main_v28 = concatenate S2048x128 1 [⟨S2048x64, Host.negf (F := Ideal) (φ := .f32) (V m c main_v25)⟩, ⟨S2048x64, V m c main_v25⟩]
      concatenates_S2048x64_S2048x64_S2048x128_d1 := by
    unfold V; after_results
  rw [h]; pointwise; rfl

/-! ## The windows -/

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 1).val, 0] := (by decide +kernel : ∀ t : Fin grid0.N, _)
theorem idx5 : ∀ t : Fin cfg0.N, win0_5.index t = ![(grid0.coords t 1).val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![(grid0.coords t 0).val, (grid0.coords t 1).val, 0] := (by decide +kernel : ∀ t : Fin grid0.N, _)
theorem idx8 : ∀ t : Fin cfg0.N, win0_8.index t = ![(grid0.coords t 0).val, (grid0.coords t 1).val, 0] := (by decide +kernel : ∀ t : Fin grid0.N, _)
theorem idx9 : ∀ t : Fin cfg0.N, win0_9.index t = ![(grid0.coords t 0).val, (grid0.coords t 1).val, 0] := (by decide +kernel : ∀ t : Fin grid0.N, _)
theorem idx10 : ∀ t : Fin cfg0.N, win0_10.index t = ![(grid0.coords t 0).val, (grid0.coords t 1).val, 0] := (by decide +kernel : ∀ t : Fin grid0.N, _)
theorem idx11 : ∀ t : Fin cfg0.N, win0_11.index t = ![(grid0.coords t 0).val, (grid0.coords t 1).val, 0] := (by decide +kernel : ∀ t : Fin grid0.N, _)
theorem idx12 : ∀ t : Fin cfg0.N, win0_12.index t = ![(grid0.coords t 0).val, (grid0.coords t 1).val, 0] := (by decide +kernel : ∀ t : Fin grid0.N, _)

/-- A point's example. -/
def EX (t : Fin cfg0.N) : Fin 32 := grid0.coords t 0
/-- A point's tile of tokens. -/
def TI (t : Fin cfg0.N) : Fin 4 := grid0.coords t 1
/-- The token of a block's row. -/
def RW (t : Fin cfg0.N) (r : Fin 512) : Fin 2048 := ⟨512 * (TI t).val + r.val, by have := r.isLt; have := (TI t).isLt; omega⟩

theorem blk0 (t : Fin cfg0.N) (r : Fin 512) (d : Fin 1024) : iblk m c 0 t (ix3 0 r d) = m ((c : Thread nD τ).loc main_arg0) (ix3 (EX t) (RW t r) d) := by
  rw [← V_main_arg0 m c]
  blk_simp [iblk]
  refine congrArg (V m c main_arg0) (funext fun a => Fin.ext ?_)
  blk_simp [idx0]
  match a with
  | ⟨0, _⟩ => show (EX t).val * 1 + 0 = (EX t).val; omega
  | ⟨1, _⟩ => show (TI t).val * 512 + r.val = 512 * (TI t).val + r.val; omega
  | ⟨2, _⟩ => show 0 * 1024 + d.val = d.val; omega
theorem blk1 (t : Fin cfg0.N) (d : Fin 1024) : iblk m c 1 t (ix2 0 d) = m ((c : Thread nD τ).loc main_arg1) (ix1 d) := by
  rw [← V_g m c]
  blk_simp [iblk]
  refine congrArg (V m c main_v32) (funext fun a => Fin.ext ?_)
  blk_simp [idx1]
  match a with
  | ⟨0, _⟩ => rfl
  | ⟨1, _⟩ => show 0 * 1024 + d.val = d.val; omega
theorem blk2 (t : Fin cfg0.N) (d : Fin 1024) : iblk m c 2 t (ix3 0 0 d) = m ((c : Thread nD τ).loc main_arg2) (ix2 (EX t) d) := by
  rw [← V_sh m c]
  blk_simp [iblk]
  refine congrArg (V m c main_v29) (funext fun a => Fin.ext ?_)
  blk_simp [idx2]
  match a with
  | ⟨0, _⟩ => show (EX t).val * 1 + 0 = (EX t).val; omega
  | ⟨1, _⟩ => rfl
  | ⟨2, _⟩ => show 0 * 1024 + d.val = d.val; omega
theorem blk3 (t : Fin cfg0.N) (d : Fin 1024) : iblk m c 3 t (ix3 0 0 d) = m ((c : Thread nD τ).loc main_arg3) (ix2 (EX t) d) := by
  rw [← V_sc m c]
  blk_simp [iblk]
  refine congrArg (V m c main_v30) (funext fun a => Fin.ext ?_)
  blk_simp [idx3]
  match a with
  | ⟨0, _⟩ => show (EX t).val * 1 + 0 = (EX t).val; omega
  | ⟨1, _⟩ => rfl
  | ⟨2, _⟩ => show 0 * 1024 + d.val = d.val; omega
theorem blk4 (t : Fin cfg0.N) (r : Fin 512) (l : Fin 128) : iblk m c 4 t (ix2 r l) = DUP (fun l => V m c main_v24 (ix2 (RW t r) l)) l := by
  rw [← V_co m c]
  blk_simp [iblk]
  refine congrArg (V m c main_v26) (funext fun a => Fin.ext ?_)
  blk_simp [idx4]
  match a with
  | ⟨0, _⟩ => show (TI t).val * 512 + r.val = 512 * (TI t).val + r.val; omega
  | ⟨1, _⟩ => show 0 * 128 + l.val = l.val; omega
theorem blk5 (t : Fin cfg0.N) (r : Fin 512) (l : Fin 128) : iblk m c 5 t (ix2 r l) = SGN (fun l => V m c main_v25 (ix2 (RW t r) l)) l := by
  rw [← V_si m c]
  blk_simp [iblk]
  refine congrArg (V m c main_v28) (funext fun a => Fin.ext ?_)
  blk_simp [idx5]
  match a with
  | ⟨0, _⟩ => show (TI t).val * 512 + r.val = 512 * (TI t).val + r.val; omega
  | ⟨1, _⟩ => show 0 * 128 + l.val = l.val; omega
theorem blk6 (t : Fin cfg0.N) (k : Fin 1024) (n : Fin 5632) : iblk m c 6 t (ix2 k n) = m ((c : Thread nD τ).loc main_arg4) (ix2 k n) := by
  rw [← V_w m c]
  blk_simp [iblk]
  refine congrArg (V m c main_v31) (funext fun a => Fin.ext ?_)
  blk_simp [idx6]
  match a with
  | ⟨0, _⟩ => show 0 * 1024 + k.val = k.val; omega
  | ⟨1, _⟩ => show 0 * 5632 + n.val = n.val; omega

/-! ## The arrays -/

/-- A token's projected row, from the arrays at the start. -/
def T (b : Fin 32) (R : Fin 2048) (n : Fin 5632) : EReal :=
  TOK (m ((c : Thread nD τ).loc main_arg0)) (m ((c : Thread nD τ).loc main_arg1)) (m ((c : Thread nD τ).loc main_arg2))
    (m ((c : Thread nD τ).loc main_arg3)) (m ((c : Thread nD τ).loc main_arg4)) b R n

/-- A token's projected row rotated head by head, the heads starting at the column `off`. -/
def TR (off : Nat) (h : off + 512 ≤ 5632) (b : Fin 32) (R : Fin 2048) (n : Fin 512) : EReal :=
  ROT (fun l => T m c b R (HC off h (HN n) l)) (fun l => V m c main_v24 (ix2 R l)) (fun l => V m c main_v25 (ix2 R l)) (LN n)

theorem row_blk (t : Fin cfg0.N) (r : Fin 512) (n : Fin 5632) :
    ROW (iblk m c 0 t) (iblk m c 1 t) (iblk m c 2 t) (iblk m c 3 t) (iblk m c 6 t) r n = T m c (EX t) (RW t r) n := by
  unfold ROW T TOK
  simp only [blk0, blk1, blk2, blk3, blk6]

theorem rote_blk (off : Nat) (h : off + 512 ≤ 5632) (t : Fin cfg0.N) (r : Fin 512) (n : Fin 512) :
    ROTE (iblk m c 0 t) (iblk m c 1 t) (iblk m c 2 t) (iblk m c 3 t) (iblk m c 4 t) (iblk m c 5 t) (iblk m c 6 t) off h r (HN n) (LN n) =
      TR m c off h (EX t) (RW t r) n := by
  unfold ROTE TR
  rw [← ROLL_eq]
  simp only [row_blk, blk4, blk5]

/-- The first columns. -/
def G7 : S32x2048x512.Idx → EReal := fun i => T m c (i 0) (i 1) ⟨(i 2).val, (i 2).isLt.trans (by decide)⟩
theorem final7 : (dats m 0 c).arrAt 7 cfg0.N = G7 m c := by
  refine (dats m 0 c).arrAt_eq_of_covers 7 _ (by decide +kernel) fun t hf y => ?_
  blk_simp
  rw [after0_7]
  obtain ⟨b, r, y2, rfl⟩ : ∃ (b : Fin 1) (r : Fin 512) (y2 : Fin 512), y = ix3 b r y2 := ⟨y 0, y 1, y 2, (ix3_eta y).symm⟩
  obtain rfl : b = 0 := Subsingleton.elim _ _
  refine (out7_apply _ _ _ _ _ _ _ r y2).trans ?_
  rw [row_blk]
  refine Eq.trans ?_ (congrArg (G7 m c) (show ix3 (EX t) (RW t r) y2 = _ from (funext fun a => Fin.ext ?_)))
  · rfl
  · blk_simp [idx7]
    match a with
    | ⟨0, _⟩ => show (EX t).val = (EX t).val * 1 + 0; omega
    | ⟨1, _⟩ => show 512 * (TI t).val + r.val = (TI t).val * 512 + r.val; omega
    | ⟨2, _⟩ => show y2.val = 0 * 512 + y2.val; omega

/-- The queries. -/
def G8 : S32x2048x512.Idx → EReal := fun i => TR m c 512 (by decide) (i 0) (i 1) (i 2)
theorem final8 : (dats m 0 c).arrAt 8 cfg0.N = G8 m c := by
  refine (dats m 0 c).arrAt_eq_of_covers 8 _ (by decide +kernel) fun t hf y => ?_
  blk_simp
  rw [after0_8]
  obtain ⟨b, r, y2, rfl⟩ : ∃ (b : Fin 1) (r : Fin 512) (y2 : Fin 512), y = ix3 b r y2 := ⟨y 0, y 1, y 2, (ix3_eta y).symm⟩
  obtain rfl : b = 0 := Subsingleton.elim _ _
  refine (out8_apply _ _ _ _ _ _ _ r y2).trans ?_
  rw [rote_blk]
  refine Eq.trans ?_ (congrArg (G8 m c) (show ix3 (EX t) (RW t r) y2 = _ from (funext fun a => Fin.ext ?_)))
  · rfl
  · blk_simp [idx8]
    match a with
    | ⟨0, _⟩ => show (EX t).val = (EX t).val * 1 + 0; omega
    | ⟨1, _⟩ => show 512 * (TI t).val + r.val = (TI t).val * 512 + r.val; omega
    | ⟨2, _⟩ => show y2.val = 0 * 512 + y2.val; omega

/-- The keys. -/
def G9 : S32x2048x512.Idx → EReal := fun i => TR m c 1024 (by decide) (i 0) (i 1) (i 2) * Ideal.ofBits .f32 0x3DB504F3#32
theorem final9 : (dats m 0 c).arrAt 9 cfg0.N = G9 m c := by
  refine (dats m 0 c).arrAt_eq_of_covers 9 _ (by decide +kernel) fun t hf y => ?_
  blk_simp
  rw [after0_9]
  obtain ⟨b, r, y2, rfl⟩ : ∃ (b : Fin 1) (r : Fin 512) (y2 : Fin 512), y = ix3 b r y2 := ⟨y 0, y 1, y 2, (ix3_eta y).symm⟩
  obtain rfl : b = 0 := Subsingleton.elim _ _
  refine (out9_apply _ _ _ _ _ _ _ r y2).trans ?_
  rw [rote_blk]
  refine Eq.trans ?_ (congrArg (G9 m c) (show ix3 (EX t) (RW t r) y2 = _ from (funext fun a => Fin.ext ?_)))
  · rfl
  · blk_simp [idx9]
    match a with
    | ⟨0, _⟩ => show (EX t).val = (EX t).val * 1 + 0; omega
    | ⟨1, _⟩ => show 512 * (TI t).val + r.val = (TI t).val * 512 + r.val; omega
    | ⟨2, _⟩ => show y2.val = 0 * 512 + y2.val; omega

/-- The values. -/
def G10 : S32x2048x1024.Idx → EReal := fun i => T m c (i 0) (i 1) ⟨1536 + (i 2).val, Nat.lt_of_lt_of_le (Nat.add_lt_add_left (i 2).isLt 1536) (by decide)⟩
theorem final10 : (dats m 0 c).arrAt 10 cfg0.N = G10 m c := by
  refine (dats m 0 c).arrAt_eq_of_covers 10 _ (by decide +kernel) fun t hf y => ?_
  blk_simp
  rw [after0_10]
  obtain ⟨b, r, y2, rfl⟩ : ∃ (b : Fin 1) (r : Fin 512) (y2 : Fin 1024), y = ix3 b r y2 := ⟨y 0, y 1, y 2, (ix3_eta y).symm⟩
  obtain rfl : b = 0 := Subsingleton.elim _ _
  refine (out10_apply _ _ _ _ _ _ _ r y2).trans ?_
  rw [row_blk]
  refine Eq.trans ?_ (congrArg (G10 m c) (show ix3 (EX t) (RW t r) y2 = _ from (funext fun a => Fin.ext ?_)))
  · rfl
  · blk_simp [idx10]
    match a with
    | ⟨0, _⟩ => show (EX t).val = (EX t).val * 1 + 0; omega
    | ⟨1, _⟩ => show 512 * (TI t).val + r.val = (TI t).val * 512 + r.val; omega
    | ⟨2, _⟩ => show y2.val = 0 * 1024 + y2.val; omega

/-- The gates of the retention. -/
def G11 : S32x2048x1024.Idx → EReal := fun i => T m c (i 0) (i 1) ⟨2560 + (i 2).val, Nat.lt_of_lt_of_le (Nat.add_lt_add_left (i 2).isLt 2560) (by decide)⟩
theorem final11 : (dats m 0 c).arrAt 11 cfg0.N = G11 m c := by
  refine (dats m 0 c).arrAt_eq_of_covers 11 _ (by decide +kernel) fun t hf y => ?_
  blk_simp
  rw [after0_11]
  obtain ⟨b, r, y2, rfl⟩ : ∃ (b : Fin 1) (r : Fin 512) (y2 : Fin 1024), y = ix3 b r y2 := ⟨y 0, y 1, y 2, (ix3_eta y).symm⟩
  obtain rfl : b = 0 := Subsingleton.elim _ _
  refine (out11_apply _ _ _ _ _ _ _ r y2).trans ?_
  rw [row_blk]
  refine Eq.trans ?_ (congrArg (G11 m c) (show ix3 (EX t) (RW t r) y2 = _ from (funext fun a => Fin.ext ?_)))
  · rfl
  · blk_simp [idx11]
    match a with
    | ⟨0, _⟩ => show (EX t).val = (EX t).val * 1 + 0; omega
    | ⟨1, _⟩ => show 512 * (TI t).val + r.val = (TI t).val * 512 + r.val; omega
    | ⟨2, _⟩ => show y2.val = 0 * 1024 + y2.val; omega

/-- The gates of the mixing. -/
def G12 : S32x2048x2048.Idx → EReal := fun i => T m c (i 0) (i 1) ⟨3584 + (i 2).val, Nat.lt_of_lt_of_le (Nat.add_lt_add_left (i 2).isLt 3584) (by decide)⟩
theorem final12 : (dats m 0 c).arrAt 12 cfg0.N = G12 m c := by
  refine (dats m 0 c).arrAt_eq_of_covers 12 _ (by decide +kernel) fun t hf y => ?_
  blk_simp
  rw [after0_12]
  obtain ⟨b, r, y2, rfl⟩ : ∃ (b : Fin 1) (r : Fin 512) (y2 : Fin 2048), y = ix3 b r y2 := ⟨y 0, y 1, y 2, (ix3_eta y).symm⟩
  obtain rfl : b = 0 := Subsingleton.elim _ _
  refine (out12_apply _ _ _ _ _ _ _ r y2).trans ?_
  rw [row_blk]
  refine Eq.trans ?_ (congrArg (G12 m c) (show ix3 (EX t) (RW t r) y2 = _ from (funext fun a => Fin.ext ?_)))
  · rfl
  · blk_simp [idx12]
    match a with
    | ⟨0, _⟩ => show (EX t).val = (EX t).val * 1 + 0; omega
    | ⟨1, _⟩ => show 512 * (TI t).val + r.val = (TI t).val * 512 + r.val; omega
    | ⟨2, _⟩ => show y2.val = 0 * 2048 + y2.val; omega

end Cert.Kernel2Ideal.Proj

end

end
-- ==== Proof.Proj.RefValue.lean ====
/-
  The reference's six results of the input projection, at an entry.
-/
module

public import proofs.«01_k».proof.Proof.Proj.Spec
public import proofs.«01_k».proof.Proof.Gen.Reference2Ideal.Run

@[expose] public section

set_option maxRecDepth 16384

noncomputable section

namespace Cert.Reference2Ideal.Proj

open Cert.Reference2Ideal Cert.Reference2Ideal.Gen Cert.Proj
open Idealize.ShloMosaic Idealize.ShloMosaic.TcCoe

section
variable (a0 : FVec Ideal S32x2048x1024 .f32) (a1 : FVec Ideal S1024 .f32) (a2 a3 : FVec Ideal S32x1024 .f32) (a4 : FVec Ideal S1024x5632 .f32)

/-- The normalised and modulated tokens. -/
def refH : FVec Ideal S32x2048x1024 .f32 :=
  addf (mulf (mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a1))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 a3)))) (broadcastInDim S32x2048x1024 ![0, 1, 2] bcast_S32x1x1024_S32x2048x1024_0_1_2 (broadcastInDim S32x1x1024 ![0, 2] bcast_S32x1024_S32x1x1024_0_2 a2))

/-- The tokens' projected rows. -/
def refP : FVec Ideal S32x2048x5632 .f32 :=
  Host.dotGeneral dot_S32x2048x1024_S1024x5632_S32x2048x5632_2_0_01_1_n_n none (refH a0 a1 a2 a3) a4

/-- The rotary angles. -/
def refANG : FVec Ideal S2048x64 .f32 :=
  concatenate S2048x64 1 [⟨S2048x32, (mulf (broadcastInDim S2048x32 ![0, 1] bcast_S2048x1_S2048x32_0_1 (broadcastInDim S2048x1 ![0] bcast_S2048_S2048x1_0 (shapeCast _ (broadcastInDim S32x64 ![0] bcast_S32_S32x64_0 (sitofp .f32 (iotaInDim S32 32 0))) shapeCasts_S32x64_S2048))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))⟩, ⟨S2048x32, (mulf (broadcastInDim S2048x32 ![0, 1] bcast_S2048x1_S2048x32_0_1 (broadcastInDim S2048x1 ![0] bcast_S2048_S2048x1_0 (shapeCast _ (broadcastInDim S32x64 ![0, 1] bcast_S1x64_S32x64_0_1 (shapeCast _ (sitofp .f32 (iotaInDim S64 32 0)) shapeCasts_S64_S1x64)) shapeCasts_S32x64_S2048))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))⟩] concatenates_S2048x32_S2048x32_S2048x64_d1

/-- The heads of some columns. -/
def refA (s : FVec Ideal S32x2048x512 .f32) : FVec Ideal S32x4x2048x128 .f32 :=
  transpose S32x4x2048x128 [0, 2, 1, 3] (shapeCast _ s shapeCasts_S32x2048x512_S32x2048x4x128) transposes_S32x2048x4x128_S32x4x2048x128_0_2_1_3

/-- The heads rotated. -/
def refR (s : FVec Ideal S32x2048x512 .f32) (co si : FVec Ideal S2048x64 .f32) : FVec Ideal S32x4x2048x128 .f32 :=
  concatenate S32x4x2048x128 3 [⟨S32x4x2048x64, (subf (mulf (extractStridedSlice S32x4x2048x64 ![0, 0, 0, 0] (refA s) slices_S32x4x2048x128_S32x4x2048x64_0_0_0_0) (broadcastInDim S32x4x2048x64 ![0, 1, 2, 3] bcast_S1x1x2048x64_S32x4x2048x64_0_1_2_3 (broadcastInDim S1x1x2048x64 ![2, 3] bcast_S2048x64_S1x1x2048x64_2_3 co))) (mulf (extractStridedSlice S32x4x2048x64 ![0, 0, 0, 64] (refA s) slices_S32x4x2048x128_S32x4x2048x64_0_0_0_64) (broadcastInDim S32x4x2048x64 ![0, 1, 2, 3] bcast_S1x1x2048x64_S32x4x2048x64_0_1_2_3 (broadcastInDim S1x1x2048x64 ![2, 3] bcast_S2048x64_S1x1x2048x64_2_3 si))))⟩, ⟨S32x4x2048x64, (addf (mulf (extractStridedSlice S32x4x2048x64 ![0, 0, 0, 0] (refA s) slices_S32x4x2048x128_S32x4x2048x64_0_0_0_0) (broadcastInDim S32x4x2048x64 ![0, 1, 2, 3] bcast_S1x1x2048x64_S32x4x2048x64_0_1_2_3 (broadcastInDim S1x1x2048x64 ![2, 3] bcast_S2048x64_S1x1x2048x64_2_3 si))) (mulf (extractStridedSlice S32x4x2048x64 ![0, 0, 0, 64] (refA s) slices_S32x4x2048x128_S32x4x2048x64_0_0_0_64) (broadcastInDim S32x4x2048x64 ![0, 1, 2, 3] bcast_S1x1x2048x64_S32x4x2048x64_0_1_2_3 (broadcastInDim S1x1x2048x64 ![2, 3] bcast_S2048x64_S1x1x2048x64_2_3 co))))⟩] concatenates_S32x4x2048x64_S32x4x2048x64_S32x4x2048x128_d3

/-- The queries of their columns. -/
def refQ (s : FVec Ideal S32x2048x512 .f32) (co si : FVec Ideal S2048x64 .f32) : FVec Ideal S32x2048x512 .bf16 :=
  truncf .bf16 (shapeCast _ (transpose S32x2048x4x128 [0, 2, 1, 3] (refR s co si) transposes_S32x4x2048x128_S32x2048x4x128_0_2_1_3) shapeCasts_S32x2048x4x128_S32x2048x512) bitsLt_bf16_f32

/-- The keys of their columns. -/
def refK (s : FVec Ideal S32x2048x512 .f32) (co si : FVec Ideal S2048x64 .f32) : FVec Ideal S32x2048x512 .bf16 :=
  truncf .bf16 (shapeCast _ (transpose S32x2048x4x128 [0, 2, 1, 3] (mulf (refR s co si) (broadcastInDim S32x4x2048x128 ![] bcast_S_S32x4x2048x128 (constant S_ .f32 0x3DB504F3#32))) transposes_S32x4x2048x128_S32x2048x4x128_0_2_1_3) shapeCasts_S32x2048x4x128_S32x2048x512) bitsLt_bf16_f32

theorem refH_apply (b : Fin 32) (R : Fin 2048) (d : Fin 1024) : refH a0 a1 a2 a3 (ix3 b R d) =
    HID (fun d => a0 (ix3 b R d)) (fun d => a1 (ix1 d)) (fun d => a2 (ix2 b d)) (fun d => a3 (ix2 b d)) d := by
  pointwise [refH]
  rfl

theorem refP_apply (b : Fin 32) (R : Fin 2048) (n : Fin 5632) : refP a0 a1 a2 a3 a4 (ix3 b R n) = TOK a0 a1 a2 a3 a4 b R n := by
  pointwise [refP, refH_apply]
  rfl

end

section
variable (s : FVec Ideal S32x2048x512 .f32) (co si : FVec Ideal S2048x64 .f32)

theorem refA_apply (b : Fin 32) (hd : Fin 4) (R : Fin 2048) (l : Fin 128) :
    refA s (ix4 b hd R l) = s (ix3 b R ⟨128 * hd.val + l.val, by have := hd.isLt; have := l.isLt; omega⟩) := by
  pointwise [refA]
  exact congrArg (fun n => s (ix3 b R n)) (Fin.ext (show hd.val * 128 + l.val = 128 * hd.val + l.val by omega))

theorem refR_apply (b : Fin 32) (hd : Fin 4) (R : Fin 2048) (l : Fin 128) : refR s co si (ix4 b hd R l) =
    ROT (fun l => refA s (ix4 b hd R l)) (fun l => co (ix2 R l)) (fun l => si (ix2 R l)) l := by
  pointwise [refR]
  rfl

theorem refQ_apply (b : Fin 32) (R : Fin 2048) (n : Fin 512) : refQ s co si (ix3 b R n) = refR s co si (ix4 b (HN n) R (LN n)) := by
  pointwise [refQ]
  rfl

theorem refK_apply (b : Fin 32) (R : Fin 2048) (n : Fin 512) :
    refK s co si (ix3 b R n) = refR s co si (ix4 b (HN n) R (LN n)) * Ideal.ofBits .f32 0x3DB504F3#32 := by
  pointwise [refK]
  rfl

end

section
variable (a0 : FVec Ideal S32x2048x1024 .f32) (a1 : FVec Ideal S1024 .f32) (a2 a3 : FVec Ideal S32x1024 .f32) (a4 : FVec Ideal S1024x5632 .f32)
  (co si : FVec Ideal S2048x64 .f32)

/-- A token's projected row rotated head by head, the heads starting at the column `off`. -/
def TRR (off : Nat) (h : off + 512 ≤ 5632) (b : Fin 32) (R : Fin 2048) (n : Fin 512) : EReal :=
  ROT (fun l => TOK a0 a1 a2 a3 a4 b R (HC off h (HN n) l)) (fun l => co (ix2 R l)) (fun l => si (ix2 R l)) (LN n)

theorem res0 (b : Fin 32) (R : Fin 2048) (n : Fin 512) :
    extractStridedSlice S32x2048x512 ![0, 0, 0] (refP a0 a1 a2 a3 a4) slices_S32x2048x5632_S32x2048x512_0_0_0 (ix3 b R n) =
      TOK a0 a1 a2 a3 a4 b R ⟨n.val, by omega⟩ := by
  pointwise [refP_apply]

theorem res1 (b : Fin 32) (R : Fin 2048) (n : Fin 512) :
    refQ (extractStridedSlice S32x2048x512 ![0, 0, 512] (refP a0 a1 a2 a3 a4) slices_S32x2048x5632_S32x2048x512_0_0_512) co si (ix3 b R n) =
      TRR a0 a1 a2 a3 a4 co si 512 (by decide) b R n := by
  rw [refQ_apply, refR_apply]
  refine congrArg (fun a => ROT a _ _ _) (funext fun l => ?_)
  rw [refA_apply]
  pointwise [refP_apply]
  rfl

theorem res2 (b : Fin 32) (R : Fin 2048) (n : Fin 512) :
    refK (extractStridedSlice S32x2048x512 ![0, 0, 1024] (refP a0 a1 a2 a3 a4) slices_S32x2048x5632_S32x2048x512_0_0_1024) co si (ix3 b R n) =
      TRR a0 a1 a2 a3 a4 co si 1024 (by decide) b R n * Ideal.ofBits .f32 0x3DB504F3#32 := by
  rw [refK_apply, refR_apply]
  refine congrArg (fun a => ROT a _ _ _ * _) (funext fun l => ?_)
  rw [refA_apply]
  pointwise [refP_apply]
  rfl

theorem res3 (b : Fin 32) (R : Fin 2048) (n : Fin 1024) :
    truncf .bf16 (extractStridedSlice S32x2048x1024 ![0, 0, 1536] (refP a0 a1 a2 a3 a4) slices_S32x2048x5632_S32x2048x1024_0_0_1536) bitsLt_bf16_f32 (ix3 b R n) =
      TOK a0 a1 a2 a3 a4 b R ⟨1536 + n.val, by omega⟩ := by
  pointwise [refP_apply]

theorem res4 (b : Fin 32) (R : Fin 2048) (n : Fin 1024) :
    truncf .bf16 (extractStridedSlice S32x2048x1024 ![0, 0, 2560] (refP a0 a1 a2 a3 a4) slices_S32x2048x5632_S32x2048x1024_0_0_2560) bitsLt_bf16_f32 (ix3 b R n) =
      TOK a0 a1 a2 a3 a4 b R ⟨2560 + n.val, by omega⟩ := by
  pointwise [refP_apply]

theorem res5 (b : Fin 32) (R : Fin 2048) (n : Fin 2048) :
    truncf .bf16 (extractStridedSlice S32x2048x2048 ![0, 0, 3584] (refP a0 a1 a2 a3 a4) slices_S32x2048x5632_S32x2048x2048_0_0_3584) bitsLt_bf16_f32 (ix3 b R n) =
      TOK a0 a1 a2 a3 a4 b R ⟨3584 + n.val, by omega⟩ := by
  pointwise [refP_apply]

end

theorem v112_eq (m : (ℓ : Loc nD τ sig) → Buf (Elt Ideal) ℓ) (c : Dev nD) : Cert.Reference2Ideal.Value.res_main_v112 m c =
    refQ (extractStridedSlice S32x2048x512 ![0, 0, 512] (refP (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) slices_S32x2048x5632_S32x2048x512_0_0_512)
      (Host.cos refANG) (Host.sin refANG) := rfl

theorem v115_eq (m : (ℓ : Loc nD τ sig) → Buf (Elt Ideal) ℓ) (c : Dev nD) : Cert.Reference2Ideal.Value.res_main_v115 m c =
    refK (extractStridedSlice S32x2048x512 ![0, 0, 1024] (refP (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) slices_S32x2048x5632_S32x2048x512_0_0_1024)
      (Host.cos refANG) (Host.sin refANG) := rfl

end Cert.Reference2Ideal.Proj

end

end
-- ==== Proof.Proj.Final.lean ====
/-
  The claims of the input projection: the reference's frame, and the equality of the kernel's and the reference's six
  results over the extended reals.
-/
module

public import proofs.«01_k».proof.Defs
public import proofs.«01_k».proof.Proof.Proj.Value
public import proofs.«01_k».proof.Proof.Proj.RefValue
public import Idealize.ShloMosaic.Lib.Claim
public import Idealize.ShloMosaic.Lib.Quiescent

@[expose] public section

set_option maxRecDepth 16384

noncomputable section

namespace Cert.Kernel2Ideal.Proj

open Cert.Kernel2Ideal Cert.Kernel2Ideal.Gen Cert.Proj
open Idealize.ShloMosaic Idealize.ShloMosaic.TcCoe

variable (m : (ℓ : Loc nD τ sig) → Buf (Elt Ideal) ℓ) (c : Dev nD)

/-! ## The two programs' tables -/

theorem co_eq : V m c main_v24 = Host.cos (F := Ideal) (φ := .f32) Cert.Reference2Ideal.Proj.refANG := by
  unfold V; after_results; rfl
theorem si_eq : V m c main_v25 = Host.sin (F := Ideal) (φ := .f32) Cert.Reference2Ideal.Proj.refANG := by
  unfold V; after_results; rfl

/-- The kernel's rotated rows are the reference's. -/
theorem TR_eq (off : Nat) (h : off + 512 ≤ 5632) (b : Fin 32) (R : Fin 2048) (n : Fin 512) : TR m c off h b R n =
    Cert.Reference2Ideal.Proj.TRR (m ((c : Thread nD τ).loc main_arg0)) (m ((c : Thread nD τ).loc main_arg1)) (m ((c : Thread nD τ).loc main_arg2))
      (m ((c : Thread nD τ).loc main_arg3)) (m ((c : Thread nD τ).loc main_arg4)) (Host.cos Cert.Reference2Ideal.Proj.refANG)
      (Host.sin Cert.Reference2Ideal.Proj.refANG) off h b R n := by
  unfold TR
  rw [co_eq, si_eq]
  rfl

end Cert.Kernel2Ideal.Proj

namespace Cert.Reference2Ideal.Proj

open Cert.Reference2Ideal Cert.Reference2Ideal.Gen Cert.Proj
open Idealize.ShloMosaic Idealize.ShloMosaic.TcCoe

/-! ## The results, array by array -/

section
variable (a0 : FVec Ideal S32x2048x1024 .f32) (a1 : FVec Ideal S1024 .f32) (a2 a3 : FVec Ideal S32x1024 .f32) (a4 : FVec Ideal S1024x5632 .f32)
variable (m : (ℓ : Loc Cert.Kernel2Ideal.nD Cert.Kernel2Ideal.τ Cert.Kernel2Ideal.sig) → Buf (Elt Ideal) ℓ) (c : Dev Cert.Kernel2Ideal.nD)
  (h0 : a0 = m ((c.tc : Thread Cert.Kernel2Ideal.nD Cert.Kernel2Ideal.τ).loc Cert.Kernel2Ideal.main_arg0))
  (h1 : a1 = m ((c.tc : Thread Cert.Kernel2Ideal.nD Cert.Kernel2Ideal.τ).loc Cert.Kernel2Ideal.main_arg1))
  (h2 : a2 = m ((c.tc : Thread Cert.Kernel2Ideal.nD Cert.Kernel2Ideal.τ).loc Cert.Kernel2Ideal.main_arg2))
  (h3 : a3 = m ((c.tc : Thread Cert.Kernel2Ideal.nD Cert.Kernel2Ideal.τ).loc Cert.Kernel2Ideal.main_arg3))
  (h4 : a4 = m ((c.tc : Thread Cert.Kernel2Ideal.nD Cert.Kernel2Ideal.τ).loc Cert.Kernel2Ideal.main_arg4))
include h0 h1 h2 h3 h4

theorem arr0 : (extractStridedSlice S32x2048x512 ![0, 0, 0] (refP a0 a1 a2 a3 a4) slices_S32x2048x5632_S32x2048x512_0_0_0) = Cert.Kernel2Ideal.Proj.G7 m c := by
  subst h0 h1 h2 h3 h4
  funext i
  obtain ⟨b, R, n, rfl⟩ : ∃ (b : Fin 32) (R : Fin 2048) (n : Fin 512), i = ix3 b R n := ⟨i 0, i 1, i 2, (ix3_eta i).symm⟩
  exact (res0 _ _ _ _ _ b R n)

theorem arr1 : refQ (extractStridedSlice S32x2048x512 ![0, 0, 512] (refP a0 a1 a2 a3 a4) slices_S32x2048x5632_S32x2048x512_0_0_512) (Host.cos refANG) (Host.sin refANG) = Cert.Kernel2Ideal.Proj.G8 m c := by
  subst h0 h1 h2 h3 h4
  funext i
  obtain ⟨b, R, n, rfl⟩ : ∃ (b : Fin 32) (R : Fin 2048) (n : Fin 512), i = ix3 b R n := ⟨i 0, i 1, i 2, (ix3_eta i).symm⟩
  exact (res1 _ _ _ _ _ _ _ b R n).trans (Cert.Kernel2Ideal.Proj.TR_eq m c _ _ b R n).symm

theorem arr2 : refK (extractStridedSlice S32x2048x512 ![0, 0, 1024] (refP a0 a1 a2 a3 a4) slices_S32x2048x5632_S32x2048x512_0_0_1024) (Host.cos refANG) (Host.sin refANG) = Cert.Kernel2Ideal.Proj.G9 m c := by
  subst h0 h1 h2 h3 h4
  funext i
  obtain ⟨b, R, n, rfl⟩ : ∃ (b : Fin 32) (R : Fin 2048) (n : Fin 512), i = ix3 b R n := ⟨i 0, i 1, i 2, (ix3_eta i).symm⟩
  exact (res2 _ _ _ _ _ _ _ b R n).trans (congrArg (· * _) (Cert.Kernel2Ideal.Proj.TR_eq m c _ _ b R n).symm)

theorem arr3 : truncf (F := Ideal) .bf16 (extractStridedSlice S32x2048x1024 ![0, 0, 1536] (refP a0 a1 a2 a3 a4) slices_S32x2048x5632_S32x2048x1024_0_0_1536) bitsLt_bf16_f32 = Cert.Kernel2Ideal.Proj.G10 m c := by
  subst h0 h1 h2 h3 h4
  funext i
  obtain ⟨b, R, n, rfl⟩ : ∃ (b : Fin 32) (R : Fin 2048) (n : Fin 1024), i = ix3 b R n := ⟨i 0, i 1, i 2, (ix3_eta i).symm⟩
  exact (res3 _ _ _ _ _ b R n)

theorem arr4 : truncf (F := Ideal) .bf16 (extractStridedSlice S32x2048x1024 ![0, 0, 2560] (refP a0 a1 a2 a3 a4) slices_S32x2048x5632_S32x2048x1024_0_0_2560) bitsLt_bf16_f32 = Cert.Kernel2Ideal.Proj.G11 m c := by
  subst h0 h1 h2 h3 h4
  funext i
  obtain ⟨b, R, n, rfl⟩ : ∃ (b : Fin 32) (R : Fin 2048) (n : Fin 1024), i = ix3 b R n := ⟨i 0, i 1, i 2, (ix3_eta i).symm⟩
  exact (res4 _ _ _ _ _ b R n)

theorem arr5 : truncf (F := Ideal) .bf16 (extractStridedSlice S32x2048x2048 ![0, 0, 3584] (refP a0 a1 a2 a3 a4) slices_S32x2048x5632_S32x2048x2048_0_0_3584) bitsLt_bf16_f32 = Cert.Kernel2Ideal.Proj.G12 m c := by
  subst h0 h1 h2 h3 h4
  funext i
  obtain ⟨b, R, n, rfl⟩ : ∃ (b : Fin 32) (R : Fin 2048) (n : Fin 2048), i = ix3 b R n := ⟨i 0, i 1, i 2, (ix3_eta i).symm⟩
  exact (res5 _ _ _ _ _ b R n)

end

end Cert.Reference2Ideal.Proj

namespace Cert.Proj

open Idealize.ShloMosaic Idealize.ShloMosaic.TcCoe

/-! ## The claims -/

theorem frame_referenceIdeal : letI := Cert.Reference2Ideal.Gen.facts; Cert.quiescent_Reference2Ideal := fun m g _ =>
  letI := Cert.Reference2Ideal.Gen.facts
  (θ_run Cert.Reference2Ideal.defs _ _).mono
    (fun r h => ⟨fun c => (h c).2.2.2.2.2.2, sem_eq_zero_of_no_sems (by decide) r.2⟩) (Cert.Reference2Ideal.Value.run (F := Ideal) m g)

open Cert.Kernel2Ideal.Proj Cert.Reference2Ideal.Proj in
theorem algebraic_proj : letI := Cert.Kernel2Ideal.Gen.facts; letI := Cert.Reference2Ideal.Gen.facts; Cert.algebraic_Kernel2Ideal_Reference2Ideal :=
  letI := Cert.Kernel2Ideal.Gen.facts
  letI := Cert.Reference2Ideal.Gen.facts
  fun m g m' g' _ ha => ⟨fun c => G7 m c, fun c => G8 m c, fun c => G9 m c, fun c => G10 m c, fun c => G11 m c, fun c => G12 m c,
    (θ_run Cert.Kernel2Ideal.defs _ _).mono
      (fun r h c => ⟨((h.1 c).1 7).trans (final7 m c), ((h.1 c).1 8).trans (final8 m c), ((h.1 c).1 9).trans (final9 m c),
        ((h.1 c).1 10).trans (final10 m c), ((h.1 c).1 11).trans (final11 m c), ((h.1 c).1 12).trans (final12 m c), h.2 c⟩)
      (θ_run_and (Cert.Kernel2Ideal.Gen.run_main (F := Ideal) m g) (Cert.Kernel2Ideal.Gen.unchanged (F := Ideal) m g)),
    (θ_run Cert.Reference2Ideal.defs _ _).mono
      (fun r h c => by
        obtain ⟨h0, h1, h2, h3, h4⟩ := ha c
        obtain ⟨r0, r1, r2, r3, r4, r5, hr⟩ := h c
        exact ⟨r0.trans (arr0 _ _ _ _ _ m c h0 h1 h2 h3 h4), (r1.trans (v112_eq m' c)).trans (arr1 _ _ _ _ _ m c h0 h1 h2 h3 h4),
          (r2.trans (v115_eq m' c)).trans (arr2 _ _ _ _ _ m c h0 h1 h2 h3 h4), r3.trans (arr3 _ _ _ _ _ m c h0 h1 h2 h3 h4),
          r4.trans (arr4 _ _ _ _ _ m c h0 h1 h2 h3 h4), r5.trans (arr5 _ _ _ _ _ m c h0 h1 h2 h3 h4), hr⟩)
      (Cert.Reference2Ideal.Value.run (F := Ideal) m' g')⟩

end Cert.Proj

end

end
-- ==== Proof.Mix.Spec.lean ====
/-
  The mixing call at an entry: the multiscale pool, the retention heads' norm and gate, the merge, the output
  projection with its residual and the norm before the feed-forward part, each for one token over the extended reals.
-/
module

public import proofs.«01_k».proof.Proof.Proj.Spec

@[expose] public section

noncomputable section

namespace Cert.Mix

open Idealize.ShloMosaic Cert.Proj

/-- The logistic function. -/
def SIG (z : EReal) : EReal := Ideal.div 1 (1 + Ideal.exp (-z))

/-- The pool's column of a group's lane. -/
def PC (g : Fin 4) (c : Fin 128) : Fin 512 := ⟨128 * g.val + c.val, by have := g.isLt; have := c.isLt; omega⟩
theorem PC_zero (c : Fin 128) : PC 0 c = ⟨c.val, by omega⟩ := Fin.ext (show 128 * 0 + c.val = c.val by omega)
theorem PC_one (c : Fin 128) : PC 1 c = ⟨128 + c.val, by omega⟩ := rfl
theorem PC_two (c : Fin 128) : PC 2 c = ⟨256 + c.val, by omega⟩ := rfl
theorem PC_three (c : Fin 128) : PC 3 c = ⟨384 + c.val, by omega⟩ := rfl

/-- The retention output's column of a head's lane. -/
def YC (g : Fin 4) (c : Fin 256) : Fin 1024 := ⟨256 * g.val + c.val, by have := g.isLt; have := c.isLt; omega⟩
theorem YC_zero (c : Fin 256) : YC 0 c = ⟨c.val, by omega⟩ := Fin.ext (show 256 * 0 + c.val = c.val by omega)
theorem YC_one (c : Fin 256) : YC 1 c = ⟨256 + c.val, by omega⟩ := rfl
theorem YC_two (c : Fin 256) : YC 2 c = ⟨512 + c.val, by omega⟩ := rfl
theorem YC_three (c : Fin 256) : YC 3 c = ⟨768 + c.val, by omega⟩ := rfl
/-- A column's head. -/
def HY (n : Fin 1024) : Fin 4 := ⟨n.val / 256, by have := n.isLt; omega⟩
/-- A column's lane in its head. -/
def LY (n : Fin 1024) : Fin 256 := ⟨n.val % 256, Nat.mod_lt _ (by decide)⟩

/-- A token's window, the sum of the banded products with its own tile, the one before and the one after. -/
def WS (b0 b1 b2 : Fin 256 → EReal) (hp hn : EReal) (u0 u1 u2 : Fin 256 → EReal) : EReal :=
  ∑ k, b1 k * u1 k + ∑ k, b1 k * (u1 k - u1 k) + hp * (∑ k, b0 k * u0 k + ∑ k, b0 k * (u0 k - u0 k))
    + hn * (∑ k, b2 k * u2 k + ∑ k, b2 k * (u2 k - u2 k))

/-- The half width of each group's window. -/
def HW : Fin 4 → BitVec 32 := ![1#32, 2#32, 4#32, 8#32]

/-- The number of tokens in the window of the half width `h` around the token `t`, cut to the sequence. -/
def CNT (h t : BitVec 32) : EReal :=
  FloatOps.sitofp (F := Ideal) .f32 (IntOp.subi (IntOp.minsi 2048#32 (IntOp.maxsi 0#32 (IntOp.addi t h))) (IntOp.minsi 2048#32 (IntOp.maxsi 0#32 (IntOp.subi t h))))

/-- A group's pooled differences through its weights. -/
def GRP (D : Fin 4 → Fin 128 → EReal) (pw : Fin 4 → Fin 128 → Fin 128 → EReal) (g : Fin 4) (l : Fin 128) : EReal := ∑ c, D g c * pw g c l

/-- The groups side by side, scaled and projected. -/
def POOL (D : Fin 4 → Fin 128 → EReal) (pw : Fin 4 → Fin 128 → Fin 128 → EReal) (ps : Fin 512 → EReal) (po : Fin 512 → Fin 1024 → EReal) (d : Fin 1024) : EReal :=
  ∑ n, GRP D pw (HN n) (LN n) * ps n * po n d

/-- A head's mean. -/
def MU (y : Fin 256 → EReal) : EReal := Ideal.div (∑ l, y l) (Ideal.ofBits .f32 0x43800000#32)
/-- A head's lane under the norm of its mean and variance. -/
def NRM (y : Fin 256 → EReal) (l : Fin 256) : EReal :=
  (y l - MU y) * Ideal.rsqrt (MU (fun k => (y k - MU y) * (y k - MU y)) + Ideal.ofBits .f32 0x358637BD#32)

/-- The normed heads under the gain and the gate, projected. -/
def RET (y rg gz : Fin 1024 → EReal) (ro : Fin 1024 → Fin 1024 → EReal) (d : Fin 1024) : EReal :=
  ∑ n, NRM (fun l => y (YC (HY n) l)) (LY n) * rg n * (gz n * SIG (gz n)) * ro n d

/-- The residual row with the merged branches through the output projection. -/
def XROW (pool ret : Fin 1024 → EReal) (mg : Fin 2048 → EReal) (wo : Fin 1024 → Fin 1024 → EReal) (x g1 : Fin 1024 → EReal) (d : Fin 1024) : EReal :=
  x d + g1 d * ∑ k, (SIG (mg ⟨k.val, by omega⟩) * pool k + SIG (mg ⟨1024 + k.val, by omega⟩) * ret k) * wo k d

/-- Four groups side by side, at a column. -/
theorem cat_groups (G : Fin 4 → Fin 128 → EReal) (n : Fin 512) :
    (if h : n.val < 128 then G 0 ⟨n.val, h⟩ else if h : n.val - 128 < 128 then G 1 ⟨n.val - 128, h⟩
      else if h : n.val - 128 - 128 < 128 then G 2 ⟨n.val - 128 - 128, h⟩ else G 3 ⟨n.val - 128 - 128 - 128, by have := n.isLt; omega⟩)
    = G (HN n) (LN n) := by
  have hn := n.isLt
  split_ifs with h0 h1 h2
  all_goals
    refine congrArg₂ G (Fin.ext ?_) (Fin.ext ?_)
    · simp only [HN, Fin.val_zero, Fin.val_one, Fin.val_two, show ((3 : Fin 4) : Nat) = 3 from rfl]; omega
    · simp only [LN]; omega

/-- Four heads side by side, at a column. -/
theorem cat_heads (G : Fin 4 → Fin 256 → EReal) (n : Fin 1024) :
    (if h : n.val < 256 then G 0 ⟨n.val, h⟩ else if h : n.val - 256 < 256 then G 1 ⟨n.val - 256, h⟩
      else if h : n.val - 256 - 256 < 256 then G 2 ⟨n.val - 256 - 256, h⟩ else G 3 ⟨n.val - 256 - 256 - 256, by have := n.isLt; omega⟩)
    = G (HY n) (LY n) := by
  have hn := n.isLt
  split_ifs with h0 h1 h2
  all_goals
    refine congrArg₂ G (Fin.ext ?_) (Fin.ext ?_)
    · simp only [HY, Fin.val_zero, Fin.val_one, Fin.val_two, show ((3 : Fin 4) : Nat) = 3 from rfl]; omega
    · simp only [LY]; omega

end Cert.Mix

end

end
-- ==== Proof.Mix.Block.lean ====
/-
  What a grid point of the mixing call leaves in its two blocks, at an entry, from its operands' blocks.
-/
module

public import proofs.«01_k».proof.Proof.Mix.Spec
public import proofs.«01_k».proof.Proof.Gen.Kernel3Ideal.Frame
public import Idealize.ShloMosaic.Lib.Pipeline.ValueKit

@[expose] public section

set_option maxRecDepth 16384

noncomputable section

namespace Cert.Kernel3Ideal.Mix

open Cert.Kernel3Ideal Cert.Kernel3Ideal.Gen Cert.Proj Cert.Mix
open Idealize.ShloMosaic Idealize.ShloMosaic.TcCoe

variable (i : grid0.Coords) (x0 x1 x2 : Vec Ideal S1x256x512 .f32) (x3 : Vec Ideal S1x256x1024 .f32) (x4 : Vec Ideal S1x256x1024 .bf16)
  (x5 : Vec Ideal S1x256x2048 .bf16) (x6 : Vec Ideal S1x256x1024 .f32) (x7 x8 x9 : Vec Ideal S1x1x1024 .f32) (x10 : Vec Ideal S4x3x256x256 .bf16)
  (x11 : Vec Ideal S4x128x128 .bf16) (x12 : Vec Ideal S1x512 .f32) (x13 : Vec Ideal S512x1024 .bf16) (x14 : Vec Ideal S1x1024 .f32)
  (x15 x16 : Vec Ideal S1024x1024 .bf16) (x17 : Vec Ideal S1x1024 .f32)

/-- Whether a tile comes before. -/
def HP : EReal := FloatOps.sitofp (F := Ideal) .f32 (Scalar.extui (Scalar.cmpi .sgt (BitVec.ofNat 32 (i 1).val) 0#32) : BitVec 32)
/-- Whether a tile comes after. -/
def HX : EReal := FloatOps.sitofp (F := Ideal) .f32 (Scalar.extui (Scalar.cmpi .slt (BitVec.ofNat 32 (i 1).val) 7#32) : BitVec 32)
/-- A row's token. -/
def TW (r : Fin 256) : BitVec 32 := IntOp.addi (Scalar.muli (BitVec.ofNat 32 (i 1).val) 256#32) (BitVec.ofNat 32 r.val)

/-- A row's pooled difference in a group's lane. -/
def DB (r : Fin 256) (g : Fin 4) (c : Fin 128) : EReal :=
  Ideal.div (WS (fun k => x10 (ix4 g 0 r k)) (fun k => x10 (ix4 g 1 r k)) (fun k => x10 (ix4 g 2 r k)) (HP i) (HX i)
    (fun k => x0 (ix3 0 k (PC g c))) (fun k => x1 (ix3 0 k (PC g c))) (fun k => x2 (ix3 0 k (PC g c)))) (CNT (HW g) (TW i r)) - x1 (ix3 0 r (PC g c))

/-- A row's group through its weights. -/
def GB (r : Fin 256) (g : Fin 4) (l : Fin 128) : EReal := GRP (DB i x0 x1 x2 x10 r) (fun g c l => x11 (ix3 g c l)) g l

theorem group0 (r : Fin 256) (l : Fin 128) : k0_pay7 (k0_pay4 (F := Ideal) i) (k0_pay5 i) (k0_pay6 i (View.ld x1 r0_0) (View.ld x10 r0_1) (View.ld x0 r0_0) (View.ld x10 r0_2)) (View.ld x2 r0_0) (View.ld x10 r0_3) (View.ld x1 r0_0) (View.ld x11 r0_4) (ix2 r l) = GB i x0 x1 x2 x10 x11 r 0 l := by
  pointwise [k0_pay7, k0_pay6, k0_pay5, k0_pay4, k0_pay3]
  simp only [GB, GRP, DB, PC_zero]
  rfl

theorem group1 (r : Fin 256) (l : Fin 128) : k0_pay11 (k0_pay5 i) (k0_pay8 (k0_pay3 (F := Ideal) i) (View.ld x1 r0_5) (View.ld x10 r0_6) (View.ld x0 r0_5) (View.ld x10 r0_7)) (k0_pay9 (View.ld x2 r0_5) (View.ld x10 r0_8)) (k0_pay10 (k0_pay4 (F := Ideal) i)) (View.ld x1 r0_5) (View.ld x11 r0_9) (ix2 r l) = GB i x0 x1 x2 x10 x11 r 1 l := by
  pointwise [k0_pay8, k0_pay9, k0_pay10, k0_pay11, k0_pay5, k0_pay4, k0_pay3]
  simp only [GB, GRP, DB, PC_one, PC_two]
  rfl

theorem group2 (r : Fin 256) (l : Fin 128) : k0_pay17 (k0_pay13 (k0_pay3 (F := Ideal) i) (k0_pay4 (F := Ideal) i) (k0_pay12 (View.ld x1 r0_10) (View.ld x10 r0_11)) (View.ld x0 r0_10) (View.ld x10 r0_12) (View.ld x2 r0_10) (View.ld x10 r0_13)) (k0_pay14 (k0_pay5 i)) (k0_pay15 (k0_pay5 i)) k0_pay16 (View.ld x1 r0_10) (View.ld x11 r0_14) (ix2 r l) = GB i x0 x1 x2 x10 x11 r 2 l := by
  pointwise [k0_pay12, k0_pay13, k0_pay14, k0_pay15, k0_pay16, k0_pay17, k0_pay5, k0_pay4, k0_pay3]
  simp only [GB, GRP, DB, PC_one, PC_two]
  rfl

theorem groups (v5 : Ideal .f32) (h5 : v5 = k0_pay4 (F := Ideal) i) (v9 : IVec S256x128 32) (h9 : v9 = k0_pay5 i) (G0 G1 G2 : FVec Ideal S256x128 .f32)
    (h0 : ∀ r l, G0 (ix2 r l) = GB i x0 x1 x2 x10 x11 r 0 l) (h1 : ∀ r l, G1 (ix2 r l) = GB i x0 x1 x2 x10 x11 r 1 l) (h2 : ∀ r l, G2 (ix2 r l) = GB i x0 x1 x2 x10 x11 r 2 l)
    (r : Fin 256) (n : Fin 512) :
    k0_pay20 v5 v9 G0 G1 G2 (k0_pay18 (View.ld x1 r0_15) (View.ld x10 r0_16)) (k0_pay19 (k0_pay3 (F := Ideal) i) (View.ld x0 r0_15) (View.ld x10 r0_17)) (View.ld x2 r0_15) (View.ld x10 r0_18) (View.ld x1 r0_15) (View.ld x11 r0_19) (ix2 r n)
      = GB i x0 x1 x2 x10 x11 r (HN n) (LN n) := by
  subst h5 h9
  refine Eq.trans ?_ (cat_groups (GB i x0 x1 x2 x10 x11 r) n)
  pointwise [k0_pay20, k0_pay19, k0_pay18, k0_pay5, k0_pay4, k0_pay3, h0, h1, h2]
  rfl

theorem pool_apply (v : FVec Ideal S256x512 .f32) (G : Fin 512 → EReal) (r : Fin 256) (h : ∀ n, v (ix2 r n) = G n) (d : Fin 1024) :
    k0_pay21 v (View.ld x12 r0_20) (View.ld x13 r0_21) (ix2 r d) = ∑ n, G n * x12 (ix2 0 n) * x13 (ix2 n d) := by
  pointwise [k0_pay21, h]

theorem heads_apply (r : Fin 256) (n : Fin 1024) :
    k0_pay25 (k0_pay22 (View.ld x3 r0_22)) (k0_pay23 (View.ld x3 r0_23)) (k0_pay24 (View.ld x3 r0_23)) (Scalar.ofBits .f32 0x358637BD#32) (View.ld x3 r0_24) (View.ld x3 r0_25) (ix2 r n)
      = NRM (fun l => x3 (ix3 0 r (YC (HY n) l))) (LY n) := by
  refine Eq.trans ?_ (cat_heads (fun g => NRM (fun l => x3 (ix3 0 r (YC g l)))) n)
  pointwise [k0_pay25, k0_pay24, k0_pay23, k0_pay22]
  simp only [YC_zero, YC_one, YC_two, YC_three]
  rfl

/-- A row of the first output's block. -/
def XB (r : Fin 256) : Fin 1024 → EReal :=
  XROW (POOL (DB i x0 x1 x2 x10 r) (fun g c l => x11 (ix3 g c l)) (fun n => x12 (ix2 0 n)) (fun n d => x13 (ix2 n d)))
    (RET (fun n => x3 (ix3 0 r n)) (fun n => x14 (ix2 0 n)) (fun n => x4 (ix3 0 r n)) (fun n d => x15 (ix2 n d)))
    (fun n => x5 (ix3 0 r n)) (fun n d => x16 (ix2 n d)) (fun d => x6 (ix3 0 r d)) (fun d => x7 (ix3 0 0 d))

theorem row_apply (P : FVec Ideal S256x1024 .f32) (Y : FVec Ideal S256x1024 .f32) (pool y : Fin 1024 → EReal) (r : Fin 256) (hP : ∀ d, P (ix2 r d) = pool d) (hY : ∀ n, Y (ix2 r n) = y n) (d : Fin 1024) :
    k0_pay26 P Y (View.ld x14 r0_26) (View.ld x4 r0_27) (View.ld x15 r0_28) (View.ld x5 r0_29) (View.ld x5 r0_30) (View.ld x16 r0_28) (View.ld x6 r0_27) (View.ld x7 r0_31) (ix2 r d)
      = XROW pool (fun d => ∑ n, y n * x14 (ix2 0 n) * (x4 (ix3 0 r n) * SIG (x4 (ix3 0 r n))) * x15 (ix2 n d)) (fun n => x5 (ix3 0 r n)) (fun n d => x16 (ix2 n d)) (fun d => x6 (ix3 0 r d)) (fun d => x7 (ix3 0 0 d)) d := by
  pointwise [k0_pay26, hP, hY]
  rfl

theorem main_apply (r : Fin 256) (d : Fin 1024) : k0_pay28 i x0 x1 x2 x3 x4 x5 x6 x7 x8 x9 x10 x11 x12 x13 x14 x15 x16 x17 (ix2 r d) =
    XB i x0 x1 x2 x3 x4 x5 x6 x7 x10 x11 x12 x13 x14 x15 x16 r d :=
  row_apply x4 x5 x6 x7 x14 x15 x16 _ _ _ _ r
    (fun d => pool_apply x12 x13 _ _ r (fun n => groups i x0 x1 x2 x10 x11 _ rfl _ rfl _ _ _ (group0 i x0 x1 x2 x10 x11) (group1 i x0 x1 x2 x10 x11) (group2 i x0 x1 x2 x10 x11) r n) d)
    (fun n => heads_apply x3 r n) d

theorem out18_apply (r : Fin 256) (d : Fin 1024) : out0_18 i x0 x1 x2 x3 x4 x5 x6 x7 x8 x9 x10 x11 x12 x13 x14 x15 x16 x17 (ix3 0 r d) =
    XB i x0 x1 x2 x3 x4 x5 x6 x7 x10 x11 x12 x13 x14 x15 x16 r d := by
  frame_out
  pointwise [k0_pay1, main_apply]

theorem out19_apply (r : Fin 256) (d : Fin 1024) : out0_19 i x0 x1 x2 x3 x4 x5 x6 x7 x8 x9 x10 x11 x12 x13 x14 x15 x16 x17 (ix3 0 r d) =
    HID (XB i x0 x1 x2 x3 x4 x5 x6 x7 x10 x11 x12 x13 x14 x15 x16 r) (fun d => x17 (ix2 0 d)) (fun d => x8 (ix3 0 0 d)) (fun d => x9 (ix3 0 0 d)) d := by
  frame_out
  pointwise [k0_pay2, main_apply]
  rfl

end Cert.Kernel3Ideal.Mix

end

end
-- ==== Proof.Mix.Pool.lean ====
/-
  The pool's windows: the banded sums over a tile and its two neighbours are the sum of the tokens in the window, and
  so is the difference of two running sums.
-/
module

public import proofs.«01_k».proof.Proof.Mix.Spec

@[expose] public section

noncomputable section

namespace Cert.Mix

open Idealize.ShloMosaic Cert.Proj

/-- The half width of each group's window. -/
def HWN : Fin 4 → ℕ := ![1, 2, 4, 8]

theorem HWN_le (g : Fin 4) : 1 ≤ HWN g ∧ HWN g ≤ 8 := by revert g; decide
theorem HW_eq (g : Fin 4) : HW g = BitVec.ofNat 32 (HWN g) := by revert g; decide

/-- The sum of the tokens in the window of the half width `h` around the token `R`. -/
def WINR (f : Fin 2048 → ℝ) (h R : ℕ) : ℝ := ∑ i : Fin 2048, if R ≤ i.val + h ∧ i.val < R + h then f i else 0

/-- A token's pooled difference in a group's lane. -/
def DIF (f : (⟨3, ![32, 2048, 512]⟩ : Shape).Idx → ℝ) (b : Fin 32) (R : Fin 2048) (g : Fin 4) (c : Fin 128) : EReal :=
  Ideal.div (WINR (fun i => f (ix3 b i (PC g c))) (HWN g) R.val : ℝ) (CNT (HW g) (BitVec.ofNat 32 R.val)) - (f (ix3 b R (PC g c)) : EReal)

/-- Whether a column of the tile before, the tile itself or the tile after lies in a row's window. -/
def BAND (h : ℕ) (a : Fin 3) (r k : Fin 256) : ℝ := if r.val + 256 ≤ k.val + 256 * a.val + h ∧ k.val + 256 * a.val < r.val + h + 256 then 1 else 0

/-- The token of a tile's row. -/
def TK (j : Fin 8) (k : Fin 256) : Fin 2048 := ⟨256 * j.val + k.val, by have := j.isLt; have := k.isLt; omega⟩
/-- The tile before, or the first. -/
def TP (j : Fin 8) : Fin 8 := ⟨j.val - 1, by have := j.isLt; omega⟩
/-- The tile after, or the last. -/
def TN (j : Fin 8) : Fin 8 := ⟨min (j.val + 1) 7, by omega⟩

theorem sum_tiles (F : Fin 2048 → ℝ) : ∑ i, F i = ∑ j : Fin 8, ∑ k : Fin 256, F (TK j k) := by
  rw [← Fintype.sum_prod_type', ← (finProdFinEquiv (m := 8) (n := 256)).sum_comp]
  exact Finset.sum_congr rfl fun x _ => congrArg F (Fin.ext (show x.2.val + 256 * x.1.val = 256 * x.1.val + x.2.val by omega))

/-- A sum over the tiles whose terms vanish away from the tile `j` and its neighbours. -/
theorem sum_near (S : Fin 8 → ℝ) (j : Fin 8) (h : ∀ J : Fin 8, J.val + 1 < j.val ∨ j.val + 1 < J.val → S J = 0) :
    ∑ J, S J = S j + (if 0 < j.val then 1 else 0) * S (TP j) + (if j.val < 7 then 1 else 0) * S (TN j) := by
  rw [Fin.sum_univ_eight]
  have h0 := h 0; have h1 := h 1; have h2 := h 2; have h3 := h 3; have h4 := h 4; have h5 := h 5; have h6 := h 6; have h7 := h 7
  clear h
  fin_cases j <;> simp_all [TP, TN] <;> try ring

/-- A tile's part of a window. -/
def PART (f : Fin 2048 → ℝ) (h R : ℕ) (J : Fin 8) : ℝ := ∑ k, if R ≤ (TK J k).val + h ∧ (TK J k).val < R + h then f (TK J k) else 0

theorem PART_far (f : Fin 2048 → ℝ) (h : ℕ) (hh : h ≤ 8) (j : Fin 8) (r : Fin 256) (J : Fin 8) (hJ : J.val + 1 < j.val ∨ j.val + 1 < J.val) :
    PART f h (TK j r).val J = 0 := by
  refine Finset.sum_eq_zero fun k _ => if_neg ?_
  have := r.isLt; have := k.isLt
  simp only [TK]; omega

theorem PART_band (f : Fin 2048 → ℝ) (h : ℕ) (j : Fin 8) (r : Fin 256) (a : Fin 3) (J : Fin 8) (hJ : j.val + a.val = J.val + 1) :
    ∑ k, BAND h a r k * f (TK J k) = PART f h (TK j r).val J := by
  refine Finset.sum_congr rfl fun k _ => ?_
  unfold BAND
  rw [ite_mul, one_mul, zero_mul]
  refine if_congr ?_ rfl rfl
  simp only [TK]; omega

theorem WINR_bands (f : Fin 2048 → ℝ) (h : ℕ) (hh : h ≤ 8) (j : Fin 8) (r : Fin 256) :
    ∑ k, BAND h 1 r k * f (TK j k) + (if 0 < j.val then 1 else 0) * ∑ k, BAND h 0 r k * f (TK (TP j) k)
      + (if j.val < 7 then 1 else 0) * ∑ k, BAND h 2 r k * f (TK (TN j) k) = WINR f h (TK j r).val := by
  unfold WINR
  rw [sum_tiles]
  refine Eq.trans ?_ (sum_near (PART f h (TK j r).val) j (PART_far f h hh j r)).symm
  rw [PART_band f h j r 1 j rfl]
  have hj := j.isLt
  congr 1
  · congr 1
    by_cases h0 : 0 < j.val
    · rw [PART_band f h j r 0 (TP j) (show j.val + 0 = j.val - 1 + 1 by omega)]
    · simp only [if_neg h0, zero_mul]
  · by_cases h7 : j.val < 7
    · rw [PART_band f h j r 2 (TN j) (show j.val + 2 = min (j.val + 1) 7 + 1 by omega)]
    · simp only [if_neg h7, zero_mul]

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem WS_eq (f : Fin 2048 → ℝ) (h : ℕ) (hh : h ≤ 8) (j : Fin 8) (r : Fin 256) :
    WS (fun k => (BAND h 0 r k : EReal)) (fun k => (BAND h 1 r k : EReal)) (fun k => (BAND h 2 r k : EReal))
      ((if 0 < j.val then 1 else 0 : ℝ) : EReal) ((if j.val < 7 then 1 else 0 : ℝ) : EReal)
      (fun k => (f (TK (TP j) k) : EReal)) (fun k => (f (TK j k) : EReal)) (fun k => (f (TK (TN j) k) : EReal)) = (WINR f h (TK j r).val : ℝ) := by
  rw [← WINR_bands f h hh j r]
  simp only [WS, ← EReal.coe_sub, sub_self, ← EReal.coe_mul, mul_zero, ← coe_sum, ← EReal.coe_add, Finset.sum_const_zero, add_zero]

/-- The running sum before a token. -/
def CS (f : Fin 2048 → ℝ) (t : ℕ) : ℝ := ∑ i : Fin 2048, if i.val < t then f i else 0

theorem CS_sub (f : Fin 2048 → ℝ) (h : ℕ) (R : ℕ) : CS f (min (R + h) 2048) - CS f (R - h) = WINR f h R := by
  unfold CS WINR
  rw [← Finset.sum_sub_distrib]
  refine Finset.sum_congr rfl fun i _ => ?_
  have := i.isLt
  by_cases h1 : i.val < R - h
  · rw [if_pos h1, if_pos (by omega), if_neg (by omega), sub_self]
  · rw [if_neg h1, sub_zero]
    exact if_congr (by omega) rfl rfl

end Cert.Mix

end

end
-- ==== Proof.Mix.Value.lean ====
/-
  The mixing call's two arrays after the last grid point, at an entry.
-/
module

public import proofs.«01_k».proof.Proof.Mix.Block
public import proofs.«01_k».proof.Proof.Mix.Pool

@[expose] public section

set_option maxRecDepth 16384

noncomputable section

namespace Cert.Kernel3Ideal.Mix

open Cert.Kernel3Ideal Cert.Kernel3Ideal.Gen Cert.Proj Cert.Mix
open Idealize.ShloMosaic Idealize.ShloMosaic.TcCoe

variable (m : (ℓ : Loc nD τ sig) → Buf (Elt Ideal) ℓ) (c : Dev nD)

/-! ## The host's copies and the bands -/

theorem V_g1 (b : Fin 32) (d : Fin 1024) : V m c main_v1 (ix3 b 0 d) = m ((c : Thread nD τ).loc main_arg5) (ix2 b d) := by
  have h : V m c main_v1 = shapeCast S32x1x1024 (m ((c : Thread nD τ).loc main_arg5)) shapeCasts_S32x1024_S32x1x1024 := by
    unfold V; after_results; rfl
  rw [h]; pointwise
theorem V_sh (b : Fin 32) (d : Fin 1024) : V m c main_v2 (ix3 b 0 d) = m ((c : Thread nD τ).loc main_arg6) (ix2 b d) := by
  have h : V m c main_v2 = shapeCast S32x1x1024 (m ((c : Thread nD τ).loc main_arg6)) shapeCasts_S32x1024_S32x1x1024 := by
    unfold V; after_results; rfl
  rw [h]; pointwise
theorem V_sc (b : Fin 32) (d : Fin 1024) : V m c main_v3 (ix3 b 0 d) = m ((c : Thread nD τ).loc main_arg7) (ix2 b d) := by
  have h : V m c main_v3 = shapeCast S32x1x1024 (m ((c : Thread nD τ).loc main_arg7)) shapeCasts_S32x1024_S32x1x1024 := by
    unfold V; after_results; rfl
  rw [h]; pointwise
theorem V_ps (n : Fin 512) : V m c main_v31 (ix2 0 n) = m ((c : Thread nD τ).loc main_arg9) (ix1 n) := by
  have h : V m c main_v31 = shapeCast S1x512 (m ((c : Thread nD τ).loc main_arg9)) shapeCasts_S512_S1x512 := by
    unfold V; after_results; rfl
  rw [h]; pointwise
theorem V_rg (d : Fin 1024) : V m c main_v32 (ix2 0 d) = m ((c : Thread nD τ).loc main_arg11) (ix1 d) := by
  have h : V m c main_v32 = shapeCast S1x1024 (m ((c : Thread nD τ).loc main_arg11)) shapeCasts_S1024_S1x1024 := by
    unfold V; after_results; rfl
  rw [h]; pointwise
theorem V_ng (d : Fin 1024) : V m c main_v33 (ix2 0 d) = m ((c : Thread nD τ).loc main_arg14) (ix1 d) := by
  have h : V m c main_v33 = shapeCast S1x1024 (m ((c : Thread nD τ).loc main_arg14)) shapeCasts_S1024_S1x1024 := by
    unfold V; after_results; rfl
  rw [h]; pointwise
theorem V_pw : V m c main_v4 = m ((c : Thread nD τ).loc main_arg8) := by
  unfold V; after_results; rfl
theorem V_po : V m c main_v5 = m ((c : Thread nD τ).loc main_arg10) := by
  unfold V; after_results; rfl
theorem V_ro : V m c main_v6 = m ((c : Thread nD τ).loc main_arg12) := by
  unfold V; after_results; rfl
theorem V_wo : V m c main_v7 = m ((c : Thread nD τ).loc main_arg13) := by
  unfold V; after_results; rfl

/-- The bands the host forms. -/
def BANDS : FVec Ideal S4x3x256x256 .bf16 :=
  truncf .bf16 (uitofp .f32 (andi (cmpi .sge (broadcastInDim S4x3x256x256 ![0, 1, 2, 3] bcast_S1x3x1x256_S4x3x256x256_0_1_2_3 (addi (broadcastInDim S1x3x1x256 ![0, 1, 2, 3] bcast_S1x1x1x256_S1x3x1x256_0_1_2_3 (iotaInDim S1x1x1x256 32 3)) (broadcastInDim S1x3x1x256 ![0, 1, 2, 3] bcast_S1x3x1x1_S1x3x1x256_0_1_2_3 (broadcastInDim S1x3x1x1 ![1] bcast_S3_S1x3x1x1_1 fun i => lit2 (S3.rowMajor i))))) (broadcastInDim S4x3x256x256 ![0, 1, 2, 3] bcast_S4x1x256x1_S4x3x256x256_0_1_2_3 (subi (broadcastInDim S4x1x256x1 ![0, 1, 2, 3] bcast_S1x1x256x1_S4x1x256x1_0_1_2_3 (iotaInDim S1x1x256x1 32 2)) (broadcastInDim S4x1x256x1 ![0, 1, 2, 3] bcast_S4x1x1x1_S4x1x256x1_0_1_2_3 fun i => lit0 (S4x1x1x1.rowMajor i))))) (cmpi .slt (broadcastInDim S4x3x256x256 ![0, 1, 2, 3] bcast_S1x3x1x256_S4x3x256x256_0_1_2_3 (addi (broadcastInDim S1x3x1x256 ![0, 1, 2, 3] bcast_S1x1x1x256_S1x3x1x256_0_1_2_3 (iotaInDim S1x1x1x256 32 3)) (broadcastInDim S1x3x1x256 ![0, 1, 2, 3] bcast_S1x3x1x1_S1x3x1x256_0_1_2_3 (broadcastInDim S1x3x1x1 ![1] bcast_S3_S1x3x1x1_1 fun i => lit2 (S3.rowMajor i))))) (broadcastInDim S4x3x256x256 ![0, 1, 2, 3] bcast_S4x1x256x1_S4x3x256x256_0_1_2_3 (addi (broadcastInDim S4x1x256x1 ![0, 1, 2, 3] bcast_S1x1x256x1_S4x1x256x1_0_1_2_3 (iotaInDim S1x1x256x1 32 2)) (broadcastInDim S4x1x256x1 ![0, 1, 2, 3] bcast_S4x1x1x1_S4x1x256x1_0_1_2_3 fun i => lit1 (S4x1x1x1.rowMajor i))))))) bitsLt_bf16_f32

theorem toInt_small (z : ℤ) (h : -1000000 ≤ z) (h' : z ≤ 1000000) : (BitVec.ofInt 32 z).toInt = z := by
  rw [BitVec.toInt_ofInt]
  exact Int.bmod_eq_of_le (by norm_num; omega) (by norm_num; omega)

theorem lit0_eq (g : Fin 4) : lit0 (S4x1x1x1.rowMajor (ix4 g 0 0 0)) = BitVec.ofInt 32 (HWN g) := by revert g; decide +kernel
theorem lit1_eq (g : Fin 4) : lit1 (S4x1x1x1.rowMajor (ix4 g 0 0 0)) = BitVec.ofInt 32 (HWN g) := by revert g; decide +kernel
theorem lit2_eq (a : Fin 3) : lit2 (S3.rowMajor (ix1 a)) = BitVec.ofInt 32 (256 * (a.val : ℤ) - 256) := by revert a; decide +kernel

/-- The host's two comparisons say whether the column lies in the row's window. -/
theorem band_words (h : ℕ) (hh : h ≤ 8) (a : Fin 3) (r k : Fin 256) :
    (IntOp.andi
        (IntOp.cmpi CmpIPredicate.sge (IntOp.addi (BitVec.ofNat 32 k.val) (BitVec.ofInt 32 (256 * (a.val : ℤ) - 256)))
          (IntOp.subi (BitVec.ofNat 32 r.val) (BitVec.ofInt 32 h)))
        (IntOp.cmpi CmpIPredicate.slt (IntOp.addi (BitVec.ofNat 32 k.val) (BitVec.ofInt 32 (256 * (a.val : ℤ) - 256)))
          (IntOp.addi (BitVec.ofNat 32 r.val) (BitVec.ofInt 32 h)))) = BitVec.ofBool (decide (r.val + 256 ≤ k.val + 256 * a.val + h ∧ k.val + 256 * a.val < r.val + h + 256)) := by
  have hk := k.isLt; have hr := r.isLt; have ha := a.isLt
  have e1 : IntOp.addi (BitVec.ofNat 32 k.val) (BitVec.ofInt 32 (256 * (a.val : ℤ) - 256)) = BitVec.ofInt 32 (k.val + (256 * (a.val : ℤ) - 256)) := by
    rw [BitVec.ofInt_add, BitVec.ofInt_natCast]; rfl
  have e2 : IntOp.addi (BitVec.ofNat 32 r.val) (BitVec.ofInt 32 h) = BitVec.ofInt 32 (r.val + h) := by
    rw [BitVec.ofInt_add, BitVec.ofInt_natCast]; rfl
  have e3 : IntOp.subi (BitVec.ofNat 32 r.val) (BitVec.ofInt 32 h) = BitVec.ofInt 32 (r.val - h) := by
    rw [Int.sub_eq_add_neg, BitVec.ofInt_add, BitVec.ofInt_neg, BitVec.ofInt_natCast, ← BitVec.sub_eq_add_neg]; rfl
  rw [e1, e2, e3]
  show (BitVec.ofBool (BitVec.sle _ _)) &&& (BitVec.ofBool (BitVec.slt _ _)) = _
  rw [BitVec.sle, BitVec.slt, toInt_small _ (by omega) (by omega), toInt_small _ (by omega) (by omega), toInt_small _ (by omega) (by omega),
    BitVec.ofBool_and_ofBool, ← Bool.decide_and]
  exact congrArg BitVec.ofBool (decide_eq_decide.mpr (by omega))

theorem uitofp_bool (p : Prop) [Decidable p] : FloatOps.uitofp (F := Ideal) FTy.f32 (BitVec.ofBool (decide p)) = ((if p then 1 else 0 : ℝ) : EReal) := by
  show (((BitVec.ofBool (decide p)).toNat : ℝ) : EReal) = _
  by_cases h : p <;> simp [h]

theorem V_bands : V m c main_v30 = BANDS := by
  unfold V; after_results; rfl

theorem V_band (g : Fin 4) (a : Fin 3) (r k : Fin 256) : V m c main_v30 (ix4 g a r k) = (BAND (HWN g) a r k : EReal) := by
  rw [V_bands]
  pointwise [BANDS]
  rw [lit0_eq, lit1_eq, lit2_eq, band_words _ (HWN_le g).2, uitofp_bool]
  rfl

/-! ## The windows -/

theorem idx0 : ∀ t : Fin cfg0.N, win0_0.index t = ![(grid0.coords t 0).val, (grid0.coords t 1).val - 1, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, min ((grid0.coords t 1).val + 1) 7, 0] := (by decide +kernel : ∀ t : Fin grid0.N, _)
theorem idx3 : ∀ t : Fin cfg0.N, win0_3.index t = ![(grid0.coords t 0).val, (grid0.coords t 1).val, 0] := (by decide +kernel : ∀ t : Fin grid0.N, _)
theorem idx4 : ∀ t : Fin cfg0.N, win0_4.index t = ![(grid0.coords t 0).val, (grid0.coords t 1).val, 0] := (by decide +kernel : ∀ t : Fin grid0.N, _)
theorem idx5 : ∀ t : Fin cfg0.N, win0_5.index t = ![(grid0.coords t 0).val, (grid0.coords t 1).val, 0] := (by decide +kernel : ∀ t : Fin grid0.N, _)
theorem idx6 : ∀ t : Fin cfg0.N, win0_6.index t = ![(grid0.coords t 0).val, (grid0.coords t 1).val, 0] := (by decide +kernel : ∀ t : Fin grid0.N, _)
theorem idx7 : ∀ t : Fin cfg0.N, win0_7.index t = ![(grid0.coords t 0).val, 0, 0] := (by decide +kernel : ∀ t : Fin grid0.N, _)
theorem idx8 : ∀ t : Fin cfg0.N, win0_8.index t = ![(grid0.coords t 0).val, 0, 0] := (by decide +kernel : ∀ t : Fin grid0.N, _)
theorem idx9 : ∀ t : Fin cfg0.N, win0_9.index t = ![(grid0.coords t 0).val, 0, 0] := (by decide +kernel : ∀ t : Fin grid0.N, _)
theorem idx10 : ∀ t : Fin cfg0.N, win0_10.index t = ![0, 0, 0, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![(grid0.coords t 0).val, (grid0.coords t 1).val, 0] := (by decide +kernel : ∀ t : Fin grid0.N, _)
theorem idx19 : ∀ t : Fin cfg0.N, win0_19.index t = ![(grid0.coords t 0).val, (grid0.coords t 1).val, 0] := (by decide +kernel : ∀ t : Fin grid0.N, _)

/-- A point's example. -/
def EX (t : Fin cfg0.N) : Fin 32 := grid0.coords t 0
/-- A point's tile of tokens. -/
def TI (t : Fin cfg0.N) : Fin 8 := grid0.coords t 1
/-- The token of a block's row. -/
def RW (t : Fin cfg0.N) (r : Fin 256) : Fin 2048 := TK (TI t) r

theorem blk0 (t : Fin cfg0.N) (r : Fin 256) (n : Fin 512) : iblk m c 0 t (ix3 0 r n) = m ((c : Thread nD τ).loc main_arg0) (ix3 (EX t) (TK (TP (TI t)) r) n) := by
  rw [← V_main_arg0 m c]
  blk_simp [iblk]
  refine congrArg (V m c main_arg0) (funext fun a => Fin.ext ?_)
  blk_simp [idx0]
  match a with
  | ⟨0, _⟩ => show (EX t).val * 1 + 0 = (EX t).val; omega
  | ⟨1, _⟩ => show ((TI t).val - 1) * 256 + r.val = 256 * ((TI t).val - 1) + r.val; omega
  | ⟨2, _⟩ => show 0 * 512 + n.val = n.val; omega
theorem blk2 (t : Fin cfg0.N) (r : Fin 256) (n : Fin 512) : iblk m c 2 t (ix3 0 r n) = m ((c : Thread nD τ).loc main_arg0) (ix3 (EX t) (TK (TN (TI t)) r) n) := by
  rw [← V_main_arg0 m c]
  blk_simp [iblk]
  refine congrArg (V m c main_arg0) (funext fun a => Fin.ext ?_)
  blk_simp [idx2]
  match a with
  | ⟨0, _⟩ => show (EX t).val * 1 + 0 = (EX t).val; omega
  | ⟨1, _⟩ => show min ((TI t).val + 1) 7 * 256 + r.val = 256 * min ((TI t).val + 1) 7 + r.val; omega
  | ⟨2, _⟩ => show 0 * 512 + n.val = n.val; omega
theorem blk1 (t : Fin cfg0.N) (r : Fin 256) (n : Fin 512) : iblk m c 1 t (ix3 0 r n) = m ((c : Thread nD τ).loc main_arg0) (ix3 (EX t) (RW t r) n) := by
  rw [← V_main_arg0 m c]
  blk_simp [iblk]
  refine congrArg (V m c main_arg0) (funext fun a => Fin.ext ?_)
  blk_simp [idx1]
  match a with
  | ⟨0, _⟩ => show (EX t).val * 1 + 0 = (EX t).val; omega
  | ⟨1, _⟩ => show (TI t).val * 256 + r.val = 256 * (TI t).val + r.val; omega
  | ⟨2, _⟩ => show 0 * 512 + n.val = n.val; omega
theorem blk3 (t : Fin cfg0.N) (r : Fin 256) (n : Fin 1024) : iblk m c 3 t (ix3 0 r n) = m ((c : Thread nD τ).loc main_arg1) (ix3 (EX t) (RW t r) n) := by
  rw [← V_main_arg1 m c]
  blk_simp [iblk]
  refine congrArg (V m c main_arg1) (funext fun a => Fin.ext ?_)
  blk_simp [idx3]
  match a with
  | ⟨0, _⟩ => show (EX t).val * 1 + 0 = (EX t).val; omega
  | ⟨1, _⟩ => show (TI t).val * 256 + r.val = 256 * (TI t).val + r.val; omega
  | ⟨2, _⟩ => show 0 * 1024 + n.val = n.val; omega
theorem blk4 (t : Fin cfg0.N) (r : Fin 256) (n : Fin 1024) : iblk m c 4 t (ix3 0 r n) = m ((c : Thread nD τ).loc main_arg2) (ix3 (EX t) (RW t r) n) := by
  rw [← V_main_arg2 m c]
  blk_simp [iblk]
  refine congrArg (V m c main_arg2) (funext fun a => Fin.ext ?_)
  blk_simp [idx4]
  match a with
  | ⟨0, _⟩ => show (EX t).val * 1 + 0 = (EX t).val; omega
  | ⟨1, _⟩ => show (TI t).val * 256 + r.val = 256 * (TI t).val + r.val; omega
  | ⟨2, _⟩ => show 0 * 1024 + n.val = n.val; omega
theorem blk5 (t : Fin cfg0.N) (r : Fin 256) (n : Fin 2048) : iblk m c 5 t (ix3 0 r n) = m ((c : Thread nD τ).loc main_arg3) (ix3 (EX t) (RW t r) n) := by
  rw [← V_main_arg3 m c]
  blk_simp [iblk]
  refine congrArg (V m c main_arg3) (funext fun a => Fin.ext ?_)
  blk_simp [idx5]
  match a with
  | ⟨0, _⟩ => show (EX t).val * 1 + 0 = (EX t).val; omega
  | ⟨1, _⟩ => show (TI t).val * 256 + r.val = 256 * (TI t).val + r.val; omega
  | ⟨2, _⟩ => show 0 * 2048 + n.val = n.val; omega
theorem blk6 (t : Fin cfg0.N) (r : Fin 256) (n : Fin 1024) : iblk m c 6 t (ix3 0 r n) = m ((c : Thread nD τ).loc main_arg4) (ix3 (EX t) (RW t r) n) := by
  rw [← V_main_arg4 m c]
  blk_simp [iblk]
  refine congrArg (V m c main_arg4) (funext fun a => Fin.ext ?_)
  blk_simp [idx6]
  match a with
  | ⟨0, _⟩ => show (EX t).val * 1 + 0 = (EX t).val; omega
  | ⟨1, _⟩ => show (TI t).val * 256 + r.val = 256 * (TI t).val + r.val; omega
  | ⟨2, _⟩ => show 0 * 1024 + n.val = n.val; omega
theorem blk7 (t : Fin cfg0.N) (d : Fin 1024) : iblk m c 7 t (ix3 0 0 d) = m ((c : Thread nD τ).loc main_arg5) (ix2 (EX t) d) := by
  rw [← V_g1 m c]
  blk_simp [iblk]
  refine congrArg (V m c main_v1) (funext fun a => Fin.ext ?_)
  blk_simp [idx7]
  match a with
  | ⟨0, _⟩ => show (EX t).val * 1 + 0 = (EX t).val; omega
  | ⟨1, _⟩ => rfl
  | ⟨2, _⟩ => show 0 * 1024 + d.val = d.val; omega
theorem blk8 (t : Fin cfg0.N) (d : Fin 1024) : iblk m c 8 t (ix3 0 0 d) = m ((c : Thread nD τ).loc main_arg6) (ix2 (EX t) d) := by
  rw [← V_sh m c]
  blk_simp [iblk]
  refine congrArg (V m c main_v2) (funext fun a => Fin.ext ?_)
  blk_simp [idx8]
  match a with
  | ⟨0, _⟩ => show (EX t).val * 1 + 0 = (EX t).val; omega
  | ⟨1, _⟩ => rfl
  | ⟨2, _⟩ => show 0 * 1024 + d.val = d.val; omega
theorem blk9 (t : Fin cfg0.N) (d : Fin 1024) : iblk m c 9 t (ix3 0 0 d) = m ((c : Thread nD τ).loc main_arg7) (ix2 (EX t) d) := by
  rw [← V_sc m c]
  blk_simp [iblk]
  refine congrArg (V m c main_v3) (funext fun a => Fin.ext ?_)
  blk_simp [idx9]
  match a with
  | ⟨0, _⟩ => show (EX t).val * 1 + 0 = (EX t).val; omega
  | ⟨1, _⟩ => rfl
  | ⟨2, _⟩ => show 0 * 1024 + d.val = d.val; omega
theorem blk10 (t : Fin cfg0.N) (g : Fin 4) (a : Fin 3) (r k : Fin 256) : iblk m c 10 t (ix4 g a r k) = (BAND (HWN g) a r k : EReal) := by
  rw [← V_band m c]
  blk_simp [iblk]
  refine congrArg (V m c main_v30) (funext fun z => Fin.ext ?_)
  blk_simp [idx10]
  match z with
  | ⟨0, _⟩ => show 0 * 4 + g.val = g.val; omega
  | ⟨1, _⟩ => show 0 * 3 + a.val = a.val; omega
  | ⟨2, _⟩ => show 0 * 256 + r.val = r.val; omega
  | ⟨3, _⟩ => show 0 * 256 + k.val = k.val; omega
theorem blk11 (t : Fin cfg0.N) (g : Fin 4) (k l : Fin 128) : iblk m c 11 t (ix3 g k l) = m ((c : Thread nD τ).loc main_arg8) (ix3 g k l) := by
  rw [← V_pw m c]
  blk_simp [iblk]
  refine congrArg (V m c main_v4) (funext fun a => Fin.ext ?_)
  blk_simp [idx11]
  match a with
  | ⟨0, _⟩ => show 0 * 4 + g.val = g.val; omega
  | ⟨1, _⟩ => show 0 * 128 + k.val = k.val; omega
  | ⟨2, _⟩ => show 0 * 128 + l.val = l.val; omega
theorem blk12 (t : Fin cfg0.N) (n : Fin 512) : iblk m c 12 t (ix2 0 n) = m ((c : Thread nD τ).loc main_arg9) (ix1 n) := by
  rw [← V_ps m c]
  blk_simp [iblk]
  refine congrArg (V m c main_v31) (funext fun a => Fin.ext ?_)
  blk_simp [idx12]
  match a with
  | ⟨0, _⟩ => rfl
  | ⟨1, _⟩ => show 0 * 512 + n.val = n.val; omega
theorem blk14 (t : Fin cfg0.N) (n : Fin 1024) : iblk m c 14 t (ix2 0 n) = m ((c : Thread nD τ).loc main_arg11) (ix1 n) := by
  rw [← V_rg m c]
  blk_simp [iblk]
  refine congrArg (V m c main_v32) (funext fun a => Fin.ext ?_)
  blk_simp [idx14]
  match a with
  | ⟨0, _⟩ => rfl
  | ⟨1, _⟩ => show 0 * 1024 + n.val = n.val; omega
theorem blk17 (t : Fin cfg0.N) (n : Fin 1024) : iblk m c 17 t (ix2 0 n) = m ((c : Thread nD τ).loc main_arg14) (ix1 n) := by
  rw [← V_ng m c]
  blk_simp [iblk]
  refine congrArg (V m c main_v33) (funext fun a => Fin.ext ?_)
  blk_simp [idx17]
  match a with
  | ⟨0, _⟩ => rfl
  | ⟨1, _⟩ => show 0 * 1024 + n.val = n.val; omega
theorem blk13 (t : Fin cfg0.N) (n : Fin 512) (d : Fin 1024) : iblk m c 13 t (ix2 n d) = m ((c : Thread nD τ).loc main_arg10) (ix2 n d) := by
  rw [← V_po m c]
  blk_simp [iblk]
  refine congrArg (V m c main_v5) (funext fun a => Fin.ext ?_)
  blk_simp [idx13]
  match a with
  | ⟨0, _⟩ => show 0 * 512 + n.val = n.val; omega
  | ⟨1, _⟩ => show 0 * 1024 + d.val = d.val; omega
theorem blk15 (t : Fin cfg0.N) (n : Fin 1024) (d : Fin 1024) : iblk m c 15 t (ix2 n d) = m ((c : Thread nD τ).loc main_arg12) (ix2 n d) := by
  rw [← V_ro m c]
  blk_simp [iblk]
  refine congrArg (V m c main_v6) (funext fun a => Fin.ext ?_)
  blk_simp [idx15]
  match a with
  | ⟨0, _⟩ => show 0 * 1024 + n.val = n.val; omega
  | ⟨1, _⟩ => show 0 * 1024 + d.val = d.val; omega
theorem blk16 (t : Fin cfg0.N) (n : Fin 1024) (d : Fin 1024) : iblk m c 16 t (ix2 n d) = m ((c : Thread nD τ).loc main_arg13) (ix2 n d) := by
  rw [← V_wo m c]
  blk_simp [iblk]
  refine congrArg (V m c main_v7) (funext fun a => Fin.ext ?_)
  blk_simp [idx16]
  match a with
  | ⟨0, _⟩ => show 0 * 1024 + n.val = n.val; omega
  | ⟨1, _⟩ => show 0 * 1024 + d.val = d.val; omega

/-! ## The grid point's words -/

theorem HP_eq (i : grid0.Coords) : HP i = ((if 0 < (i 1).val then 1 else 0 : ℝ) : EReal) := by
  have e : ∀ j : Fin 8, (Scalar.extui (Scalar.cmpi .sgt (BitVec.ofNat 32 j.val) 0#32) : BitVec 32).toInt = if 0 < j.val then 1 else 0 := by decide +kernel
  show (((_ : ℤ) : ℝ) : EReal) = _
  rw [e (i 1)]
  split_ifs <;> simp
theorem HX_eq (i : grid0.Coords) : HX i = ((if (i 1).val < 7 then 1 else 0 : ℝ) : EReal) := by
  have e : ∀ j : Fin 8, (Scalar.extui (Scalar.cmpi .slt (BitVec.ofNat 32 j.val) 7#32) : BitVec 32).toInt = if j.val < 7 then 1 else 0 := by decide +kernel
  show (((_ : ℤ) : ℝ) : EReal) = _
  rw [e (i 1)]
  split_ifs <;> simp
theorem TW_eq (i : grid0.Coords) (r : Fin 256) : TW i r = BitVec.ofNat 32 (TK (i 1) r).val := by
  show BitVec.ofNat 32 (i 1).val * BitVec.ofNat 32 256 + BitVec.ofNat 32 r.val = BitVec.ofNat 32 (256 * (i 1).val + r.val)
  rw [← BitVec.ofNat_mul, ← BitVec.ofNat_add, Nat.mul_comm]

/-! ## The arrays -/

variable (f : S32x2048x512.Idx → ℝ) (hf : ∀ i, (m ((c : Thread nD τ).loc main_arg0) : FVec Ideal S32x2048x512 .f32) i = (f i : EReal))

include hf in
theorem dif_blk (t : Fin cfg0.N) (r : Fin 256) : DB (grid0.coords t) (iblk m c 0 t) (iblk m c 1 t) (iblk m c 2 t) (iblk m c 10 t) r = DIF f (EX t) (RW t r) := by
  funext g l
  unfold DB DIF
  simp only [blk0, blk1, blk2, blk10, HP_eq, HX_eq, TW_eq, hf]
  exact congrArg (fun w => Ideal.div w _ - _) (WS_eq (fun i => f (ix3 (EX t) i (PC g l))) (HWN g) (HWN_le g).2 (TI t) r)

/-- A token's row of the first result, from the arrays at the start. -/
def XR (b : Fin 32) (R : Fin 2048) : Fin 1024 → EReal :=
  XROW (POOL (DIF f b R) (fun g k l => m ((c : Thread nD τ).loc main_arg8) (ix3 g k l)) (fun n => m ((c : Thread nD τ).loc main_arg9) (ix1 n)) (fun n d => m ((c : Thread nD τ).loc main_arg10) (ix2 n d)))
    (RET (fun n => m ((c : Thread nD τ).loc main_arg1) (ix3 b R n)) (fun n => m ((c : Thread nD τ).loc main_arg11) (ix1 n)) (fun n => m ((c : Thread nD τ).loc main_arg2) (ix3 b R n)) (fun n d => m ((c : Thread nD τ).loc main_arg12) (ix2 n d)))
    (fun n => m ((c : Thread nD τ).loc main_arg3) (ix3 b R n)) (fun n d => m ((c : Thread nD τ).loc main_arg13) (ix2 n d)) (fun d => m ((c : Thread nD τ).loc main_arg4) (ix3 b R d)) (fun d => m ((c : Thread nD τ).loc main_arg5) (ix2 b d))

include hf in
theorem row_blk (t : Fin cfg0.N) (r : Fin 256) : XB (grid0.coords t) (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 13 t) (iblk m c 14 t) (iblk m c 15 t) (iblk m c 16 t) r
    = XR m c f (EX t) (RW t r) := by
  unfold XB XR
  rw [dif_blk m c f hf]
  simp only [blk3, blk4, blk5, blk6, blk7, blk11, blk12, blk13, blk14, blk15, blk16]

/-- The first result. -/
def G18 : S32x2048x1024.Idx → EReal := fun i => XR m c f (i 0) (i 1) (i 2)
include hf in
theorem final18 : (dats m 0 c).arrAt 18 cfg0.N = G18 m c f := by
  refine (dats m 0 c).arrAt_eq_of_covers 18 _ (by decide +kernel) fun t ht y => ?_
  blk_simp
  rw [after0_18]
  obtain ⟨b, r, d, rfl⟩ : ∃ (b : Fin 1) (r : Fin 256) (d : Fin 1024), y = ix3 b r d := ⟨y 0, y 1, y 2, (ix3_eta y).symm⟩
  obtain rfl : b = 0 := Subsingleton.elim _ _
  refine (out18_apply _ _ _ _ _ _ _ _ _ _ _ _ _ _ _ _ _ _ _ r d).trans ?_
  rw [row_blk m c f hf]
  refine Eq.trans ?_ (congrArg (G18 m c f) (show ix3 (EX t) (RW t r) d = _ from (funext fun a => Fin.ext ?_)))
  · rfl
  · blk_simp [idx18]
    match a with
    | ⟨0, _⟩ => show (EX t).val = (EX t).val * 1 + 0; omega
    | ⟨1, _⟩ => show 256 * (TI t).val + r.val = (TI t).val * 256 + r.val; omega
    | ⟨2, _⟩ => show d.val = 0 * 1024 + d.val; omega

/-- The second result. -/
def G19 : S32x2048x1024.Idx → EReal := fun i => HID (XR m c f (i 0) (i 1)) (fun d => m ((c : Thread nD τ).loc main_arg14) (ix1 d)) (fun d => m ((c : Thread nD τ).loc main_arg6) (ix2 (i 0) d)) (fun d => m ((c : Thread nD τ).loc main_arg7) (ix2 (i 0) d)) (i 2)
include hf in
theorem final19 : (dats m 0 c).arrAt 19 cfg0.N = G19 m c f := by
  refine (dats m 0 c).arrAt_eq_of_covers 19 _ (by decide +kernel) fun t ht y => ?_
  blk_simp
  rw [after0_19]
  obtain ⟨b, r, d, rfl⟩ : ∃ (b : Fin 1) (r : Fin 256) (d : Fin 1024), y = ix3 b r d := ⟨y 0, y 1, y 2, (ix3_eta y).symm⟩
  obtain rfl : b = 0 := Subsingleton.elim _ _
  refine (out19_apply _ _ _ _ _ _ _ _ _ _ _ _ _ _ _ _ _ _ _ r d).trans ?_
  rw [row_blk m c f hf]
  refine Eq.trans ?_ (congrArg (G19 m c f) (show ix3 (EX t) (RW t r) d = _ from (funext fun a => Fin.ext ?_)))
  · simp only [blk8, blk9, blk17]; rfl
  · blk_simp [idx19]
    match a with
    | ⟨0, _⟩ => show (EX t).val = (EX t).val * 1 + 0; omega
    | ⟨1, _⟩ => show 256 * (TI t).val + r.val = (TI t).val * 256 + r.val; omega
    | ⟨2, _⟩ => show d.val = 0 * 1024 + d.val; omega

end Cert.Kernel3Ideal.Mix

end

end
-- ==== Proof.Mix.Window.lean ====
/-
  Reading the reference's running sums, window ends and gathers at an entry.
-/
module

public import proofs.«01_k».proof.Proof.Mix.Pool
public import proofs.«01_k».proof.Proof.Gen.Reference3Ideal

@[expose] public section

noncomputable section

namespace Cert.Mix

open Idealize.ShloMosaic Cert.Reference3Ideal Cert.Reference3Ideal.Gen

/-- Adding a list's terms one after another onto a value is the value plus their sum. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A sum over the positions of a one by `N` by one window is a sum over its middle coordinate. -/
theorem sum_window (N : ℕ) (G : (⟨3, ![1, N, 1]⟩ : Shape).Idx → EReal) :
    ∑ k, G ((⟨3, ![1, N, 1]⟩ : Shape).rowMajor.symm k) = ∑ k : Fin N, G (ix3 (0 : Fin 1) k (0 : Fin 1)) := by
  refine (Fintype.sum_equiv (⟨3, ![1, N, 1]⟩ : Shape).rowMajor.symm _ G fun k => rfl).trans ?_
  refine (Fintype.sum_bijective (fun k : Fin N => (ix3 (0 : Fin 1) k (0 : Fin 1) : (⟨3, ![1, N, 1]⟩ : Shape).Idx))
    ⟨fun k k' e => congrFun e 1, fun p => ⟨p 1, funext fun a => Fin.ext ?_⟩⟩ _ G fun k => rfl).symm
  match a with
  | ⟨0, _⟩ =>
    have h1 : (p 0).val < 1 := (p 0).isLt
    show 0 = (p 0).val
    omega
  | ⟨1, _⟩ => rfl
  | ⟨2, _⟩ =>
    have h1 : (p 2).val < 1 := (p 2).isLt
    show 0 = (p 2).val
    omega

/-- A window's sum, its positions counted from the padding, is the sum up to a token. -/
theorem sum_shift (N M : ℕ) (hM : M + 1 = N) (t : Fin N) (F : Fin N → EReal) :
    ∑ k : Fin N, (if h : M ≤ t.val + k.val then F ⟨t.val + k.val - M, by have := k.isLt; have := t.isLt; omega⟩ else 0)
      = ∑ i : Fin N, if i.val < t.val + 1 then F i else 0 := by
  have ht := t.isLt
  rw [← Finset.sum_filter, ← Finset.sum_subset (Finset.subset_univ (Finset.univ.filter (fun k : Fin N => M ≤ t.val + k.val)))
    fun k _ hk => dif_neg fun hc => hk (Finset.mem_filter.2 ⟨Finset.mem_univ _, hc⟩)]
  refine Finset.sum_bij' (fun k hk => ⟨t.val + k.val - M, by have := k.isLt; omega⟩)
    (fun i hi => ⟨i.val + M - t.val, by have := (Finset.mem_filter.1 hi).2; omega⟩) (fun k hk => ?_) (fun i hi => ?_) (fun k hk => ?_) (fun i hi => ?_)
    (fun k hk => ?_)
  · have := k.isLt
    exact Finset.mem_filter.2 ⟨Finset.mem_univ _, by show t.val + k.val - M < t.val + 1; omega⟩
  · exact Finset.mem_filter.2 ⟨Finset.mem_univ _, by show M ≤ t.val + (i.val + M - t.val); omega⟩
  · have := (Finset.mem_filter.1 hk).2
    exact Fin.ext (by show t.val + k.val - M + M - t.val = k.val; omega)
  · have := (Finset.mem_filter.1 hi).2
    exact Fin.ext (by show t.val + (i.val + M - t.val) - M = i.val; omega)
  · exact dif_pos (Finset.mem_filter.1 hk).2

/-- A running sum along the tokens, as it is printed: a window as long as the axis, padded below by one less. -/
theorem cumsum_apply {B N M C : ℕ} (hM : M + 1 = N) (x : (⟨3, ![B, N, C]⟩ : Shape).Idx → EReal) (init : (⟨0, ![]⟩ : Shape).Idx → EReal)
    (h : (⟨3, ![B, N, C]⟩ : Shape).ReduceWindows (![1, N, 1] : Fin 3 → Nat) ![1, 1, 1] ![0, M, 0] ![0, 0, 0] ⟨3, ![B, N, C]⟩)
    (hu : 0 < (⟨0, ![]⟩ : Shape).numel) (hi : init (Shape.Idx.first hu) = 0) (b : Fin B) (t : Fin N) (n : Fin C) :
    Host.reduceWindow (fun p q : EReal => p + q) ![1, N, 1] ![1, 1, 1] ![0, M, 0] ![0, 0, 0] x init h hu (ix3 b t n)
      = ∑ i : Fin N, if i.val < t.val + 1 then x (ix3 b i n) else 0 := by
  have ht := t.isLt
  have hb := b.isLt
  have hn := n.isLt
  refine Eq.trans ?_ (sum_shift N M hM t fun i => x (ix3 b i n))
  refine Eq.trans ?_ (sum_window N fun p => if h : M ≤ t.val + (p 1).val then
    x (ix3 b ⟨t.val + (p 1).val - M, by have h1 : (p 1).val < N := (p 1).isLt; omega⟩ n) else 0)
  unfold Host.reduceWindow
  dsimp only
  rw [hi, foldl_add, zero_add, ← Fin.sum_univ_def]
  refine Finset.sum_congr rfl fun k _ => ?_
  have p0 : ((⟨3, ![1, N, 1]⟩ : Shape).rowMajor.symm k 0).val < 1 := ((⟨3, ![1, N, 1]⟩ : Shape).rowMajor.symm k 0).isLt
  have p1 : ((⟨3, ![1, N, 1]⟩ : Shape).rowMajor.symm k 1).val < N := ((⟨3, ![1, N, 1]⟩ : Shape).rowMajor.symm k 1).isLt
  have p2 : ((⟨3, ![1, N, 1]⟩ : Shape).rowMajor.symm k 2).val < 1 := ((⟨3, ![1, N, 1]⟩ : Shape).rowMajor.symm k 2).isLt
  by_cases hc : M ≤ t.val + ((⟨3, ![1, N, 1]⟩ : Shape).rowMajor.symm k 1).val
  · rw [dif_pos hc, dif_pos fun a => by
      match a with
      | ⟨0, _⟩ =>
        show 0 ≤ b.val * 1 + ((⟨3, ![1, N, 1]⟩ : Shape).rowMajor.symm k 0).val ∧ b.val * 1 + ((⟨3, ![1, N, 1]⟩ : Shape).rowMajor.symm k 0).val - 0 < B
        omega
      | ⟨1, _⟩ =>
        show M ≤ t.val * 1 + ((⟨3, ![1, N, 1]⟩ : Shape).rowMajor.symm k 1).val ∧ t.val * 1 + ((⟨3, ![1, N, 1]⟩ : Shape).rowMajor.symm k 1).val - M < N
        omega
      | ⟨2, _⟩ =>
        show 0 ≤ n.val * 1 + ((⟨3, ![1, N, 1]⟩ : Shape).rowMajor.symm k 2).val ∧ n.val * 1 + ((⟨3, ![1, N, 1]⟩ : Shape).rowMajor.symm k 2).val - 0 < C
        omega]
    refine congrArg x (funext fun a => Fin.ext ?_)
    match a with
    | ⟨0, _⟩ =>
      show b.val * 1 + ((⟨3, ![1, N, 1]⟩ : Shape).rowMajor.symm k 0).val - 0 = b.val
      omega
    | ⟨1, _⟩ =>
      show t.val * 1 + ((⟨3, ![1, N, 1]⟩ : Shape).rowMajor.symm k 1).val - M = t.val + ((⟨3, ![1, N, 1]⟩ : Shape).rowMajor.symm k 1).val - M
      omega
    | ⟨2, _⟩ =>
      show n.val * 1 + ((⟨3, ![1, N, 1]⟩ : Shape).rowMajor.symm k 2).val - 0 = n.val
      omega
  · rw [dif_neg hc, dif_neg fun hin => hc (by
      have h1 := (hin 1).1
      change M ≤ t.val * 1 + ((⟨3, ![1, N, 1]⟩ : Shape).rowMajor.symm k 1).val at h1
      omega)]
/-- The same of the host's operation. -/
theorem cumsumAdd_apply {B N M C : ℕ} (hM : M + 1 = N) (x : FVec Ideal (⟨3, ![B, N, C]⟩ : Shape) .f32) (init : FVec Ideal (⟨0, ![]⟩ : Shape) .f32)
    (h : (⟨3, ![B, N, C]⟩ : Shape).ReduceWindows (![1, N, 1] : Fin 3 → Nat) ![1, 1, 1] ![0, M, 0] ![0, 0, 0] ⟨3, ![B, N, C]⟩)
    (hu : 0 < (⟨0, ![]⟩ : Shape).numel) (hi : init (Shape.Idx.first hu) = 0) (b : Fin B) (t : Fin N) (n : Fin C) :
    Host.reduceWindowAdd (F := Ideal) ![1, N, 1] ![1, 1, 1] ![0, M, 0] ![0, 0, 0] x init h hu (ix3 b t n)
      = ∑ i : Fin N, if i.val < t.val + 1 then x (ix3 b i n) else 0 :=
  cumsum_apply hM x (fun _ => init (Shape.Idx.first hu)) h (by decide) hi b t n

/-- A sum of the tokens below one, of coerced reals. -/
theorem sum_CS (f : Fin 2048 → ℝ) (x : Fin 2048 → EReal) (hx : ∀ i, x i = (f i : EReal)) (t : ℕ) :
    (∑ i : Fin 2048, if i.val < t then x i else 0) = (CS f t : EReal) := by
  rw [CS, coe_sum]
  refine Finset.sum_congr rfl fun i _ => ?_
  split_ifs
  · exact hx i
  · rfl

theorem CS_zero (f : Fin 2048 → ℝ) : CS f 0 = 0 := Finset.sum_eq_zero fun i _ => if_neg (Nat.not_lt_zero _)

/-- The gather of a token and a band of columns, read at an index. -/
theorem take_apply (x : S32x2049x512.Idx → EReal) (idx : IVec S2048x2 32) (b : Fin 32) (R : Fin 2048) (l : Fin 128)
    (t : Fin 2049) (o : ℕ) (ho : o ≤ 384) (h0 : (idx (ix2 R 0)).toInt.toNat = t.val) (h1 : (idx (ix2 R 1)).toInt.toNat = o) :
    Host.gather gather_S32x2049x512_S2048x2_S32x2048x128_02_1_n_n_12_1_321128 x idx (ix3 b R l)
      = x (ix3 b t ⟨o + l.val, by omega⟩) := by
  unfold Host.gather
  refine congrArg x (funext fun a => Fin.ext ?_)
  have s0 : ∀ h, GatherDims.siIdx gather_S32x2049x512_S2048x2_S32x2048x128_02_1_n_n_12_1_321128 (ix3 b R l) ⟨0, h⟩ = ix2 R 0 := fun h => by
    funext a
    match a with
    | ⟨0, _⟩ => rfl
    | ⟨1, _⟩ => rfl
  have s1 : ∀ h, GatherDims.siIdx gather_S32x2049x512_S2048x2_S32x2048x128_02_1_n_n_12_1_321128 (ix3 b R l) ⟨1, h⟩ = ix2 R 1 := fun h => by
    funext a
    match a with
    | ⟨0, _⟩ => rfl
    | ⟨1, _⟩ => rfl
  have ht := t.isLt
  match a with
  | ⟨0, _⟩ =>
    show 0 + 0 + b.val = b.val
    omega
  | ⟨1, _⟩ =>
    refine (congrArg (fun z => min (idx z).toInt.toNat 2048 + 0 + 0) (s0 (by decide))).trans ?_
    show min (idx (ix2 R 0)).toInt.toNat 2048 + 0 + 0 = t.val
    rw [h0]
    omega
  | ⟨2, _⟩ =>
    refine (congrArg (fun z => min (idx z).toInt.toNat 384 + 0 + l.val) (s1 (by decide))).trans ?_
    show min (idx (ix2 R 1)).toInt.toNat 384 + 0 + l.val = o + l.val
    rw [h1]
    omega

/-- The word where a window starts. -/
def LOW (h t : BitVec 32) : BitVec 32 := IntOp.minsi 2048#32 (IntOp.maxsi 0#32 (IntOp.subi t h))
/-- The word where it ends, as the reference counts it. -/
def HIW (k h t : BitVec 32) : BitVec 32 := IntOp.minsi 2048#32 (IntOp.maxsi 0#32 (IntOp.subi (IntOp.addi t k) h))
/-- Twice the half width. -/
def KW : Fin 4 → BitVec 32 := ![2, 4, 8, 16]

theorem LOW_eq : ∀ (g : Fin 4) (R : Fin 2048), LOW (HW g) (BitVec.ofNat 32 R.val) = BitVec.ofNat 32 (R.val - HWN g) := by decide +kernel
theorem HIW_eq : ∀ (g : Fin 4) (R : Fin 2048), HIW (KW g) (HW g) (BitVec.ofNat 32 R.val) = BitVec.ofNat 32 (min (R.val + HWN g) 2048) := by decide +kernel
theorem HIW_one : ∀ (g : Fin 4) (R : Fin 2048), HIW (KW g) (HW g) (BitVec.ofNat 32 R.val)
    = IntOp.minsi 2048#32 (IntOp.maxsi 0#32 (IntOp.addi (BitVec.ofNat 32 R.val) (HW g))) := by decide +kernel

/-- A window end's tokens and columns, as the gather takes them. -/
def IDX (w : IVec S2048 32) (o : BitVec 32) : IVec S2048x2 32 :=
  concatenate S2048x2 1 [⟨S2048x1, (broadcastInDim S2048x1 ![0] bcast_S2048_S2048x1_0 (select (cmpi .slt w (broadcastInDim S2048 ![] bcast_S_S2048 (constantI S_ 32 0#32))) (addi w (broadcastInDim S2048 ![] bcast_S_S2048 (constantI S_ 32 2049#32))) w))⟩, ⟨S2048x1, (broadcastInDim S2048x1 ![] bcast_S_S2048x1 (constantI S_ 32 o))⟩] concatenates_S2048x1_S2048x1_S2048x2_d1

theorem wrap_nat : ∀ t : Fin 2049, (Scalar.select (IntOp.cmpi .slt (BitVec.ofNat 32 t.val) 0#32) (IntOp.addi (BitVec.ofNat 32 t.val) 2049#32) (BitVec.ofNat 32 t.val)).toInt.toNat = t.val := by
  decide +kernel

theorem IDX_zero (w : IVec S2048 32) (o : BitVec 32) (R : Fin 2048) (t : Fin 2049) (h : w (ix1 R) = BitVec.ofNat 32 t.val) :
    (IDX w o (ix2 R 0)).toInt.toNat = t.val := by
  pointwise [IDX]
  rw [h]
  exact wrap_nat t

theorem IDX_one (w : IVec S2048 32) (o : BitVec 32) (R : Fin 2048) : IDX w o (ix2 R 1) = o := by
  pointwise [IDX]

end Cert.Mix
-- ==== Proof.Mix.RefValue.lean ====
/-
  The reference's mixed tokens, at an entry.
-/
module

public import proofs.«01_k».proof.Proof.Mix.Window
public import proofs.«01_k».proof.Proof.Gen.Reference3Ideal.Run

@[expose] public section

set_option maxRecDepth 16384

noncomputable section

namespace Cert.Reference3Ideal.Mix

open Cert.Reference3Ideal Cert.Reference3Ideal.Gen Cert.Reference3Ideal.Value Cert.Proj Cert.Mix
open Idealize.ShloMosaic Idealize.ShloMosaic.TcCoe Idealize.ShloMosaic.StableHlo

section
variable (V0 : Valuation τ sig (Elt Ideal)) (f : S32x2048x512.Idx → ℝ)
  (hf : ∀ i, (V0 (Proc.devRef .tc main_arg0) : FVec Ideal S32x2048x512 .f32) i = (f i : EReal))

theorem h2048 : 2047 + 1 = 2048 := rfl
theorem hz : (broadcastInDim S_ ![] bcast_S_S_ (constant (F := Ideal) S_ FTy.f32 0#32)) (Shape.Idx.first h_S_) = 0 := Ideal.ofBits_zero_f32

include hf in
/-- The running sums. -/
theorem v1_apply (b : Fin 32) (t : Fin 2049) (n : Fin 512) :
    (res_main_v1 V0 : FVec Ideal S32x2049x512 .f32) (ix3 b t n) = (CS (fun i => f (ix3 b i n)) t.val : EReal) := by
  pointwise [res_main_v1]
  by_cases h : 1 ≤ t.val
  · have ht := t.isLt
    rw [dif_pos ⟨h, by omega⟩]
    rw [cumsumAdd_apply (hM := h2048) (hi := hz)]
    rw [sum_CS (fun i => f (ix3 b i n)) _ (fun i => hf _), Nat.sub_add_cancel h]
  · rw [dif_neg fun e => h e.1, show t.val = 0 by omega, CS_zero]
    pointwise
    show (((0#32 : BitVec 32).toInt : ℝ) : EReal) = ((0 : ℝ) : EReal)
    simp

/-- A group's pooled difference, of the words of its window's ends. -/
def refG (s : FVec Ideal S32x2049x512 .f32) (a : FVec Ideal S32x2048x128 .f32) (lo hi : IVec S2048 32) (o : BitVec 32) : FVec Ideal S32x2048x128 .f32 :=
  subf (Host.divf (subf (Host.gather gather_S32x2049x512_S2048x2_S32x2048x128_02_1_n_n_12_1_321128 s (IDX hi o)) (Host.gather gather_S32x2049x512_S2048x2_S32x2048x128_02_1_n_n_12_1_321128 s (IDX lo o))) (broadcastInDim S32x2048x128 ![0, 1, 2] bcast_S1x2048x1_S32x2048x128_0_1_2 (broadcastInDim S1x2048x1 ![1] bcast_S2048_S1x2048x1_1 (sitofp .f32 (subi hi lo))))) a

theorem off_nat : ∀ g : Fin 4, (BitVec.ofNat 32 (128 * g.val)).toInt.toNat = 128 * g.val := by decide

theorem refG_apply (s : FVec Ideal S32x2049x512 .f32) (a : FVec Ideal S32x2048x128 .f32) (lo hi : IVec S2048 32) (g : Fin 4) (b : Fin 32) (R : Fin 2048) (c : Fin 128)
    (hs : ∀ (t : Fin 2049) (n : Fin 512), s (ix3 b t n) = (CS (fun i => f (ix3 b i n)) t.val : EReal))
    (ha : a (ix3 b R c) = (f (ix3 b R (PC g c)) : EReal))
    (hlo : lo (ix1 R) = LOW (HW g) (BitVec.ofNat 32 R.val)) (hhi : hi (ix1 R) = HIW (KW g) (HW g) (BitVec.ofNat 32 R.val)) :
    refG s a lo hi (BitVec.ofNat 32 (128 * g.val)) (ix3 b R c) = DIF f b R g c := by
  have hg := g.isLt
  have ho : (BitVec.ofNat 32 (128 * g.val)).toInt.toNat = 128 * g.val := off_nat g
  have tl := take_apply s (IDX lo (BitVec.ofNat 32 (128 * g.val))) b R c ⟨R.val - HWN g, by omega⟩ (128 * g.val) (by omega)
    (IDX_zero _ _ _ _ (hlo.trans (LOW_eq g R))) ((congrArg (fun w : BitVec 32 => w.toInt.toNat) (IDX_one lo _ R)).trans ho)
  have th := take_apply s (IDX hi (BitVec.ofNat 32 (128 * g.val))) b R c ⟨min (R.val + HWN g) 2048, by omega⟩ (128 * g.val) (by omega)
    (IDX_zero _ _ _ _ (hhi.trans (HIW_eq g R))) ((congrArg (fun w : BitVec 32 => w.toInt.toNat) (IDX_one hi _ R)).trans ho)
  pointwise [refG]
  rw [tl, th, hs, hs, ha, hlo, hhi, HIW_one, ← EReal.coe_sub]
  exact congrArg (fun z : ℝ => Ideal.div (z : EReal) (CNT (HW g) (BitVec.ofNat 32 R.val)) - (f (ix3 b R (PC g c)) : EReal))
    (CS_sub (fun i => f (ix3 b i (PC g c))) (HWN g) R.val)

include hf in
/-- The pooled differences by group. -/
theorem v143_apply (b : Fin 32) (R : Fin 2048) (g : Fin 4) (c : Fin 128) :
    (res_main_v143 V0 : FVec Ideal S32x2048x4x128 .f32) (ix4 b R g c) = DIF f b R g c := by
  have h : (res_main_v143 V0 : FVec Ideal S32x2048x4x128 .f32) = concatenate S32x2048x4x128 2 [
      ⟨S32x2048x1x128, (broadcastInDim S32x2048x1x128 ![0, 1, 3] bcast_S32x2048x128_S32x2048x1x128_0_1_3 (refG (res_main_v1 V0) (extractStridedSlice S32x2048x128 ![0, 0, 0] (V0 (Proc.devRef .tc main_arg0)) slices_S32x2048x512_S32x2048x128_0_0_0) (res_main_v5 V0) (res_main_v10 V0) 0#32))⟩,
      ⟨S32x2048x1x128, (broadcastInDim S32x2048x1x128 ![0, 1, 3] bcast_S32x2048x128_S32x2048x1x128_0_1_3 (refG (res_main_v1 V0) (extractStridedSlice S32x2048x128 ![0, 0, 128] (V0 (Proc.devRef .tc main_arg0)) slices_S32x2048x512_S32x2048x128_0_0_128) (res_main_v39 V0) (res_main_v44 V0) 128#32))⟩,
      ⟨S32x2048x1x128, (broadcastInDim S32x2048x1x128 ![0, 1, 3] bcast_S32x2048x128_S32x2048x1x128_0_1_3 (refG (res_main_v1 V0) (extractStridedSlice S32x2048x128 ![0, 0, 256] (V0 (Proc.devRef .tc main_arg0)) slices_S32x2048x512_S32x2048x128_0_0_256) (res_main_v73 V0) (res_main_v78 V0) 256#32))⟩,
      ⟨S32x2048x1x128, (broadcastInDim S32x2048x1x128 ![0, 1, 3] bcast_S32x2048x128_S32x2048x1x128_0_1_3 (refG (res_main_v1 V0) (extractStridedSlice S32x2048x128 ![0, 0, 384] (V0 (Proc.devRef .tc main_arg0)) slices_S32x2048x512_S32x2048x128_0_0_384) (res_main_v107 V0) (res_main_v112 V0) 384#32))⟩]
      concatenates_S32x2048x1x128_S32x2048x1x128_S32x2048x1x128_S32x2048x1x128_S32x2048x4x128_d2 := rfl
  rw [h]
  have hs := v1_apply V0 f hf b
  have h0 := refG_apply f (res_main_v1 V0) (extractStridedSlice S32x2048x128 ![0, 0, 0] (V0 (Proc.devRef .tc main_arg0)) slices_S32x2048x512_S32x2048x128_0_0_0) (res_main_v5 V0) (res_main_v10 V0) 0 b R c hs
    (by pointwise; rw [hf, PC_zero]) (by pointwise [res_main_v5, res_main_v2]; rfl) (by pointwise [res_main_v10, res_main_v2]; rfl)
  have h1 := refG_apply f (res_main_v1 V0) (extractStridedSlice S32x2048x128 ![0, 0, 128] (V0 (Proc.devRef .tc main_arg0)) slices_S32x2048x512_S32x2048x128_0_0_128) (res_main_v39 V0) (res_main_v44 V0) 1 b R c hs
    (by pointwise; rw [hf]; rfl) (by pointwise [res_main_v39, res_main_v2]; rfl) (by pointwise [res_main_v44, res_main_v2]; rfl)
  have h2 := refG_apply f (res_main_v1 V0) (extractStridedSlice S32x2048x128 ![0, 0, 256] (V0 (Proc.devRef .tc main_arg0)) slices_S32x2048x512_S32x2048x128_0_0_256) (res_main_v73 V0) (res_main_v78 V0) 2 b R c hs
    (by pointwise; rw [hf]; rfl) (by pointwise [res_main_v73, res_main_v2]; rfl) (by pointwise [res_main_v78, res_main_v2]; rfl)
  have h3 := refG_apply f (res_main_v1 V0) (extractStridedSlice S32x2048x128 ![0, 0, 384] (V0 (Proc.devRef .tc main_arg0)) slices_S32x2048x512_S32x2048x128_0_0_384) (res_main_v107 V0) (res_main_v112 V0) 3 b R c hs
    (by pointwise; rw [hf]; rfl) (by pointwise [res_main_v107, res_main_v2]; rfl) (by pointwise [res_main_v112, res_main_v2]; rfl)
  match g with
  | 0 => pointwise; exact h0
  | 1 => pointwise; exact h1
  | 2 => pointwise; exact h2
  | 3 => pointwise; exact h3

end

section
variable (a1 a4 : FVec Ideal S32x2048x1024 .f32) (a2 : FVec Ideal S32x2048x1024 .bf16) (a3 : FVec Ideal S32x2048x2048 .bf16) (a5 a6 a7 : FVec Ideal S32x1024 .f32)
  (a8 : FVec Ideal S4x128x128 .f32) (a9 : FVec Ideal S512 .f32) (a10 : FVec Ideal S512x1024 .f32) (a11 a14 : FVec Ideal S1024 .f32)
  (a12 a13 : FVec Ideal S1024x1024 .f32) (D : FVec Ideal S32x2048x4x128 .f32)

/-- The pool's branch. -/
def refPOOL : FVec Ideal S32x2048x1024 .f32 :=
  Host.dotGeneral dot_S32x2048x512_S512x1024_S32x2048x1024_2_0_01_1_n_n none (mulf (shapeCast _ (transpose S32x2048x4x128 [2, 3, 0, 1] (Host.dotGeneral dot_S4x128x128_S32x2048x4x128_S4x128x32x2048_1_3_2_01_0_2 none a8 D) transposes_S4x128x32x2048_S32x2048x4x128_2_3_0_1) shapeCasts_S32x2048x4x128_S32x2048x512) (broadcastInDim S32x2048x512 ![0, 1, 2] bcast_S1x1x512_S32x2048x512_0_1_2 (broadcastInDim S1x1x512 ![2] bcast_S512_S1x1x512_2 a9))) a10

theorem refPOOL_apply (b : Fin 32) (R : Fin 2048) (d : Fin 1024) : refPOOL a8 a9 a10 D (ix3 b R d) =
    POOL (fun g c => D (ix4 b R g c)) (fun g k l => a8 (ix3 g k l)) (fun n => a9 (ix1 n)) (fun n d => a10 (ix2 n d)) d := by
  pointwise [refPOOL]
  refine Finset.sum_congr rfl fun n _ => ?_
  refine congrArg (fun z : EReal => z * a9 (ix1 n) * a10 (ix2 n d)) (Finset.sum_congr rfl fun c _ => ?_)
  exact mul_comm _ _

/-- The heads of the retention's rows. -/
def refY : FVec Ideal S32x4x2048x256 .f32 :=
  transpose S32x4x2048x256 [0, 2, 1, 3] (shapeCast _ a1 shapeCasts_S32x2048x1024_S32x2048x4x256) transposes_S32x2048x4x256_S32x4x2048x256_0_2_1_3

/-- Their means. -/
def refM : FVec Ideal S32x4x2048x1 .f32 :=
  Host.divf (broadcastInDim S32x4x2048x1 ![0, 1, 2] bcast_S32x4x2048_S32x4x2048x1_0_1_2 (Host.reduceAdd (refY a1) (constant S_ .f32 0x00000000#32) reducesTo_S32x4x2048x256_S32x4x2048_d3 h_S_)) (broadcastInDim S32x4x2048x1 ![] bcast_S_S32x4x2048x1 (constant S_ .f32 0x43800000#32))

/-- The rows less their means. -/
def refC : FVec Ideal S32x4x2048x256 .f32 :=
  subf (refY a1) (broadcastInDim S32x4x2048x256 ![0, 1, 2, 3] bcast_S32x4x2048x1_S32x4x2048x256_0_1_2_3 (refM a1))

/-- The rows normalised by head. -/
def refN : FVec Ideal S32x4x2048x256 .f32 :=
  mulf (refC a1) (broadcastInDim S32x4x2048x256 ![0, 1, 2, 3] bcast_S32x4x2048x1_S32x4x2048x256_0_1_2_3 (Host.rsqrt (addf (Host.divf (broadcastInDim S32x4x2048x1 ![0, 1, 2] bcast_S32x4x2048_S32x4x2048x1_0_1_2 (Host.reduceAdd (mulf (refC a1) (refC a1)) (constant S_ .f32 0x00000000#32) reducesTo_S32x4x2048x256_S32x4x2048_d3 h_S_)) (broadcastInDim S32x4x2048x1 ![] bcast_S_S32x4x2048x1 (constant S_ .f32 0x43800000#32))) (broadcastInDim S32x4x2048x1 ![] bcast_S_S32x4x2048x1 (constant S_ .f32 0x358637BD#32)))))

theorem refY_apply (b : Fin 32) (h : Fin 4) (R : Fin 2048) (l : Fin 256) : refY a1 (ix4 b h R l) = a1 (ix3 b R (YC h l)) := by
  pointwise [refY]
  exact congrArg (fun z => a1 (ix3 b R z)) (Fin.ext (show h.val * 256 + l.val = 256 * h.val + l.val by omega))

theorem refM_apply (b : Fin 32) (h : Fin 4) (R : Fin 2048) : refM a1 (ix4 b h R 0) = MU (fun l => a1 (ix3 b R (YC h l))) := by
  pointwise [refM, refY_apply]
  rfl

theorem refC_apply (b : Fin 32) (h : Fin 4) (R : Fin 2048) (l : Fin 256) : refC a1 (ix4 b h R l) = a1 (ix3 b R (YC h l)) - MU (fun l => a1 (ix3 b R (YC h l))) := by
  pointwise [refC, refY_apply, refM_apply]
  try rfl

theorem refN_apply (b : Fin 32) (h : Fin 4) (R : Fin 2048) (l : Fin 256) : refN a1 (ix4 b h R l) = NRM (fun l => a1 (ix3 b R (YC h l))) l := by
  pointwise [refN, refC_apply]
  rfl

/-- The retention's branch. -/
def refRET : FVec Ideal S32x2048x1024 .f32 :=
  Host.dotGeneral dot_S32x2048x1024_S1024x1024_S32x2048x1024_2_0_01_1_n_n none (mulf (mulf (shapeCast _ (transpose S32x2048x4x256 [0, 2, 1, 3] (refN a1) transposes_S32x4x2048x256_S32x2048x4x256_0_2_1_3) shapeCasts_S32x2048x4x256_S32x2048x1024) (broadcastInDim S32x2048x1024 ![0, 1, 2] bcast_S1x1x1024_S32x2048x1024_0_1_2 (broadcastInDim S1x1x1024 ![2] bcast_S1024_S1x1x1024_2 a11))) (mulf (extf .f32 a2 bitsLt_bf16_f32) (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extf .f32 a2 bitsLt_bf16_f32))))))) a12

theorem refRET_apply (b : Fin 32) (R : Fin 2048) (d : Fin 1024) : refRET a1 a2 a11 a12 (ix3 b R d) =
    RET (fun n => a1 (ix3 b R n)) (fun n => a11 (ix1 n)) (fun n => a2 (ix3 b R n)) (fun n d => a12 (ix2 n d)) d := by
  pointwise [refRET, refN_apply]
  rfl

/-- The tokens mixed. -/
def refX (P T : FVec Ideal S32x2048x1024 .f32) : FVec Ideal S32x2048x1024 .f32 :=
  addf a4 (mulf (broadcastInDim S32x2048x1024 ![0, 1, 2] bcast_S32x1x1024_S32x2048x1024_0_1_2 (broadcastInDim S32x1x1024 ![0, 2] bcast_S32x1024_S32x1x1024_0_2 a5)) (Host.dotGeneral dot_S32x2048x1024_S1024x1024_S32x2048x1024_2_0_01_1_n_n none (addf (mulf (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 0] (extf .f32 a3 bitsLt_bf16_f32) slices_S32x2048x2048_S32x2048x1024_0_0_0))))) P) (mulf (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 1024] (extf .f32 a3 bitsLt_bf16_f32) slices_S32x2048x2048_S32x2048x1024_0_0_1024))))) T)) a13))

theorem refX_apply (P T : FVec Ideal S32x2048x1024 .f32) (b : Fin 32) (R : Fin 2048) (d : Fin 1024) : refX a4 a3 a5 a13 P T (ix3 b R d) =
    XROW (fun k => P (ix3 b R k)) (fun k => T (ix3 b R k)) (fun n => a3 (ix3 b R n)) (fun n d => a13 (ix2 n d)) (fun d => a4 (ix3 b R d)) (fun d => a5 (ix2 b d)) d := by
  pointwise [refX]
  rfl

/-- The tokens normalised and modulated for the next layer. -/
def refH (X : FVec Ideal S32x2048x1024 .f32) : FVec Ideal S32x2048x1024 .f32 :=
  addf (mulf (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a14))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 a7)))) (broadcastInDim S32x2048x1024 ![0, 1, 2] bcast_S32x1x1024_S32x2048x1024_0_1_2 (broadcastInDim S32x1x1024 ![0, 2] bcast_S32x1024_S32x1x1024_0_2 a6))

theorem refH_apply (X : FVec Ideal S32x2048x1024 .f32) (b : Fin 32) (R : Fin 2048) (d : Fin 1024) : refH a6 a7 a14 X (ix3 b R d) =
    HID (fun d => X (ix3 b R d)) (fun d => a14 (ix1 d)) (fun d => a6 (ix2 b d)) (fun d => a7 (ix2 b d)) d := by
  pointwise [refH]
  rfl

end

theorem v202_eq (V0 : Valuation τ sig (Elt Ideal)) : (res_main_v202 V0 : FVec Ideal S32x2048x1024 .f32) =
    refX (V0 (Proc.devRef .tc main_arg4)) (V0 (Proc.devRef .tc main_arg3)) (V0 (Proc.devRef .tc main_arg5)) (V0 (Proc.devRef .tc main_arg13))
      (refPOOL (V0 (Proc.devRef .tc main_arg8)) (V0 (Proc.devRef .tc main_arg9)) (V0 (Proc.devRef .tc main_arg10)) (res_main_v143 V0))
      (refRET (V0 (Proc.devRef .tc main_arg1)) (V0 (Proc.devRef .tc main_arg2)) (V0 (Proc.devRef .tc main_arg11)) (V0 (Proc.devRef .tc main_arg12))) := rfl

/-- The mixed tokens at an entry, of the arguments. -/
theorem x_apply (V0 : Valuation τ sig (Elt Ideal)) (f : S32x2048x512.Idx → ℝ)
    (hf : ∀ i, (V0 (Proc.devRef .tc main_arg0) : FVec Ideal S32x2048x512 .f32) i = (f i : EReal)) (b : Fin 32) (R : Fin 2048) (d : Fin 1024) :
    (res_main_v202 V0 : FVec Ideal S32x2048x1024 .f32) (ix3 b R d) =
      XROW (POOL (DIF f b R) (fun g k l => (V0 (Proc.devRef .tc main_arg8) : FVec Ideal S4x128x128 .f32) (ix3 g k l))
          (fun n => (V0 (Proc.devRef .tc main_arg9) : FVec Ideal S512 .f32) (ix1 n)) (fun n d => (V0 (Proc.devRef .tc main_arg10) : FVec Ideal S512x1024 .f32) (ix2 n d)))
        (RET (fun n => (V0 (Proc.devRef .tc main_arg1) : FVec Ideal S32x2048x1024 .f32) (ix3 b R n)) (fun n => (V0 (Proc.devRef .tc main_arg11) : FVec Ideal S1024 .f32) (ix1 n))
          (fun n => (V0 (Proc.devRef .tc main_arg2) : FVec Ideal S32x2048x1024 .bf16) (ix3 b R n)) (fun n d => (V0 (Proc.devRef .tc main_arg12) : FVec Ideal S1024x1024 .f32) (ix2 n d)))
        (fun n => (V0 (Proc.devRef .tc main_arg3) : FVec Ideal S32x2048x2048 .bf16) (ix3 b R n)) (fun n d => (V0 (Proc.devRef .tc main_arg13) : FVec Ideal S1024x1024 .f32) (ix2 n d))
        (fun d => (V0 (Proc.devRef .tc main_arg4) : FVec Ideal S32x2048x1024 .f32) (ix3 b R d)) (fun d => (V0 (Proc.devRef .tc main_arg5) : FVec Ideal S32x1024 .f32) (ix2 b d)) d := by
  rw [v202_eq, refX_apply]
  simp only [refPOOL_apply, refRET_apply]
  rw [show (fun (g : Fin 4) (c : Fin 128) => (res_main_v143 V0 : FVec Ideal S32x2048x4x128 .f32) (ix4 b R g c)) = DIF f b R from
    funext fun g => funext fun c => v143_apply V0 f hf b R g c]

end Cert.Reference3Ideal.Mix
-- ==== Proof.Mix.Final.lean ====
/-
  The claims of the mixing: the reference's frame, and the equality of the kernel's and the reference's results over
  the extended reals where every pool input is finite.
-/
module

public import proofs.«01_k».proof.Defs
public import proofs.«01_k».proof.Proof.Mix.Value
public import proofs.«01_k».proof.Proof.Mix.RefValue
public import proofs.«01_k».proof.Proof.Gen.Pre_finite_pool
public import Idealize.ShloMosaic.Lib.Claim
public import Idealize.ShloMosaic.Lib.Quiescent

@[expose] public section

set_option maxRecDepth 16384

noncomputable section

namespace Cert.Reference3Ideal.Mix

open Cert.Reference3Ideal Cert.Reference3Ideal.Gen Cert.Reference3Ideal.Value Cert.Mix Cert.Proj
open Idealize.ShloMosaic Idealize.ShloMosaic.TcCoe Idealize.ShloMosaic.StableHlo

section
variable (m : (ℓ : Loc Cert.Kernel3Ideal.nD Cert.Kernel3Ideal.τ Cert.Kernel3Ideal.sig) → Buf (Elt Ideal) ℓ) (c : Dev Cert.Kernel3Ideal.nD)
  (V0 : Valuation τ sig (Elt Ideal)) (f : S32x2048x512.Idx → ℝ)
  (hf : ∀ i, (m ((c.tc : Thread Cert.Kernel3Ideal.nD Cert.Kernel3Ideal.τ).loc Cert.Kernel3Ideal.main_arg0) : FVec Ideal S32x2048x512 .f32) i = (f i : EReal))
  (h0 : V0 (Proc.devRef .tc Cert.Reference3Ideal.main_arg0) = m ((c.tc : Thread Cert.Kernel3Ideal.nD Cert.Kernel3Ideal.τ).loc Cert.Kernel3Ideal.main_arg0))
  (h1 : V0 (Proc.devRef .tc Cert.Reference3Ideal.main_arg1) = m ((c.tc : Thread Cert.Kernel3Ideal.nD Cert.Kernel3Ideal.τ).loc Cert.Kernel3Ideal.main_arg1))
  (h2 : V0 (Proc.devRef .tc Cert.Reference3Ideal.main_arg2) = m ((c.tc : Thread Cert.Kernel3Ideal.nD Cert.Kernel3Ideal.τ).loc Cert.Kernel3Ideal.main_arg2))
  (h3 : V0 (Proc.devRef .tc Cert.Reference3Ideal.main_arg3) = m ((c.tc : Thread Cert.Kernel3Ideal.nD Cert.Kernel3Ideal.τ).loc Cert.Kernel3Ideal.main_arg3))
  (h4 : V0 (Proc.devRef .tc Cert.Reference3Ideal.main_arg4) = m ((c.tc : Thread Cert.Kernel3Ideal.nD Cert.Kernel3Ideal.τ).loc Cert.Kernel3Ideal.main_arg4))
  (h5 : V0 (Proc.devRef .tc Cert.Reference3Ideal.main_arg5) = m ((c.tc : Thread Cert.Kernel3Ideal.nD Cert.Kernel3Ideal.τ).loc Cert.Kernel3Ideal.main_arg5))
  (h6 : V0 (Proc.devRef .tc Cert.Reference3Ideal.main_arg6) = m ((c.tc : Thread Cert.Kernel3Ideal.nD Cert.Kernel3Ideal.τ).loc Cert.Kernel3Ideal.main_arg6))
  (h7 : V0 (Proc.devRef .tc Cert.Reference3Ideal.main_arg7) = m ((c.tc : Thread Cert.Kernel3Ideal.nD Cert.Kernel3Ideal.τ).loc Cert.Kernel3Ideal.main_arg7))
  (h8 : V0 (Proc.devRef .tc Cert.Reference3Ideal.main_arg8) = m ((c.tc : Thread Cert.Kernel3Ideal.nD Cert.Kernel3Ideal.τ).loc Cert.Kernel3Ideal.main_arg8))
  (h9 : V0 (Proc.devRef .tc Cert.Reference3Ideal.main_arg9) = m ((c.tc : Thread Cert.Kernel3Ideal.nD Cert.Kernel3Ideal.τ).loc Cert.Kernel3Ideal.main_arg9))
  (h10 : V0 (Proc.devRef .tc Cert.Reference3Ideal.main_arg10) = m ((c.tc : Thread Cert.Kernel3Ideal.nD Cert.Kernel3Ideal.τ).loc Cert.Kernel3Ideal.main_arg10))
  (h11 : V0 (Proc.devRef .tc Cert.Reference3Ideal.main_arg11) = m ((c.tc : Thread Cert.Kernel3Ideal.nD Cert.Kernel3Ideal.τ).loc Cert.Kernel3Ideal.main_arg11))
  (h12 : V0 (Proc.devRef .tc Cert.Reference3Ideal.main_arg12) = m ((c.tc : Thread Cert.Kernel3Ideal.nD Cert.Kernel3Ideal.τ).loc Cert.Kernel3Ideal.main_arg12))
  (h13 : V0 (Proc.devRef .tc Cert.Reference3Ideal.main_arg13) = m ((c.tc : Thread Cert.Kernel3Ideal.nD Cert.Kernel3Ideal.τ).loc Cert.Kernel3Ideal.main_arg13))
  (h14 : V0 (Proc.devRef .tc Cert.Reference3Ideal.main_arg14) = m ((c.tc : Thread Cert.Kernel3Ideal.nD Cert.Kernel3Ideal.τ).loc Cert.Kernel3Ideal.main_arg14))
include hf h0 h1 h2 h3 h4 h5 h6 h7 h8 h9 h10 h11 h12 h13 h14

/-- The mixed tokens are the kernel's. -/
theorem arr0 : (res_main_v202 V0 : FVec Ideal S32x2048x1024 .f32) = Cert.Kernel3Ideal.Mix.G18 m c f := by
  funext i
  obtain ⟨b, R, d, rfl⟩ : ∃ (b : Fin 32) (R : Fin 2048) (d : Fin 1024), i = ix3 b R d := ⟨i 0, i 1, i 2, (ix3_eta i).symm⟩
  refine (x_apply V0 f (fun i => (congrFun h0 i).trans (hf i)) b R d).trans ?_
  rw [h1, h2, h3, h4, h5, h8, h9, h10, h11, h12, h13]
  rfl

/-- The normed tokens are the kernel's. -/
theorem arr1 : refH (V0 (Proc.devRef .tc main_arg6)) (V0 (Proc.devRef .tc main_arg7)) (V0 (Proc.devRef .tc main_arg14)) (res_main_v202 V0) = Cert.Kernel3Ideal.Mix.G19 m c f := by
  rw [arr0 m c V0 f hf h0 h1 h2 h3 h4 h5 h6 h7 h8 h9 h10 h11 h12 h13 h14, h6, h7, h14]
  funext i
  obtain ⟨b, R, d, rfl⟩ : ∃ (b : Fin 32) (R : Fin 2048) (d : Fin 1024), i = ix3 b R d := ⟨i 0, i 1, i 2, (ix3_eta i).symm⟩
  exact refH_apply _ _ _ _ b R d

end

end Cert.Reference3Ideal.Mix

namespace Cert.Mix

open Idealize.ShloMosaic Idealize.ShloMosaic.TcCoe

/-- What the precondition says of an array: its entries are reals. -/
theorem finite (x : FVec Ideal (⟨3, ![32, 2048, 512]⟩ : Shape) .f32) (h : ∀ i, Ideal.cmp .olt (max (x i) (-x i)) (Ideal.ofBits .f32 0x7F800000#32) = 1#1) :
    ∀ i, x i = ((x i).toReal : EReal) := by
  intro i
  have ht : Ideal.ofBits .f32 0x7F800000#32 = ⊤ := by simp [Ideal.ofBits, Ideal.ieee]
  have hl : max (x i) (-x i) < ⊤ := by
    have h' := h i
    rw [ht] at h'
    by_contra hn
    exact absurd ((congrArg BitVec.ofBool (decide_eq_false hn)).symm.trans h') (by decide)
  have h1 : x i ≠ ⊤ := ((le_max_left _ _).trans_lt hl).ne
  have h2 : x i ≠ ⊥ := fun e => ((le_max_right _ _).trans_lt hl).ne (by rw [e]; rfl)
  exact (EReal.coe_toReal h1 h2).symm

/-! ## The claims -/

theorem frame_kernelIdeal_pre : letI := Cert.Kernel3Ideal.Gen.facts; Cert.quiescent_Kernel3Ideal_pre_finite_pool := fun m g _ => Cert.Kernel3Ideal.Gen.frame m g

theorem frame_referenceIdeal : letI := Cert.Reference3Ideal.Gen.facts; Cert.quiescent_Reference3Ideal := fun m g _ =>
  letI := Cert.Reference3Ideal.Gen.facts
  (θ_run Cert.Reference3Ideal.defs _ _).mono
    (fun r h => ⟨fun c => (h c).2.2, sem_eq_zero_of_no_sems (by decide) r.2⟩) (Cert.Reference3Ideal.Value.run (F := Ideal) m g)

theorem frame_referenceIdeal_pre : letI := Cert.Reference3Ideal.Gen.facts; Cert.quiescent_Reference3Ideal_pre_finite_pool := fun m g _ =>
  frame_referenceIdeal m g trivial

open Cert.Kernel3Ideal.Mix Cert.Reference3Ideal.Mix in
theorem algebraic_mix : letI := Cert.Kernel3Ideal.Gen.facts; letI := Cert.Reference3Ideal.Gen.facts; letI := Cert.Pre_finite_pool.Gen.facts
    Cert.algebraic_Kernel3Ideal_Reference3Ideal_pre_finite_pool :=
  letI := Cert.Kernel3Ideal.Gen.facts
  letI := Cert.Reference3Ideal.Gen.facts
  letI := Cert.Pre_finite_pool.Gen.facts
  fun m g m' g' hp ha =>
    have hf := fun c : Dev Cert.Kernel3Ideal.nD => finite (m ((c.tc : Thread Cert.Kernel3Ideal.nD Cert.Kernel3Ideal.τ).loc Cert.Kernel3Ideal.main_arg0)) fun i => congrFun (hp c) i
    ⟨fun c => G18 m c fun i => ((m ((c.tc : Thread Cert.Kernel3Ideal.nD Cert.Kernel3Ideal.τ).loc Cert.Kernel3Ideal.main_arg0) : FVec Ideal (⟨3, ![32, 2048, 512]⟩ : Shape) .f32) i).toReal,
      fun c => G19 m c fun i => ((m ((c.tc : Thread Cert.Kernel3Ideal.nD Cert.Kernel3Ideal.τ).loc Cert.Kernel3Ideal.main_arg0) : FVec Ideal (⟨3, ![32, 2048, 512]⟩ : Shape) .f32) i).toReal,
    (θ_run Cert.Kernel3Ideal.defs _ _).mono
      (fun r h c => ⟨((h.1 c).1 18).trans (final18 m c _ (hf c)), ((h.1 c).1 19).trans (final19 m c _ (hf c)), h.2 c⟩)
      (θ_run_and (Cert.Kernel3Ideal.Gen.run_main (F := Ideal) m g) (Cert.Kernel3Ideal.Gen.unchanged (F := Ideal) m g)),
    (θ_run Cert.Reference3Ideal.defs _ _).mono
      (fun r h c => by
        obtain ⟨h0, h1, h2, h3, h4, h5, h6, h7, h8, h9, h10, h11, h12, h13, h14⟩ := ha c
        obtain ⟨r0, r1, hr⟩ := h c
        exact ⟨r0.trans (arr0 m c _ _ (hf c) h0 h1 h2 h3 h4 h5 h6 h7 h8 h9 h10 h11 h12 h13 h14), r1.trans (arr1 m c _ _ (hf c) h0 h1 h2 h3 h4 h5 h6 h7 h8 h9 h10 h11 h12 h13 h14), hr⟩)
      (Cert.Reference3Ideal.Value.run (F := Ideal) m' g')⟩

end Cert.Mix

end

end
-- ==== Proof.Ctx.Spec.lean ====
/-
  The context call at an entry: a context row's keys and values, and the state of one head, each over the extended reals.
-/
module

public import proofs.«01_k».proof.Proof.Proj.Spec

@[expose] public section

noncomputable section

namespace Cert.Ctx

open Idealize.ShloMosaic Cert.Proj

/-- A column of a context row's keys and values. -/
def KV (x g sh sc : Fin 1024 → EReal) (w : Fin 1024 → Fin 1536 → EReal) (n : Fin 1536) : EReal := ∑ k, HID x g sh sc k * w k n

/-- A key column of a head. -/
def KC (h : Fin 4) (d : Fin 128) : Fin 1536 := ⟨128 * h.val + d.val, by have := h.isLt; have := d.isLt; omega⟩
/-- A value column of a head. -/
def VC (h : Fin 4) (e : Fin 256) : Fin 1536 := ⟨512 + 256 * h.val + e.val, by have := h.isLt; have := e.isLt; omega⟩

theorem KC_zero (d : Fin 128) : KC 0 d = ⟨d.val, by have := d.isLt; omega⟩ := Fin.ext (show 128 * 0 + d.val = d.val by omega)

/-- A head's state: its keys, each weighted by its row's weight, against its values. -/
def STATE (kv : Fin 256 → Fin 1536 → EReal) (wt : Fin 256 → EReal) (h : Fin 4) (d : Fin 128) (e : Fin 256) : EReal :=
  ∑ r, kv r (KC h d) * Ideal.ofBits .f32 0x3DB504F3#32 * wt r * kv r (VC h e)

/-- A row's number. -/
def NUM (r : Fin 256) : EReal := ((BitVec.ofNat 32 r.val).toInt : ℝ)

/-- A row's weight in the forward state: the decay to the power of the rows after it. -/
def WF (L : EReal) (r : Fin 256) : EReal := Ideal.exp (L * (Ideal.ofBits .f32 0x437F0000#32 - NUM r))
/-- A row's weight in the backward state: the decay to the power of the rows before it. -/
def WB (L : EReal) (r : Fin 256) : EReal := Ideal.exp (L * NUM r)

end Cert.Ctx

end

end
-- ==== Proof.Ctx.Block.lean ====
/-
  What a grid point of the context call leaves in its two blocks, at an entry, from its operands' blocks.
-/
module

public import proofs.«01_k».proof.Proof.Ctx.Spec
public import proofs.«01_k».proof.Proof.Gen.Kernel4Ideal.Frame
public import Idealize.ShloMosaic.Lib.Pipeline.ValueKit

@[expose] public section

set_option maxRecDepth 16384

noncomputable section

namespace Cert.Kernel4Ideal.Ctx

open Cert.Kernel4Ideal Cert.Kernel4Ideal.Gen Cert.Proj Cert.Ctx
open Idealize.ShloMosaic Idealize.ShloMosaic.TcCoe

variable (x0 : Vec Ideal S2x4 .f32) (x1 : Vec Ideal S1x256x1024 .f32) (x2 x3 x4 : Vec Ideal S1x1024 .f32) (x5 : Vec Ideal S1024x1536 .bf16)

/-- A block's row of keys and values. -/
def ROW (r : Fin 256) (n : Fin 1536) : EReal :=
  KV (fun d => x1 (ix3 0 r d)) (fun d => x2 (ix2 0 d)) (fun d => x3 (ix2 0 d)) (fun d => x4 (ix2 0 d)) (fun k n => x5 (ix2 k n)) n

theorem kv_apply (r : Fin 256) (n : Fin 1536) : k0_pay6 x1 x2 x3 x4 x5 (ix2 r n) = ROW x1 x2 x3 x4 x5 r n := by
  pointwise [k0_pay6]
  rfl

theorem num_apply (r : Fin 256) (d : Fin 128) : k0_pay7 (F := Ideal) (ix2 r d) = NUM r := by
  pointwise [k0_pay7]

  rfl

/-- The forward tiles, the last stored first. -/
def tilesF : Vec Ideal S1x4x128x256 .f32 := View.canon (Val := Elt Ideal)
  [⟨Rect.unit (s := S1x4x128x256) ![0, 3, 0, 0] S1x1x128x256.size inb_S1x4x128x256_S1x1x128x256_0_3_0_0, k0_pay4 (k0_pay6 x1 x2 x3 x4 x5) (k0_pay7 (F := Ideal)) (x0 (ix2 0 3))⟩,
   ⟨Rect.unit (s := S1x4x128x256) ![0, 2, 0, 0] S1x1x128x256.size inb_S1x4x128x256_S1x1x128x256_0_2_0_0, k0_pay21 (k0_pay6 x1 x2 x3 x4 x5) (k0_pay7 (F := Ideal)) (x0 (ix2 0 2))⟩,
   ⟨Rect.unit (s := S1x4x128x256) ![0, 1, 0, 0] S1x1x128x256.size inb_S1x4x128x256_S1x1x128x256_0_1_0_0, k0_pay17 (k0_pay16 (k0_pay6 x1 x2 x3 x4 x5) (k0_pay7 (F := Ideal)) (x0 (ix2 0 1)))⟩,
   ⟨Rect.unit (s := S1x4x128x256) ![0, 0, 0, 0] S1x1x128x256.size inb_S1x4x128x256_S1x1x128x256_0_0_0_0, k0_pay11 (k0_pay7 (F := Ideal)) (k0_pay8 x1 x2 x3 x4 x5) (k0_pay9 x1 x2 x3 x4 x5) (x0 (ix2 0 0)) (k0_pay10 (F := Ideal))⟩]

/-- The backward tiles, the last stored first. -/
def tilesB : Vec Ideal S1x4x128x256 .f32 := View.canon (Val := Elt Ideal)
  [⟨Rect.unit (s := S1x4x128x256) ![0, 3, 0, 0] S1x1x128x256.size inb_S1x4x128x256_S1x1x128x256_0_3_0_0, k0_pay5 (k0_pay6 x1 x2 x3 x4 x5) (k0_pay7 (F := Ideal)) (x0 (ix2 1 3))⟩,
   ⟨Rect.unit (s := S1x4x128x256) ![0, 2, 0, 0] S1x1x128x256.size inb_S1x4x128x256_S1x1x128x256_0_2_0_0, k0_pay1 (k0_pay22 (k0_pay6 x1 x2 x3 x4 x5) (k0_pay7 (F := Ideal)) (x0 (ix2 1 2)))⟩,
   ⟨Rect.unit (s := S1x4x128x256) ![0, 1, 0, 0] S1x1x128x256.size inb_S1x4x128x256_S1x1x128x256_0_1_0_0, k0_pay18 (k0_pay13 (k0_pay6 x1 x2 x3 x4 x5)) (k0_pay14 (k0_pay6 x1 x2 x3 x4 x5)) (k0_pay15 (k0_pay7 (F := Ideal)) (x0 (ix2 1 1)))⟩,
   ⟨Rect.unit (s := S1x4x128x256) ![0, 0, 0, 0] S1x1x128x256.size inb_S1x4x128x256_S1x1x128x256_0_0_0_0, k0_pay12 (k0_pay7 (F := Ideal)) (k0_pay8 x1 x2 x3 x4 x5) (k0_pay9 x1 x2 x3 x4 x5) (x0 (ix2 1 0))⟩]

theorem tilesF_apply (h : Fin 4) (d : Fin 128) (e : Fin 256) : tilesF x0 x1 x2 x3 x4 x5 (ix4 0 h d e) = STATE (ROW x1 x2 x3 x4 x5) (WF (x0 (ix2 0 h))) h d e := by
  unfold tilesF
  canon_tiles y q
  all_goals
    idx_vars y
    obtain rfl : d = y2 := Fin.ext q2
    obtain rfl : e = y3 := Fin.ext q3
  · obtain rfl : h = 3 := Fin.ext (by show h.val = 3; omega)
    pointwise [k0_pay4, k0_pay2, k0_pay3, kv_apply, num_apply]
    rfl
  · obtain rfl : h = 2 := Fin.ext (by show h.val = 2; omega)
    pointwise [k0_pay21, k0_pay19, k0_pay20, kv_apply, num_apply]
    rfl
  · obtain rfl : h = 1 := Fin.ext (by show h.val = 1; omega)
    pointwise [k0_pay17, k0_pay16, k0_pay13, k0_pay14, kv_apply, num_apply]
    rfl
  · obtain rfl : h = 0 := Fin.ext (by show h.val = 0; omega)
    pointwise [k0_pay11, k0_pay8, k0_pay9, k0_pay10, kv_apply, num_apply]
    simp only [STATE, KC_zero]
    rfl

theorem tilesB_apply (h : Fin 4) (d : Fin 128) (e : Fin 256) : tilesB x0 x1 x2 x3 x4 x5 (ix4 0 h d e) = STATE (ROW x1 x2 x3 x4 x5) (WB (x0 (ix2 1 h))) h d e := by
  unfold tilesB
  canon_tiles y q
  all_goals
    idx_vars y
    obtain rfl : d = y2 := Fin.ext q2
    obtain rfl : e = y3 := Fin.ext q3
  · obtain rfl : h = 3 := Fin.ext (by show h.val = 3; omega)
    pointwise [k0_pay5, k0_pay2, k0_pay3, kv_apply, num_apply]
    rfl
  · obtain rfl : h = 2 := Fin.ext (by show h.val = 2; omega)
    pointwise [k0_pay1, k0_pay22, k0_pay19, k0_pay20, kv_apply, num_apply]
    rfl
  · obtain rfl : h = 1 := Fin.ext (by show h.val = 1; omega)
    pointwise [k0_pay18, k0_pay13, k0_pay14, k0_pay15, kv_apply, num_apply]
    rfl
  · obtain rfl : h = 0 := Fin.ext (by show h.val = 0; omega)
    pointwise [k0_pay12, k0_pay8, k0_pay9, kv_apply, num_apply]
    simp only [STATE, KC_zero]
    rfl

theorem hz2 : (![0, 0] : Fin 2 → Nat) = fun _ => 0 := funext fun a => by fin_cases a <;> rfl
theorem hz3 : (![0, 0, 0] : Fin 3 → Nat) = fun _ => 0 := funext fun a => by fin_cases a <;> rfl

/-- One word of the decays. -/
theorem word (a b : Nat) (inb : ∀ k, (![a, b] : Fin 2 → Nat) k + S1x1.size k ≤ S2x4.size k) (y : S1x1.Idx) (ha : a < 2) (hb : b < 4) :
    View.ld (Val := Elt Ideal) x0 (Rect.unit (s := S2x4) ![a, b] S1x1.size inb) y = x0 (ix2 ⟨a, ha⟩ ⟨b, hb⟩) := by
  refine View.ld_unit_apply_of x0 _ _ inb y _ fun k => ?_
  match k with
  | ⟨0, _⟩ => show a = a + (y 0).val; have : (y 0).val < 1 := (y 0).isLt; omega
  | ⟨1, _⟩ => show b = b + (y 1).val; have : (y 1).val < 1 := (y 1).isLt; omega

section
variable (c : Dev nD) (i : grid0.Coords) (arg1 : Memref sig .tc .smem S2x4 .f32) (harg1 : arg1.IsWhole) (arg2 : Memref sig .tc .vmem S1x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S1x4x128x256 .f32) (harg7 : arg7.IsWhole) (arg8 : Memref sig .tc .vmem S1x4x128x256 .f32) (harg8 : arg8.IsWhole)

theorem outF_canon : out0_A_6 c i arg1 harg1 arg2 harg2 arg3 harg3 arg4 harg4 arg5 harg5 arg6 harg6 arg7 harg7 arg8 harg8 x0 x1 x2 x3 x4 x5 = tilesF x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread, harg6.read_unread,
    View.ld_unit_zero (S := S1x256x1024) hz3, View.ld_unit_zero (S := S1x1024) hz2, View.ld_unit_zero (S := S1024x1536) hz2]
  rw [word x0 0 0 _ _ (by decide) (by decide), word x0 0 1 _ _ (by decide) (by decide), word x0 0 2 _ _ (by decide) (by decide), word x0 0 3 _ _ (by decide) (by decide)]
  rfl
theorem outB_canon : out0_A_7 c i arg1 harg1 arg2 harg2 arg3 harg3 arg4 harg4 arg5 harg5 arg6 harg6 arg7 harg7 arg8 harg8 x0 x1 x2 x3 x4 x5 = tilesB x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread, harg6.read_unread,
    View.ld_unit_zero (S := S1x256x1024) hz3, View.ld_unit_zero (S := S1x1024) hz2, View.ld_unit_zero (S := S1024x1536) hz2]
  rw [word x0 1 0 _ _ (by decide) (by decide), word x0 1 1 _ _ (by decide) (by decide), word x0 1 2 _ _ (by decide) (by decide), word x0 1 3 _ _ (by decide) (by decide)]
  rfl
end

end Cert.Kernel4Ideal.Ctx

end

end
-- ==== Proof.Ctx.RefValue.lean ====
/-
  The reference's two context states, at an entry.
-/
module

public import proofs.«01_k».proof.Proof.Ctx.Spec
public import proofs.«01_k».proof.Proof.Gen.Reference4Ideal.Run

@[expose] public section

set_option maxRecDepth 16384

noncomputable section

namespace Cert.Reference4Ideal.Ctx

open Cert.Reference4Ideal Cert.Reference4Ideal.Gen Cert.Ctx Cert.Proj
open Idealize.ShloMosaic Idealize.ShloMosaic.TcCoe

section
variable (a0 : FVec Ideal S32x256x1024 .f32) (a1 a2 a3 : FVec Ideal S1024 .f32) (a5 : FVec Ideal S1024x5632 .f32)

/-- The normalised and modulated context rows. -/
def refH : FVec Ideal S32x256x1024 .f32 :=
  addf (mulf (mulf (mulf a0 (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf a0 a0) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 a1))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) a3)))) (broadcastInDim S32x256x1024 ![0, 1, 2] bcast_S1x1x1024_S32x256x1024_0_1_2 (broadcastInDim S1x1x1024 ![2] bcast_S1024_S1x1x1024_2 a2))

/-- The context rows' keys and values. -/
def refKV : FVec Ideal S32x256x1536 .f32 :=
  Host.dotGeneral dot_S32x256x1024_S1024x1536_S32x256x1536_2_0_01_1_n_n none (refH a0 a1 a2 a3) (extractStridedSlice S1024x1536 ![0, 1024] a5 slices_S1024x5632_S1024x1536_0_1024)

theorem refH_apply (b : Fin 32) (r : Fin 256) (d : Fin 1024) : refH a0 a1 a2 a3 (ix3 b r d) =
    HID (fun d => a0 (ix3 b r d)) (fun d => a1 (ix1 d)) (fun d => a2 (ix1 d)) (fun d => a3 (ix1 d)) d := by
  pointwise [refH]
  rfl

/-- A context row's keys and values. -/
def TR (b : Fin 32) (r : Fin 256) (n : Fin 1536) : EReal :=
  KV (fun d => a0 (ix3 b r d)) (fun d => a1 (ix1 d)) (fun d => a2 (ix1 d)) (fun d => a3 (ix1 d))
    (fun k n => a5 (ix2 k ⟨1024 + n.val, by have := n.isLt; omega⟩)) n

theorem refKV_apply (b : Fin 32) (r : Fin 256) (n : Fin 1536) : refKV a0 a1 a2 a3 a5 (ix3 b r n) = TR a0 a1 a2 a3 a5 b r n := by
  pointwise [refKV, refH_apply]
  rfl

end

/-- The logarithms of the decays. -/
def refLG (a4 : FVec Ideal S2x4 .f32) : FVec Ideal S2x4 .f32 := Host.negf (select (cmpf .une (subf (Host.negf a4) (broadcastInDim S2x4 ![] bcast_S_S2x4 (constant S_ .f32 0x00000000#32))) (subf (Host.negf a4) (broadcastInDim S2x4 ![] bcast_S_S2x4 (constant S_ .f32 0x00000000#32)))) (addf (Host.negf a4) (broadcastInDim S2x4 ![] bcast_S_S2x4 (constant S_ .f32 0x00000000#32))) (addf (maximumf (Host.negf a4) (broadcastInDim S2x4 ![] bcast_S_S2x4 (constant S_ .f32 0x00000000#32))) (Host.log1p (Host.exp (Host.negf (Host.absf (subf (Host.negf a4) (broadcastInDim S2x4 ![] bcast_S_S2x4 (constant S_ .f32 0x00000000#32)))))))))

/-- The rows' exponents in the forward state. -/
def refEF : FVec Ideal S256 .f32 := subf (broadcastInDim S256 ![] bcast_S_S256 (constant S_ .f32 0x437F0000#32)) (sitofp .f32 (iotaInDim S256 32 0))
/-- The rows' exponents in the backward state. -/
def refEB : FVec Ideal S256 .f32 := sitofp .f32 (iotaInDim S256 32 0)

section
variable (L : FVec Ideal S1x4 .f32) (E : FVec Ideal S256 .f32) (kv : FVec Ideal S32x256x1536 .f32)

/-- The rows' weights. -/
def refW : FVec Ideal S4x256 .f32 :=
  Host.exp (mulf (broadcastInDim S4x256 ![0, 1] bcast_S4x1_S4x256_0_1 (broadcastInDim S4x1 ![0] bcast_S4_S4x1_0 (shapeCast _ L shapeCasts_S1x4_S4))) (broadcastInDim S4x256 ![0, 1] bcast_S1x256_S4x256_0_1 (broadcastInDim S1x256 ![1] bcast_S256_S1x256_1 E)))

/-- The heads' states. -/
def refS (w : FVec Ideal S4x256 .f32) : FVec Ideal S32x4x128x256 .f32 :=
  Host.dotGeneral dot_S32x4x256x128_S32x4x256x256_S32x4x128x256_2_2_3_3_01_01 none (mulf (broadcastInDim S32x4x256x128 ![0, 1, 2, 3] bcast_S1x4x256x1_S32x4x256x128_0_1_2_3 (broadcastInDim S1x4x256x1 ![1, 2] bcast_S4x256_S1x4x256x1_1_2 w)) (mulf (transpose S32x4x256x128 [0, 2, 1, 3] (shapeCast _ (extractStridedSlice S32x256x512 ![0, 0, 0] kv slices_S32x256x1536_S32x256x512_0_0_0) shapeCasts_S32x256x512_S32x256x4x128) transposes_S32x256x4x128_S32x4x256x128_0_2_1_3) (broadcastInDim S32x4x256x128 ![] bcast_S_S32x4x256x128 (constant S_ .f32 0x3DB504F3#32)))) (transpose S32x4x256x256 [0, 2, 1, 3] (shapeCast _ (extractStridedSlice S32x256x1024 ![0, 0, 512] kv slices_S32x256x1536_S32x256x1024_0_0_512) shapeCasts_S32x256x1024_S32x256x4x256) transposes_S32x256x4x256_S32x4x256x256_0_2_1_3)

theorem refW_apply (h : Fin 4) (r : Fin 256) : refW L E (ix2 h r) = Ideal.exp (L (ix2 0 h) * E (ix1 r)) := by
  pointwise [refW]

theorem refS_apply (w : FVec Ideal S4x256 .f32) (b : Fin 32) (h : Fin 4) (d : Fin 128) (e : Fin 256) : refS kv w (ix4 b h d e) =
    STATE (fun r n => kv (ix3 b r n)) (fun r => w (ix2 h r)) h d e := by
  pointwise [refS]
  unfold STATE
  refine Finset.sum_congr rfl fun r _ => ?_
  have hk : (⟨h.val * 128 + d.val, by have := h.isLt; have := d.isLt; omega⟩ : Fin 1536) = KC h d := Fin.ext (show h.val * 128 + d.val = 128 * h.val + d.val by omega)
  have hv : (⟨512 + (h.val * 256 + e.val), by have := h.isLt; have := e.isLt; omega⟩ : Fin 1536) = VC h e := Fin.ext (show 512 + (h.val * 256 + e.val) = 512 + 256 * h.val + e.val by omega)
  rw [hk, hv, mul_comm (w _)]

end

end Cert.Reference4Ideal.Ctx

end

end
-- ==== Proof.Ctx.Value.lean ====
/-
  The context call's two arrays after the last grid point, at an entry.
-/
module

public import proofs.«01_k».proof.Proof.Ctx.Block
public import proofs.«01_k».proof.Proof.Ctx.RefValue

@[expose] public section

set_option maxRecDepth 16384

noncomputable section

namespace Cert.Kernel4Ideal.Ctx

open Cert.Kernel4Ideal Cert.Kernel4Ideal.Gen Cert.Ctx
open Idealize.ShloMosaic Idealize.ShloMosaic.TcCoe

variable (m : (ℓ : Loc nD τ sig) → Buf (Elt Ideal) ℓ) (c : Dev nD)

/-- A column of the keys and values among the projection's columns. -/
def WC (n : Fin 1536) : Fin 5632 := ⟨1024 + n.val, by have := n.isLt; omega⟩

/-! ## The host's copies -/

theorem V_g (d : Fin 1024) : V m c main_v3 (ix2 0 d) = m ((c : Thread nD τ).loc main_arg1) (ix1 d) := by
  have h : V m c main_v3 = shapeCast S1x1024 (m ((c : Thread nD τ).loc main_arg1)) shapeCasts_S1024_S1x1024 := by
    unfold V; simp only [hostOps0, hostOps0_1, List.flatten_cons, List.flatten_nil, List.append_nil, List.cons_append, List.nil_append]; after_results; rfl
  rw [h]; pointwise
theorem V_sh (d : Fin 1024) : V m c main_v4 (ix2 0 d) = m ((c : Thread nD τ).loc main_arg2) (ix1 d) := by
  have h : V m c main_v4 = shapeCast S1x1024 (m ((c : Thread nD τ).loc main_arg2)) shapeCasts_S1024_S1x1024 := by
    unfold V; simp only [hostOps0, hostOps0_1, List.flatten_cons, List.flatten_nil, List.append_nil, List.cons_append, List.nil_append]; after_results; rfl
  rw [h]; pointwise
theorem V_sc (d : Fin 1024) : V m c main_v5 (ix2 0 d) = m ((c : Thread nD τ).loc main_arg3) (ix1 d) := by
  have h : V m c main_v5 = shapeCast S1x1024 (m ((c : Thread nD τ).loc main_arg3)) shapeCasts_S1024_S1x1024 := by
    unfold V; simp only [hostOps0, hostOps0_1, List.flatten_cons, List.flatten_nil, List.append_nil, List.cons_append, List.nil_append]; after_results; rfl
  rw [h]; pointwise
theorem V_w (k : Fin 1024) (n : Fin 1536) : V m c main_v2 (ix2 k n) = m ((c : Thread nD τ).loc main_arg5) (ix2 k (WC n)) := by
  have h : V m c main_v2 = extractStridedSlice S1024x1536 ![0, 1024] (truncf (F := Ideal) (φ := .f32) .bf16 (m ((c : Thread nD τ).loc main_arg5)) bitsLt_bf16_f32) slices_S1024x5632_S1024x1536_0_1024 := by
    unfold V; simp only [hostOps0, hostOps0_1, List.flatten_cons, List.flatten_nil, List.append_nil, List.cons_append, List.nil_append]; after_results
  rw [h]; pointwise; rfl

/-- The kernel's host operations make the reference's logarithms. -/
theorem lg_eq : V m c main_v0 = Cert.Reference4Ideal.Ctx.refLG (m ((c : Thread nD τ).loc main_arg4)) := by
  unfold V; simp only [hostOps0, hostOps0_1, List.flatten_cons, List.flatten_nil, List.append_nil, List.cons_append, List.nil_append]; after_results; rfl

/-! ## The windows -/

theorem idx0 : ∀ t : Fin cfg0.N, win0_0.index t = ![0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, 0, 0, 0] := (by decide +kernel : ∀ t : Fin grid0.N, _)
theorem idx7 : ∀ t : Fin cfg0.N, win0_7.index t = ![(grid0.coords t 0).val, 0, 0, 0] := (by decide +kernel : ∀ t : Fin grid0.N, _)

/-- A point's example. -/
def EX (t : Fin cfg0.N) : Fin 32 := grid0.coords t 0

theorem blk0 (t : Fin cfg0.N) (d : Fin 2) (h : Fin 4) : iblk m c 0 t (ix2 d h) = V m c main_v0 (ix2 d h) := by
  blk_simp [iblk]
  refine congrArg (V m c main_v0) (funext fun a => Fin.ext ?_)
  blk_simp [idx0]
  match a with
  | ⟨0, _⟩ => show 0 * 2 + d.val = d.val; omega
  | ⟨1, _⟩ => show 0 * 4 + h.val = h.val; omega
theorem blk1 (t : Fin cfg0.N) (r : Fin 256) (d : Fin 1024) : iblk m c 1 t (ix3 0 r d) = m ((c : Thread nD τ).loc main_arg0) (ix3 (EX t) r d) := by
  rw [← V_main_arg0 m c]
  blk_simp [iblk]
  refine congrArg (V m c main_arg0) (funext fun a => Fin.ext ?_)
  blk_simp [idx1]
  match a with
  | ⟨0, _⟩ => show (EX t).val * 1 + 0 = (EX t).val; omega
  | ⟨1, _⟩ => show 0 * 256 + r.val = r.val; omega
  | ⟨2, _⟩ => show 0 * 1024 + d.val = d.val; omega
theorem blk2 (t : Fin cfg0.N) (d : Fin 1024) : iblk m c 2 t (ix2 0 d) = m ((c : Thread nD τ).loc main_arg1) (ix1 d) := by
  rw [← V_g m c]
  blk_simp [iblk]
  refine congrArg (V m c main_v3) (funext fun a => Fin.ext ?_)
  blk_simp [idx2]
  match a with
  | ⟨0, _⟩ => rfl
  | ⟨1, _⟩ => show 0 * 1024 + d.val = d.val; omega
theorem blk3 (t : Fin cfg0.N) (d : Fin 1024) : iblk m c 3 t (ix2 0 d) = m ((c : Thread nD τ).loc main_arg2) (ix1 d) := by
  rw [← V_sh m c]
  blk_simp [iblk]
  refine congrArg (V m c main_v4) (funext fun a => Fin.ext ?_)
  blk_simp [idx3]
  match a with
  | ⟨0, _⟩ => rfl
  | ⟨1, _⟩ => show 0 * 1024 + d.val = d.val; omega
theorem blk4 (t : Fin cfg0.N) (d : Fin 1024) : iblk m c 4 t (ix2 0 d) = m ((c : Thread nD τ).loc main_arg3) (ix1 d) := by
  rw [← V_sc m c]
  blk_simp [iblk]
  refine congrArg (V m c main_v5) (funext fun a => Fin.ext ?_)
  blk_simp [idx4]
  match a with
  | ⟨0, _⟩ => rfl
  | ⟨1, _⟩ => show 0 * 1024 + d.val = d.val; omega
theorem blk5 (t : Fin cfg0.N) (k : Fin 1024) (n : Fin 1536) : iblk m c 5 t (ix2 k n) = m ((c : Thread nD τ).loc main_arg5) (ix2 k (WC n)) := by
  rw [← V_w m c]
  blk_simp [iblk]
  refine congrArg (V m c main_v2) (funext fun a => Fin.ext ?_)
  blk_simp [idx5]
  match a with
  | ⟨0, _⟩ => show 0 * 1024 + k.val = k.val; omega
  | ⟨1, _⟩ => show 0 * 1536 + n.val = n.val; omega

/-! ## The arrays -/

/-- A context row's keys and values, from the arrays at the start. -/
def T (b : Fin 32) (r : Fin 256) (n : Fin 1536) : EReal :=
  KV (fun d => m ((c : Thread nD τ).loc main_arg0) (ix3 b r d)) (fun d => m ((c : Thread nD τ).loc main_arg1) (ix1 d))
    (fun d => m ((c : Thread nD τ).loc main_arg2) (ix1 d)) (fun d => m ((c : Thread nD τ).loc main_arg3) (ix1 d))
    (fun k n => m ((c : Thread nD τ).loc main_arg5) (ix2 k (WC n))) n

theorem row_blk (t : Fin cfg0.N) : ROW (iblk m c 1 t) (iblk m c 2 t) (iblk m c 3 t) (iblk m c 4 t) (iblk m c 5 t) = T m c (EX t) := by
  funext r n
  unfold ROW T
  simp only [blk1, blk2, blk3, blk4, blk5]

/-- The forward states. -/
def GF : Vec Ideal S32x4x128x256 .f32 := fun i => STATE (T m c (i 0)) (WF (V m c main_v0 (ix2 0 (i 1)))) (i 1) (i 2) (i 3)
/-- The backward states. -/
def GB : Vec Ideal S32x4x128x256 .f32 := fun i => STATE (T m c (i 0)) (WB (V m c main_v0 (ix2 1 (i 1)))) (i 1) (i 2) (i 3)

theorem final6 : (dats m 0 c).arrAt 6 cfg0.N = GF m c := by
  refine (dats m 0 c).arrAt_eq_of_covers 6 _ (by decide +kernel) fun t hf y => ?_
  blk_simp
  rw [after0_6]
  obtain ⟨b, h, d, e, rfl⟩ : ∃ (b : Fin 1) (h : Fin 4) (d : Fin 128) (e : Fin 256), y = ix4 b h d e := ⟨y 0, y 1, y 2, y 3, (ix4_eta y).symm⟩
  obtain rfl : b = 0 := Subsingleton.elim _ _
  unfold outsAt0
  dsimp only
  rw [outF_canon, tilesF_apply, row_blk, blk0]
  refine Eq.trans ?_ (congrArg (GF m c) (show ix4 (EX t) h d e = _ from (funext fun a => Fin.ext ?_)))
  · rfl
  · blk_simp [idx6]
    match a with
    | ⟨0, _⟩ => show (EX t).val = (EX t).val * 1 + 0; omega
    | ⟨1, _⟩ => show h.val = 0 * 4 + h.val; omega
    | ⟨2, _⟩ => show d.val = 0 * 128 + d.val; omega
    | ⟨3, _⟩ => show e.val = 0 * 256 + e.val; omega

theorem final7 : (dats m 0 c).arrAt 7 cfg0.N = GB m c := by
  refine (dats m 0 c).arrAt_eq_of_covers 7 _ (by decide +kernel) fun t hf y => ?_
  blk_simp
  rw [after0_7]
  obtain ⟨b, h, d, e, rfl⟩ : ∃ (b : Fin 1) (h : Fin 4) (d : Fin 128) (e : Fin 256), y = ix4 b h d e := ⟨y 0, y 1, y 2, y 3, (ix4_eta y).symm⟩
  obtain rfl : b = 0 := Subsingleton.elim _ _
  unfold outsAt0
  dsimp only
  rw [outB_canon, tilesB_apply, row_blk, blk0]
  refine Eq.trans ?_ (congrArg (GB m c) (show ix4 (EX t) h d e = _ from (funext fun a => Fin.ext ?_)))
  · rfl
  · blk_simp [idx7]
    match a with
    | ⟨0, _⟩ => show (EX t).val = (EX t).val * 1 + 0; omega
    | ⟨1, _⟩ => show h.val = 0 * 4 + h.val; omega
    | ⟨2, _⟩ => show d.val = 0 * 128 + d.val; omega
    | ⟨3, _⟩ => show e.val = 0 * 256 + e.val; omega

end Cert.Kernel4Ideal.Ctx

end

end
-- ==== Proof.Ctx.Final.lean ====
/-
  The claims of the context call: the reference's frame, and the equality of the kernel's and the reference's two states
  over the extended reals.
-/
module

public import proofs.«01_k».proof.Defs
public import proofs.«01_k».proof.Proof.Ctx.Value
public import proofs.«01_k».proof.Proof.Ctx.RefValue
public import Idealize.ShloMosaic.Lib.Claim
public import Idealize.ShloMosaic.Lib.Quiescent

@[expose] public section

set_option maxRecDepth 16384

noncomputable section

namespace Cert.Reference4Ideal.Ctx

open Cert.Reference4Ideal Cert.Reference4Ideal.Gen Cert.Ctx
open Idealize.ShloMosaic Idealize.ShloMosaic.TcCoe

variable (m : (ℓ : Loc nD τ sig) → Buf (Elt Ideal) ℓ) (c : Dev nD)

/-- The reference's keys and values of the arrays at the start. -/
def KVM : FVec Ideal S32x256x1536 .f32 :=
  refKV (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5))

/-- The reference's weights of the arrays at the start. -/
def WM0 : FVec Ideal S4x256 .f32 := refW (extractStridedSlice S1x4 ![0, 0] (refLG (m ((c.tc : Thread nD τ).loc main_arg4))) slices_S2x4_S1x4_0_0) refEF
def WM1 : FVec Ideal S4x256 .f32 := refW (extractStridedSlice S1x4 ![1, 0] (refLG (m ((c.tc : Thread nD τ).loc main_arg4))) slices_S2x4_S1x4_1_0) refEB

theorem v56_eq : Cert.Reference4Ideal.Value.res_main_v56 m c = refS (KVM m c) (WM0 m c) := rfl
theorem v60_eq : Cert.Reference4Ideal.Value.res_main_v60 m c = refS (KVM m c) (WM1 m c) := rfl

theorem WM0_apply (h : Fin 4) (r : Fin 256) : WM0 m c (ix2 h r) = WF (refLG (m ((c.tc : Thread nD τ).loc main_arg4)) (ix2 0 h)) r := by
  unfold WM0
  rw [refW_apply]
  pointwise [refEF]
  rfl
theorem WM1_apply (h : Fin 4) (r : Fin 256) : WM1 m c (ix2 h r) = WB (refLG (m ((c.tc : Thread nD τ).loc main_arg4)) (ix2 1 h)) r := by
  unfold WM1
  rw [refW_apply]
  pointwise [refEB]
  rfl

end Cert.Reference4Ideal.Ctx

namespace Cert.Ctx

open Idealize.ShloMosaic Idealize.ShloMosaic.TcCoe

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)
  (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
  (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
  (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
  (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
  (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
  (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
include h0 h1 h2 h3 h5

theorem kv_eq (b : Fin 32) : (fun r n => Cert.Reference4Ideal.Ctx.KVM m' c (ix3 b r n)) = Cert.Kernel4Ideal.Ctx.T m c b := by
  funext r n
  unfold Cert.Reference4Ideal.Ctx.KVM
  rw [Cert.Reference4Ideal.Ctx.refKV_apply, h0, h1, h2, h3, h5]
  rfl

include h4

theorem arrF : Cert.Reference4Ideal.Value.res_main_v56 m' c = Cert.Kernel4Ideal.Ctx.GF m c := by
  funext i
  obtain ⟨b, h, d, e, rfl⟩ : ∃ (b : Fin 32) (h : Fin 4) (d : Fin 128) (e : Fin 256), i = ix4 b h d e := ⟨i 0, i 1, i 2, i 3, (ix4_eta i).symm⟩
  rw [Cert.Reference4Ideal.Ctx.v56_eq, Cert.Reference4Ideal.Ctx.refS_apply, kv_eq m m' c h0 h1 h2 h3 h5,
    show (fun r => Cert.Reference4Ideal.Ctx.WM0 m' c (ix2 h r)) = WF (Cert.Kernel4Ideal.Gen.V m c Cert.Kernel4Ideal.main_v0 (ix2 0 h)) from funext fun r => by
      rw [Cert.Reference4Ideal.Ctx.WM0_apply, Cert.Kernel4Ideal.Ctx.lg_eq, h4]]
  rfl

theorem arrB : Cert.Reference4Ideal.Value.res_main_v60 m' c = Cert.Kernel4Ideal.Ctx.GB m c := by
  funext i
  obtain ⟨b, h, d, e, rfl⟩ : ∃ (b : Fin 32) (h : Fin 4) (d : Fin 128) (e : Fin 256), i = ix4 b h d e := ⟨i 0, i 1, i 2, i 3, (ix4_eta i).symm⟩
  rw [Cert.Reference4Ideal.Ctx.v60_eq, Cert.Reference4Ideal.Ctx.refS_apply, kv_eq m m' c h0 h1 h2 h3 h5,
    show (fun r => Cert.Reference4Ideal.Ctx.WM1 m' c (ix2 h r)) = WB (Cert.Kernel4Ideal.Gen.V m c Cert.Kernel4Ideal.main_v0 (ix2 1 h)) from funext fun r => by
      rw [Cert.Reference4Ideal.Ctx.WM1_apply, Cert.Kernel4Ideal.Ctx.lg_eq, h4]]
  rfl

end

/-! ## The claims -/

theorem frame_referenceIdeal : letI := Cert.Reference4Ideal.Gen.facts; Cert.quiescent_Reference4Ideal := fun m g _ =>
  letI := Cert.Reference4Ideal.Gen.facts
  (θ_run Cert.Reference4Ideal.defs _ _).mono
    (fun r h => ⟨fun c => (h c).2.2, sem_eq_zero_of_no_sems (by decide) r.2⟩) (Cert.Reference4Ideal.Value.run (F := Ideal) m g)

open Cert.Kernel4Ideal.Ctx in
theorem algebraic_ctx : letI := Cert.Kernel4Ideal.Gen.facts; letI := Cert.Reference4Ideal.Gen.facts; Cert.algebraic_Kernel4Ideal_Reference4Ideal :=
  letI := Cert.Kernel4Ideal.Gen.facts
  letI := Cert.Reference4Ideal.Gen.facts
  fun m g m' g' _ ha => ⟨fun c => GF m c, fun c => GB m c,
    (θ_run Cert.Kernel4Ideal.defs _ _).mono
      (fun r h c => ⟨((h.1 c).1 6).trans (final6 m c), ((h.1 c).1 7).trans (final7 m c), h.2 c⟩)
      (θ_run_and (Cert.Kernel4Ideal.Gen.run_main (F := Ideal) m g) (Cert.Kernel4Ideal.Gen.unchanged (F := Ideal) m g)),
    (θ_run Cert.Reference4Ideal.defs _ _).mono
      (fun r h c => by
        obtain ⟨h0, h1, h2, h3, h4, h5⟩ := ha c
        obtain ⟨r0, r1, hr⟩ := h c
        exact ⟨r0.trans (arrF m m' c h0 h1 h2 h3 h4 h5), r1.trans (arrB m m' c h0 h1 h2 h3 h4 h5), hr⟩)
      (Cert.Reference4Ideal.Value.run (F := Ideal) m' g')⟩

end Cert.Ctx

end

end
-- ==== Proof.Ada.Spec.lean ====
/-
  The modulation vectors, over the extended reals.
-/
module

public import proofs.«01_k».proof.Proof.Mix.Spec

@[expose] public section

noncomputable section

namespace Cert.Ada

open Idealize.ShloMosaic Cert.Mix

/-- A modulation entry: a conditioning row, times its own logistic, against a column of weights, and the column's bias. -/
def MOD (x : Fin 1024 → EReal) (w : Fin 1024 → EReal) (b : EReal) : EReal := (∑ k, x k * SIG (x k) * w k) + b

end Cert.Ada

end

end
-- ==== Proof.Ada.Block.lean ====
/-
  What a grid point of the modulation call leaves in its block, and the table of conditioning rows the host makes.
-/
module

public import proofs.«01_k».proof.Proof.Ada.Spec
public import proofs.«01_k».proof.Proof.Gen.Kernel5Ideal.Frame
public import Idealize.ShloMosaic.Lib.Pipeline.ValueKit
public import Idealize.ShloMosaic.Lib.Routing.OpsSet

@[expose] public section

set_option maxRecDepth 16384

noncomputable section

namespace Cert.Kernel5Ideal.Ada

open Cert.Kernel5Ideal Cert.Kernel5Ideal.Gen Cert.Ada Cert.Mix
open Idealize.ShloMosaic Idealize.ShloMosaic.TcCoe

theorem out3_apply (x0 : Vec Ideal S40x1024 .f32) (x1 : Vec Ideal S1024x512 .f32) (x2 : Vec Ideal S1x512 .f32) (r : Fin 40) (n : Fin 512) :
    out0_3 x0 x1 x2 (ix2 r n) = MOD (fun k => x0 (ix2 r k)) (fun k => x1 (ix2 k n)) (x2 (ix2 0 n)) := by
  frame_out
  pointwise [k0_pay1]
  rfl

/-! ## The table of conditioning rows -/

section
variable (idx : IVec S1 32) (q : Nat) (hq : (idx (ix1 0)).toInt = (q : Int))
include hq

/-- Where an update of the block of rows lands. -/
theorem lands_rows (i : Fin 32) (j : Fin 1024) (r : Fin 40) (n : Fin 1024) :
    scatter_S40x1024_S1_S32x1024_01_n_0_0.resultIdx? (ix2 i j) idx = some (ix2 r n) ↔ q + i.val = r.val ∧ j = n := by
  have hw0 : scatter_S40x1024_S1_S32x1024_01_n_0_0.window (ix2 i j) 0 = i.val := rfl
  have hw1 : scatter_S40x1024_S1_S32x1024_01_n_0_0.window (ix2 i j) 1 = j.val := rfl
  have hs1 : scatter_S40x1024_S1_S32x1024_01_n_0_0.start (ix2 i j) idx 1 = 0 := rfl
  have hs0 : scatter_S40x1024_S1_S32x1024_01_n_0_0.start (ix2 i j) idx 0 = (q : Int) := by
    unfold ScatterDims.start
    rw [dif_pos (show (0 : Fin 2) ∈ scatter_S40x1024_S1_S32x1024_01_n_0_0.scatterDimsToOperandDims from List.mem_singleton.2 rfl)]
    refine Eq.trans (congrArg (fun k => (idx k).toInt) (funext fun b => ?_)) hq
    match b with
    | ⟨0, _⟩ => exact Subsingleton.elim (α := Fin 1) _ _
  rw [Fin.ext_iff]
  refine (Routing.resultIdx?_ix2 (R := 40) (C := 1024) scatter_S40x1024_S1_S32x1024_01_n_0_0 _ idx r n).trans ?_
  rw [hs0, hs1, hw0, hw1]
  omega

/-- Where an update of the single row lands. -/
theorem lands_row (j : Fin 1024) (r : Fin 40) (n : Fin 1024) :
    scatter_S40x1024_S1_S1024_0_0_0_0.resultIdx? (ix1 j) idx = some (ix2 r n) ↔ q = r.val ∧ j = n := by
  have hw0 : scatter_S40x1024_S1_S1024_0_0_0_0.window (ix1 j) 0 = 0 := rfl
  have hw1 : scatter_S40x1024_S1_S1024_0_0_0_0.window (ix1 j) 1 = j.val := rfl
  have hs1 : scatter_S40x1024_S1_S1024_0_0_0_0.start (ix1 j) idx 1 = 0 := rfl
  have hs0 : scatter_S40x1024_S1_S1024_0_0_0_0.start (ix1 j) idx 0 = (q : Int) := by
    unfold ScatterDims.start
    rw [dif_pos (show (0 : Fin 2) ∈ scatter_S40x1024_S1_S1024_0_0_0_0.scatterDimsToOperandDims from List.mem_singleton.2 rfl)]
    refine Eq.trans (congrArg (fun k => (idx k).toInt) (funext fun b => ?_)) hq
    match b with
    | ⟨0, _⟩ => exact Subsingleton.elim (α := Fin 1) _ _
  rw [Fin.ext_iff]
  refine (Routing.resultIdx?_ix2 (R := 40) (C := 1024) scatter_S40x1024_S1_S1024_0_0_0_0 _ idx r n).trans ?_
  rw [hs0, hs1, hw0, hw1]
  omega

end

section
variable (z : FVec Ideal S40x1024 .f32) (a0 : FVec Ideal S32x1024 .f32) (a1 : FVec Ideal S1024 .f32)

/-- The table the host makes: a block of rows at the top, then a single row. -/
def TAB : FVec Ideal S40x1024 .f32 :=
  Host.scatter scatter_S40x1024_S1_S1024_0_0_0_0 (fun _ b => b)
    (Host.scatter scatter_S40x1024_S1_S32x1024_01_n_0_0 (fun _ b => b) z (broadcastInDim S1 ![] bcast_S_S1 (constantI S_ 32 0#32)) a0)
    (broadcastInDim S1 ![] bcast_S_S1 (constantI S_ 32 32#32)) a1

theorem tab_rows (r : Fin 32) (n : Fin 1024) : TAB z a0 a1 (ix2 ⟨r.val, by have := r.isLt; omega⟩ n) = a0 (ix2 r n) := by
  unfold TAB
  rw [Routing.scatter_set_miss _ _ _ _ _ fun k hk => ?_]
  · refine Routing.scatter_set_hit _ _ _ _ _ _ (fun k hk => ?_) (ix2 r n) ((lands_rows _ 0 (by decide) r n _ _).2 ⟨by simp, rfl⟩)
    obtain ⟨i, j, rfl⟩ : ∃ (i : Fin 32) (j : Fin 1024), k = ix2 i j := ⟨k 0, k 1, (ix2_eta k).symm⟩
    obtain ⟨h0, rfl⟩ := (lands_rows _ 0 (by decide) i j _ _).1 hk
    obtain rfl : i = r := Fin.ext (by simpa using h0)
    rfl
  · obtain ⟨j, rfl⟩ : ∃ (j : Fin 1024), k = ix1 j := ⟨k 0, (ix1_eta k).symm⟩
    obtain ⟨h0, -⟩ := (lands_row _ 32 (by decide) j _ _).1 hk
    have h1 : 32 = r.val := h0
    have := r.isLt
    omega

theorem tab_row (n : Fin 1024) : TAB z a0 a1 (ix2 32 n) = a1 (ix1 n) := by
  unfold TAB
  refine Routing.scatter_set_hit _ _ _ _ _ _ (fun k hk => ?_) (ix1 n) ((lands_row _ 32 (by decide) n _ _).2 ⟨rfl, rfl⟩)
  obtain ⟨j, rfl⟩ : ∃ (j : Fin 1024), k = ix1 j := ⟨k 0, (ix1_eta k).symm⟩
  obtain ⟨-, rfl⟩ := (lands_row _ 32 (by decide) j _ _).1 hk
  rfl

end

end Cert.Kernel5Ideal.Ada

end

end
-- ==== Proof.Ada.Value.lean ====
/-
  The modulation call's array after the last grid point, and the two results the host reads from it, at an entry.
-/
module

public import proofs.«01_k».proof.Proof.Ada.Block

@[expose] public section

set_option maxRecDepth 16384

noncomputable section

namespace Cert.Kernel5Ideal.Ada

open Cert.Kernel5Ideal Cert.Kernel5Ideal.Gen Cert.Ada
open Idealize.ShloMosaic Idealize.ShloMosaic.TcCoe

variable (m : (ℓ : Loc nD τ sig) → Buf (Elt Ideal) ℓ) (c : Dev nD)

/-! ## The host's table and copy -/

theorem V_x : V m c main_v4 = TAB (broadcastInDim S40x1024 ![] bcast_S_S40x1024 (constant (F := Ideal) S_ .f32 0x00000000#32))
    (m ((c : Thread nD τ).loc main_arg0)) (m ((c : Thread nD τ).loc main_arg1)) := by
  unfold V V0; simp only [hostOps0, List.flatten_cons, List.flatten_nil, List.append_nil]; after_results; rfl
set_option maxRecDepth 200000 in
theorem V_b (n : Fin 6144) : V m c main_v5 (ix2 0 n) = m ((c : Thread nD τ).loc main_arg3) (ix1 n) := by
  have h : V m c main_v5 = shapeCast S1x6144 (m ((c : Thread nD τ).loc main_arg3)) shapeCasts_S6144_S1x6144 := by
    unfold V V0; simp only [hostOps0, List.flatten_cons, List.flatten_nil, List.append_nil]; after_results; rfl
  rw [h]; pointwise

/-! ## The windows -/

theorem idx0 : ∀ t : Fin cfg0.N, win0_0.index t = ![0, 0] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![0, (grid0.coords t 0).val] := (by decide +kernel : ∀ t : Fin grid0.N, _)

/-- A point's tile of columns. -/
def TC (t : Fin cfg0.N) : Fin 12 := grid0.coords t 0
/-- The column of a block's column. -/
def CO (t : Fin cfg0.N) (n : Fin 512) : Fin 6144 := ⟨512 * (TC t).val + n.val, by have := n.isLt; have := (TC t).isLt; omega⟩

theorem blk0 (t : Fin cfg0.N) (r : Fin 40) (k : Fin 1024) : iblk m c 0 t (ix2 r k) = V m c main_v4 (ix2 r k) := by
  blk_simp [iblk]
  refine congrArg (V m c main_v4) (funext fun a => Fin.ext ?_)
  blk_simp [idx0]
  match a with
  | ⟨0, _⟩ => show 0 * 40 + r.val = r.val; omega
  | ⟨1, _⟩ => show 0 * 1024 + k.val = k.val; omega
theorem blk1 (t : Fin cfg0.N) (k : Fin 1024) (n : Fin 512) : iblk m c 1 t (ix2 k n) = m ((c : Thread nD τ).loc main_arg2) (ix2 k (CO t n)) := by
  rw [← V_main_arg2 m c]
  blk_simp [iblk]
  refine congrArg (V m c main_arg2) (funext fun a => Fin.ext ?_)
  blk_simp [idx1]
  match a with
  | ⟨0, _⟩ => show 0 * 1024 + k.val = k.val; omega
  | ⟨1, _⟩ => show (TC t).val * 512 + n.val = 512 * (TC t).val + n.val; omega
theorem blk2 (t : Fin cfg0.N) (n : Fin 512) : iblk m c 2 t (ix2 0 n) = m ((c : Thread nD τ).loc main_arg3) (ix1 (CO t n)) := by
  rw [← V_b m c]
  blk_simp [iblk]
  refine congrArg (V m c main_v5) (funext fun a => Fin.ext ?_)
  blk_simp [idx2]
  match a with
  | ⟨0, _⟩ => rfl
  | ⟨1, _⟩ => show (TC t).val * 512 + n.val = 512 * (TC t).val + n.val; omega

/-! ## The array -/

/-- The vectors of the table's rows. -/
def G : Vec Ideal S40x6144 .f32 := fun i =>
  MOD (fun k => V m c main_v4 (ix2 (i 0) k)) (fun k => m ((c : Thread nD τ).loc main_arg2) (ix2 k (i 1))) (m ((c : Thread nD τ).loc main_arg3) (ix1 (i 1)))

theorem final3 : (dats m 0 c).arrAt 3 cfg0.N = G m c := by
  refine (dats m 0 c).arrAt_eq_of_covers 3 _ (by decide +kernel) fun t hf y => ?_
  blk_simp
  rw [after0_3]
  obtain ⟨r, n, rfl⟩ : ∃ (r : Fin 40) (n : Fin 512), y = ix2 r n := ⟨y 0, y 1, (ix2_eta y).symm⟩
  rw [out3_apply]
  simp only [blk0, blk1, blk2]
  refine Eq.trans ?_ (congrArg (G m c) (show ix2 r (CO t n) = _ from (funext fun a => Fin.ext ?_)))
  · rfl
  · blk_simp [idx3]
    match a with
    | ⟨0, _⟩ => show r.val = 0 * 40 + r.val; omega
    | ⟨1, _⟩ => show 512 * (TC t).val + n.val = (TC t).val * 512 + n.val; omega

theorem G_rows (r : Fin 32) (n : Fin 6144) : G m c (ix2 ⟨r.val, by have := r.isLt; omega⟩ n) =
    MOD (fun k => m ((c : Thread nD τ).loc main_arg0) (ix2 r k)) (fun k => m ((c : Thread nD τ).loc main_arg2) (ix2 k n)) (m ((c : Thread nD τ).loc main_arg3) (ix1 n)) := by
  refine congrArg (fun x => MOD x _ _) (funext fun k => ?_)
  rw [V_x]
  exact tab_rows _ _ _ r k

theorem G_row (n : Fin 6144) : G m c (ix2 32 n) =
    MOD (fun k => m ((c : Thread nD τ).loc main_arg1) (ix1 k)) (fun k => m ((c : Thread nD τ).loc main_arg2) (ix2 k n)) (m ((c : Thread nD τ).loc main_arg3) (ix1 n)) := by
  refine congrArg (fun x => MOD x _ _) (funext fun k => ?_)
  rw [V_x]
  exact tab_row _ _ _ k

/-! ## The two results -/

/-- The array as the host finds it after the call. -/
theorem arr_after : Pipeline.withArrays spec0 c (V0 m c) (fun w => (dats m 0 c).arrAt w cfg0.N) (Proc.devRef .tc main_v6) = G m c :=
  (Pipeline.withArrays_arr spec0 launch0.win.arr_inj c (V0 m c) (fun w => (dats m 0 c).arrAt w cfg0.N) 3).trans (final3 m c)

theorem W_main_v7 : Pipeline.afterTail₀ cfgs (dats m) 0 (V0 m) [hostOps1] c main_v7 = extractStridedSlice S32x6144 ![0, 0] (G m c) slices_S40x6144_S32x6144_0_0 := by
  rw [← arr_after m c]
  unfold Pipeline.afterTail₀
  simp only [hostOps1, List.flatten_cons, List.flatten_nil, List.append_nil]
  after_results
theorem W_main_v9 : Pipeline.afterTail₀ cfgs (dats m) 0 (V0 m) [hostOps1] c main_v9 =
    shapeCast S6144 (extractStridedSlice S1x6144 ![32, 0] (G m c) slices_S40x6144_S1x6144_32_0) shapeCasts_S1x6144_S6144 := by
  rw [← arr_after m c]
  unfold Pipeline.afterTail₀
  simp only [hostOps1, List.flatten_cons, List.flatten_nil, List.append_nil]
  after_results
  rfl

/-- The examples' vectors. -/
def GA : Vec Ideal S32x6144 .f32 := fun i =>
  MOD (fun k => m ((c : Thread nD τ).loc main_arg0) (ix2 (i 0) k)) (fun k => m ((c : Thread nD τ).loc main_arg2) (ix2 k (i 1))) (m ((c : Thread nD τ).loc main_arg3) (ix1 (i 1)))
/-- The context's vector. -/
def GC : Vec Ideal S6144 .f32 := fun i =>
  MOD (fun k => m ((c : Thread nD τ).loc main_arg1) (ix1 k)) (fun k => m ((c : Thread nD τ).loc main_arg2) (ix2 k (i 0))) (m ((c : Thread nD τ).loc main_arg3) (ix1 (i 0)))

theorem rows_eq : Pipeline.afterTail₀ cfgs (dats m) 0 (V0 m) [hostOps1] c main_v7 = GA m c := by
  rw [W_main_v7]
  funext i
  obtain ⟨r, n, rfl⟩ : ∃ (r : Fin 32) (n : Fin 6144), i = ix2 r n := ⟨i 0, i 1, (ix2_eta i).symm⟩
  pointwise
  exact G_rows m c r n
theorem row_eq : Pipeline.afterTail₀ cfgs (dats m) 0 (V0 m) [hostOps1] c main_v9 = GC m c := by
  rw [W_main_v9]
  funext i
  obtain ⟨n, rfl⟩ : ∃ (n : Fin 6144), i = ix1 n := ⟨i 0, (ix1_eta i).symm⟩
  pointwise
  exact G_row m c n

end Cert.Kernel5Ideal.Ada

end

end
-- ==== Proof.Ada.RefValue.lean ====
/-
  The reference's modulation vectors, at an entry.
-/
module

public import proofs.«01_k».proof.Proof.Ada.Spec
public import proofs.«01_k».proof.Proof.Gen.Reference5Ideal.Run

@[expose] public section

set_option maxRecDepth 16384

noncomputable section

namespace Cert.Reference5Ideal.Ada

open Cert.Reference5Ideal Cert.Reference5Ideal.Gen Cert.Ada Cert.Mix
open Idealize.ShloMosaic Idealize.ShloMosaic.TcCoe

variable (a0 : FVec Ideal S32x1024 .f32) (a1 : FVec Ideal S1024 .f32) (a2 : FVec Ideal S1024x6144 .f32) (a3 : FVec Ideal S6144 .f32)

/-- The examples' vectors. -/
def refA : FVec Ideal S32x6144 .f32 :=
  addf (Host.dotGeneral dot_S32x1024_S1024x6144_S32x6144_1_0_0_1_n_n none (mulf a0 (Host.divf (broadcastInDim S32x1024 ![] bcast_S_S32x1024 (constant S_ .f32 0x3F800000#32)) (addf (broadcastInDim S32x1024 ![] bcast_S_S32x1024 (constant S_ .f32 0x3F800000#32)) (Host.exp (Host.negf a0))))) a2) (broadcastInDim S32x6144 ![0, 1] bcast_S1x6144_S32x6144_0_1 (broadcastInDim S1x6144 ![1] bcast_S6144_S1x6144_1 a3))

/-- The context's vector. -/
def refC : FVec Ideal S6144 .f32 :=
  addf (Host.dotGeneral dot_S1024_S1024x6144_S6144_0_0_n_1_n_n none (mulf a1 (Host.divf (broadcastInDim S1024 ![] bcast_S_S1024 (constant S_ .f32 0x3F800000#32)) (addf (broadcastInDim S1024 ![] bcast_S_S1024 (constant S_ .f32 0x3F800000#32)) (Host.exp (Host.negf a1))))) a2) a3

theorem refA_apply (r : Fin 32) (n : Fin 6144) : refA a0 a2 a3 (ix2 r n) = MOD (fun k => a0 (ix2 r k)) (fun k => a2 (ix2 k n)) (a3 (ix1 n)) := by
  pointwise [refA]
  rfl

theorem refC_apply (n : Fin 6144) : refC a1 a2 a3 (ix1 n) = MOD (fun k => a1 (ix1 k)) (fun k => a2 (ix2 k n)) (a3 (ix1 n)) := by
  pointwise [refC]
  rfl

end Cert.Reference5Ideal.Ada

end

end
-- ==== Proof.Ada.Final.lean ====
/-
  The claims of the modulation call: the reference's frame, and the equality of the kernel's and the reference's two
  results over the extended reals.
-/
module

public import proofs.«01_k».proof.Defs
public import proofs.«01_k».proof.Proof.Ada.Value
public import proofs.«01_k».proof.Proof.Ada.RefValue
public import Idealize.ShloMosaic.Lib.Claim
public import Idealize.ShloMosaic.Lib.Quiescent

@[expose] public section

set_option maxRecDepth 16384

noncomputable section

namespace Cert.Ada

open Idealize.ShloMosaic Idealize.ShloMosaic.TcCoe

section
variable (a0 : FVec Ideal Cert.Reference5Ideal.S32x1024 .f32) (a1 : FVec Ideal Cert.Reference5Ideal.S1024 .f32)
  (a2 : FVec Ideal Cert.Reference5Ideal.S1024x6144 .f32) (a3 : FVec Ideal Cert.Reference5Ideal.S6144 .f32)
variable (m : (ℓ : Loc Cert.Kernel5Ideal.nD Cert.Kernel5Ideal.τ Cert.Kernel5Ideal.sig) → Buf (Elt Ideal) ℓ) (c : Dev Cert.Kernel5Ideal.nD)
  (h0 : a0 = m ((c.tc : Thread Cert.Kernel5Ideal.nD Cert.Kernel5Ideal.τ).loc Cert.Kernel5Ideal.main_arg0))
  (h1 : a1 = m ((c.tc : Thread Cert.Kernel5Ideal.nD Cert.Kernel5Ideal.τ).loc Cert.Kernel5Ideal.main_arg1))
  (h2 : a2 = m ((c.tc : Thread Cert.Kernel5Ideal.nD Cert.Kernel5Ideal.τ).loc Cert.Kernel5Ideal.main_arg2))
  (h3 : a3 = m ((c.tc : Thread Cert.Kernel5Ideal.nD Cert.Kernel5Ideal.τ).loc Cert.Kernel5Ideal.main_arg3))
include h2 h3

include h0 in
theorem arrA : Cert.Reference5Ideal.Ada.refA a0 a2 a3 = Cert.Kernel5Ideal.Ada.GA m c := by
  subst h0 h2 h3
  funext i
  obtain ⟨r, n, rfl⟩ : ∃ (r : Fin 32) (n : Fin 6144), i = ix2 r n := ⟨i 0, i 1, (ix2_eta i).symm⟩
  exact Cert.Reference5Ideal.Ada.refA_apply _ _ _ r n

include h1 in
theorem arrC : Cert.Reference5Ideal.Ada.refC a1 a2 a3 = Cert.Kernel5Ideal.Ada.GC m c := by
  subst h1 h2 h3
  funext i
  obtain ⟨n, rfl⟩ : ∃ (n : Fin 6144), i = ix1 n := ⟨i 0, (ix1_eta i).symm⟩
  exact Cert.Reference5Ideal.Ada.refC_apply _ _ _ n

end

/-! ## The claims -/

theorem frame_referenceIdeal : letI := Cert.Reference5Ideal.Gen.facts; Cert.quiescent_Reference5Ideal := fun m g _ =>
  letI := Cert.Reference5Ideal.Gen.facts
  (θ_run Cert.Reference5Ideal.defs _ _).mono
    (fun r h => ⟨fun c => (h c).2.2, sem_eq_zero_of_no_sems (by decide) r.2⟩) (Cert.Reference5Ideal.Value.run (F := Ideal) m g)

open Cert.Kernel5Ideal Cert.Kernel5Ideal.Ada in
theorem algebraic_ada : letI := Cert.Kernel5Ideal.Gen.facts; letI := Cert.Reference5Ideal.Gen.facts; Cert.algebraic_Kernel5Ideal_Reference5Ideal :=
  letI := Cert.Kernel5Ideal.Gen.facts
  letI := Cert.Reference5Ideal.Gen.facts
  fun m g m' g' _ ha => ⟨fun c => GA m c, fun c => GC m c,
    (θ_run Cert.Kernel5Ideal.defs _ _).mono
      (fun r h c => ⟨((h.1 c).2 main_v7 (Pipeline.mem_restRefs_of main_v7 (by decide) (by decide))).trans (rows_eq m c),
        ((h.1 c).2 main_v9 (Pipeline.mem_restRefs_of main_v9 (by decide) (by decide))).trans (row_eq m c), h.2 c⟩)
      (θ_run_and (Cert.Kernel5Ideal.Gen.run_main (F := Ideal) m g) (Cert.Kernel5Ideal.Gen.unchanged (F := Ideal) m g)),
    (θ_run Cert.Reference5Ideal.defs _ _).mono
      (fun r h c => by
        obtain ⟨h0, h1, h2, h3⟩ := ha c
        obtain ⟨r0, r1, hr⟩ := h c
        exact ⟨r0.trans (arrA _ _ _ m c h0 h2 h3), r1.trans (arrC _ _ _ m c h1 h2 h3), hr⟩)
      (Cert.Reference5Ideal.Value.run (F := Ideal) m' g')⟩

end Cert.Ada

end

end
-- ==== Proof.Peer.Hyps.lean ====
/-
  What the second expert call assumes of the experts' words: each names a row of the table, as the precondition says.
-/
module

public import proofs.«01_k».proof.Defs
public import proofs.«01_k».proof.Proof.Gen.Kernel6.Frame
public import proofs.«01_k».proof.Proof.Gen.Kernel6Ideal.Frame
public import proofs.«01_k».proof.Proof.Gen.Pre_expert_range

@[expose] public section

set_option maxRecDepth 16384

noncomputable section

namespace Cert.Peer

open Idealize.ShloMosaic Idealize.ShloMosaic.TcCoe

/-- The precondition at a word. -/
theorem words_lt {F : FTy → Type} [FloatOps F] (a0 : IVec Cert.Pre_expert_range.S65536x128 32) (a1 a2 a3 a4 a5)
    (h : Cert.Pre_expert_range.fn (F := F) a0 a1 a2 a3 a4 a5 = fun _ => 1#1) (y) : (a0 y).toNat < 16384 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_expert_range.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.Peer

namespace Cert.Kernel6Ideal.Peer

open Cert.Kernel6Ideal Cert.Kernel6Ideal.Gen
open Idealize.ShloMosaic Idealize.ShloMosaic.TcCoe

theorem chk_of_lt (v : BitVec 32) (h : v.toNat < 16384) : k0_chk1 v := by
  intro a
  match a with
  | ⟨0, _⟩ => show v.toNat + 1 ≤ 16384; omega
  | ⟨1, _⟩ => show 0 + 8 ≤ 8; omega
  | ⟨2, _⟩ => show 0 + 128 ≤ 128; omega

variable {F : FTy → Type} [FloatOps F] (m : (ℓ : Loc nD τ sig) → Buf (Elt F) ℓ)

theorem blk_lt (h : ∀ (c : Dev nD) y, (m ((c : Thread nD τ).loc main_arg0) y).toNat < 16384) (c : Dev nD) (t : Fin cfg0.N) (i) : (iblk m c 0 t i).toNat < 16384 := by
  unfold iblk
  rw [View.read_apply, cast_eq]
  have e : V m c (Pipeline.arrRef spec0 0) = m ((c : Thread nD τ).loc main_arg0) := V_main_arg0 m c
  rw [e]
  exact h c _

set_option maxHeartbeats 4000000 in
theorem hyps (h : ∀ (c : Dev nD) y, (m ((c : Thread nD τ).loc main_arg0) y).toNat < 16384) : Hyps m := by
  intro c t
  have rd : ∀ (r : LoadRect S128x128) (i), ((ms0_0 t).view.readAt (Elt F) r ((hs0_0 t).unread (iblk m c 0 t)) i).toNat < 16384 := fun r i => by
    rw [View.readAt_apply, Memref.IsWhole.read_unread]
    exact blk_lt m h c t _
  repeat' refine And.intro ?_ ?_
  all_goals exact fun kq hkq => chk_of_lt _ (rd _ _)

end Cert.Kernel6Ideal.Peer

namespace Cert.Kernel6.Peer

open Cert.Kernel6 Cert.Kernel6.Gen
open Idealize.ShloMosaic Idealize.ShloMosaic.TcCoe

theorem chk_of_lt (v : BitVec 32) (h : v.toNat < 16384) : k0_chk1 v := by
  intro a
  match a with
  | ⟨0, _⟩ => show v.toNat + 1 ≤ 16384; omega
  | ⟨1, _⟩ => show 0 + 8 ≤ 8; omega
  | ⟨2, _⟩ => show 0 + 128 ≤ 128; omega

variable {F : FTy → Type} [FloatOps F] (m : (ℓ : Loc nD τ sig) → Buf (Elt F) ℓ)

theorem blk_lt (h : ∀ (c : Dev nD) y, (m ((c : Thread nD τ).loc main_arg0) y).toNat < 16384) (c : Dev nD) (t : Fin cfg0.N) (i) : (iblk m c 0 t i).toNat < 16384 := by
  unfold iblk
  rw [View.read_apply, cast_eq]
  have e : V m c (Pipeline.arrRef spec0 0) = m ((c : Thread nD τ).loc main_arg0) := V_main_arg0 m c
  rw [e]
  exact h c _

set_option maxHeartbeats 4000000 in
theorem hyps (h : ∀ (c : Dev nD) y, (m ((c : Thread nD τ).loc main_arg0) y).toNat < 16384) : Hyps m := by
  intro c t
  have rd : ∀ (r : LoadRect S128x128) (i), ((ms0_0 t).view.readAt (Elt F) r ((hs0_0 t).unread (iblk m c 0 t)) i).toNat < 16384 := fun r i => by
    rw [View.readAt_apply, Memref.IsWhole.read_unread]
    exact blk_lt m h c t _
  repeat' refine And.intro ?_ ?_
  all_goals exact fun kq hkq => chk_of_lt _ (rd _ _)

end Cert.Kernel6.Peer

end

end
-- ==== Proof.Peer.Spec.lean ====
/-
  The experts' second products at an entry: a token's slots, each an expert's row times the slot's weight, the gated
  residual and the last norm, over the extended reals.
-/
module

public import proofs.«01_k».proof.Proof.Mix.Spec

@[expose] public section

noncomputable section

namespace Cert.Peer

open Idealize.ShloMosaic

/-- A word's expert. -/
def EX (v : BitVec 32) : Fin 16384 := ⟨min v.toNat 16383, by omega⟩

/-- A token of a sequence. -/
def TK (b : Fin 32) (t : Fin 2048) : Fin 65536 := ⟨b.val * 2048 + t.val, by have := b.isLt; have := t.isLt; omega⟩

/-- The slot of a head's rank. -/
def SL (h : Fin 8) (k : Fin 16) : Fin 128 := ⟨h.val * 16 + k.val, by have := h.isLt; have := k.isLt; omega⟩
/-- The column of a tile's lane. -/
def CL (r : Fin 8) (l : Fin 128) : Fin 1024 := ⟨r.val * 128 + l.val, by have := r.isLt; have := l.isLt; omega⟩

/-- The residual row with the weighted experts under the gate. -/
def XP (e : Fin 128 → BitVec 32) (w : Fin 128 → EReal) (tbl : Fin 16384 → Fin 1024 → EReal) (x g : Fin 1024 → EReal) (d : Fin 1024) : EReal :=
  x d + g d * ∑ s, w s * tbl (EX (e s)) d

/-- A row's scale. -/
def SCALE (y : Fin 1024 → EReal) : EReal :=
  Ideal.rsqrt (Ideal.div (∑ d, y d * y d) (Ideal.ofBits .f32 0x44800000#32) + Ideal.ofBits .f32 0x358637BD#32)

/-- The row under the norm. -/
def PV (e : Fin 128 → BitVec 32) (w : Fin 128 → EReal) (tbl : Fin 16384 → Fin 1024 → EReal) (x g f : Fin 1024 → EReal) (d : Fin 1024) : EReal :=
  XP e w tbl x g d * SCALE (XP e w tbl x g) * f d

theorem sum_slots (f : Fin 128 → EReal) : ∑ h, ∑ k, f (SL h k) = ∑ s, f s := by
  rw [← Equiv.sum_comp (finProdFinEquiv (m := 8) (n := 16)), Fintype.sum_prod_type]
  exact Finset.sum_congr rfl fun h _ => Finset.sum_congr rfl fun k _ => congrArg f (Fin.ext (by show h.val * 16 + k.val = k.val + 16 * h.val; omega))

theorem sum_cols (f : Fin 1024 → EReal) : ∑ r, ∑ l, f (CL r l) = ∑ d, f d := by
  rw [← Equiv.sum_comp (finProdFinEquiv (m := 8) (n := 128)), Fintype.sum_prod_type]
  exact Finset.sum_congr rfl fun r _ => Finset.sum_congr rfl fun l _ => congrArg f (Fin.ext (by show r.val * 128 + l.val = l.val + 128 * r.val; omega))

/-- Four sums of every fourth slot. -/
theorem sum_fours (f : ℕ → EReal) :
    (∑ i ∈ Finset.range 32, f (4 * i) + ∑ i ∈ Finset.range 32, f (4 * i + 1)) + (∑ i ∈ Finset.range 32, f (4 * i + 2) + ∑ i ∈ Finset.range 32, f (4 * i + 3))
      = ∑ s : Fin 128, f s.val := by
  rw [← Equiv.sum_comp (finProdFinEquiv (m := 32) (n := 4)), Fintype.sum_prod_type, ← Finset.sum_add_distrib, ← Finset.sum_add_distrib, ← Finset.sum_add_distrib,
    Finset.sum_range]
  refine Finset.sum_congr rfl fun i _ => ?_
  rw [Fin.sum_univ_four]
  have e : ∀ k : Fin 4, ((finProdFinEquiv (i, k) : Fin (32 * 4))).val = 4 * i.val + k.val := fun k => by show k.val + 4 * i.val = _; omega
  simp only [e]
  rw [add_assoc (f _ + f _)]
  rfl

end Cert.Peer

end

end
-- ==== Proof.Peer.Loop.lean ====
/-
  What the loop over a block's tokens leaves in the block, as values: each token's row is the norm of its residual row
  with the weighted experts added, the experts' rows read at the words of the token's slots and summed four abreast.
  Stated over any float operations.
-/
module

public import proofs.«01_k».proof.Proof.Gen.Kernel6Ideal.Frame
public import proofs.«01_k».proof.Proof.Gen.Kernel6Ideal.Loops
public import Idealize.ShloMosaic.Lib.WholeRead
public import Idealize.ShloMosaic.Lib.Pointwise.Index

@[expose] public section

set_option maxRecDepth 65536

noncomputable section

namespace Cert.Kernel6Ideal.Peer

open Cert.Kernel6Ideal.Gen
open Idealize.ShloMosaic Idealize.ShloMosaic.TcCoe Idealize.ShloMosaic.Tactic

variable {F : FTy → Type} [FloatOps F]

theorem trips_eq : k0_t1_loop.trips = 128 := by decide
theorem off257_eq (k : Fin k0_t1_loop.trips) : k0_off257 k = ![k.val, 0, 0] := by revert k; decide +kernel
theorem off1_eq (k : Fin k0_t1_loop.trips) : k0_off1 k 0 = k.val := by revert k; decide +kernel

variable (m : (ℓ : Loc nD τ sig) → Buf (Elt F) ℓ) (hH : Hyps m) (c : Dev nD) (t : Fin cfg0.N)

/-! ## The loads -/

theorem inb_slot (k : Fin k0_t1_loop.trips) (j : Fin 128) : ∀ a, (![k0_off1 k 0, j.val] : Fin 2 → ℕ) a + S1x1.size a ≤ S128x128.size a := by
  rw [off1_eq]
  have hk : k.val < 128 := trips_eq ▸ k.isLt
  have hj := j.isLt
  intro a
  match a with
  | ⟨0, _⟩ => show k.val + 1 ≤ 128; omega
  | ⟨1, _⟩ => show j.val + 1 ≤ 128; omega

/-- A slot's word. -/
def WORD (k : Fin k0_t1_loop.trips) (j : Fin 128) : Elt F .i32 :=
  (ms0_0 t).view.readAt (Elt F) (Rect.unit (s := S128x128) ![k0_off1 k 0, j.val] S1x1.size (inb_slot k j)).toLoadRect ((hs0_0 t).unread (iblk m c 0 t)) (Shape.Idx.first (numel1_S1x1.symm ▸ Nat.one_pos))
/-- A slot's weight. -/
def WEIGHT (k : Fin k0_t1_loop.trips) (j : Fin 128) : Elt F .f32 :=
  (ms0_1 t).view.readAt (Elt F) (Rect.unit (s := S128x128) ![k0_off1 k 0, j.val] S1x1.size (inb_slot k j)).toLoadRect ((hs0_1 t).unread (iblk m c 1 t)) (Shape.Idx.first (numel1_S1x1.symm ▸ Nat.one_pos))
/-- An expert's row. -/
def EROW (v : BitVec 32) (hv : k0_chk1 v) : Vec F S1x8x128 .bf16 :=
  (ms0_5 t).view.readAt (Elt F) (Rect.unit (s := S16384x8x128) (k0_off2 v) S1x8x128.size hv).toLoadRect ((hs0_5 t).unread (iblk m c 5 t))
/-- A token's row. -/
def XIN (k : Fin k0_t1_loop.trips) : Vec F S1x8x128 .f32 :=
  (ms0_2 t).view.readAt (Elt F) (Rect.unit (s := S128x8x128) (k0_off257 k) S1x8x128.size (k0_off257_inb k)).toLoadRect ((hs0_2 t).unread (iblk m c 2 t))
/-- The gate's row. -/
def GIN : Vec F S1x8x128 .f32 :=
  (ms0_3 t).view.readAt (Elt F) (Rect.unit (s := S1x8x128) ![0, 0, 0] S1x8x128.size inb_S1x8x128_S1x8x128_0_0_0).toLoadRect ((hs0_3 t).unread (iblk m c 3 t))
/-- The gain. -/
def FIN : Vec F S8x128 .f32 :=
  (ms0_4 t).view.readAt (Elt F) (Rect.unit (s := S8x128) ![0, 0] S8x128.size inb_S8x128_S8x128_0_0).toLoadRect ((hs0_4 t).unread (iblk m c 4 t))

/-! ## A token's row -/

section
variable (k : Fin k0_t1_loop.trips) (hw : ∀ j, k0_chk1 (WORD m c t k j))

/-- A slot's weighted row. -/
def TERM (n : ℕ) : FVec F S8x128 .f32 := k0_pay3 (WEIGHT m c t k (Fin.ofNat 128 n)) (EROW m c t (WORD m c t k (Fin.ofNat 128 n)) (hw (Fin.ofNat 128 n)))

/-- The sum of every fourth slot's row. -/
def ACC (a : ℕ) : ℕ → FVec F S8x128 .f32
  | 0 => TERM m c t k hw a
  | n + 1 => addf (ACC a n) (TERM m c t k hw (4 * (n + 1) + a))

/-- The residual row. -/
def ROW : FVec F S8x128 .f32 :=
  addf (shapeCast S8x128 (XIN m c t k) shapeCasts_S1x8x128_S8x128) (mulf (k0_pay1 (GIN m c t)) (addf (addf (ACC m c t k hw 0 31) (ACC m c t k hw 1 31)) (addf (ACC m c t k hw 2 31) (ACC m c t k hw 3 31))))

end

/-- A row's mean square. -/
def MSQ (x : FVec F S8x128 .f32) : FVec F S1x1 .f32 :=
  divf (shapeCast S1x1 (multiReduction .add [0] S1 (shapeCast S8x1 (multiReduction .add [1] S8 (mulf x x) 0x00000000#32 reduces_S8x128_S8 (.inl rfl) rfl) shapeCasts_S8_S8x1) 0x00000000#32 reduces_S8x1_S1 (.inl rfl) rfl) shapeCasts_S1_S1x1) (broadcast S1x1 (Scalar.ofBits .f32 0x44800000#32))

/-- What a token stores. -/
def VAL (k : Fin k0_t1_loop.trips) (hw : ∀ j, k0_chk1 (WORD m c t k j)) : FVec F S1x8x128 .f32 :=
  k0_pay2 (FIN m c t) (ROW m c t k hw) (MSQ (ROW m c t k hw)) (Scalar.ofBits .f32 0x358637BD#32)

/-! ## The loop -/

/-- The pieces of the tokens before `n`. -/
def PB (n : ℕ) : List (View.Piece (Elt F) S128x8x128 .f32) :=
  pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (GIN m c t) (FIN m c t) ((hs0_0 t).unread (iblk m c 0 t)) ((hs0_1 t).unread (iblk m c 1 t)) ((hs0_2 t).unread (iblk m c 2 t)) ((hs0_5 t).unread (iblk m c 5 t)) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t) n

set_option maxHeartbeats 4000000 in
theorem outs_eq : outsAt0 m hH c t = VO0_6.read (Elt F) (VO0_6.writes (Elt F) VO0_6.junk (PB m hH c t 128)) := rfl

unseal trip_k0_t1 in
set_option maxHeartbeats 4000000 in
/-- One token's piece. -/
theorem PB_succ (k : Fin k0_t1_loop.trips) (hw : ∀ j, k0_chk1 (WORD m c t k j)) : PB m hH c t (k.val + 1)
    = [⟨Rect.unit (s := S128x8x128) (k0_off257 k) S1x8x128.size (k0_off257_inb k), VAL m c t k hw⟩] ++ PB m hH c t k.val := by
  refine (pb_k0_t1_succ (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (GIN m c t) (FIN m c t) ((hs0_0 t).unread (iblk m c 0 t)) ((hs0_1 t).unread (iblk m c 1 t)) ((hs0_2 t).unread (iblk m c 2 t)) ((hs0_5 t).unread (iblk m c 5 t)) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t) k).trans (congrArg (· ++ _) ?_)
  unfold tripL_k0_t1
  unfold trip_k0_t1
  rfl

/-- A row after a token's store. -/
theorem read_row (f : VO0_6.ty.Contents (Elt F)) (k : Fin k0_t1_loop.trips) (w : FVec F S1x8x128 .f32) (L : List (View.Piece (Elt F) S128x8x128 .f32))
    (j : Fin k0_t1_loop.trips) (r : Fin 8) (l : Fin 128) :
    VO0_6.read (Elt F) (VO0_6.writes (Elt F) f (⟨Rect.unit (s := S128x8x128) (k0_off257 k) S1x8x128.size (k0_off257_inb k), w⟩ :: L)) (ix3 (Fin.cast trips_eq j) r l)
      = if j = k then w (ix3 0 r l) else VO0_6.read (Elt F) (VO0_6.writes (Elt F) f L) (ix3 (Fin.cast trips_eq j) r l) := by
  generalize k0_off257_inb k = inb
  generalize ho : k0_off257 k = off at inb
  rw [off257_eq] at ho
  subst ho
  by_cases he : j = k
  · subst he
    rw [if_pos rfl]
    refine View.read_writes_cons_hit_of_coords VO0_6 f (Rect.unit (s := S128x8x128) ![j.val, 0, 0] S1x8x128.size inb) w L (ix3 0 r l) _ ?_
    intro b
    match b with
    | ⟨0, _⟩ => show j.val = j.val + 1 * 0; omega
    | ⟨1, _⟩ => show r.val = 0 + 1 * r.val; omega
    | ⟨2, _⟩ => show l.val = 0 + 1 * l.val; omega
  · rw [if_neg he]
    have he' : j.val ≠ k.val := fun h => he (Fin.ext h)
    exact View.read_writes_cons_miss_of_axis VO0_6 f _ _ _ 0 k.val 1 rfl rfl rfl (by show j.val < k.val ∨ k.val + 1 ≤ j.val; omega)

theorem VAL_congr (hw : ∀ k j, k0_chk1 (WORD m c t k j)) {j k : Fin k0_t1_loop.trips} (h : j = k) : VAL m c t k (hw k) = VAL m c t j (hw j) := by
  subst h
  rfl

/-- After the tokens before `n`, each such token's row reads what it stored. -/
theorem row_eq (hw : ∀ k j, k0_chk1 (WORD m c t k j)) (n : ℕ) (hn : n ≤ 128) (j : Fin k0_t1_loop.trips) (hj : j.val < n) (r : Fin 8) (l : Fin 128) :
    VO0_6.read (Elt F) (VO0_6.writes (Elt F) VO0_6.junk (PB m hH c t n)) (ix3 (Fin.cast trips_eq j) r l) = VAL m c t j (hw j) (ix3 0 r l) := by
  induction n with
  | zero => exact absurd hj (Nat.not_lt_zero _)
  | succ n ih =>
    have hs := PB_succ m hH c t ⟨n, by rw [trips_eq]; omega⟩ (hw _)
    rw [show (⟨n, by rw [trips_eq]; omega⟩ : Fin k0_t1_loop.trips).val + 1 = n + 1 from rfl, List.singleton_append] at hs
    rw [hs, read_row]
    by_cases he : j = ⟨n, by rw [trips_eq]; omega⟩
    · rw [if_pos he]
      exact congrFun (VAL_congr m c t hw he) _
    · rw [if_neg he]
      have he' : j.val ≠ n := fun h => he (Fin.ext h)
      exact ih (by omega) (by omega)

end Cert.Kernel6Ideal.Peer

end

end
-- ==== Proof.Peer.Value.lean ====
/-
  The second expert call's array after the last grid point, and the result the host reads from it, at an entry over the
  extended reals.
-/
module

public import proofs.«01_k».proof.Proof.Peer.Spec
public import proofs.«01_k».proof.Proof.Peer.Loop
public import Idealize.ShloMosaic.Lib.Pipeline.ValueKit

@[expose] public section

set_option maxRecDepth 65536

noncomputable section

namespace Cert.Kernel6Ideal.Peer

open Cert.Kernel6Ideal Cert.Kernel6Ideal.Gen Cert.Peer
open Idealize.ShloMosaic Idealize.ShloMosaic.TcCoe

variable (m : (ℓ : Loc nD τ sig) → Buf (Elt Ideal) ℓ) (hH : Hyps m) (c : Dev nD) (t : Fin cfg0.N)

/-! ## The blocks -/

def B0 : Vec Ideal S128x128 .i32 := iblk m c 0 t
def B1 : FVec Ideal S128x128 .f32 := iblk m c 1 t
def B2 : FVec Ideal S128x8x128 .f32 := iblk m c 2 t
def B3 : FVec Ideal S1x8x128 .f32 := iblk m c 3 t
def B4 : FVec Ideal S8x128 .f32 := iblk m c 4 t
def B5 : FVec Ideal S16384x8x128 .bf16 := iblk m c 5 t

/-! ## The loads at an entry -/

/-- A token's row in its block. -/
def KR (k : Fin k0_t1_loop.trips) : Fin 128 := Fin.cast trips_eq k

theorem WORD_eq (k : Fin k0_t1_loop.trips) (j : Fin 128) : WORD m c t k j = B0 m c t (ix2 (KR k) j) := by
  unfold WORD
  rw [Memref.IsWhole.readAt_unread]
  refine congrArg (B0 m c t) (funext fun b => Fin.ext ?_)
  match b with
  | ⟨0, _⟩ => show k0_off1 k 0 + 1 * 0 = k.val; rw [off1_eq]; omega
  | ⟨1, _⟩ => show j.val + 1 * 0 = j.val; omega
theorem WEIGHT_eq (k : Fin k0_t1_loop.trips) (j : Fin 128) : WEIGHT m c t k j = B1 m c t (ix2 (KR k) j) := by
  unfold WEIGHT
  rw [Memref.IsWhole.readAt_unread]
  refine congrArg (B1 m c t) (funext fun b => Fin.ext ?_)
  match b with
  | ⟨0, _⟩ => show k0_off1 k 0 + 1 * 0 = k.val; rw [off1_eq]; omega
  | ⟨1, _⟩ => show j.val + 1 * 0 = j.val; omega
theorem EROW_apply (v : BitVec 32) (hv : k0_chk1 v) (r : Fin 8) (l : Fin 128) : EROW m c t v hv (ix3 0 r l) = B5 m c t (ix3 (EX v) r l) := by
  have h0 : v.toNat + 1 ≤ 16384 := hv 0
  unfold EROW
  rw [Memref.IsWhole.readAt_unread]
  refine congrArg (B5 m c t) (funext fun b => Fin.ext ?_)
  match b with
  | ⟨0, _⟩ => show v.toNat + 1 * 0 = min v.toNat 16383; omega
  | ⟨1, _⟩ => show 0 + 1 * r.val = r.val; omega
  | ⟨2, _⟩ => show 0 + 1 * l.val = l.val; omega
theorem XIN_apply (k : Fin k0_t1_loop.trips) (r : Fin 8) (l : Fin 128) : XIN m c t k (ix3 0 r l) = B2 m c t (ix3 (KR k) r l) := by
  have h0 : k0_off257 k 0 = k.val := congrFun (off257_eq k) 0
  unfold XIN
  rw [Memref.IsWhole.readAt_unread]
  refine congrArg (B2 m c t) (funext fun b => Fin.ext ?_)
  match b with
  | ⟨0, _⟩ => show k0_off257 k 0 + 1 * 0 = k.val; omega
  | ⟨1, _⟩ => show 0 + 1 * r.val = r.val; omega
  | ⟨2, _⟩ => show 0 + 1 * l.val = l.val; omega
theorem GIN_apply (r : Fin 8) (l : Fin 128) : GIN m c t (ix3 0 r l) = B3 m c t (ix3 0 r l) := by
  unfold GIN
  rw [Memref.IsWhole.readAt_unread]
  refine congrArg (B3 m c t) (funext fun b => Fin.ext ?_)
  match b with
  | ⟨0, _⟩ => rfl
  | ⟨1, _⟩ => show 0 + 1 * r.val = r.val; omega
  | ⟨2, _⟩ => show 0 + 1 * l.val = l.val; omega
theorem FIN_apply (r : Fin 8) (l : Fin 128) : FIN m c t (ix2 r l) = B4 m c t (ix2 r l) := by
  unfold FIN
  rw [Memref.IsWhole.readAt_unread]
  refine congrArg (B4 m c t) (funext fun b => Fin.ext ?_)
  match b with
  | ⟨0, _⟩ => show 0 + 1 * r.val = r.val; omega
  | ⟨1, _⟩ => show 0 + 1 * l.val = l.val; omega

/-! ## A token's row at an entry -/

section
variable (k : Fin k0_t1_loop.trips) (hw : ∀ j, k0_chk1 (WORD m c t k j))

/-- A slot's weighted entry. -/
def TV (r : Fin 8) (l : Fin 128) (n : ℕ) : EReal :=
  B1 m c t (ix2 (KR k) (Fin.ofNat 128 n)) * B5 m c t (ix3 (EX (B0 m c t (ix2 (KR k) (Fin.ofNat 128 n)))) r l)

theorem TERM_apply (n : ℕ) (r : Fin 8) (l : Fin 128) : TERM m c t k hw n (ix2 r l) = TV m c t k r l n := by
  unfold TERM
  pointwise [k0_pay3]
  rw [EROW_apply, WEIGHT_eq, WORD_eq]
  rfl

theorem ACC_apply (a n : ℕ) (r : Fin 8) (l : Fin 128) :
    ACC m c t k hw a n (ix2 r l) = ∑ i ∈ Finset.range (n + 1), TV m c t k r l (4 * i + a) := by
  induction n with
  | zero =>
    rw [Finset.sum_range_one]
    unfold ACC
    rw [TERM_apply, Nat.mul_zero, Nat.zero_add]
  | succ n ih =>
    rw [Finset.sum_range_succ, ← ih, ← TERM_apply m c t k hw]
    rfl

set_option maxHeartbeats 1000000 in
theorem ROW_apply (r : Fin 8) (l : Fin 128) :
    ROW m c t k hw (ix2 r l) = B2 m c t (ix3 (KR k) r l) + B3 m c t (ix3 0 r l) * ∑ s : Fin 128, TV m c t k r l s.val := by
  unfold ROW
  pointwise [k0_pay1]
  rw [XIN_apply, GIN_apply, ACC_apply, ACC_apply, ACC_apply, ACC_apply]
  rw [← sum_fours]
  rfl

theorem MSQ_apply (x : FVec Ideal S8x128 .f32) : MSQ x (ix2 0 0) = Ideal.div (∑ r : Fin 8, ∑ l : Fin 128, x (ix2 r l) * x (ix2 r l)) (Ideal.ofBits .f32 0x44800000#32) := by
  unfold MSQ
  pointwise

theorem VAL_apply (r : Fin 8) (l : Fin 128) :
    VAL m c t k hw (ix3 0 r l) = ROW m c t k hw (ix2 r l) * Ideal.rsqrt (MSQ (ROW m c t k hw) (ix2 0 0) + Ideal.ofBits .f32 0x358637BD#32) * B4 m c t (ix2 r l) := by
  unfold VAL
  pointwise [k0_pay2]
  rw [FIN_apply]

end

/-! ## The host's copies -/

theorem V_t (e : Fin 16384) (r : Fin 8) (l : Fin 128) : V m c main_v1 (ix3 e r l) = m ((c : Thread nD τ).loc main_arg5) (ix2 e (CL r l)) := by
  have h : V m c main_v1 = (shapeCast S16384x8x128 (truncf .bf16 (m ((c : Thread nD τ).loc main_arg5) : FVec Ideal S16384x1024 .f32) bitsLt_bf16_f32) shapeCasts_S16384x1024_S16384x8x128 : FVec Ideal S16384x8x128 .bf16) := by
    unfold V V0; simp only [hostOps0, List.flatten_cons, List.flatten_nil, List.append_nil]; after_results; rfl
  rw [h]; pointwise
  rfl
theorem cast_x (x : FVec Ideal S32x2048x1024 .f32) (n : Fin 65536) (r : Fin 8) (l : Fin 128) :
    shapeCast S65536x8x128 x shapeCasts_S32x2048x1024_S65536x8x128 (ix3 n r l)
      = x (ix3 ⟨n.val / 2048, by have := n.isLt; omega⟩ ⟨n.val % 2048, Nat.mod_lt _ (by decide)⟩ (CL r l)) := by
  pointwise
  rfl
theorem V_x (b : Fin 32) (s : Fin 2048) (r : Fin 8) (l : Fin 128) : V m c main_v2 (ix3 (TK b s) r l) = m ((c : Thread nD τ).loc main_arg2) (ix3 b s (CL r l)) := by
  have hb := b.isLt
  have hs := s.isLt
  have h : V m c main_v2 = shapeCast S65536x8x128 (m ((c : Thread nD τ).loc main_arg2)) shapeCasts_S32x2048x1024_S65536x8x128 := by
    unfold V V0; simp only [hostOps0, List.flatten_cons, List.flatten_nil, List.append_nil]; after_results; rfl
  rw [h, cast_x]
  refine congrArg (m ((c : Thread nD τ).loc main_arg2)) ?_
  show ix3 (⟨(b.val * 2048 + s.val) / 2048, _⟩ : Fin 32) (⟨(b.val * 2048 + s.val) % 2048, _⟩ : Fin 2048) (CL r l) = _
  congr 1 <;> refine Fin.ext ?_
  · show (b.val * 2048 + s.val) / 2048 = b.val; omega
  · show (b.val * 2048 + s.val) % 2048 = s.val; omega
theorem V_g (b : Fin 32) (r : Fin 8) (l : Fin 128) : V m c main_v3 (ix3 b r l) = m ((c : Thread nD τ).loc main_arg3) (ix2 b (CL r l)) := by
  have h : V m c main_v3 = shapeCast S32x8x128 (m ((c : Thread nD τ).loc main_arg3)) shapeCasts_S32x1024_S32x8x128 := by
    unfold V V0; simp only [hostOps0, List.flatten_cons, List.flatten_nil, List.append_nil]; after_results; rfl
  rw [h]; pointwise
  rfl
theorem V_f (r : Fin 8) (l : Fin 128) : V m c main_v4 (ix2 r l) = m ((c : Thread nD τ).loc main_arg4) (ix1 (CL r l)) := by
  have h : V m c main_v4 = shapeCast S8x128 (m ((c : Thread nD τ).loc main_arg4)) shapeCasts_S1024_S8x128 := by
    unfold V V0; simp only [hostOps0, List.flatten_cons, List.flatten_nil, List.append_nil]; after_results; rfl
  rw [h]; pointwise
  rfl

/-! ## The windows -/

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val / 16, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![(grid0.coords t 0).val, 0, 0] := (by decide +kernel : ∀ t : Fin grid0.N, _)

/-- A point's tile of tokens. -/
def TT (t : Fin cfg0.N) : Fin 512 := grid0.coords t 0
/-- A point's example. -/
def TB (t : Fin cfg0.N) : Fin 32 := ⟨(TT t).val / 16, by have := (TT t).isLt; omega⟩
/-- A block's token in its example. -/
def TS (t : Fin cfg0.N) (k : Fin 128) : Fin 2048 := ⟨(TT t).val % 16 * 128 + k.val, by have := k.isLt; omega⟩

theorem tk_val (k : Fin 128) : (TK (TB t) (TS t k)).val = (TT t).val * 128 + k.val := by
  show (TT t).val / 16 * 2048 + ((TT t).val % 16 * 128 + k.val) = _
  omega

theorem blk0 (k : Fin 128) (s : Fin 128) : B0 m c t (ix2 k s) = m ((c : Thread nD τ).loc main_arg0) (ix2 (TK (TB t) (TS t k)) s) := by
  rw [← V_main_arg0 m c]
  unfold B0
  blk_simp [iblk]
  refine congrArg (V m c main_arg0) (funext fun a => Fin.ext ?_)
  blk_simp [idx0]
  match a with
  | ⟨0, _⟩ => exact (tk_val t k).symm
  | ⟨1, _⟩ => show 0 * 128 + s.val = s.val; omega
theorem blk1 (k : Fin 128) (s : Fin 128) : B1 m c t (ix2 k s) = m ((c : Thread nD τ).loc main_arg1) (ix2 (TK (TB t) (TS t k)) s) := by
  rw [← V_main_arg1 m c]
  unfold B1
  blk_simp [iblk]
  refine congrArg (V m c main_arg1) (funext fun a => Fin.ext ?_)
  blk_simp [idx1]
  match a with
  | ⟨0, _⟩ => exact (tk_val t k).symm
  | ⟨1, _⟩ => show 0 * 128 + s.val = s.val; omega
theorem blk2 (k : Fin 128) (r : Fin 8) (l : Fin 128) : B2 m c t (ix3 k r l) = m ((c : Thread nD τ).loc main_arg2) (ix3 (TB t) (TS t k) (CL r l)) := by
  rw [← V_x m c]
  unfold B2
  blk_simp [iblk]
  refine congrArg (V m c main_v2) (funext fun a => Fin.ext ?_)
  blk_simp [idx2]
  match a with
  | ⟨0, _⟩ => exact (tk_val t k).symm
  | ⟨1, _⟩ => show 0 * 8 + r.val = r.val; omega
  | ⟨2, _⟩ => show 0 * 128 + l.val = l.val; omega
theorem blk3 (r : Fin 8) (l : Fin 128) : B3 m c t (ix3 0 r l) = m ((c : Thread nD τ).loc main_arg3) (ix2 (TB t) (CL r l)) := by
  rw [← V_g m c]
  unfold B3
  blk_simp [iblk]
  refine congrArg (V m c main_v3) (funext fun a => Fin.ext ?_)
  blk_simp [idx3]
  match a with
  | ⟨0, _⟩ => show (TT t).val / 16 * 1 + 0 = (TT t).val / 16; omega
  | ⟨1, _⟩ => show 0 * 8 + r.val = r.val; omega
  | ⟨2, _⟩ => show 0 * 128 + l.val = l.val; omega
theorem blk4 (r : Fin 8) (l : Fin 128) : B4 m c t (ix2 r l) = m ((c : Thread nD τ).loc main_arg4) (ix1 (CL r l)) := by
  rw [← V_f m c]
  unfold B4
  blk_simp [iblk]
  refine congrArg (V m c main_v4) (funext fun a => Fin.ext ?_)
  blk_simp [idx4]
  match a with
  | ⟨0, _⟩ => show 0 * 8 + r.val = r.val; omega
  | ⟨1, _⟩ => show 0 * 128 + l.val = l.val; omega
theorem blk5 (e : Fin 16384) (r : Fin 8) (l : Fin 128) : B5 m c t (ix3 e r l) = m ((c : Thread nD τ).loc main_arg5) (ix2 e (CL r l)) := by
  rw [← V_t m c]
  unfold B5
  blk_simp [iblk]
  refine congrArg (V m c main_v1) (funext fun a => Fin.ext ?_)
  blk_simp [idx5]
  match a with
  | ⟨0, _⟩ => show 0 * 16384 + e.val = e.val; omega
  | ⟨1, _⟩ => show 0 * 8 + r.val = r.val; omega
  | ⟨2, _⟩ => show 0 * 128 + l.val = l.val; omega

/-! ## The array -/

/-- The result. -/
def G : FVec Ideal S32x2048x1024 .f32 := fun i =>
  PV (fun s => m ((c : Thread nD τ).loc main_arg0) (ix2 (TK (i 0) (i 1)) s)) (fun s => m ((c : Thread nD τ).loc main_arg1) (ix2 (TK (i 0) (i 1)) s))
    (fun e d => m ((c : Thread nD τ).loc main_arg5) (ix2 e d)) (fun d => m ((c : Thread nD τ).loc main_arg2) (ix3 (i 0) (i 1) d))
    (fun d => m ((c : Thread nD τ).loc main_arg3) (ix2 (i 0) d)) (fun d => m ((c : Thread nD τ).loc main_arg4) (ix1 d)) (i 2)

section
variable (k : Fin k0_t1_loop.trips) (hw : ∀ j, k0_chk1 (WORD m c t k j))

theorem ROW_eq (r : Fin 8) (l : Fin 128) : ROW m c t k hw (ix2 r l) =
    XP (fun s => m ((c : Thread nD τ).loc main_arg0) (ix2 (TK (TB t) (TS t (KR k))) s)) (fun s => m ((c : Thread nD τ).loc main_arg1) (ix2 (TK (TB t) (TS t (KR k))) s))
      (fun e d => m ((c : Thread nD τ).loc main_arg5) (ix2 e d)) (fun d => m ((c : Thread nD τ).loc main_arg2) (ix3 (TB t) (TS t (KR k)) d))
      (fun d => m ((c : Thread nD τ).loc main_arg3) (ix2 (TB t) d)) (CL r l) := by
  rw [ROW_apply, blk2, blk3]
  refine congrArg (fun x : EReal => _ + _ * x) (Finset.sum_congr rfl fun s _ => ?_)
  unfold TV
  rw [show Fin.ofNat 128 s.val = s from Fin.ext (Nat.mod_eq_of_lt s.isLt), blk1, blk5, blk0]

theorem VAL_eq (r : Fin 8) (l : Fin 128) : VAL m c t k hw (ix3 0 r l) = G m c (ix3 (TB t) (TS t (KR k)) (CL r l)) := by
  rw [VAL_apply, MSQ_apply, blk4]
  simp only [ROW_eq]
  rw [sum_cols (fun d => XP _ _ _ _ _ d * XP _ _ _ _ _ d)]
  rfl

end

/-- The array, by token. -/
def A : FVec Ideal S65536x8x128 .f32 := fun i =>
  G m c (ix3 ⟨(i 0).val / 2048, by have : (i 0).val < 65536 := (i 0).isLt; omega⟩ ⟨(i 0).val % 2048, Nat.mod_lt _ (by decide)⟩ (CL (i 1) (i 2)))

theorem A_apply (b : Fin 32) (s : Fin 2048) (r : Fin 8) (l : Fin 128) : A m c (ix3 (TK b s) r l) = G m c (ix3 b s (CL r l)) := by
  have hb := b.isLt
  have hs := s.isLt
  refine congrArg (G m c) ?_
  show ix3 (⟨(b.val * 2048 + s.val) / 2048, _⟩ : Fin 32) (⟨(b.val * 2048 + s.val) % 2048, _⟩ : Fin 2048) (CL r l) = _
  congr 1 <;> refine Fin.ext ?_
  · show (b.val * 2048 + s.val) / 2048 = b.val; omega
  · show (b.val * 2048 + s.val) % 2048 = s.val; omega

variable (hw : ∀ t k j, k0_chk1 (WORD m c t k j))

include hw in
theorem final6 : (dats m hH 0 c).arrAt 6 cfg0.N = A m c := by
  refine (dats m hH 0 c).arrAt_eq_of_covers 6 _ (by decide +kernel) fun t hf y => ?_
  blk_simp
  rw [after0_6]
  obtain ⟨k, r, l, rfl⟩ : ∃ (k : Fin 128) (r : Fin 8) (l : Fin 128), y = ix3 k r l := ⟨y 0, y 1, y 2, (ix3_eta y).symm⟩
  rw [outs_eq]
  obtain ⟨k, rfl⟩ : ∃ k' : Fin k0_t1_loop.trips, k = Fin.cast trips_eq k' := ⟨Fin.cast trips_eq.symm k, rfl⟩
  rw [row_eq m hH c t (hw t) 128 (Nat.le_refl _) k (trips_eq ▸ k.isLt) r l, VAL_eq, ← A_apply]
  refine congrArg (A m c) (funext fun a => Fin.ext ?_)
  blk_simp [idx6]
  match a with
  | ⟨0, _⟩ => exact tk_val t (KR k)
  | ⟨1, _⟩ => show r.val = 0 * 8 + r.val; omega
  | ⟨2, _⟩ => show l.val = 0 * 128 + l.val; omega

/-! ## The result -/

include hw in
/-- The array as the host finds it after the call. -/
theorem arr_after : Pipeline.withArrays spec0 c (V0 m c) (fun w => (dats m hH 0 c).arrAt w cfg0.N) (Proc.devRef .tc main_v5) = A m c :=
  (Pipeline.withArrays_arr spec0 launch0.win.arr_inj c (V0 m c) (fun w => (dats m hH 0 c).arrAt w cfg0.N) 6).trans (final6 m hH c hw)

include hw in
theorem W_main_v6 : Pipeline.afterTail₀ cfgs (dats m hH) 0 (V0 m) [hostOps1] c main_v6 = shapeCast S32x2048x1024 (A m c) shapeCasts_S65536x8x128_S32x2048x1024 := by
  rw [← arr_after m hH c hw]
  unfold Pipeline.afterTail₀
  simp only [hostOps1, List.flatten_cons, List.flatten_nil, List.append_nil]
  after_results
  rfl

include hw in
theorem result_eq : Pipeline.afterTail₀ cfgs (dats m hH) 0 (V0 m) [hostOps1] c main_v6 = G m c := by
  rw [W_main_v6 m hH c hw]
  funext i
  obtain ⟨b, s, d, rfl⟩ : ∃ (b : Fin 32) (s : Fin 2048) (d : Fin 1024), i = ix3 b s d := ⟨i 0, i 1, i 2, (ix3_eta i).symm⟩
  obtain ⟨r, l, rfl⟩ : ∃ (r : Fin 8) (l : Fin 128), d = CL r l :=
    ⟨⟨d.val / 128, by have := d.isLt; omega⟩, ⟨d.val % 128, Nat.mod_lt _ (by decide)⟩, Fin.ext (by show d.val = d.val / 128 * 128 + d.val % 128; omega)⟩
  pointwise
  refine Eq.trans (congrArg (A m c) ?_) (A_apply m c b s r l)
  have hr := r.isLt
  have hl := l.isLt
  show ix3 (TK b s) (⟨(r.val * 128 + l.val) / 128, _⟩ : Fin 8) (⟨(r.val * 128 + l.val) % 128, _⟩ : Fin 128) = _
  congr 1 <;> refine Fin.ext ?_
  · show (r.val * 128 + l.val) / 128 = r.val; omega
  · show (r.val * 128 + l.val) % 128 = l.val; omega

end Cert.Kernel6Ideal.Peer

end

end
-- ==== Proof.Peer.RefValue.lean ====
/-
  The reference's second expert products, at an entry.
-/
module

public import proofs.«01_k».proof.Proof.Peer.Spec
public import proofs.«01_k».proof.Proof.Gen.Reference6Ideal.Run

@[expose] public section

set_option maxRecDepth 16384

noncomputable section

namespace Cert.Reference6Ideal.Peer

open Cert.Reference6Ideal Cert.Reference6Ideal.Gen Cert.Peer
open Idealize.ShloMosaic Idealize.ShloMosaic.TcCoe

variable (a0 : IVec S65536x128 32) (a1 : FVec Ideal S65536x128 .f32) (a2 : FVec Ideal S32x2048x1024 .f32) (a3 : FVec Ideal S32x1024 .f32)
  (a4 : FVec Ideal S1024 .f32) (a5 : FVec Ideal S16384x1024 .f32)

/-- The experts' words, by head and rank, as the gather takes them. -/
def IDX : IVec S65536x8x16x1 32 :=
  broadcastInDim S65536x8x16x1 ![0, 1, 2] bcast_S65536x8x16_S65536x8x16x1_0_1_2 (select (cmpi .slt (shapeCast _ a0 shapeCasts_S65536x128_S65536x8x16) (broadcastInDim S65536x8x16 ![] bcast_S_S65536x8x16 (constantI S_ 32 0#32))) (addi (shapeCast _ a0 shapeCasts_S65536x128_S65536x8x16) (broadcastInDim S65536x8x16 ![] bcast_S_S65536x8x16 (constantI S_ 32 16384#32))) (shapeCast _ a0 shapeCasts_S65536x128_S65536x8x16))

/-- The weighted experts. -/
def Y : FVec Ideal S65536x1024 .f32 :=
  Host.dotGeneral dot_S65536x8x16_S65536x8x16x1024_S65536x1024_12_12_n_3_0_0 none (shapeCast _ a1 shapeCasts_S65536x128_S65536x8x16) (Host.gather gather_S16384x1024_S65536x8x16x1_S65536x8x16x1024_3_0_n_n_0_3_11024 a5 (IDX a0))

/-- The residual rows. -/
def X : FVec Ideal S32x2048x1024 .f32 :=
  addf a2 (mulf (broadcastInDim S32x2048x1024 ![0, 1, 2] bcast_S32x1x1024_S32x2048x1024_0_1_2 (broadcastInDim S32x1x1024 ![0, 2] bcast_S32x1024_S32x1x1024_0_2 a3)) (shapeCast _ (Y a0 a1 a5) shapeCasts_S65536x1024_S32x2048x1024))

/-- The result. -/
def out : FVec Ideal S32x2048x1024 .f32 :=
  mulf (mulf (X a0 a1 a2 a3 a5) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (X a0 a1 a2 a3 a5) (X a0 a1 a2 a3 a5)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a4))

theorem take_apply (idx : IVec S65536x8x16x1 32) (t : Fin 65536) (h : Fin 8) (k : Fin 16) (d : Fin 1024) (v : BitVec 32)
    (hv : idx (ix4 t h k 0) = v) (h0 : v.toNat < 16384) :
    Host.gather gather_S16384x1024_S65536x8x16x1_S65536x8x16x1024_3_0_n_n_0_3_11024 a5 idx (ix4 t h k d) = a5 (ix2 (EX v) d) := by
  unfold Host.gather
  refine congrArg a5 (funext fun a => Fin.ext ?_)
  have s0 : ∀ h', GatherDims.siIdx gather_S16384x1024_S65536x8x16x1_S65536x8x16x1024_3_0_n_n_0_3_11024 (ix4 t h k d) ⟨0, h'⟩ = ix4 t h k 0 := fun h' => by
    funext a
    match a with
    | ⟨0, _⟩ => rfl
    | ⟨1, _⟩ => rfl
    | ⟨2, _⟩ => rfl
    | ⟨3, _⟩ => rfl
  match a with
  | ⟨0, _⟩ =>
    refine (congrArg (fun z => min (idx z).toInt.toNat 16383 + 0 + 0) (s0 (by decide))).trans ?_
    show min (idx (ix4 t h k 0)).toInt.toNat 16383 + 0 + 0 = min v.toNat 16383
    rw [hv, BitVec.toInt_eq_toNat_of_lt (by omega)]
    omega
  | ⟨1, _⟩ =>
    show 0 + 0 + d.val = d.val
    omega

/-- A word in range is not moved up by the table's length. -/
theorem pick_eq (v : BitVec 32) (h : v.toNat < 16384) : Scalar.select (IntOp.cmpi .slt v 0#32) (IntOp.addi v 16384#32) v = v := by
  have e : IntOp.cmpi .slt v 0#32 = 0#1 := by
    have : v.slt 0#32 = false := by
      simp only [BitVec.slt, decide_eq_false_iff_not, BitVec.toInt, BitVec.toNat_ofNat]
      omega
    show BitVec.ofBool (v.slt 0#32) = 0#1
    rw [this]
    rfl
  rw [e]
  rfl

theorem idx_apply (t : Fin 65536) (h : Fin 8) (k : Fin 16) (h0 : (a0 (ix2 t (SL h k))).toNat < 16384) : IDX a0 (ix4 t h k 0) = a0 (ix2 t (SL h k)) := by
  pointwise [IDX]
  exact pick_eq _ h0

theorem Y_apply (hr : ∀ t s, (a0 (ix2 t s)).toNat < 16384) (t : Fin 65536) (d : Fin 1024) :
    Y a0 a1 a5 (ix2 t d) = ∑ s, a1 (ix2 t s) * a5 (ix2 (EX (a0 (ix2 t s))) d) := by
  rw [← sum_slots]
  pointwise [Y]
  refine Finset.sum_congr rfl fun h _ => Finset.sum_congr rfl fun k _ => ?_
  rw [take_apply a5 (IDX a0) t h k d (a0 (ix2 t (SL h k))) (idx_apply a0 t h k (hr _ _)) (hr _ _)]
  rfl

theorem X_apply (hr : ∀ t s, (a0 (ix2 t s)).toNat < 16384) (b : Fin 32) (t : Fin 2048) (d : Fin 1024) :
    X a0 a1 a2 a3 a5 (ix3 b t d) = XP (fun s => a0 (ix2 (TK b t) s)) (fun s => a1 (ix2 (TK b t) s)) (fun e d => a5 (ix2 e d)) (fun d => a2 (ix3 b t d)) (fun d => a3 (ix2 b d)) d := by
  pointwise [X]
  rw [show ix2 ⟨b.val * 2048 + t.val, _⟩ d = ix2 (TK b t) d from rfl, Y_apply a0 a1 a5 hr]
  rfl

theorem out_apply (hr : ∀ t s, (a0 (ix2 t s)).toNat < 16384) (b : Fin 32) (t : Fin 2048) (d : Fin 1024) :
    out a0 a1 a2 a3 a4 a5 (ix3 b t d) = PV (fun s => a0 (ix2 (TK b t) s)) (fun s => a1 (ix2 (TK b t) s)) (fun e d => a5 (ix2 e d)) (fun d => a2 (ix3 b t d)) (fun d => a3 (ix2 b d)) (fun d => a4 (ix1 d)) d := by
  pointwise [out]
  simp only [X_apply a0 a1 a2 a3 a5 hr]
  rfl

end Cert.Reference6Ideal.Peer

end

end
-- ==== Proof.Peer.Final.lean ====
/-
  The claims of the experts' second call: the frames where every word names an expert, and there the equality of the
  kernel's and the reference's results over the extended reals.
-/
module

public import proofs.«01_k».proof.Defs
public import proofs.«01_k».proof.Proof.Peer.Hyps
public import proofs.«01_k».proof.Proof.Peer.Value
public import proofs.«01_k».proof.Proof.Peer.RefValue
public import proofs.«01_k».proof.Proof.Gen.Pre_expert_range
public import Idealize.ShloMosaic.Lib.Claim
public import Idealize.ShloMosaic.Lib.Quiescent

@[expose] public section

set_option maxRecDepth 16384

noncomputable section

namespace Cert.Peer

open Idealize.ShloMosaic Idealize.ShloMosaic.TcCoe

section
variable (m : (ℓ : Loc Cert.Kernel6Ideal.nD Cert.Kernel6Ideal.τ Cert.Kernel6Ideal.sig) → Buf (Elt Ideal) ℓ) (c : Dev Cert.Kernel6Ideal.nD)
  (hr : ∀ t s, ((m ((c.tc : Thread Cert.Kernel6Ideal.nD Cert.Kernel6Ideal.τ).loc Cert.Kernel6Ideal.main_arg0) : IVec Cert.Reference6Ideal.S65536x128 32) (ix2 t s)).toNat < 16384)
  (a0 : IVec Cert.Reference6Ideal.S65536x128 32) (a1 : FVec Ideal Cert.Reference6Ideal.S65536x128 .f32) (a2 : FVec Ideal Cert.Reference6Ideal.S32x2048x1024 .f32)
  (a3 : FVec Ideal Cert.Reference6Ideal.S32x1024 .f32) (a4 : FVec Ideal Cert.Reference6Ideal.S1024 .f32) (a5 : FVec Ideal Cert.Reference6Ideal.S16384x1024 .f32)
  (h0 : a0 = m ((c.tc : Thread Cert.Kernel6Ideal.nD Cert.Kernel6Ideal.τ).loc Cert.Kernel6Ideal.main_arg0))
  (h1 : a1 = m ((c.tc : Thread Cert.Kernel6Ideal.nD Cert.Kernel6Ideal.τ).loc Cert.Kernel6Ideal.main_arg1))
  (h2 : a2 = m ((c.tc : Thread Cert.Kernel6Ideal.nD Cert.Kernel6Ideal.τ).loc Cert.Kernel6Ideal.main_arg2))
  (h3 : a3 = m ((c.tc : Thread Cert.Kernel6Ideal.nD Cert.Kernel6Ideal.τ).loc Cert.Kernel6Ideal.main_arg3))
  (h4 : a4 = m ((c.tc : Thread Cert.Kernel6Ideal.nD Cert.Kernel6Ideal.τ).loc Cert.Kernel6Ideal.main_arg4))
  (h5 : a5 = m ((c.tc : Thread Cert.Kernel6Ideal.nD Cert.Kernel6Ideal.τ).loc Cert.Kernel6Ideal.main_arg5))
include hr h0 h1 h2 h3 h4 h5

/-- The reference's result is the kernel's. -/
theorem arr : Cert.Reference6Ideal.Peer.out a0 a1 a2 a3 a4 a5 = Cert.Kernel6Ideal.Peer.G m c := by
  subst h0 h1 h2 h3 h4 h5
  funext i
  obtain ⟨b, t, d, rfl⟩ : ∃ (b : Fin 32) (t : Fin 2048) (d : Fin 1024), i = ix3 b t d := ⟨i 0, i 1, i 2, (ix3_eta i).symm⟩
  exact Cert.Reference6Ideal.Peer.out_apply _ _ _ _ _ _ hr b t d

end

/-! ## The claims -/

theorem frame_kernel : letI := Cert.Kernel6.Gen.facts; letI := Cert.Pre_expert_range.Gen.facts; Cert.quiescent_Kernel6 :=
  letI := Cert.Kernel6.Gen.facts
  letI := Cert.Pre_expert_range.Gen.facts
  fun m g hp => Cert.Kernel6.Gen.frame m g (Cert.Kernel6.Peer.hyps m fun c y => words_lt _ _ _ _ _ _ (hp c) y)

theorem frame_kernelIdeal : letI := Cert.Kernel6Ideal.Gen.facts; letI := Cert.Pre_expert_range.Gen.facts; Cert.quiescent_Kernel6Ideal :=
  letI := Cert.Kernel6Ideal.Gen.facts
  letI := Cert.Pre_expert_range.Gen.facts
  fun m g hp => Cert.Kernel6Ideal.Gen.frame m g (Cert.Kernel6Ideal.Peer.hyps m fun c y => words_lt _ _ _ _ _ _ (hp c) y)

theorem frame_referenceIdeal : letI := Cert.Reference6Ideal.Gen.facts; Cert.quiescent_Reference6Ideal := fun m g _ =>
  letI := Cert.Reference6Ideal.Gen.facts
  (θ_run Cert.Reference6Ideal.defs _ _).mono
    (fun r h => ⟨fun c => (h c).2, sem_eq_zero_of_no_sems (by decide) r.2⟩) (Cert.Reference6Ideal.Value.run (F := Ideal) m g)

theorem frame_referenceIdeal_pre : letI := Cert.Reference6Ideal.Gen.facts; letI := Cert.Pre_expert_range.Gen.facts; Cert.quiescent_Reference6Ideal_pre_expert_range :=
  fun m g _ => frame_referenceIdeal m g trivial

open Cert.Kernel6Ideal Cert.Kernel6Ideal.Peer in
theorem algebraic_peer : letI := Cert.Kernel6Ideal.Gen.facts; letI := Cert.Reference6Ideal.Gen.facts; letI := Cert.Pre_expert_range.Gen.facts
    Cert.algebraic_Kernel6Ideal_Reference6Ideal :=
  letI := Cert.Kernel6Ideal.Gen.facts
  letI := Cert.Reference6Ideal.Gen.facts
  letI := Cert.Pre_expert_range.Gen.facts
  fun m g m' g' hp ha =>
    have hl : ∀ (c : Dev nD) y, (m ((c : Thread nD τ).loc main_arg0) y).toNat < 16384 := fun c y => words_lt _ _ _ _ _ _ (hp c) y
    have hH := hyps m hl
    ⟨fun c => G m c,
    (θ_run Cert.Kernel6Ideal.defs _ _).mono
      (fun r h c => ⟨((h.1 c).2 main_v6 (Pipeline.mem_restRefs_of main_v6 (by decide) (by decide))).trans
        (result_eq m hH c fun t k j => by rw [WORD_eq]; exact chk_of_lt _ (blk_lt m hl c t _)), h.2 c⟩)
      (θ_run_and (Cert.Kernel6Ideal.Gen.run_main (F := Ideal) m g hH) (Cert.Kernel6Ideal.Gen.unchanged (F := Ideal) m g hH)),
    (θ_run Cert.Reference6Ideal.defs _ _).mono
      (fun r h c => by
        obtain ⟨h0, h1, h2, h3, h4, h5⟩ := ha c
        obtain ⟨r0, hr⟩ := h c
        exact ⟨r0.trans (arr m c (fun t s => hl c _) _ _ _ _ _ _ h0 h1 h2 h3 h4 h5), hr⟩)
      (Cert.Reference6Ideal.Value.run (F := Ideal) m' g')⟩

end Cert.Peer

end

end
-- ==== Proof.lean ====
/- The proof of the claim: its parts, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_pool
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_expert_range
public import proofs.«01_k».proof.Proof.Ret.Final
public import proofs.«01_k».proof.Proof.Proj.Final
public import proofs.«01_k».proof.Proof.Mix.Final
public import proofs.«01_k».proof.Proof.Ctx.Final
public import proofs.«01_k».proof.Proof.Ada.Final
public import proofs.«01_k».proof.Proof.Peer.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_pool.Gen.facts, Cert.Pre_expert_range.Gen.facts,
  Cert.Ret.frame_kernel, Cert.Ret.frame_kernelIdeal, Cert.Ret.frame_referenceIdeal,
  fun m g _ => Cert.Kernel2.Gen.frame m g, fun m g _ => Cert.Kernel2Ideal.Gen.frame m g, Cert.Proj.frame_referenceIdeal,
  fun m g _ => Cert.Kernel3.Gen.frame m g, fun m g _ => Cert.Kernel3Ideal.Gen.frame m g, Cert.Mix.frame_kernelIdeal_pre, Cert.Mix.frame_referenceIdeal,
  Cert.Mix.frame_referenceIdeal_pre,
  fun m g _ => Cert.Kernel4.Gen.frame m g, fun m g _ => Cert.Kernel4Ideal.Gen.frame m g, Cert.Ctx.frame_referenceIdeal,
  fun m g _ => Cert.Kernel5.Gen.frame m g, fun m g _ => Cert.Kernel5Ideal.Gen.frame m g, Cert.Ada.frame_referenceIdeal,
  Cert.Peer.frame_kernel, Cert.Peer.frame_kernelIdeal, Cert.Peer.frame_referenceIdeal, Cert.Peer.frame_referenceIdeal_pre,
  trivial, Cert.Ret.algebraic_ret, trivial, Cert.Proj.algebraic_proj, trivial, Cert.Mix.algebraic_mix,
  trivial, Cert.Ctx.algebraic_ctx, trivial, Cert.Ada.algebraic_ada, trivial, Cert.Peer.algebraic_peer⟩

end Cert.Proof

end
